-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gow (m : (ℓ : Loc Cert.Gow.nD Cert.Gow.τ Cert.Gow.sig) → Buf (Elt Bits) ℓ) : Prop :=
  True

def Pre_GowIdeal (m : (ℓ : Loc Cert.GowIdeal.nD Cert.GowIdeal.τ Cert.GowIdeal.sig) → Buf (Elt Ideal) ℓ) : Prop :=
  True

def Pre_GowRefIdeal (m : (ℓ : Loc Cert.GowRefIdeal.nD Cert.GowRefIdeal.τ Cert.GowRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPo (m : (ℓ : Loc Cert.AdamPo.nD Cert.AdamPo.τ Cert.AdamPo.sig) → Buf (Elt Bits) ℓ) : Prop :=
  True

def Pre_AdamPoIdeal (m : (ℓ : Loc Cert.AdamPoIdeal.nD Cert.AdamPoIdeal.τ Cert.AdamPoIdeal.sig) → Buf (Elt Ideal) ℓ) : Prop :=
  True

def Pre_AdamPoRefIdeal (m : (ℓ : Loc Cert.AdamPoRefIdeal.nD Cert.AdamPoRefIdeal.τ Cert.AdamPoRefIdeal.sig) → Buf (Elt Ideal) ℓ) : Prop :=
  True

def Pre_AdamHo (m : (ℓ : Loc Cert.AdamHo.nD Cert.AdamHo.τ Cert.AdamHo.sig) → Buf (Elt Bits) ℓ) : Prop :=
  True

def Pre_AdamHoIdeal (m : (ℓ : Loc Cert.AdamHoIdeal.nD Cert.AdamHoIdeal.τ Cert.AdamHoIdeal.sig) → Buf (Elt Ideal) ℓ) : Prop :=
  True

def Pre_AdamHoRefIdeal (m : (ℓ : Loc Cert.AdamHoRefIdeal.nD Cert.AdamHoRefIdeal.τ Cert.AdamHoRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_MergeLoss (m : (ℓ : Loc Cert.MergeLoss.nD Cert.MergeLoss.τ Cert.MergeLoss.sig) → Buf (Elt Bits) ℓ) : Prop :=
  True

def Pre_MergeLossIdeal (m : (ℓ : Loc Cert.MergeLossIdeal.nD Cert.MergeLossIdeal.τ Cert.MergeLossIdeal.sig) → Buf (Elt Ideal) ℓ) : Prop :=
  True

def Pre_MergeLossRefIdeal (m : (ℓ : Loc Cert.MergeLossRefIdeal.nD Cert.MergeLossRefIdeal.τ Cert.MergeLossRefIdeal.sig) → Buf (Elt Ideal) ℓ) : Prop :=
  True

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Gow [hGow : Cert.Gow.Facts] : Prop :=
  ∀ (m : (ℓ : Loc Cert.Gow.nD Cert.Gow.τ Cert.Gow.sig) → Buf (Elt Bits) ℓ) (g : Dev Cert.Gow.nD → PrngReg), Pre_Gow m →
    θ_run (Cert.Gow.defs (F := Bits)) (onTc (τ := Cert.Gow.τ) (Cert.Gow.main (F := Bits))) ⟨m, fun _ => 0, g⟩ (fun r => (∀ c : Dev Cert.Gow.nD,
      r.2.mem ((c.tc : Thread Cert.Gow.nD Cert.Gow.τ).loc Cert.Gow.main_arg0) = m ((c.tc : Thread Cert.Gow.nD Cert.Gow.τ).loc Cert.Gow.main_arg0)
      ∧ r.2.mem ((c.tc : Thread Cert.Gow.nD Cert.Gow.τ).loc Cert.Gow.main_arg1) = m ((c.tc : Thread Cert.Gow.nD Cert.Gow.τ).loc Cert.Gow.main_arg1)
      ∧ r.2.mem ((c.tc : Thread Cert.Gow.nD Cert.Gow.τ).loc Cert.Gow.main_arg2) = m ((c.tc : Thread Cert.Gow.nD Cert.Gow.τ).loc Cert.Gow.main_arg2)
      ∧ r.2.mem ((c.tc : Thread Cert.Gow.nD Cert.Gow.τ).loc Cert.Gow.main_arg3) = m ((c.tc : Thread Cert.Gow.nD Cert.Gow.τ).loc Cert.Gow.main_arg3)
      ∧ r.2.mem ((c.tc : Thread Cert.Gow.nD Cert.Gow.τ).loc Cert.Gow.main_arg4) = m ((c.tc : Thread Cert.Gow.nD Cert.Gow.τ).loc Cert.Gow.main_arg4)
      ∧ r.2.mem ((c.tc : Thread Cert.Gow.nD Cert.Gow.τ).loc Cert.Gow.main_arg5) = m ((c.tc : Thread Cert.Gow.nD Cert.Gow.τ).loc Cert.Gow.main_arg5))
      ∧ r.2.sem = fun _ => 0)

def quiescent_GowIdeal [hGowIdeal : Cert.GowIdeal.Facts] : Prop :=
  ∀ (m : (ℓ : Loc Cert.GowIdeal.nD Cert.GowIdeal.τ Cert.GowIdeal.sig) → Buf (Elt Ideal) ℓ) (g : Dev Cert.GowIdeal.nD → PrngReg), Pre_GowIdeal m →
    θ_run (Cert.GowIdeal.defs (F := Ideal)) (onTc (τ := Cert.GowIdeal.τ) (Cert.GowIdeal.main (F := Ideal))) ⟨m, fun _ => 0, g⟩ (fun r => (∀ c : Dev Cert.GowIdeal.nD,
      r.2.mem ((c.tc : Thread Cert.GowIdeal.nD Cert.GowIdeal.τ).loc Cert.GowIdeal.main_arg0) = m ((c.tc : Thread Cert.GowIdeal.nD Cert.GowIdeal.τ).loc Cert.GowIdeal.main_arg0)
      ∧ r.2.mem ((c.tc : Thread Cert.GowIdeal.nD Cert.GowIdeal.τ).loc Cert.GowIdeal.main_arg1) = m ((c.tc : Thread Cert.GowIdeal.nD Cert.GowIdeal.τ).loc Cert.GowIdeal.main_arg1)
      ∧ r.2.mem ((c.tc : Thread Cert.GowIdeal.nD Cert.GowIdeal.τ).loc Cert.GowIdeal.main_arg2) = m ((c.tc : Thread Cert.GowIdeal.nD Cert.GowIdeal.τ).loc Cert.GowIdeal.main_arg2)
      ∧ r.2.mem ((c.tc : Thread Cert.GowIdeal.nD Cert.GowIdeal.τ).loc Cert.GowIdeal.main_arg3) = m ((c.tc : Thread Cert.GowIdeal.nD Cert.GowIdeal.τ).loc Cert.GowIdeal.main_arg3)
      ∧ r.2.mem ((c.tc : Thread Cert.GowIdeal.nD Cert.GowIdeal.τ).loc Cert.GowIdeal.main_arg4) = m ((c.tc : Thread Cert.GowIdeal.nD Cert.GowIdeal.τ).loc Cert.GowIdeal.main_arg4)
      ∧ r.2.mem ((c.tc : Thread Cert.GowIdeal.nD Cert.GowIdeal.τ).loc Cert.GowIdeal.main_arg5) = m ((c.tc : Thread Cert.GowIdeal.nD Cert.GowIdeal.τ).loc Cert.GowIdeal.main_arg5))
      ∧ r.2.sem = fun _ => 0)

def quiescent_GowRefIdeal [hGowRefIdeal : Cert.GowRefIdeal.Facts] : Prop :=
  ∀ (m : (ℓ : Loc Cert.GowRefIdeal.nD Cert.GowRefIdeal.τ Cert.GowRefIdeal.sig) → Buf (Elt Ideal) ℓ) (g : Dev Cert.GowRefIdeal.nD → PrngReg), Pre_GowRefIdeal m →
    θ_run (Cert.GowRefIdeal.defs (F := Ideal)) (onTc (τ := Cert.GowRefIdeal.τ) (Cert.GowRefIdeal.main (F := Ideal))) ⟨m, fun _ => 0, g⟩ (fun r => (∀ c : Dev Cert.GowRefIdeal.nD,
      r.2.mem ((c.tc : Thread Cert.GowRefIdeal.nD Cert.GowRefIdeal.τ).loc Cert.GowRefIdeal.main_arg0) = m ((c.tc : Thread Cert.GowRefIdeal.nD Cert.GowRefIdeal.τ).loc Cert.GowRefIdeal.main_arg0)
      ∧ r.2.mem ((c.tc : Thread Cert.GowRefIdeal.nD Cert.GowRefIdeal.τ).loc Cert.GowRefIdeal.main_arg1) = m ((c.tc : Thread Cert.GowRefIdeal.nD Cert.GowRefIdeal.τ).loc Cert.GowRefIdeal.main_arg1)
      ∧ r.2.mem ((c.tc : Thread Cert.GowRefIdeal.nD Cert.GowRefIdeal.τ).loc Cert.GowRefIdeal.main_arg2) = m ((c.tc : Thread Cert.GowRefIdeal.nD Cert.GowRefIdeal.τ).loc Cert.GowRefIdeal.main_arg2)
      ∧ r.2.mem ((c.tc : Thread Cert.GowRefIdeal.nD Cert.GowRefIdeal.τ).loc Cert.GowRefIdeal.main_arg3) = m ((c.tc : Thread Cert.GowRefIdeal.nD Cert.GowRefIdeal.τ).loc Cert.GowRefIdeal.main_arg3)
      ∧ r.2.mem ((c.tc : Thread Cert.GowRefIdeal.nD Cert.GowRefIdeal.τ).loc Cert.GowRefIdeal.main_arg4) = m ((c.tc : Thread Cert.GowRefIdeal.nD Cert.GowRefIdeal.τ).loc Cert.GowRefIdeal.main_arg4)
      ∧ r.2.mem ((c.tc : Thread Cert.GowRefIdeal.nD Cert.GowRefIdeal.τ).loc Cert.GowRefIdeal.main_arg5) = m ((c.tc : Thread Cert.GowRefIdeal.nD Cert.GowRefIdeal.τ).loc Cert.GowRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7)
      ∧ r.2.mem ((c.tc : Thread Cert.AdamIn.nD Cert.AdamIn.τ).loc Cert.AdamIn.main_arg8) = m ((c.tc : Thread Cert.AdamIn.nD Cert.AdamIn.τ).loc Cert.AdamIn.main_arg8))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
      ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7)
      ∧ r.2.mem ((c.tc : Thread Cert.AdamInRefIdeal.nD Cert.AdamInRefIdeal.τ).loc Cert.AdamInRefIdeal.main_arg8) = m ((c.tc : Thread Cert.AdamInRefIdeal.nD Cert.AdamInRefIdeal.τ).loc Cert.AdamInRefIdeal.main_arg8))
      ∧ r.2.sem = fun _ => 0)

def quiescent_AdamPo [hAdamPo : Cert.AdamPo.Facts] : Prop :=
  ∀ (m : (ℓ : Loc Cert.AdamPo.nD Cert.AdamPo.τ Cert.AdamPo.sig) → Buf (Elt Bits) ℓ) (g : Dev Cert.AdamPo.nD → PrngReg), Pre_AdamPo m →
    θ_run (Cert.AdamPo.defs (F := Bits)) (onTc (τ := Cert.AdamPo.τ) (Cert.AdamPo.main (F := Bits))) ⟨m, fun _ => 0, g⟩ (fun r => (∀ c : Dev Cert.AdamPo.nD,
      r.2.mem ((c.tc : Thread Cert.AdamPo.nD Cert.AdamPo.τ).loc Cert.AdamPo.main_arg0) = m ((c.tc : Thread Cert.AdamPo.nD Cert.AdamPo.τ).loc Cert.AdamPo.main_arg0)
      ∧ r.2.mem ((c.tc : Thread Cert.AdamPo.nD Cert.AdamPo.τ).loc Cert.AdamPo.main_arg1) = m ((c.tc : Thread Cert.AdamPo.nD Cert.AdamPo.τ).loc Cert.AdamPo.main_arg1)
      ∧ r.2.mem ((c.tc : Thread Cert.AdamPo.nD Cert.AdamPo.τ).loc Cert.AdamPo.main_arg2) = m ((c.tc : Thread Cert.AdamPo.nD Cert.AdamPo.τ).loc Cert.AdamPo.main_arg2)
      ∧ r.2.mem ((c.tc : Thread Cert.AdamPo.nD Cert.AdamPo.τ).loc Cert.AdamPo.main_arg3) = m ((c.tc : Thread Cert.AdamPo.nD Cert.AdamPo.τ).loc Cert.AdamPo.main_arg3)
      ∧ r.2.mem ((c.tc : Thread Cert.AdamPo.nD Cert.AdamPo.τ).loc Cert.AdamPo.main_arg4) = m ((c.tc : Thread Cert.AdamPo.nD Cert.AdamPo.τ).loc Cert.AdamPo.main_arg4)
      ∧ r.2.mem ((c.tc : Thread Cert.AdamPo.nD Cert.AdamPo.τ).loc Cert.AdamPo.main_arg5) = m ((c.tc : Thread Cert.AdamPo.nD Cert.AdamPo.τ).loc Cert.AdamPo.main_arg5)
      ∧ r.2.mem ((c.tc : Thread Cert.AdamPo.nD Cert.AdamPo.τ).loc Cert.AdamPo.main_arg6) = m ((c.tc : Thread Cert.AdamPo.nD Cert.AdamPo.τ).loc Cert.AdamPo.main_arg6)
      ∧ r.2.mem ((c.tc : Thread Cert.AdamPo.nD Cert.AdamPo.τ).loc Cert.AdamPo.main_arg7) = m ((c.tc : Thread Cert.AdamPo.nD Cert.AdamPo.τ).loc Cert.AdamPo.main_arg7)
      ∧ r.2.mem ((c.tc : Thread Cert.AdamPo.nD Cert.AdamPo.τ).loc Cert.AdamPo.main_arg8) = m ((c.tc : Thread Cert.AdamPo.nD Cert.AdamPo.τ).loc Cert.AdamPo.main_arg8))
      ∧ r.2.sem = fun _ => 0)

def quiescent_AdamPoIdeal [hAdamPoIdeal : Cert.AdamPoIdeal.Facts] : Prop :=
  ∀ (m : (ℓ : Loc Cert.AdamPoIdeal.nD Cert.AdamPoIdeal.τ Cert.AdamPoIdeal.sig) → Buf (Elt Ideal) ℓ) (g : Dev Cert.AdamPoIdeal.nD → PrngReg), Pre_AdamPoIdeal m →
    θ_run (Cert.AdamPoIdeal.defs (F := Ideal)) (onTc (τ := Cert.AdamPoIdeal.τ) (Cert.AdamPoIdeal.main (F := Ideal))) ⟨m, fun _ => 0, g⟩ (fun r => (∀ c : Dev Cert.AdamPoIdeal.nD,
      r.2.mem ((c.tc : Thread Cert.AdamPoIdeal.nD Cert.AdamPoIdeal.τ).loc Cert.AdamPoIdeal.main_arg0) = m ((c.tc : Thread Cert.AdamPoIdeal.nD Cert.AdamPoIdeal.τ).loc Cert.AdamPoIdeal.main_arg0)
      ∧ r.2.mem ((c.tc : Thread Cert.AdamPoIdeal.nD Cert.AdamPoIdeal.τ).loc Cert.AdamPoIdeal.main_arg1) = m ((c.tc : Thread Cert.AdamPoIdeal.nD Cert.AdamPoIdeal.τ).loc Cert.AdamPoIdeal.main_arg1)
      ∧ r.2.mem ((c.tc : Thread Cert.AdamPoIdeal.nD Cert.AdamPoIdeal.τ).loc Cert.AdamPoIdeal.main_arg2) = m ((c.tc : Thread Cert.AdamPoIdeal.nD Cert.AdamPoIdeal.τ).loc Cert.AdamPoIdeal.main_arg2)
      ∧ r.2.mem ((c.tc : Thread Cert.AdamPoIdeal.nD Cert.AdamPoIdeal.τ).loc Cert.AdamPoIdeal.main_arg3) = m ((c.tc : Thread Cert.AdamPoIdeal.nD Cert.AdamPoIdeal.τ).loc Cert.AdamPoIdeal.main_arg3)
      ∧ r.2.mem ((c.tc : Thread Cert.AdamPoIdeal.nD Cert.AdamPoIdeal.τ).loc Cert.AdamPoIdeal.main_arg4) = m ((c.tc : Thread Cert.AdamPoIdeal.nD Cert.AdamPoIdeal.τ).loc Cert.AdamPoIdeal.main_arg4)
      ∧ r.2.mem ((c.tc : Thread Cert.AdamPoIdeal.nD Cert.AdamPoIdeal.τ).loc Cert.AdamPoIdeal.main_arg5) = m ((c.tc : Thread Cert.AdamPoIdeal.nD Cert.AdamPoIdeal.τ).loc Cert.AdamPoIdeal.main_arg5)
      ∧ r.2.mem ((c.tc : Thread Cert.AdamPoIdeal.nD Cert.AdamPoIdeal.τ).loc Cert.AdamPoIdeal.main_arg6) = m ((c.tc : Thread Cert.AdamPoIdeal.nD Cert.AdamPoIdeal.τ).loc Cert.AdamPoIdeal.main_arg6)
      ∧ r.2.mem ((c.tc : Thread Cert.AdamPoIdeal.nD Cert.AdamPoIdeal.τ).loc Cert.AdamPoIdeal.main_arg7) = m ((c.tc : Thread Cert.AdamPoIdeal.nD Cert.AdamPoIdeal.τ).loc Cert.AdamPoIdeal.main_arg7)
      ∧ r.2.mem ((c.tc : Thread Cert.AdamPoIdeal.nD Cert.AdamPoIdeal.τ).loc Cert.AdamPoIdeal.main_arg8) = m ((c.tc : Thread Cert.AdamPoIdeal.nD Cert.AdamPoIdeal.τ).loc Cert.AdamPoIdeal.main_arg8))
      ∧ r.2.sem = fun _ => 0)

def quiescent_AdamPoRefIdeal [hAdamPoRefIdeal : Cert.AdamPoRefIdeal.Facts] : Prop :=
  ∀ (m : (ℓ : Loc Cert.AdamPoRefIdeal.nD Cert.AdamPoRefIdeal.τ Cert.AdamPoRefIdeal.sig) → Buf (Elt Ideal) ℓ) (g : Dev Cert.AdamPoRefIdeal.nD → PrngReg), Pre_AdamPoRefIdeal m →
    θ_run (Cert.AdamPoRefIdeal.defs (F := Ideal)) (onTc (τ := Cert.AdamPoRefIdeal.τ) (Cert.AdamPoRefIdeal.main (F := Ideal))) ⟨m, fun _ => 0, g⟩ (fun r => (∀ c : Dev Cert.AdamPoRefIdeal.nD,
      r.2.mem ((c.tc : Thread Cert.AdamPoRefIdeal.nD Cert.AdamPoRefIdeal.τ).loc Cert.AdamPoRefIdeal.main_arg0) = m ((c.tc : Thread Cert.AdamPoRefIdeal.nD Cert.AdamPoRefIdeal.τ).loc Cert.AdamPoRefIdeal.main_arg0)
      ∧ r.2.mem ((c.tc : Thread Cert.AdamPoRefIdeal.nD Cert.AdamPoRefIdeal.τ).loc Cert.AdamPoRefIdeal.main_arg1) = m ((c.tc : Thread Cert.AdamPoRefIdeal.nD Cert.AdamPoRefIdeal.τ).loc Cert.AdamPoRefIdeal.main_arg1)
      ∧ r.2.mem ((c.tc : Thread Cert.AdamPoRefIdeal.nD Cert.AdamPoRefIdeal.τ).loc Cert.AdamPoRefIdeal.main_arg2) = m ((c.tc : Thread Cert.AdamPoRefIdeal.nD Cert.AdamPoRefIdeal.τ).loc Cert.AdamPoRefIdeal.main_arg2)
      ∧ r.2.mem ((c.tc : Thread Cert.AdamPoRefIdeal.nD Cert.AdamPoRefIdeal.τ).loc Cert.AdamPoRefIdeal.main_arg3) = m ((c.tc : Thread Cert.AdamPoRefIdeal.nD Cert.AdamPoRefIdeal.τ).loc Cert.AdamPoRefIdeal.main_arg3)
      ∧ r.2.mem ((c.tc : Thread Cert.AdamPoRefIdeal.nD Cert.AdamPoRefIdeal.τ).loc Cert.AdamPoRefIdeal.main_arg4) = m ((c.tc : Thread Cert.AdamPoRefIdeal.nD Cert.AdamPoRefIdeal.τ).loc Cert.AdamPoRefIdeal.main_arg4)
      ∧ r.2.mem ((c.tc : Thread Cert.AdamPoRefIdeal.nD Cert.AdamPoRefIdeal.τ).loc Cert.AdamPoRefIdeal.main_arg5) = m ((c.tc : Thread Cert.AdamPoRefIdeal.nD Cert.AdamPoRefIdeal.τ).loc Cert.AdamPoRefIdeal.main_arg5)
      ∧ r.2.mem ((c.tc : Thread Cert.AdamPoRefIdeal.nD Cert.AdamPoRefIdeal.τ).loc Cert.AdamPoRefIdeal.main_arg6) = m ((c.tc : Thread Cert.AdamPoRefIdeal.nD Cert.AdamPoRefIdeal.τ).loc Cert.AdamPoRefIdeal.main_arg6)
      ∧ r.2.mem ((c.tc : Thread Cert.AdamPoRefIdeal.nD Cert.AdamPoRefIdeal.τ).loc Cert.AdamPoRefIdeal.main_arg7) = m ((c.tc : Thread Cert.AdamPoRefIdeal.nD Cert.AdamPoRefIdeal.τ).loc Cert.AdamPoRefIdeal.main_arg7)
      ∧ r.2.mem ((c.tc : Thread Cert.AdamPoRefIdeal.nD Cert.AdamPoRefIdeal.τ).loc Cert.AdamPoRefIdeal.main_arg8) = m ((c.tc : Thread Cert.AdamPoRefIdeal.nD Cert.AdamPoRefIdeal.τ).loc Cert.AdamPoRefIdeal.main_arg8))
      ∧ r.2.sem = fun _ => 0)

def quiescent_AdamHo [hAdamHo : Cert.AdamHo.Facts] : Prop :=
  ∀ (m : (ℓ : Loc Cert.AdamHo.nD Cert.AdamHo.τ Cert.AdamHo.sig) → Buf (Elt Bits) ℓ) (g : Dev Cert.AdamHo.nD → PrngReg), Pre_AdamHo m →
    θ_run (Cert.AdamHo.defs (F := Bits)) (onTc (τ := Cert.AdamHo.τ) (Cert.AdamHo.main (F := Bits))) ⟨m, fun _ => 0, g⟩ (fun r => (∀ c : Dev Cert.AdamHo.nD,
      r.2.mem ((c.tc : Thread Cert.AdamHo.nD Cert.AdamHo.τ).loc Cert.AdamHo.main_arg0) = m ((c.tc : Thread Cert.AdamHo.nD Cert.AdamHo.τ).loc Cert.AdamHo.main_arg0)
      ∧ r.2.mem ((c.tc : Thread Cert.AdamHo.nD Cert.AdamHo.τ).loc Cert.AdamHo.main_arg1) = m ((c.tc : Thread Cert.AdamHo.nD Cert.AdamHo.τ).loc Cert.AdamHo.main_arg1)
      ∧ r.2.mem ((c.tc : Thread Cert.AdamHo.nD Cert.AdamHo.τ).loc Cert.AdamHo.main_arg2) = m ((c.tc : Thread Cert.AdamHo.nD Cert.AdamHo.τ).loc Cert.AdamHo.main_arg2)
      ∧ r.2.mem ((c.tc : Thread Cert.AdamHo.nD Cert.AdamHo.τ).loc Cert.AdamHo.main_arg3) = m ((c.tc : Thread Cert.AdamHo.nD Cert.AdamHo.τ).loc Cert.AdamHo.main_arg3)
      ∧ r.2.mem ((c.tc : Thread Cert.AdamHo.nD Cert.AdamHo.τ).loc Cert.AdamHo.main_arg4) = m ((c.tc : Thread Cert.AdamHo.nD Cert.AdamHo.τ).loc Cert.AdamHo.main_arg4)
      ∧ r.2.mem ((c.tc : Thread Cert.AdamHo.nD Cert.AdamHo.τ).loc Cert.AdamHo.main_arg5) = m ((c.tc : Thread Cert.AdamHo.nD Cert.AdamHo.τ).loc Cert.AdamHo.main_arg5)
      ∧ r.2.mem ((c.tc : Thread Cert.AdamHo.nD Cert.AdamHo.τ).loc Cert.AdamHo.main_arg6) = m ((c.tc : Thread Cert.AdamHo.nD Cert.AdamHo.τ).loc Cert.AdamHo.main_arg6)
      ∧ r.2.mem ((c.tc : Thread Cert.AdamHo.nD Cert.AdamHo.τ).loc Cert.AdamHo.main_arg7) = m ((c.tc : Thread Cert.AdamHo.nD Cert.AdamHo.τ).loc Cert.AdamHo.main_arg7)
      ∧ r.2.mem ((c.tc : Thread Cert.AdamHo.nD Cert.AdamHo.τ).loc Cert.AdamHo.main_arg8) = m ((c.tc : Thread Cert.AdamHo.nD Cert.AdamHo.τ).loc Cert.AdamHo.main_arg8))
      ∧ r.2.sem = fun _ => 0)

def quiescent_AdamHoIdeal [hAdamHoIdeal : Cert.AdamHoIdeal.Facts] : Prop :=
  ∀ (m : (ℓ : Loc Cert.AdamHoIdeal.nD Cert.AdamHoIdeal.τ Cert.AdamHoIdeal.sig) → Buf (Elt Ideal) ℓ) (g : Dev Cert.AdamHoIdeal.nD → PrngReg), Pre_AdamHoIdeal m →
    θ_run (Cert.AdamHoIdeal.defs (F := Ideal)) (onTc (τ := Cert.AdamHoIdeal.τ) (Cert.AdamHoIdeal.main (F := Ideal))) ⟨m, fun _ => 0, g⟩ (fun r => (∀ c : Dev Cert.AdamHoIdeal.nD,
      r.2.mem ((c.tc : Thread Cert.AdamHoIdeal.nD Cert.AdamHoIdeal.τ).loc Cert.AdamHoIdeal.main_arg0) = m ((c.tc : Thread Cert.AdamHoIdeal.nD Cert.AdamHoIdeal.τ).loc Cert.AdamHoIdeal.main_arg0)
      ∧ r.2.mem ((c.tc : Thread Cert.AdamHoIdeal.nD Cert.AdamHoIdeal.τ).loc Cert.AdamHoIdeal.main_arg1) = m ((c.tc : Thread Cert.AdamHoIdeal.nD Cert.AdamHoIdeal.τ).loc Cert.AdamHoIdeal.main_arg1)
      ∧ r.2.mem ((c.tc : Thread Cert.AdamHoIdeal.nD Cert.AdamHoIdeal.τ).loc Cert.AdamHoIdeal.main_arg2) = m ((c.tc : Thread Cert.AdamHoIdeal.nD Cert.AdamHoIdeal.τ).loc Cert.AdamHoIdeal.main_arg2)
      ∧ r.2.mem ((c.tc : Thread Cert.AdamHoIdeal.nD Cert.AdamHoIdeal.τ).loc Cert.AdamHoIdeal.main_arg3) = m ((c.tc : Thread Cert.AdamHoIdeal.nD Cert.AdamHoIdeal.τ).loc Cert.AdamHoIdeal.main_arg3)
      ∧ r.2.mem ((c.tc : Thread Cert.AdamHoIdeal.nD Cert.AdamHoIdeal.τ).loc Cert.AdamHoIdeal.main_arg4) = m ((c.tc : Thread Cert.AdamHoIdeal.nD Cert.AdamHoIdeal.τ).loc Cert.AdamHoIdeal.main_arg4)
      ∧ r.2.mem ((c.tc : Thread Cert.AdamHoIdeal.nD Cert.AdamHoIdeal.τ).loc Cert.AdamHoIdeal.main_arg5) = m ((c.tc : Thread Cert.AdamHoIdeal.nD Cert.AdamHoIdeal.τ).loc Cert.AdamHoIdeal.main_arg5)
      ∧ r.2.mem ((c.tc : Thread Cert.AdamHoIdeal.nD Cert.AdamHoIdeal.τ).loc Cert.AdamHoIdeal.main_arg6) = m ((c.tc : Thread Cert.AdamHoIdeal.nD Cert.AdamHoIdeal.τ).loc Cert.AdamHoIdeal.main_arg6)
      ∧ r.2.mem ((c.tc : Thread Cert.AdamHoIdeal.nD Cert.AdamHoIdeal.τ).loc Cert.AdamHoIdeal.main_arg7) = m ((c.tc : Thread Cert.AdamHoIdeal.nD Cert.AdamHoIdeal.τ).loc Cert.AdamHoIdeal.main_arg7)
      ∧ r.2.mem ((c.tc : Thread Cert.AdamHoIdeal.nD Cert.AdamHoIdeal.τ).loc Cert.AdamHoIdeal.main_arg8) = m ((c.tc : Thread Cert.AdamHoIdeal.nD Cert.AdamHoIdeal.τ).loc Cert.AdamHoIdeal.main_arg8))
      ∧ r.2.sem = fun _ => 0)

def quiescent_AdamHoRefIdeal [hAdamHoRefIdeal : Cert.AdamHoRefIdeal.Facts] : Prop :=
  ∀ (m : (ℓ : Loc Cert.AdamHoRefIdeal.nD Cert.AdamHoRefIdeal.τ Cert.AdamHoRefIdeal.sig) → Buf (Elt Ideal) ℓ) (g : Dev Cert.AdamHoRefIdeal.nD → PrngReg), Pre_AdamHoRefIdeal m →
    θ_run (Cert.AdamHoRefIdeal.defs (F := Ideal)) (onTc (τ := Cert.AdamHoRefIdeal.τ) (Cert.AdamHoRefIdeal.main (F := Ideal))) ⟨m, fun _ => 0, g⟩ (fun r => (∀ c : Dev Cert.AdamHoRefIdeal.nD,
      r.2.mem ((c.tc : Thread Cert.AdamHoRefIdeal.nD Cert.AdamHoRefIdeal.τ).loc Cert.AdamHoRefIdeal.main_arg0) = m ((c.tc : Thread Cert.AdamHoRefIdeal.nD Cert.AdamHoRefIdeal.τ).loc Cert.AdamHoRefIdeal.main_arg0)
      ∧ r.2.mem ((c.tc : Thread Cert.AdamHoRefIdeal.nD Cert.AdamHoRefIdeal.τ).loc Cert.AdamHoRefIdeal.main_arg1) = m ((c.tc : Thread Cert.AdamHoRefIdeal.nD Cert.AdamHoRefIdeal.τ).loc Cert.AdamHoRefIdeal.main_arg1)
      ∧ r.2.mem ((c.tc : Thread Cert.AdamHoRefIdeal.nD Cert.AdamHoRefIdeal.τ).loc Cert.AdamHoRefIdeal.main_arg2) = m ((c.tc : Thread Cert.AdamHoRefIdeal.nD Cert.AdamHoRefIdeal.τ).loc Cert.AdamHoRefIdeal.main_arg2)
      ∧ r.2.mem ((c.tc : Thread Cert.AdamHoRefIdeal.nD Cert.AdamHoRefIdeal.τ).loc Cert.AdamHoRefIdeal.main_arg3) = m ((c.tc : Thread Cert.AdamHoRefIdeal.nD Cert.AdamHoRefIdeal.τ).loc Cert.AdamHoRefIdeal.main_arg3)
      ∧ r.2.mem ((c.tc : Thread Cert.AdamHoRefIdeal.nD Cert.AdamHoRefIdeal.τ).loc Cert.AdamHoRefIdeal.main_arg4) = m ((c.tc : Thread Cert.AdamHoRefIdeal.nD Cert.AdamHoRefIdeal.τ).loc Cert.AdamHoRefIdeal.main_arg4)
      ∧ r.2.mem ((c.tc : Thread Cert.AdamHoRefIdeal.nD Cert.AdamHoRefIdeal.τ).loc Cert.AdamHoRefIdeal.main_arg5) = m ((c.tc : Thread Cert.AdamHoRefIdeal.nD Cert.AdamHoRefIdeal.τ).loc Cert.AdamHoRefIdeal.main_arg5)
      ∧ r.2.mem ((c.tc : Thread Cert.AdamHoRefIdeal.nD Cert.AdamHoRefIdeal.τ).loc Cert.AdamHoRefIdeal.main_arg6) = m ((c.tc : Thread Cert.AdamHoRefIdeal.nD Cert.AdamHoRefIdeal.τ).loc Cert.AdamHoRefIdeal.main_arg6)
      ∧ r.2.mem ((c.tc : Thread Cert.AdamHoRefIdeal.nD Cert.AdamHoRefIdeal.τ).loc Cert.AdamHoRefIdeal.main_arg7) = m ((c.tc : Thread Cert.AdamHoRefIdeal.nD Cert.AdamHoRefIdeal.τ).loc Cert.AdamHoRefIdeal.main_arg7)
      ∧ r.2.mem ((c.tc : Thread Cert.AdamHoRefIdeal.nD Cert.AdamHoRefIdeal.τ).loc Cert.AdamHoRefIdeal.main_arg8) = m ((c.tc : Thread Cert.AdamHoRefIdeal.nD Cert.AdamHoRefIdeal.τ).loc Cert.AdamHoRefIdeal.main_arg8))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4)
      ∧ r.2.mem ((c.tc : Thread Cert.AdamAda.nD Cert.AdamAda.τ).loc Cert.AdamAda.main_arg5) = m ((c.tc : Thread Cert.AdamAda.nD Cert.AdamAda.τ).loc Cert.AdamAda.main_arg5)
      ∧ r.2.mem ((c.tc : Thread Cert.AdamAda.nD Cert.AdamAda.τ).loc Cert.AdamAda.main_arg6) = m ((c.tc : Thread Cert.AdamAda.nD Cert.AdamAda.τ).loc Cert.AdamAda.main_arg6)
      ∧ r.2.mem ((c.tc : Thread Cert.AdamAda.nD Cert.AdamAda.τ).loc Cert.AdamAda.main_arg7) = m ((c.tc : Thread Cert.AdamAda.nD Cert.AdamAda.τ).loc Cert.AdamAda.main_arg7))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4)
      ∧ r.2.mem ((c.tc : Thread Cert.AdamAdaIdeal.nD Cert.AdamAdaIdeal.τ).loc Cert.AdamAdaIdeal.main_arg5) = m ((c.tc : Thread Cert.AdamAdaIdeal.nD Cert.AdamAdaIdeal.τ).loc Cert.AdamAdaIdeal.main_arg5)
      ∧ r.2.mem ((c.tc : Thread Cert.AdamAdaIdeal.nD Cert.AdamAdaIdeal.τ).loc Cert.AdamAdaIdeal.main_arg6) = m ((c.tc : Thread Cert.AdamAdaIdeal.nD Cert.AdamAdaIdeal.τ).loc Cert.AdamAdaIdeal.main_arg6)
      ∧ r.2.mem ((c.tc : Thread Cert.AdamAdaIdeal.nD Cert.AdamAdaIdeal.τ).loc Cert.AdamAdaIdeal.main_arg7) = m ((c.tc : Thread Cert.AdamAdaIdeal.nD Cert.AdamAdaIdeal.τ).loc Cert.AdamAdaIdeal.main_arg7))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4)
      ∧ r.2.mem ((c.tc : Thread Cert.AdamAdaRefIdeal.nD Cert.AdamAdaRefIdeal.τ).loc Cert.AdamAdaRefIdeal.main_arg5) = m ((c.tc : Thread Cert.AdamAdaRefIdeal.nD Cert.AdamAdaRefIdeal.τ).loc Cert.AdamAdaRefIdeal.main_arg5)
      ∧ r.2.mem ((c.tc : Thread Cert.AdamAdaRefIdeal.nD Cert.AdamAdaRefIdeal.τ).loc Cert.AdamAdaRefIdeal.main_arg6) = m ((c.tc : Thread Cert.AdamAdaRefIdeal.nD Cert.AdamAdaRefIdeal.τ).loc Cert.AdamAdaRefIdeal.main_arg6)
      ∧ r.2.mem ((c.tc : Thread Cert.AdamAdaRefIdeal.nD Cert.AdamAdaRefIdeal.τ).loc Cert.AdamAdaRefIdeal.main_arg7) = m ((c.tc : Thread Cert.AdamAdaRefIdeal.nD Cert.AdamAdaRefIdeal.τ).loc Cert.AdamAdaRefIdeal.main_arg7))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4))
      ∧ r.2.sem = fun _ => 0)

def quiescent_MergeLoss [hMergeLoss : Cert.MergeLoss.Facts] : Prop :=
  ∀ (m : (ℓ : Loc Cert.MergeLoss.nD Cert.MergeLoss.τ Cert.MergeLoss.sig) → Buf (Elt Bits) ℓ) (g : Dev Cert.MergeLoss.nD → PrngReg), Pre_MergeLoss m →
    θ_run (Cert.MergeLoss.defs (F := Bits)) (onTc (τ := Cert.MergeLoss.τ) (Cert.MergeLoss.main (F := Bits))) ⟨m, fun _ => 0, g⟩ (fun r => (∀ c : Dev Cert.MergeLoss.nD,
      r.2.mem ((c.tc : Thread Cert.MergeLoss.nD Cert.MergeLoss.τ).loc Cert.MergeLoss.main_arg0) = m ((c.tc : Thread Cert.MergeLoss.nD Cert.MergeLoss.τ).loc Cert.MergeLoss.main_arg0)
      ∧ r.2.mem ((c.tc : Thread Cert.MergeLoss.nD Cert.MergeLoss.τ).loc Cert.MergeLoss.main_arg1) = m ((c.tc : Thread Cert.MergeLoss.nD Cert.MergeLoss.τ).loc Cert.MergeLoss.main_arg1)
      ∧ r.2.mem ((c.tc : Thread Cert.MergeLoss.nD Cert.MergeLoss.τ).loc Cert.MergeLoss.main_arg2) = m ((c.tc : Thread Cert.MergeLoss.nD Cert.MergeLoss.τ).loc Cert.MergeLoss.main_arg2)
      ∧ r.2.mem ((c.tc : Thread Cert.MergeLoss.nD Cert.MergeLoss.τ).loc Cert.MergeLoss.main_arg3) = m ((c.tc : Thread Cert.MergeLoss.nD Cert.MergeLoss.τ).loc Cert.MergeLoss.main_arg3)
      ∧ r.2.mem ((c.tc : Thread Cert.MergeLoss.nD Cert.MergeLoss.τ).loc Cert.MergeLoss.main_arg4) = m ((c.tc : Thread Cert.MergeLoss.nD Cert.MergeLoss.τ).loc Cert.MergeLoss.main_arg4)
      ∧ r.2.mem ((c.tc : Thread Cert.MergeLoss.nD Cert.MergeLoss.τ).loc Cert.MergeLoss.main_arg5) = m ((c.tc : Thread Cert.MergeLoss.nD Cert.MergeLoss.τ).loc Cert.MergeLoss.main_arg5)
      ∧ r.2.mem ((c.tc : Thread Cert.MergeLoss.nD Cert.MergeLoss.τ).loc Cert.MergeLoss.main_arg6) = m ((c.tc : Thread Cert.MergeLoss.nD Cert.MergeLoss.τ).loc Cert.MergeLoss.main_arg6)
      ∧ r.2.mem ((c.tc : Thread Cert.MergeLoss.nD Cert.MergeLoss.τ).loc Cert.MergeLoss.main_arg7) = m ((c.tc : Thread Cert.MergeLoss.nD Cert.MergeLoss.τ).loc Cert.MergeLoss.main_arg7)
      ∧ r.2.mem ((c.tc : Thread Cert.MergeLoss.nD Cert.MergeLoss.τ).loc Cert.MergeLoss.main_arg8) = m ((c.tc : Thread Cert.MergeLoss.nD Cert.MergeLoss.τ).loc Cert.MergeLoss.main_arg8)
      ∧ r.2.mem ((c.tc : Thread Cert.MergeLoss.nD Cert.MergeLoss.τ).loc Cert.MergeLoss.main_arg9) = m ((c.tc : Thread Cert.MergeLoss.nD Cert.MergeLoss.τ).loc Cert.MergeLoss.main_arg9))
      ∧ r.2.sem = fun _ => 0)

def quiescent_MergeLossIdeal [hMergeLossIdeal : Cert.MergeLossIdeal.Facts] : Prop :=
  ∀ (m : (ℓ : Loc Cert.MergeLossIdeal.nD Cert.MergeLossIdeal.τ Cert.MergeLossIdeal.sig) → Buf (Elt Ideal) ℓ) (g : Dev Cert.MergeLossIdeal.nD → PrngReg), Pre_MergeLossIdeal m →
    θ_run (Cert.MergeLossIdeal.defs (F := Ideal)) (onTc (τ := Cert.MergeLossIdeal.τ) (Cert.MergeLossIdeal.main (F := Ideal))) ⟨m, fun _ => 0, g⟩ (fun r => (∀ c : Dev Cert.MergeLossIdeal.nD,
      r.2.mem ((c.tc : Thread Cert.MergeLossIdeal.nD Cert.MergeLossIdeal.τ).loc Cert.MergeLossIdeal.main_arg0) = m ((c.tc : Thread Cert.MergeLossIdeal.nD Cert.MergeLossIdeal.τ).loc Cert.MergeLossIdeal.main_arg0)
      ∧ r.2.mem ((c.tc : Thread Cert.MergeLossIdeal.nD Cert.MergeLossIdeal.τ).loc Cert.MergeLossIdeal.main_arg1) = m ((c.tc : Thread Cert.MergeLossIdeal.nD Cert.MergeLossIdeal.τ).loc Cert.MergeLossIdeal.main_arg1)
      ∧ r.2.mem ((c.tc : Thread Cert.MergeLossIdeal.nD Cert.MergeLossIdeal.τ).loc Cert.MergeLossIdeal.main_arg2) = m ((c.tc : Thread Cert.MergeLossIdeal.nD Cert.MergeLossIdeal.τ).loc Cert.MergeLossIdeal.main_arg2)
      ∧ r.2.mem ((c.tc : Thread Cert.MergeLossIdeal.nD Cert.MergeLossIdeal.τ).loc Cert.MergeLossIdeal.main_arg3) = m ((c.tc : Thread Cert.MergeLossIdeal.nD Cert.MergeLossIdeal.τ).loc Cert.MergeLossIdeal.main_arg3)
      ∧ r.2.mem ((c.tc : Thread Cert.MergeLossIdeal.nD Cert.MergeLossIdeal.τ).loc Cert.MergeLossIdeal.main_arg4) = m ((c.tc : Thread Cert.MergeLossIdeal.nD Cert.MergeLossIdeal.τ).loc Cert.MergeLossIdeal.main_arg4)
      ∧ r.2.mem ((c.tc : Thread Cert.MergeLossIdeal.nD Cert.MergeLossIdeal.τ).loc Cert.MergeLossIdeal.main_arg5) = m ((c.tc : Thread Cert.MergeLossIdeal.nD Cert.MergeLossIdeal.τ).loc Cert.MergeLossIdeal.main_arg5)
      ∧ r.2.mem ((c.tc : Thread Cert.MergeLossIdeal.nD Cert.MergeLossIdeal.τ).loc Cert.MergeLossIdeal.main_arg6) = m ((c.tc : Thread Cert.MergeLossIdeal.nD Cert.MergeLossIdeal.τ).loc Cert.MergeLossIdeal.main_arg6)
      ∧ r.2.mem ((c.tc : Thread Cert.MergeLossIdeal.nD Cert.MergeLossIdeal.τ).loc Cert.MergeLossIdeal.main_arg7) = m ((c.tc : Thread Cert.MergeLossIdeal.nD Cert.MergeLossIdeal.τ).loc Cert.MergeLossIdeal.main_arg7)
      ∧ r.2.mem ((c.tc : Thread Cert.MergeLossIdeal.nD Cert.MergeLossIdeal.τ).loc Cert.MergeLossIdeal.main_arg8) = m ((c.tc : Thread Cert.MergeLossIdeal.nD Cert.MergeLossIdeal.τ).loc Cert.MergeLossIdeal.main_arg8)
      ∧ r.2.mem ((c.tc : Thread Cert.MergeLossIdeal.nD Cert.MergeLossIdeal.τ).loc Cert.MergeLossIdeal.main_arg9) = m ((c.tc : Thread Cert.MergeLossIdeal.nD Cert.MergeLossIdeal.τ).loc Cert.MergeLossIdeal.main_arg9))
      ∧ r.2.sem = fun _ => 0)

def quiescent_MergeLossRefIdeal [hMergeLossRefIdeal : Cert.MergeLossRefIdeal.Facts] : Prop :=
  ∀ (m : (ℓ : Loc Cert.MergeLossRefIdeal.nD Cert.MergeLossRefIdeal.τ Cert.MergeLossRefIdeal.sig) → Buf (Elt Ideal) ℓ) (g : Dev Cert.MergeLossRefIdeal.nD → PrngReg), Pre_MergeLossRefIdeal m →
    θ_run (Cert.MergeLossRefIdeal.defs (F := Ideal)) (onTc (τ := Cert.MergeLossRefIdeal.τ) (Cert.MergeLossRefIdeal.main (F := Ideal))) ⟨m, fun _ => 0, g⟩ (fun r => (∀ c : Dev Cert.MergeLossRefIdeal.nD,
      r.2.mem ((c.tc : Thread Cert.MergeLossRefIdeal.nD Cert.MergeLossRefIdeal.τ).loc Cert.MergeLossRefIdeal.main_arg0) = m ((c.tc : Thread Cert.MergeLossRefIdeal.nD Cert.MergeLossRefIdeal.τ).loc Cert.MergeLossRefIdeal.main_arg0)
      ∧ r.2.mem ((c.tc : Thread Cert.MergeLossRefIdeal.nD Cert.MergeLossRefIdeal.τ).loc Cert.MergeLossRefIdeal.main_arg1) = m ((c.tc : Thread Cert.MergeLossRefIdeal.nD Cert.MergeLossRefIdeal.τ).loc Cert.MergeLossRefIdeal.main_arg1)
      ∧ r.2.mem ((c.tc : Thread Cert.MergeLossRefIdeal.nD Cert.MergeLossRefIdeal.τ).loc Cert.MergeLossRefIdeal.main_arg2) = m ((c.tc : Thread Cert.MergeLossRefIdeal.nD Cert.MergeLossRefIdeal.τ).loc Cert.MergeLossRefIdeal.main_arg2)
      ∧ r.2.mem ((c.tc : Thread Cert.MergeLossRefIdeal.nD Cert.MergeLossRefIdeal.τ).loc Cert.MergeLossRefIdeal.main_arg3) = m ((c.tc : Thread Cert.MergeLossRefIdeal.nD Cert.MergeLossRefIdeal.τ).loc Cert.MergeLossRefIdeal.main_arg3)
      ∧ r.2.mem ((c.tc : Thread Cert.MergeLossRefIdeal.nD Cert.MergeLossRefIdeal.τ).loc Cert.MergeLossRefIdeal.main_arg4) = m ((c.tc : Thread Cert.MergeLossRefIdeal.nD Cert.MergeLossRefIdeal.τ).loc Cert.MergeLossRefIdeal.main_arg4)
      ∧ r.2.mem ((c.tc : Thread Cert.MergeLossRefIdeal.nD Cert.MergeLossRefIdeal.τ).loc Cert.MergeLossRefIdeal.main_arg5) = m ((c.tc : Thread Cert.MergeLossRefIdeal.nD Cert.MergeLossRefIdeal.τ).loc Cert.MergeLossRefIdeal.main_arg5)
      ∧ r.2.mem ((c.tc : Thread Cert.MergeLossRefIdeal.nD Cert.MergeLossRefIdeal.τ).loc Cert.MergeLossRefIdeal.main_arg6) = m ((c.tc : Thread Cert.MergeLossRefIdeal.nD Cert.MergeLossRefIdeal.τ).loc Cert.MergeLossRefIdeal.main_arg6)
      ∧ r.2.mem ((c.tc : Thread Cert.MergeLossRefIdeal.nD Cert.MergeLossRefIdeal.τ).loc Cert.MergeLossRefIdeal.main_arg7) = m ((c.tc : Thread Cert.MergeLossRefIdeal.nD Cert.MergeLossRefIdeal.τ).loc Cert.MergeLossRefIdeal.main_arg7)
      ∧ r.2.mem ((c.tc : Thread Cert.MergeLossRefIdeal.nD Cert.MergeLossRefIdeal.τ).loc Cert.MergeLossRefIdeal.main_arg8) = m ((c.tc : Thread Cert.MergeLossRefIdeal.nD Cert.MergeLossRefIdeal.τ).loc Cert.MergeLossRefIdeal.main_arg8)
      ∧ r.2.mem ((c.tc : Thread Cert.MergeLossRefIdeal.nD Cert.MergeLossRefIdeal.τ).loc Cert.MergeLossRefIdeal.main_arg9) = m ((c.tc : Thread Cert.MergeLossRefIdeal.nD Cert.MergeLossRefIdeal.τ).loc Cert.MergeLossRefIdeal.main_arg9))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1)
      ∧ r.2.mem ((c.tc : Thread Cert.PreFwd.nD Cert.PreFwd.τ).loc Cert.PreFwd.main_arg2) = m ((c.tc : Thread Cert.PreFwd.nD Cert.PreFwd.τ).loc Cert.PreFwd.main_arg2)
      ∧ r.2.mem ((c.tc : Thread Cert.PreFwd.nD Cert.PreFwd.τ).loc Cert.PreFwd.main_arg3) = m ((c.tc : Thread Cert.PreFwd.nD Cert.PreFwd.τ).loc Cert.PreFwd.main_arg3))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
      ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2)
      ∧ r.2.mem ((c.tc : Thread Cert.PreFwdIdeal.nD Cert.PreFwdIdeal.τ).loc Cert.PreFwdIdeal.main_arg3) = m ((c.tc : Thread Cert.PreFwdIdeal.nD Cert.PreFwdIdeal.τ).loc Cert.PreFwdIdeal.main_arg3))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1)
      ∧ r.2.mem ((c.tc : Thread Cert.PreFwdRefIdeal.nD Cert.PreFwdRefIdeal.τ).loc Cert.PreFwdRefIdeal.main_arg2) = m ((c.tc : Thread Cert.PreFwdRefIdeal.nD Cert.PreFwdRefIdeal.τ).loc Cert.PreFwdRefIdeal.main_arg2)
      ∧ r.2.mem ((c.tc : Thread Cert.PreFwdRefIdeal.nD Cert.PreFwdRefIdeal.τ).loc Cert.PreFwdRefIdeal.main_arg3) = m ((c.tc : Thread Cert.PreFwdRefIdeal.nD Cert.PreFwdRefIdeal.τ).loc Cert.PreFwdRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v8) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v6) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Gow_GowIdeal : Prop :=
  True

def algebraic_GowIdeal_GowRefIdeal [hGowIdeal : Cert.GowIdeal.Facts] [hGowRefIdeal : Cert.GowRefIdeal.Facts] : Prop :=
  ∀ (m : (ℓ : Loc Cert.GowIdeal.nD Cert.GowIdeal.τ Cert.GowIdeal.sig) → Buf (Elt Ideal) ℓ) (g : Dev Cert.GowIdeal.nD → PrngReg)
    (m' : (ℓ : Loc Cert.GowRefIdeal.nD Cert.GowRefIdeal.τ Cert.GowRefIdeal.sig) → Buf (Elt Ideal) ℓ) (g' : Dev Cert.GowRefIdeal.nD → PrngReg), Pre_GowIdeal m →
    (∀ c : Dev Cert.GowIdeal.nD,
      m' ((c.tc : Thread Cert.GowRefIdeal.nD Cert.GowRefIdeal.τ).loc Cert.GowRefIdeal.main_arg0) = m ((c.tc : Thread Cert.GowIdeal.nD Cert.GowIdeal.τ).loc Cert.GowIdeal.main_arg0)
      ∧ m' ((c.tc : Thread Cert.GowRefIdeal.nD Cert.GowRefIdeal.τ).loc Cert.GowRefIdeal.main_arg1) = m ((c.tc : Thread Cert.GowIdeal.nD Cert.GowIdeal.τ).loc Cert.GowIdeal.main_arg1)
      ∧ m' ((c.tc : Thread Cert.GowRefIdeal.nD Cert.GowRefIdeal.τ).loc Cert.GowRefIdeal.main_arg2) = m ((c.tc : Thread Cert.GowIdeal.nD Cert.GowIdeal.τ).loc Cert.GowIdeal.main_arg2)
      ∧ m' ((c.tc : Thread Cert.GowRefIdeal.nD Cert.GowRefIdeal.τ).loc Cert.GowRefIdeal.main_arg3) = m ((c.tc : Thread Cert.GowIdeal.nD Cert.GowIdeal.τ).loc Cert.GowIdeal.main_arg3)
      ∧ m' ((c.tc : Thread Cert.GowRefIdeal.nD Cert.GowRefIdeal.τ).loc Cert.GowRefIdeal.main_arg4) = m ((c.tc : Thread Cert.GowIdeal.nD Cert.GowIdeal.τ).loc Cert.GowIdeal.main_arg4)
      ∧ m' ((c.tc : Thread Cert.GowRefIdeal.nD Cert.GowRefIdeal.τ).loc Cert.GowRefIdeal.main_arg5) = m ((c.tc : Thread Cert.GowIdeal.nD Cert.GowIdeal.τ).loc Cert.GowIdeal.main_arg5)) →
    ∃ (v0 : (c : Dev Cert.GowIdeal.nD) → Buf (Elt Ideal) ((c.tc : Thread Cert.GowIdeal.nD Cert.GowIdeal.τ).loc Cert.GowIdeal.main_v0_0)) (v1 : (c : Dev Cert.GowIdeal.nD) → Buf (Elt Ideal) ((c.tc : Thread Cert.GowIdeal.nD Cert.GowIdeal.τ).loc Cert.GowIdeal.main_v0_1)) (v2 : (c : Dev Cert.GowIdeal.nD) → Buf (Elt Ideal) ((c.tc : Thread Cert.GowIdeal.nD Cert.GowIdeal.τ).loc Cert.GowIdeal.main_v0_2)),
      θ_run (Cert.GowIdeal.defs (F := Ideal)) (onTc (τ := Cert.GowIdeal.τ) (Cert.GowIdeal.main (F := Ideal))) ⟨m, fun _ => 0, g⟩ (fun r => ∀ c : Dev Cert.GowIdeal.nD,
          r.2.mem ((c.tc : Thread Cert.GowIdeal.nD Cert.GowIdeal.τ).loc Cert.GowIdeal.main_v0_0) = v0 c
          ∧ r.2.mem ((c.tc : Thread Cert.GowIdeal.nD Cert.GowIdeal.τ).loc Cert.GowIdeal.main_v0_1) = v1 c
          ∧ r.2.mem ((c.tc : Thread Cert.GowIdeal.nD Cert.GowIdeal.τ).loc Cert.GowIdeal.main_v0_2) = v2 c
          ∧ r.2.mem ((c.tc : Thread Cert.GowIdeal.nD Cert.GowIdeal.τ).loc Cert.GowIdeal.main_arg0) = m ((c.tc : Thread Cert.GowIdeal.nD Cert.GowIdeal.τ).loc Cert.GowIdeal.main_arg0)
          ∧ r.2.mem ((c.tc : Thread Cert.GowIdeal.nD Cert.GowIdeal.τ).loc Cert.GowIdeal.main_arg1) = m ((c.tc : Thread Cert.GowIdeal.nD Cert.GowIdeal.τ).loc Cert.GowIdeal.main_arg1)
          ∧ r.2.mem ((c.tc : Thread Cert.GowIdeal.nD Cert.GowIdeal.τ).loc Cert.GowIdeal.main_arg2) = m ((c.tc : Thread Cert.GowIdeal.nD Cert.GowIdeal.τ).loc Cert.GowIdeal.main_arg2)
          ∧ r.2.mem ((c.tc : Thread Cert.GowIdeal.nD Cert.GowIdeal.τ).loc Cert.GowIdeal.main_arg3) = m ((c.tc : Thread Cert.GowIdeal.nD Cert.GowIdeal.τ).loc Cert.GowIdeal.main_arg3)
          ∧ r.2.mem ((c.tc : Thread Cert.GowIdeal.nD Cert.GowIdeal.τ).loc Cert.GowIdeal.main_arg4) = m ((c.tc : Thread Cert.GowIdeal.nD Cert.GowIdeal.τ).loc Cert.GowIdeal.main_arg4)
          ∧ r.2.mem ((c.tc : Thread Cert.GowIdeal.nD Cert.GowIdeal.τ).loc Cert.GowIdeal.main_arg5) = m ((c.tc : Thread Cert.GowIdeal.nD Cert.GowIdeal.τ).loc Cert.GowIdeal.main_arg5))
      ∧ θ_run (Cert.GowRefIdeal.defs (F := Ideal)) (onTc (τ := Cert.GowRefIdeal.τ) (Cert.GowRefIdeal.main (F := Ideal))) ⟨m', fun _ => 0, g'⟩ (fun r => ∀ c : Dev Cert.GowRefIdeal.nD,
          r.2.mem ((c.tc : Thread Cert.GowRefIdeal.nD Cert.GowRefIdeal.τ).loc Cert.GowRefIdeal.main_v6) = v0 c
          ∧ r.2.mem ((c.tc : Thread Cert.GowRefIdeal.nD Cert.GowRefIdeal.τ).loc Cert.GowRefIdeal.main_v13) = v1 c
          ∧ r.2.mem ((c.tc : Thread Cert.GowRefIdeal.nD Cert.GowRefIdeal.τ).loc Cert.GowRefIdeal.main_v22) = v2 c
          ∧ r.2.mem ((c.tc : Thread Cert.GowRefIdeal.nD Cert.GowRefIdeal.τ).loc Cert.GowRefIdeal.main_arg0) = m' ((c.tc : Thread Cert.GowRefIdeal.nD Cert.GowRefIdeal.τ).loc Cert.GowRefIdeal.main_arg0)
          ∧ r.2.mem ((c.tc : Thread Cert.GowRefIdeal.nD Cert.GowRefIdeal.τ).loc Cert.GowRefIdeal.main_arg1) = m' ((c.tc : Thread Cert.GowRefIdeal.nD Cert.GowRefIdeal.τ).loc Cert.GowRefIdeal.main_arg1)
          ∧ r.2.mem ((c.tc : Thread Cert.GowRefIdeal.nD Cert.GowRefIdeal.τ).loc Cert.GowRefIdeal.main_arg2) = m' ((c.tc : Thread Cert.GowRefIdeal.nD Cert.GowRefIdeal.τ).loc Cert.GowRefIdeal.main_arg2)
          ∧ r.2.mem ((c.tc : Thread Cert.GowRefIdeal.nD Cert.GowRefIdeal.τ).loc Cert.GowRefIdeal.main_arg3) = m' ((c.tc : Thread Cert.GowRefIdeal.nD Cert.GowRefIdeal.τ).loc Cert.GowRefIdeal.main_arg3)
          ∧ r.2.mem ((c.tc : Thread Cert.GowRefIdeal.nD Cert.GowRefIdeal.τ).loc Cert.GowRefIdeal.main_arg4) = m' ((c.tc : Thread Cert.GowRefIdeal.nD Cert.GowRefIdeal.τ).loc Cert.GowRefIdeal.main_arg4)
          ∧ r.2.mem ((c.tc : Thread Cert.GowRefIdeal.nD Cert.GowRefIdeal.τ).loc Cert.GowRefIdeal.main_arg5) = m' ((c.tc : Thread Cert.GowRefIdeal.nD Cert.GowRefIdeal.τ).loc Cert.GowRefIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)) (v4 : (c : Dev Cert.MergeFwdIdeal.nD) → Buf (Elt Ideal) ((c.tc : Thread Cert.MergeFwdIdeal.nD Cert.MergeFwdIdeal.τ).loc Cert.MergeFwdIdeal.main_v0_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_v0_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v44) = v0 c
          ∧ r.2.mem ((c.tc : Thread Cert.MergeFwdRefIdeal.nD Cert.MergeFwdRefIdeal.τ).loc Cert.MergeFwdRefIdeal.main_v45) = v1 c
          ∧ r.2.mem ((c.tc : Thread Cert.MergeFwdRefIdeal.nD Cert.MergeFwdRefIdeal.τ).loc Cert.MergeFwdRefIdeal.main_v46) = v2 c
          ∧ r.2.mem ((c.tc : Thread Cert.MergeFwdRefIdeal.nD Cert.MergeFwdRefIdeal.τ).loc Cert.MergeFwdRefIdeal.main_v47) = v3 c
          ∧ r.2.mem ((c.tc : Thread Cert.MergeFwdRefIdeal.nD Cert.MergeFwdRefIdeal.τ).loc Cert.MergeFwdRefIdeal.main_v43) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)
      ∧ m' ((c.tc : Thread Cert.AdamInRefIdeal.nD Cert.AdamInRefIdeal.τ).loc Cert.AdamInRefIdeal.main_arg8) = m ((c.tc : Thread Cert.AdamInIdeal.nD Cert.AdamInIdeal.τ).loc Cert.AdamInIdeal.main_arg8)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
          ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v47) = v0 c
          ∧ r.2.mem ((c.tc : Thread Cert.AdamInRefIdeal.nD Cert.AdamInRefIdeal.τ).loc Cert.AdamInRefIdeal.main_v50) = v1 c
          ∧ r.2.mem ((c.tc : Thread Cert.AdamInRefIdeal.nD Cert.AdamInRefIdeal.τ).loc Cert.AdamInRefIdeal.main_v53) = v2 c
          ∧ r.2.mem ((c.tc : Thread Cert.AdamInRefIdeal.nD Cert.AdamInRefIdeal.τ).loc Cert.AdamInRefIdeal.main_v56) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7)
          ∧ r.2.mem ((c.tc : Thread Cert.AdamInRefIdeal.nD Cert.AdamInRefIdeal.τ).loc Cert.AdamInRefIdeal.main_arg8) = m' ((c.tc : Thread Cert.AdamInRefIdeal.nD Cert.AdamInRefIdeal.τ).loc Cert.AdamInRefIdeal.main_arg8))

def preserves_AdamPo_AdamPoIdeal : Prop :=
  True

def algebraic_AdamPoIdeal_AdamPoRefIdeal [hAdamPoIdeal : Cert.AdamPoIdeal.Facts] [hAdamPoRefIdeal : Cert.AdamPoRefIdeal.Facts] : Prop :=
  ∀ (m : (ℓ : Loc Cert.AdamPoIdeal.nD Cert.AdamPoIdeal.τ Cert.AdamPoIdeal.sig) → Buf (Elt Ideal) ℓ) (g : Dev Cert.AdamPoIdeal.nD → PrngReg)
    (m' : (ℓ : Loc Cert.AdamPoRefIdeal.nD Cert.AdamPoRefIdeal.τ Cert.AdamPoRefIdeal.sig) → Buf (Elt Ideal) ℓ) (g' : Dev Cert.AdamPoRefIdeal.nD → PrngReg), Pre_AdamPoIdeal m →
    (∀ c : Dev Cert.AdamPoIdeal.nD,
      m' ((c.tc : Thread Cert.AdamPoRefIdeal.nD Cert.AdamPoRefIdeal.τ).loc Cert.AdamPoRefIdeal.main_arg0) = m ((c.tc : Thread Cert.AdamPoIdeal.nD Cert.AdamPoIdeal.τ).loc Cert.AdamPoIdeal.main_arg0)
      ∧ m' ((c.tc : Thread Cert.AdamPoRefIdeal.nD Cert.AdamPoRefIdeal.τ).loc Cert.AdamPoRefIdeal.main_arg1) = m ((c.tc : Thread Cert.AdamPoIdeal.nD Cert.AdamPoIdeal.τ).loc Cert.AdamPoIdeal.main_arg1)
      ∧ m' ((c.tc : Thread Cert.AdamPoRefIdeal.nD Cert.AdamPoRefIdeal.τ).loc Cert.AdamPoRefIdeal.main_arg2) = m ((c.tc : Thread Cert.AdamPoIdeal.nD Cert.AdamPoIdeal.τ).loc Cert.AdamPoIdeal.main_arg2)
      ∧ m' ((c.tc : Thread Cert.AdamPoRefIdeal.nD Cert.AdamPoRefIdeal.τ).loc Cert.AdamPoRefIdeal.main_arg3) = m ((c.tc : Thread Cert.AdamPoIdeal.nD Cert.AdamPoIdeal.τ).loc Cert.AdamPoIdeal.main_arg3)
      ∧ m' ((c.tc : Thread Cert.AdamPoRefIdeal.nD Cert.AdamPoRefIdeal.τ).loc Cert.AdamPoRefIdeal.main_arg4) = m ((c.tc : Thread Cert.AdamPoIdeal.nD Cert.AdamPoIdeal.τ).loc Cert.AdamPoIdeal.main_arg4)
      ∧ m' ((c.tc : Thread Cert.AdamPoRefIdeal.nD Cert.AdamPoRefIdeal.τ).loc Cert.AdamPoRefIdeal.main_arg5) = m ((c.tc : Thread Cert.AdamPoIdeal.nD Cert.AdamPoIdeal.τ).loc Cert.AdamPoIdeal.main_arg5)
      ∧ m' ((c.tc : Thread Cert.AdamPoRefIdeal.nD Cert.AdamPoRefIdeal.τ).loc Cert.AdamPoRefIdeal.main_arg6) = m ((c.tc : Thread Cert.AdamPoIdeal.nD Cert.AdamPoIdeal.τ).loc Cert.AdamPoIdeal.main_arg6)
      ∧ m' ((c.tc : Thread Cert.AdamPoRefIdeal.nD Cert.AdamPoRefIdeal.τ).loc Cert.AdamPoRefIdeal.main_arg7) = m ((c.tc : Thread Cert.AdamPoIdeal.nD Cert.AdamPoIdeal.τ).loc Cert.AdamPoIdeal.main_arg7)
      ∧ m' ((c.tc : Thread Cert.AdamPoRefIdeal.nD Cert.AdamPoRefIdeal.τ).loc Cert.AdamPoRefIdeal.main_arg8) = m ((c.tc : Thread Cert.AdamPoIdeal.nD Cert.AdamPoIdeal.τ).loc Cert.AdamPoIdeal.main_arg8)) →
    ∃ (v0 : (c : Dev Cert.AdamPoIdeal.nD) → Buf (Elt Ideal) ((c.tc : Thread Cert.AdamPoIdeal.nD Cert.AdamPoIdeal.τ).loc Cert.AdamPoIdeal.main_v0_0)) (v1 : (c : Dev Cert.AdamPoIdeal.nD) → Buf (Elt Ideal) ((c.tc : Thread Cert.AdamPoIdeal.nD Cert.AdamPoIdeal.τ).loc Cert.AdamPoIdeal.main_v0_1)) (v2 : (c : Dev Cert.AdamPoIdeal.nD) → Buf (Elt Ideal) ((c.tc : Thread Cert.AdamPoIdeal.nD Cert.AdamPoIdeal.τ).loc Cert.AdamPoIdeal.main_v0_2)) (v3 : (c : Dev Cert.AdamPoIdeal.nD) → Buf (Elt Ideal) ((c.tc : Thread Cert.AdamPoIdeal.nD Cert.AdamPoIdeal.τ).loc Cert.AdamPoIdeal.main_v0_3)),
      θ_run (Cert.AdamPoIdeal.defs (F := Ideal)) (onTc (τ := Cert.AdamPoIdeal.τ) (Cert.AdamPoIdeal.main (F := Ideal))) ⟨m, fun _ => 0, g⟩ (fun r => ∀ c : Dev Cert.AdamPoIdeal.nD,
          r.2.mem ((c.tc : Thread Cert.AdamPoIdeal.nD Cert.AdamPoIdeal.τ).loc Cert.AdamPoIdeal.main_v0_0) = v0 c
          ∧ r.2.mem ((c.tc : Thread Cert.AdamPoIdeal.nD Cert.AdamPoIdeal.τ).loc Cert.AdamPoIdeal.main_v0_1) = v1 c
          ∧ r.2.mem ((c.tc : Thread Cert.AdamPoIdeal.nD Cert.AdamPoIdeal.τ).loc Cert.AdamPoIdeal.main_v0_2) = v2 c
          ∧ r.2.mem ((c.tc : Thread Cert.AdamPoIdeal.nD Cert.AdamPoIdeal.τ).loc Cert.AdamPoIdeal.main_v0_3) = v3 c
          ∧ r.2.mem ((c.tc : Thread Cert.AdamPoIdeal.nD Cert.AdamPoIdeal.τ).loc Cert.AdamPoIdeal.main_arg0) = m ((c.tc : Thread Cert.AdamPoIdeal.nD Cert.AdamPoIdeal.τ).loc Cert.AdamPoIdeal.main_arg0)
          ∧ r.2.mem ((c.tc : Thread Cert.AdamPoIdeal.nD Cert.AdamPoIdeal.τ).loc Cert.AdamPoIdeal.main_arg1) = m ((c.tc : Thread Cert.AdamPoIdeal.nD Cert.AdamPoIdeal.τ).loc Cert.AdamPoIdeal.main_arg1)
          ∧ r.2.mem ((c.tc : Thread Cert.AdamPoIdeal.nD Cert.AdamPoIdeal.τ).loc Cert.AdamPoIdeal.main_arg2) = m ((c.tc : Thread Cert.AdamPoIdeal.nD Cert.AdamPoIdeal.τ).loc Cert.AdamPoIdeal.main_arg2)
          ∧ r.2.mem ((c.tc : Thread Cert.AdamPoIdeal.nD Cert.AdamPoIdeal.τ).loc Cert.AdamPoIdeal.main_arg3) = m ((c.tc : Thread Cert.AdamPoIdeal.nD Cert.AdamPoIdeal.τ).loc Cert.AdamPoIdeal.main_arg3)
          ∧ r.2.mem ((c.tc : Thread Cert.AdamPoIdeal.nD Cert.AdamPoIdeal.τ).loc Cert.AdamPoIdeal.main_arg4) = m ((c.tc : Thread Cert.AdamPoIdeal.nD Cert.AdamPoIdeal.τ).loc Cert.AdamPoIdeal.main_arg4)
          ∧ r.2.mem ((c.tc : Thread Cert.AdamPoIdeal.nD Cert.AdamPoIdeal.τ).loc Cert.AdamPoIdeal.main_arg5) = m ((c.tc : Thread Cert.AdamPoIdeal.nD Cert.AdamPoIdeal.τ).loc Cert.AdamPoIdeal.main_arg5)
          ∧ r.2.mem ((c.tc : Thread Cert.AdamPoIdeal.nD Cert.AdamPoIdeal.τ).loc Cert.AdamPoIdeal.main_arg6) = m ((c.tc : Thread Cert.AdamPoIdeal.nD Cert.AdamPoIdeal.τ).loc Cert.AdamPoIdeal.main_arg6)
          ∧ r.2.mem ((c.tc : Thread Cert.AdamPoIdeal.nD Cert.AdamPoIdeal.τ).loc Cert.AdamPoIdeal.main_arg7) = m ((c.tc : Thread Cert.AdamPoIdeal.nD Cert.AdamPoIdeal.τ).loc Cert.AdamPoIdeal.main_arg7)
          ∧ r.2.mem ((c.tc : Thread Cert.AdamPoIdeal.nD Cert.AdamPoIdeal.τ).loc Cert.AdamPoIdeal.main_arg8) = m ((c.tc : Thread Cert.AdamPoIdeal.nD Cert.AdamPoIdeal.τ).loc Cert.AdamPoIdeal.main_arg8))
      ∧ θ_run (Cert.AdamPoRefIdeal.defs (F := Ideal)) (onTc (τ := Cert.AdamPoRefIdeal.τ) (Cert.AdamPoRefIdeal.main (F := Ideal))) ⟨m', fun _ => 0, g'⟩ (fun r => ∀ c : Dev Cert.AdamPoRefIdeal.nD,
          r.2.mem ((c.tc : Thread Cert.AdamPoRefIdeal.nD Cert.AdamPoRefIdeal.τ).loc Cert.AdamPoRefIdeal.main_v47) = v0 c
          ∧ r.2.mem ((c.tc : Thread Cert.AdamPoRefIdeal.nD Cert.AdamPoRefIdeal.τ).loc Cert.AdamPoRefIdeal.main_v50) = v1 c
          ∧ r.2.mem ((c.tc : Thread Cert.AdamPoRefIdeal.nD Cert.AdamPoRefIdeal.τ).loc Cert.AdamPoRefIdeal.main_v53) = v2 c
          ∧ r.2.mem ((c.tc : Thread Cert.AdamPoRefIdeal.nD Cert.AdamPoRefIdeal.τ).loc Cert.AdamPoRefIdeal.main_v56) = v3 c
          ∧ r.2.mem ((c.tc : Thread Cert.AdamPoRefIdeal.nD Cert.AdamPoRefIdeal.τ).loc Cert.AdamPoRefIdeal.main_arg0) = m' ((c.tc : Thread Cert.AdamPoRefIdeal.nD Cert.AdamPoRefIdeal.τ).loc Cert.AdamPoRefIdeal.main_arg0)
          ∧ r.2.mem ((c.tc : Thread Cert.AdamPoRefIdeal.nD Cert.AdamPoRefIdeal.τ).loc Cert.AdamPoRefIdeal.main_arg1) = m' ((c.tc : Thread Cert.AdamPoRefIdeal.nD Cert.AdamPoRefIdeal.τ).loc Cert.AdamPoRefIdeal.main_arg1)
          ∧ r.2.mem ((c.tc : Thread Cert.AdamPoRefIdeal.nD Cert.AdamPoRefIdeal.τ).loc Cert.AdamPoRefIdeal.main_arg2) = m' ((c.tc : Thread Cert.AdamPoRefIdeal.nD Cert.AdamPoRefIdeal.τ).loc Cert.AdamPoRefIdeal.main_arg2)
          ∧ r.2.mem ((c.tc : Thread Cert.AdamPoRefIdeal.nD Cert.AdamPoRefIdeal.τ).loc Cert.AdamPoRefIdeal.main_arg3) = m' ((c.tc : Thread Cert.AdamPoRefIdeal.nD Cert.AdamPoRefIdeal.τ).loc Cert.AdamPoRefIdeal.main_arg3)
          ∧ r.2.mem ((c.tc : Thread Cert.AdamPoRefIdeal.nD Cert.AdamPoRefIdeal.τ).loc Cert.AdamPoRefIdeal.main_arg4) = m' ((c.tc : Thread Cert.AdamPoRefIdeal.nD Cert.AdamPoRefIdeal.τ).loc Cert.AdamPoRefIdeal.main_arg4)
          ∧ r.2.mem ((c.tc : Thread Cert.AdamPoRefIdeal.nD Cert.AdamPoRefIdeal.τ).loc Cert.AdamPoRefIdeal.main_arg5) = m' ((c.tc : Thread Cert.AdamPoRefIdeal.nD Cert.AdamPoRefIdeal.τ).loc Cert.AdamPoRefIdeal.main_arg5)
          ∧ r.2.mem ((c.tc : Thread Cert.AdamPoRefIdeal.nD Cert.AdamPoRefIdeal.τ).loc Cert.AdamPoRefIdeal.main_arg6) = m' ((c.tc : Thread Cert.AdamPoRefIdeal.nD Cert.AdamPoRefIdeal.τ).loc Cert.AdamPoRefIdeal.main_arg6)
          ∧ r.2.mem ((c.tc : Thread Cert.AdamPoRefIdeal.nD Cert.AdamPoRefIdeal.τ).loc Cert.AdamPoRefIdeal.main_arg7) = m' ((c.tc : Thread Cert.AdamPoRefIdeal.nD Cert.AdamPoRefIdeal.τ).loc Cert.AdamPoRefIdeal.main_arg7)
          ∧ r.2.mem ((c.tc : Thread Cert.AdamPoRefIdeal.nD Cert.AdamPoRefIdeal.τ).loc Cert.AdamPoRefIdeal.main_arg8) = m' ((c.tc : Thread Cert.AdamPoRefIdeal.nD Cert.AdamPoRefIdeal.τ).loc Cert.AdamPoRefIdeal.main_arg8))

def preserves_AdamHo_AdamHoIdeal : Prop :=
  True

def algebraic_AdamHoIdeal_AdamHoRefIdeal [hAdamHoIdeal : Cert.AdamHoIdeal.Facts] [hAdamHoRefIdeal : Cert.AdamHoRefIdeal.Facts] : Prop :=
  ∀ (m : (ℓ : Loc Cert.AdamHoIdeal.nD Cert.AdamHoIdeal.τ Cert.AdamHoIdeal.sig) → Buf (Elt Ideal) ℓ) (g : Dev Cert.AdamHoIdeal.nD → PrngReg)
    (m' : (ℓ : Loc Cert.AdamHoRefIdeal.nD Cert.AdamHoRefIdeal.τ Cert.AdamHoRefIdeal.sig) → Buf (Elt Ideal) ℓ) (g' : Dev Cert.AdamHoRefIdeal.nD → PrngReg), Pre_AdamHoIdeal m →
    (∀ c : Dev Cert.AdamHoIdeal.nD,
      m' ((c.tc : Thread Cert.AdamHoRefIdeal.nD Cert.AdamHoRefIdeal.τ).loc Cert.AdamHoRefIdeal.main_arg0) = m ((c.tc : Thread Cert.AdamHoIdeal.nD Cert.AdamHoIdeal.τ).loc Cert.AdamHoIdeal.main_arg0)
      ∧ m' ((c.tc : Thread Cert.AdamHoRefIdeal.nD Cert.AdamHoRefIdeal.τ).loc Cert.AdamHoRefIdeal.main_arg1) = m ((c.tc : Thread Cert.AdamHoIdeal.nD Cert.AdamHoIdeal.τ).loc Cert.AdamHoIdeal.main_arg1)
      ∧ m' ((c.tc : Thread Cert.AdamHoRefIdeal.nD Cert.AdamHoRefIdeal.τ).loc Cert.AdamHoRefIdeal.main_arg2) = m ((c.tc : Thread Cert.AdamHoIdeal.nD Cert.AdamHoIdeal.τ).loc Cert.AdamHoIdeal.main_arg2)
      ∧ m' ((c.tc : Thread Cert.AdamHoRefIdeal.nD Cert.AdamHoRefIdeal.τ).loc Cert.AdamHoRefIdeal.main_arg3) = m ((c.tc : Thread Cert.AdamHoIdeal.nD Cert.AdamHoIdeal.τ).loc Cert.AdamHoIdeal.main_arg3)
      ∧ m' ((c.tc : Thread Cert.AdamHoRefIdeal.nD Cert.AdamHoRefIdeal.τ).loc Cert.AdamHoRefIdeal.main_arg4) = m ((c.tc : Thread Cert.AdamHoIdeal.nD Cert.AdamHoIdeal.τ).loc Cert.AdamHoIdeal.main_arg4)
      ∧ m' ((c.tc : Thread Cert.AdamHoRefIdeal.nD Cert.AdamHoRefIdeal.τ).loc Cert.AdamHoRefIdeal.main_arg5) = m ((c.tc : Thread Cert.AdamHoIdeal.nD Cert.AdamHoIdeal.τ).loc Cert.AdamHoIdeal.main_arg5)
      ∧ m' ((c.tc : Thread Cert.AdamHoRefIdeal.nD Cert.AdamHoRefIdeal.τ).loc Cert.AdamHoRefIdeal.main_arg6) = m ((c.tc : Thread Cert.AdamHoIdeal.nD Cert.AdamHoIdeal.τ).loc Cert.AdamHoIdeal.main_arg6)
      ∧ m' ((c.tc : Thread Cert.AdamHoRefIdeal.nD Cert.AdamHoRefIdeal.τ).loc Cert.AdamHoRefIdeal.main_arg7) = m ((c.tc : Thread Cert.AdamHoIdeal.nD Cert.AdamHoIdeal.τ).loc Cert.AdamHoIdeal.main_arg7)
      ∧ m' ((c.tc : Thread Cert.AdamHoRefIdeal.nD Cert.AdamHoRefIdeal.τ).loc Cert.AdamHoRefIdeal.main_arg8) = m ((c.tc : Thread Cert.AdamHoIdeal.nD Cert.AdamHoIdeal.τ).loc Cert.AdamHoIdeal.main_arg8)) →
    ∃ (v0 : (c : Dev Cert.AdamHoIdeal.nD) → Buf (Elt Ideal) ((c.tc : Thread Cert.AdamHoIdeal.nD Cert.AdamHoIdeal.τ).loc Cert.AdamHoIdeal.main_v0_0)) (v1 : (c : Dev Cert.AdamHoIdeal.nD) → Buf (Elt Ideal) ((c.tc : Thread Cert.AdamHoIdeal.nD Cert.AdamHoIdeal.τ).loc Cert.AdamHoIdeal.main_v0_1)) (v2 : (c : Dev Cert.AdamHoIdeal.nD) → Buf (Elt Ideal) ((c.tc : Thread Cert.AdamHoIdeal.nD Cert.AdamHoIdeal.τ).loc Cert.AdamHoIdeal.main_v0_2)) (v3 : (c : Dev Cert.AdamHoIdeal.nD) → Buf (Elt Ideal) ((c.tc : Thread Cert.AdamHoIdeal.nD Cert.AdamHoIdeal.τ).loc Cert.AdamHoIdeal.main_v0_3)),
      θ_run (Cert.AdamHoIdeal.defs (F := Ideal)) (onTc (τ := Cert.AdamHoIdeal.τ) (Cert.AdamHoIdeal.main (F := Ideal))) ⟨m, fun _ => 0, g⟩ (fun r => ∀ c : Dev Cert.AdamHoIdeal.nD,
          r.2.mem ((c.tc : Thread Cert.AdamHoIdeal.nD Cert.AdamHoIdeal.τ).loc Cert.AdamHoIdeal.main_v0_0) = v0 c
          ∧ r.2.mem ((c.tc : Thread Cert.AdamHoIdeal.nD Cert.AdamHoIdeal.τ).loc Cert.AdamHoIdeal.main_v0_1) = v1 c
          ∧ r.2.mem ((c.tc : Thread Cert.AdamHoIdeal.nD Cert.AdamHoIdeal.τ).loc Cert.AdamHoIdeal.main_v0_2) = v2 c
          ∧ r.2.mem ((c.tc : Thread Cert.AdamHoIdeal.nD Cert.AdamHoIdeal.τ).loc Cert.AdamHoIdeal.main_v0_3) = v3 c
          ∧ r.2.mem ((c.tc : Thread Cert.AdamHoIdeal.nD Cert.AdamHoIdeal.τ).loc Cert.AdamHoIdeal.main_arg0) = m ((c.tc : Thread Cert.AdamHoIdeal.nD Cert.AdamHoIdeal.τ).loc Cert.AdamHoIdeal.main_arg0)
          ∧ r.2.mem ((c.tc : Thread Cert.AdamHoIdeal.nD Cert.AdamHoIdeal.τ).loc Cert.AdamHoIdeal.main_arg1) = m ((c.tc : Thread Cert.AdamHoIdeal.nD Cert.AdamHoIdeal.τ).loc Cert.AdamHoIdeal.main_arg1)
          ∧ r.2.mem ((c.tc : Thread Cert.AdamHoIdeal.nD Cert.AdamHoIdeal.τ).loc Cert.AdamHoIdeal.main_arg2) = m ((c.tc : Thread Cert.AdamHoIdeal.nD Cert.AdamHoIdeal.τ).loc Cert.AdamHoIdeal.main_arg2)
          ∧ r.2.mem ((c.tc : Thread Cert.AdamHoIdeal.nD Cert.AdamHoIdeal.τ).loc Cert.AdamHoIdeal.main_arg3) = m ((c.tc : Thread Cert.AdamHoIdeal.nD Cert.AdamHoIdeal.τ).loc Cert.AdamHoIdeal.main_arg3)
          ∧ r.2.mem ((c.tc : Thread Cert.AdamHoIdeal.nD Cert.AdamHoIdeal.τ).loc Cert.AdamHoIdeal.main_arg4) = m ((c.tc : Thread Cert.AdamHoIdeal.nD Cert.AdamHoIdeal.τ).loc Cert.AdamHoIdeal.main_arg4)
          ∧ r.2.mem ((c.tc : Thread Cert.AdamHoIdeal.nD Cert.AdamHoIdeal.τ).loc Cert.AdamHoIdeal.main_arg5) = m ((c.tc : Thread Cert.AdamHoIdeal.nD Cert.AdamHoIdeal.τ).loc Cert.AdamHoIdeal.main_arg5)
          ∧ r.2.mem ((c.tc : Thread Cert.AdamHoIdeal.nD Cert.AdamHoIdeal.τ).loc Cert.AdamHoIdeal.main_arg6) = m ((c.tc : Thread Cert.AdamHoIdeal.nD Cert.AdamHoIdeal.τ).loc Cert.AdamHoIdeal.main_arg6)
          ∧ r.2.mem ((c.tc : Thread Cert.AdamHoIdeal.nD Cert.AdamHoIdeal.τ).loc Cert.AdamHoIdeal.main_arg7) = m ((c.tc : Thread Cert.AdamHoIdeal.nD Cert.AdamHoIdeal.τ).loc Cert.AdamHoIdeal.main_arg7)
          ∧ r.2.mem ((c.tc : Thread Cert.AdamHoIdeal.nD Cert.AdamHoIdeal.τ).loc Cert.AdamHoIdeal.main_arg8) = m ((c.tc : Thread Cert.AdamHoIdeal.nD Cert.AdamHoIdeal.τ).loc Cert.AdamHoIdeal.main_arg8))
      ∧ θ_run (Cert.AdamHoRefIdeal.defs (F := Ideal)) (onTc (τ := Cert.AdamHoRefIdeal.τ) (Cert.AdamHoRefIdeal.main (F := Ideal))) ⟨m', fun _ => 0, g'⟩ (fun r => ∀ c : Dev Cert.AdamHoRefIdeal.nD,
          r.2.mem ((c.tc : Thread Cert.AdamHoRefIdeal.nD Cert.AdamHoRefIdeal.τ).loc Cert.AdamHoRefIdeal.main_v47) = v0 c
          ∧ r.2.mem ((c.tc : Thread Cert.AdamHoRefIdeal.nD Cert.AdamHoRefIdeal.τ).loc Cert.AdamHoRefIdeal.main_v50) = v1 c
          ∧ r.2.mem ((c.tc : Thread Cert.AdamHoRefIdeal.nD Cert.AdamHoRefIdeal.τ).loc Cert.AdamHoRefIdeal.main_v53) = v2 c
          ∧ r.2.mem ((c.tc : Thread Cert.AdamHoRefIdeal.nD Cert.AdamHoRefIdeal.τ).loc Cert.AdamHoRefIdeal.main_v56) = v3 c
          ∧ r.2.mem ((c.tc : Thread Cert.AdamHoRefIdeal.nD Cert.AdamHoRefIdeal.τ).loc Cert.AdamHoRefIdeal.main_arg0) = m' ((c.tc : Thread Cert.AdamHoRefIdeal.nD Cert.AdamHoRefIdeal.τ).loc Cert.AdamHoRefIdeal.main_arg0)
          ∧ r.2.mem ((c.tc : Thread Cert.AdamHoRefIdeal.nD Cert.AdamHoRefIdeal.τ).loc Cert.AdamHoRefIdeal.main_arg1) = m' ((c.tc : Thread Cert.AdamHoRefIdeal.nD Cert.AdamHoRefIdeal.τ).loc Cert.AdamHoRefIdeal.main_arg1)
          ∧ r.2.mem ((c.tc : Thread Cert.AdamHoRefIdeal.nD Cert.AdamHoRefIdeal.τ).loc Cert.AdamHoRefIdeal.main_arg2) = m' ((c.tc : Thread Cert.AdamHoRefIdeal.nD Cert.AdamHoRefIdeal.τ).loc Cert.AdamHoRefIdeal.main_arg2)
          ∧ r.2.mem ((c.tc : Thread Cert.AdamHoRefIdeal.nD Cert.AdamHoRefIdeal.τ).loc Cert.AdamHoRefIdeal.main_arg3) = m' ((c.tc : Thread Cert.AdamHoRefIdeal.nD Cert.AdamHoRefIdeal.τ).loc Cert.AdamHoRefIdeal.main_arg3)
          ∧ r.2.mem ((c.tc : Thread Cert.AdamHoRefIdeal.nD Cert.AdamHoRefIdeal.τ).loc Cert.AdamHoRefIdeal.main_arg4) = m' ((c.tc : Thread Cert.AdamHoRefIdeal.nD Cert.AdamHoRefIdeal.τ).loc Cert.AdamHoRefIdeal.main_arg4)
          ∧ r.2.mem ((c.tc : Thread Cert.AdamHoRefIdeal.nD Cert.AdamHoRefIdeal.τ).loc Cert.AdamHoRefIdeal.main_arg5) = m' ((c.tc : Thread Cert.AdamHoRefIdeal.nD Cert.AdamHoRefIdeal.τ).loc Cert.AdamHoRefIdeal.main_arg5)
          ∧ r.2.mem ((c.tc : Thread Cert.AdamHoRefIdeal.nD Cert.AdamHoRefIdeal.τ).loc Cert.AdamHoRefIdeal.main_arg6) = m' ((c.tc : Thread Cert.AdamHoRefIdeal.nD Cert.AdamHoRefIdeal.τ).loc Cert.AdamHoRefIdeal.main_arg6)
          ∧ r.2.mem ((c.tc : Thread Cert.AdamHoRefIdeal.nD Cert.AdamHoRefIdeal.τ).loc Cert.AdamHoRefIdeal.main_arg7) = m' ((c.tc : Thread Cert.AdamHoRefIdeal.nD Cert.AdamHoRefIdeal.τ).loc Cert.AdamHoRefIdeal.main_arg7)
          ∧ r.2.mem ((c.tc : Thread Cert.AdamHoRefIdeal.nD Cert.AdamHoRefIdeal.τ).loc Cert.AdamHoRefIdeal.main_arg8) = m' ((c.tc : Thread Cert.AdamHoRefIdeal.nD Cert.AdamHoRefIdeal.τ).loc Cert.AdamHoRefIdeal.main_arg8))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)
      ∧ m' ((c.tc : Thread Cert.AdamAdaRefIdeal.nD Cert.AdamAdaRefIdeal.τ).loc Cert.AdamAdaRefIdeal.main_arg5) = m ((c.tc : Thread Cert.AdamAdaIdeal.nD Cert.AdamAdaIdeal.τ).loc Cert.AdamAdaIdeal.main_arg5)
      ∧ m' ((c.tc : Thread Cert.AdamAdaRefIdeal.nD Cert.AdamAdaRefIdeal.τ).loc Cert.AdamAdaRefIdeal.main_arg6) = m ((c.tc : Thread Cert.AdamAdaIdeal.nD Cert.AdamAdaIdeal.τ).loc Cert.AdamAdaIdeal.main_arg6)
      ∧ m' ((c.tc : Thread Cert.AdamAdaRefIdeal.nD Cert.AdamAdaRefIdeal.τ).loc Cert.AdamAdaRefIdeal.main_arg7) = m ((c.tc : Thread Cert.AdamAdaIdeal.nD Cert.AdamAdaIdeal.τ).loc Cert.AdamAdaIdeal.main_arg7)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4)
          ∧ r.2.mem ((c.tc : Thread Cert.AdamAdaIdeal.nD Cert.AdamAdaIdeal.τ).loc Cert.AdamAdaIdeal.main_arg5) = m ((c.tc : Thread Cert.AdamAdaIdeal.nD Cert.AdamAdaIdeal.τ).loc Cert.AdamAdaIdeal.main_arg5)
          ∧ r.2.mem ((c.tc : Thread Cert.AdamAdaIdeal.nD Cert.AdamAdaIdeal.τ).loc Cert.AdamAdaIdeal.main_arg6) = m ((c.tc : Thread Cert.AdamAdaIdeal.nD Cert.AdamAdaIdeal.τ).loc Cert.AdamAdaIdeal.main_arg6)
          ∧ r.2.mem ((c.tc : Thread Cert.AdamAdaIdeal.nD Cert.AdamAdaIdeal.τ).loc Cert.AdamAdaIdeal.main_arg7) = m ((c.tc : Thread Cert.AdamAdaIdeal.nD Cert.AdamAdaIdeal.τ).loc Cert.AdamAdaIdeal.main_arg7))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v34) = v0 c
          ∧ r.2.mem ((c.tc : Thread Cert.AdamAdaRefIdeal.nD Cert.AdamAdaRefIdeal.τ).loc Cert.AdamAdaRefIdeal.main_v37) = v1 c
          ∧ r.2.mem ((c.tc : Thread Cert.AdamAdaRefIdeal.nD Cert.AdamAdaRefIdeal.τ).loc Cert.AdamAdaRefIdeal.main_v40) = v2 c
          ∧ r.2.mem ((c.tc : Thread Cert.AdamAdaRefIdeal.nD Cert.AdamAdaRefIdeal.τ).loc Cert.AdamAdaRefIdeal.main_v43) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4)
          ∧ r.2.mem ((c.tc : Thread Cert.AdamAdaRefIdeal.nD Cert.AdamAdaRefIdeal.τ).loc Cert.AdamAdaRefIdeal.main_arg5) = m' ((c.tc : Thread Cert.AdamAdaRefIdeal.nD Cert.AdamAdaRefIdeal.τ).loc Cert.AdamAdaRefIdeal.main_arg5)
          ∧ r.2.mem ((c.tc : Thread Cert.AdamAdaRefIdeal.nD Cert.AdamAdaRefIdeal.τ).loc Cert.AdamAdaRefIdeal.main_arg6) = m' ((c.tc : Thread Cert.AdamAdaRefIdeal.nD Cert.AdamAdaRefIdeal.τ).loc Cert.AdamAdaRefIdeal.main_arg6)
          ∧ r.2.mem ((c.tc : Thread Cert.AdamAdaRefIdeal.nD Cert.AdamAdaRefIdeal.τ).loc Cert.AdamAdaRefIdeal.main_arg7) = m' ((c.tc : Thread Cert.AdamAdaRefIdeal.nD Cert.AdamAdaRefIdeal.τ).loc Cert.AdamAdaRefIdeal.main_arg7))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v0_4)) (v5 : (c : Dev Cert.SmallIdeal.nD) → Buf (Elt Ideal) ((c.tc : Thread Cert.SmallIdeal.nD Cert.SmallIdeal.τ).loc Cert.SmallIdeal.main_v0_5)) (v6 : (c : Dev Cert.SmallIdeal.nD) → Buf (Elt Ideal) ((c.tc : Thread Cert.SmallIdeal.nD Cert.SmallIdeal.τ).loc Cert.SmallIdeal.main_v0_6)) (v7 : (c : Dev Cert.SmallIdeal.nD) → Buf (Elt Ideal) ((c.tc : Thread Cert.SmallIdeal.nD Cert.SmallIdeal.τ).loc Cert.SmallIdeal.main_v0_7)) (v8 : (c : Dev Cert.SmallIdeal.nD) → Buf (Elt Ideal) ((c.tc : Thread Cert.SmallIdeal.nD Cert.SmallIdeal.τ).loc Cert.SmallIdeal.main_v0_8)) (v9 : (c : Dev Cert.SmallIdeal.nD) → Buf (Elt Ideal) ((c.tc : Thread Cert.SmallIdeal.nD Cert.SmallIdeal.τ).loc Cert.SmallIdeal.main_v0_9)) (v10 : (c : Dev Cert.SmallIdeal.nD) → Buf (Elt Ideal) ((c.tc : Thread Cert.SmallIdeal.nD Cert.SmallIdeal.τ).loc Cert.SmallIdeal.main_v0_10)) (v11 : (c : Dev Cert.SmallIdeal.nD) → Buf (Elt Ideal) ((c.tc : Thread Cert.SmallIdeal.nD Cert.SmallIdeal.τ).loc Cert.SmallIdeal.main_v0_11)) (v12 : (c : Dev Cert.SmallIdeal.nD) → Buf (Elt Ideal) ((c.tc : Thread Cert.SmallIdeal.nD Cert.SmallIdeal.τ).loc Cert.SmallIdeal.main_v0_12)) (v13 : (c : Dev Cert.SmallIdeal.nD) → Buf (Elt Ideal) ((c.tc : Thread Cert.SmallIdeal.nD Cert.SmallIdeal.τ).loc Cert.SmallIdeal.main_v0_13)) (v14 : (c : Dev Cert.SmallIdeal.nD) → Buf (Elt Ideal) ((c.tc : Thread Cert.SmallIdeal.nD Cert.SmallIdeal.τ).loc Cert.SmallIdeal.main_v0_14)) (v15 : (c : Dev Cert.SmallIdeal.nD) → Buf (Elt Ideal) ((c.tc : Thread Cert.SmallIdeal.nD Cert.SmallIdeal.τ).loc Cert.SmallIdeal.main_v0_15)) (v16 : (c : Dev Cert.SmallIdeal.nD) → Buf (Elt Ideal) ((c.tc : Thread Cert.SmallIdeal.nD Cert.SmallIdeal.τ).loc Cert.SmallIdeal.main_v0_16)) (v17 : (c : Dev Cert.SmallIdeal.nD) → Buf (Elt Ideal) ((c.tc : Thread Cert.SmallIdeal.nD Cert.SmallIdeal.τ).loc Cert.SmallIdeal.main_v0_17)) (v18 : (c : Dev Cert.SmallIdeal.nD) → Buf (Elt Ideal) ((c.tc : Thread Cert.SmallIdeal.nD Cert.SmallIdeal.τ).loc Cert.SmallIdeal.main_v0_18)) (v19 : (c : Dev Cert.SmallIdeal.nD) → Buf (Elt Ideal) ((c.tc : Thread Cert.SmallIdeal.nD Cert.SmallIdeal.τ).loc Cert.SmallIdeal.main_v0_19)) (v20 : (c : Dev Cert.SmallIdeal.nD) → Buf (Elt Ideal) ((c.tc : Thread Cert.SmallIdeal.nD Cert.SmallIdeal.τ).loc Cert.SmallIdeal.main_v0_20)) (v21 : (c : Dev Cert.SmallIdeal.nD) → Buf (Elt Ideal) ((c.tc : Thread Cert.SmallIdeal.nD Cert.SmallIdeal.τ).loc Cert.SmallIdeal.main_v0_21)) (v22 : (c : Dev Cert.SmallIdeal.nD) → Buf (Elt Ideal) ((c.tc : Thread Cert.SmallIdeal.nD Cert.SmallIdeal.τ).loc Cert.SmallIdeal.main_v0_22)) (v23 : (c : Dev Cert.SmallIdeal.nD) → Buf (Elt Ideal) ((c.tc : Thread Cert.SmallIdeal.nD Cert.SmallIdeal.τ).loc Cert.SmallIdeal.main_v0_23)) (v24 : (c : Dev Cert.SmallIdeal.nD) → Buf (Elt Ideal) ((c.tc : Thread Cert.SmallIdeal.nD Cert.SmallIdeal.τ).loc Cert.SmallIdeal.main_v0_24)) (v25 : (c : Dev Cert.SmallIdeal.nD) → Buf (Elt Ideal) ((c.tc : Thread Cert.SmallIdeal.nD Cert.SmallIdeal.τ).loc Cert.SmallIdeal.main_v0_25)) (v26 : (c : Dev Cert.SmallIdeal.nD) → Buf (Elt Ideal) ((c.tc : Thread Cert.SmallIdeal.nD Cert.SmallIdeal.τ).loc Cert.SmallIdeal.main_v0_26)) (v27 : (c : Dev Cert.SmallIdeal.nD) → Buf (Elt Ideal) ((c.tc : Thread Cert.SmallIdeal.nD Cert.SmallIdeal.τ).loc Cert.SmallIdeal.main_v0_27)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v0_4) = v4 c
          ∧ r.2.mem ((c.tc : Thread Cert.SmallIdeal.nD Cert.SmallIdeal.τ).loc Cert.SmallIdeal.main_v0_5) = v5 c
          ∧ r.2.mem ((c.tc : Thread Cert.SmallIdeal.nD Cert.SmallIdeal.τ).loc Cert.SmallIdeal.main_v0_6) = v6 c
          ∧ r.2.mem ((c.tc : Thread Cert.SmallIdeal.nD Cert.SmallIdeal.τ).loc Cert.SmallIdeal.main_v0_7) = v7 c
          ∧ r.2.mem ((c.tc : Thread Cert.SmallIdeal.nD Cert.SmallIdeal.τ).loc Cert.SmallIdeal.main_v0_8) = v8 c
          ∧ r.2.mem ((c.tc : Thread Cert.SmallIdeal.nD Cert.SmallIdeal.τ).loc Cert.SmallIdeal.main_v0_9) = v9 c
          ∧ r.2.mem ((c.tc : Thread Cert.SmallIdeal.nD Cert.SmallIdeal.τ).loc Cert.SmallIdeal.main_v0_10) = v10 c
          ∧ r.2.mem ((c.tc : Thread Cert.SmallIdeal.nD Cert.SmallIdeal.τ).loc Cert.SmallIdeal.main_v0_11) = v11 c
          ∧ r.2.mem ((c.tc : Thread Cert.SmallIdeal.nD Cert.SmallIdeal.τ).loc Cert.SmallIdeal.main_v0_12) = v12 c
          ∧ r.2.mem ((c.tc : Thread Cert.SmallIdeal.nD Cert.SmallIdeal.τ).loc Cert.SmallIdeal.main_v0_13) = v13 c
          ∧ r.2.mem ((c.tc : Thread Cert.SmallIdeal.nD Cert.SmallIdeal.τ).loc Cert.SmallIdeal.main_v0_14) = v14 c
          ∧ r.2.mem ((c.tc : Thread Cert.SmallIdeal.nD Cert.SmallIdeal.τ).loc Cert.SmallIdeal.main_v0_15) = v15 c
          ∧ r.2.mem ((c.tc : Thread Cert.SmallIdeal.nD Cert.SmallIdeal.τ).loc Cert.SmallIdeal.main_v0_16) = v16 c
          ∧ r.2.mem ((c.tc : Thread Cert.SmallIdeal.nD Cert.SmallIdeal.τ).loc Cert.SmallIdeal.main_v0_17) = v17 c
          ∧ r.2.mem ((c.tc : Thread Cert.SmallIdeal.nD Cert.SmallIdeal.τ).loc Cert.SmallIdeal.main_v0_18) = v18 c
          ∧ r.2.mem ((c.tc : Thread Cert.SmallIdeal.nD Cert.SmallIdeal.τ).loc Cert.SmallIdeal.main_v0_19) = v19 c
          ∧ r.2.mem ((c.tc : Thread Cert.SmallIdeal.nD Cert.SmallIdeal.τ).loc Cert.SmallIdeal.main_v0_20) = v20 c
          ∧ r.2.mem ((c.tc : Thread Cert.SmallIdeal.nD Cert.SmallIdeal.τ).loc Cert.SmallIdeal.main_v0_21) = v21 c
          ∧ r.2.mem ((c.tc : Thread Cert.SmallIdeal.nD Cert.SmallIdeal.τ).loc Cert.SmallIdeal.main_v0_22) = v22 c
          ∧ r.2.mem ((c.tc : Thread Cert.SmallIdeal.nD Cert.SmallIdeal.τ).loc Cert.SmallIdeal.main_v0_23) = v23 c
          ∧ r.2.mem ((c.tc : Thread Cert.SmallIdeal.nD Cert.SmallIdeal.τ).loc Cert.SmallIdeal.main_v0_24) = v24 c
          ∧ r.2.mem ((c.tc : Thread Cert.SmallIdeal.nD Cert.SmallIdeal.τ).loc Cert.SmallIdeal.main_v0_25) = v25 c
          ∧ r.2.mem ((c.tc : Thread Cert.SmallIdeal.nD Cert.SmallIdeal.τ).loc Cert.SmallIdeal.main_v0_26) = v26 c
          ∧ r.2.mem ((c.tc : Thread Cert.SmallIdeal.nD Cert.SmallIdeal.τ).loc Cert.SmallIdeal.main_v0_27) = v27 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v91) = v0 c
          ∧ r.2.mem ((c.tc : Thread Cert.SmallRefIdeal.nD Cert.SmallRefIdeal.τ).loc Cert.SmallRefIdeal.main_v96) = v1 c
          ∧ r.2.mem ((c.tc : Thread Cert.SmallRefIdeal.nD Cert.SmallRefIdeal.τ).loc Cert.SmallRefIdeal.main_v98) = v2 c
          ∧ r.2.mem ((c.tc : Thread Cert.SmallRefIdeal.nD Cert.SmallRefIdeal.τ).loc Cert.SmallRefIdeal.main_v99) = v3 c
          ∧ r.2.mem ((c.tc : Thread Cert.SmallRefIdeal.nD Cert.SmallRefIdeal.τ).loc Cert.SmallRefIdeal.main_v101) = v4 c
          ∧ r.2.mem ((c.tc : Thread Cert.SmallRefIdeal.nD Cert.SmallRefIdeal.τ).loc Cert.SmallRefIdeal.main_v103) = v5 c
          ∧ r.2.mem ((c.tc : Thread Cert.SmallRefIdeal.nD Cert.SmallRefIdeal.τ).loc Cert.SmallRefIdeal.main_v104) = v6 c
          ∧ r.2.mem ((c.tc : Thread Cert.SmallRefIdeal.nD Cert.SmallRefIdeal.τ).loc Cert.SmallRefIdeal.main_v109) = v7 c
          ∧ r.2.mem ((c.tc : Thread Cert.SmallRefIdeal.nD Cert.SmallRefIdeal.τ).loc Cert.SmallRefIdeal.main_v114) = v8 c
          ∧ r.2.mem ((c.tc : Thread Cert.SmallRefIdeal.nD Cert.SmallRefIdeal.τ).loc Cert.SmallRefIdeal.main_v116) = v9 c
          ∧ r.2.mem ((c.tc : Thread Cert.SmallRefIdeal.nD Cert.SmallRefIdeal.τ).loc Cert.SmallRefIdeal.main_v117) = v10 c
          ∧ r.2.mem ((c.tc : Thread Cert.SmallRefIdeal.nD Cert.SmallRefIdeal.τ).loc Cert.SmallRefIdeal.main_v119) = v11 c
          ∧ r.2.mem ((c.tc : Thread Cert.SmallRefIdeal.nD Cert.SmallRefIdeal.τ).loc Cert.SmallRefIdeal.main_v121) = v12 c
          ∧ r.2.mem ((c.tc : Thread Cert.SmallRefIdeal.nD Cert.SmallRefIdeal.τ).loc Cert.SmallRefIdeal.main_v122) = v13 c
          ∧ r.2.mem ((c.tc : Thread Cert.SmallRefIdeal.nD Cert.SmallRefIdeal.τ).loc Cert.SmallRefIdeal.main_v127) = v14 c
          ∧ r.2.mem ((c.tc : Thread Cert.SmallRefIdeal.nD Cert.SmallRefIdeal.τ).loc Cert.SmallRefIdeal.main_v132) = v15 c
          ∧ r.2.mem ((c.tc : Thread Cert.SmallRefIdeal.nD Cert.SmallRefIdeal.τ).loc Cert.SmallRefIdeal.main_v134) = v16 c
          ∧ r.2.mem ((c.tc : Thread Cert.SmallRefIdeal.nD Cert.SmallRefIdeal.τ).loc Cert.SmallRefIdeal.main_v135) = v17 c
          ∧ r.2.mem ((c.tc : Thread Cert.SmallRefIdeal.nD Cert.SmallRefIdeal.τ).loc Cert.SmallRefIdeal.main_v137) = v18 c
          ∧ r.2.mem ((c.tc : Thread Cert.SmallRefIdeal.nD Cert.SmallRefIdeal.τ).loc Cert.SmallRefIdeal.main_v139) = v19 c
          ∧ r.2.mem ((c.tc : Thread Cert.SmallRefIdeal.nD Cert.SmallRefIdeal.τ).loc Cert.SmallRefIdeal.main_v140) = v20 c
          ∧ r.2.mem ((c.tc : Thread Cert.SmallRefIdeal.nD Cert.SmallRefIdeal.τ).loc Cert.SmallRefIdeal.main_v145) = v21 c
          ∧ r.2.mem ((c.tc : Thread Cert.SmallRefIdeal.nD Cert.SmallRefIdeal.τ).loc Cert.SmallRefIdeal.main_v150) = v22 c
          ∧ r.2.mem ((c.tc : Thread Cert.SmallRefIdeal.nD Cert.SmallRefIdeal.τ).loc Cert.SmallRefIdeal.main_v152) = v23 c
          ∧ r.2.mem ((c.tc : Thread Cert.SmallRefIdeal.nD Cert.SmallRefIdeal.τ).loc Cert.SmallRefIdeal.main_v153) = v24 c
          ∧ r.2.mem ((c.tc : Thread Cert.SmallRefIdeal.nD Cert.SmallRefIdeal.τ).loc Cert.SmallRefIdeal.main_v155) = v25 c
          ∧ r.2.mem ((c.tc : Thread Cert.SmallRefIdeal.nD Cert.SmallRefIdeal.τ).loc Cert.SmallRefIdeal.main_v157) = v26 c
          ∧ r.2.mem ((c.tc : Thread Cert.SmallRefIdeal.nD Cert.SmallRefIdeal.τ).loc Cert.SmallRefIdeal.main_v158) = v27 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4))

def preserves_MergeLoss_MergeLossIdeal : Prop :=
  True

def algebraic_MergeLossIdeal_MergeLossRefIdeal [hMergeLossIdeal : Cert.MergeLossIdeal.Facts] [hMergeLossRefIdeal : Cert.MergeLossRefIdeal.Facts] : Prop :=
  ∀ (m : (ℓ : Loc Cert.MergeLossIdeal.nD Cert.MergeLossIdeal.τ Cert.MergeLossIdeal.sig) → Buf (Elt Ideal) ℓ) (g : Dev Cert.MergeLossIdeal.nD → PrngReg)
    (m' : (ℓ : Loc Cert.MergeLossRefIdeal.nD Cert.MergeLossRefIdeal.τ Cert.MergeLossRefIdeal.sig) → Buf (Elt Ideal) ℓ) (g' : Dev Cert.MergeLossRefIdeal.nD → PrngReg), Pre_MergeLossIdeal m →
    (∀ c : Dev Cert.MergeLossIdeal.nD,
      m' ((c.tc : Thread Cert.MergeLossRefIdeal.nD Cert.MergeLossRefIdeal.τ).loc Cert.MergeLossRefIdeal.main_arg0) = m ((c.tc : Thread Cert.MergeLossIdeal.nD Cert.MergeLossIdeal.τ).loc Cert.MergeLossIdeal.main_arg0)
      ∧ m' ((c.tc : Thread Cert.MergeLossRefIdeal.nD Cert.MergeLossRefIdeal.τ).loc Cert.MergeLossRefIdeal.main_arg1) = m ((c.tc : Thread Cert.MergeLossIdeal.nD Cert.MergeLossIdeal.τ).loc Cert.MergeLossIdeal.main_arg1)
      ∧ m' ((c.tc : Thread Cert.MergeLossRefIdeal.nD Cert.MergeLossRefIdeal.τ).loc Cert.MergeLossRefIdeal.main_arg2) = m ((c.tc : Thread Cert.MergeLossIdeal.nD Cert.MergeLossIdeal.τ).loc Cert.MergeLossIdeal.main_arg2)
      ∧ m' ((c.tc : Thread Cert.MergeLossRefIdeal.nD Cert.MergeLossRefIdeal.τ).loc Cert.MergeLossRefIdeal.main_arg3) = m ((c.tc : Thread Cert.MergeLossIdeal.nD Cert.MergeLossIdeal.τ).loc Cert.MergeLossIdeal.main_arg3)
      ∧ m' ((c.tc : Thread Cert.MergeLossRefIdeal.nD Cert.MergeLossRefIdeal.τ).loc Cert.MergeLossRefIdeal.main_arg4) = m ((c.tc : Thread Cert.MergeLossIdeal.nD Cert.MergeLossIdeal.τ).loc Cert.MergeLossIdeal.main_arg4)
      ∧ m' ((c.tc : Thread Cert.MergeLossRefIdeal.nD Cert.MergeLossRefIdeal.τ).loc Cert.MergeLossRefIdeal.main_arg5) = m ((c.tc : Thread Cert.MergeLossIdeal.nD Cert.MergeLossIdeal.τ).loc Cert.MergeLossIdeal.main_arg5)
      ∧ m' ((c.tc : Thread Cert.MergeLossRefIdeal.nD Cert.MergeLossRefIdeal.τ).loc Cert.MergeLossRefIdeal.main_arg6) = m ((c.tc : Thread Cert.MergeLossIdeal.nD Cert.MergeLossIdeal.τ).loc Cert.MergeLossIdeal.main_arg6)
      ∧ m' ((c.tc : Thread Cert.MergeLossRefIdeal.nD Cert.MergeLossRefIdeal.τ).loc Cert.MergeLossRefIdeal.main_arg7) = m ((c.tc : Thread Cert.MergeLossIdeal.nD Cert.MergeLossIdeal.τ).loc Cert.MergeLossIdeal.main_arg7)
      ∧ m' ((c.tc : Thread Cert.MergeLossRefIdeal.nD Cert.MergeLossRefIdeal.τ).loc Cert.MergeLossRefIdeal.main_arg8) = m ((c.tc : Thread Cert.MergeLossIdeal.nD Cert.MergeLossIdeal.τ).loc Cert.MergeLossIdeal.main_arg8)
      ∧ m' ((c.tc : Thread Cert.MergeLossRefIdeal.nD Cert.MergeLossRefIdeal.τ).loc Cert.MergeLossRefIdeal.main_arg9) = m ((c.tc : Thread Cert.MergeLossIdeal.nD Cert.MergeLossIdeal.τ).loc Cert.MergeLossIdeal.main_arg9)) →
    ∃ (v0 : (c : Dev Cert.MergeLossIdeal.nD) → Buf (Elt Ideal) ((c.tc : Thread Cert.MergeLossIdeal.nD Cert.MergeLossIdeal.τ).loc Cert.MergeLossIdeal.main_v0_0)) (v1 : (c : Dev Cert.MergeLossIdeal.nD) → Buf (Elt Ideal) ((c.tc : Thread Cert.MergeLossIdeal.nD Cert.MergeLossIdeal.τ).loc Cert.MergeLossIdeal.main_v0_1)) (v2 : (c : Dev Cert.MergeLossIdeal.nD) → Buf (Elt Ideal) ((c.tc : Thread Cert.MergeLossIdeal.nD Cert.MergeLossIdeal.τ).loc Cert.MergeLossIdeal.main_v0_2)) (v3 : (c : Dev Cert.MergeLossIdeal.nD) → Buf (Elt Ideal) ((c.tc : Thread Cert.MergeLossIdeal.nD Cert.MergeLossIdeal.τ).loc Cert.MergeLossIdeal.main_v0_3)) (v4 : (c : Dev Cert.MergeLossIdeal.nD) → Buf (Elt Ideal) ((c.tc : Thread Cert.MergeLossIdeal.nD Cert.MergeLossIdeal.τ).loc Cert.MergeLossIdeal.main_v0_4)) (v5 : (c : Dev Cert.MergeLossIdeal.nD) → Buf (Elt Ideal) ((c.tc : Thread Cert.MergeLossIdeal.nD Cert.MergeLossIdeal.τ).loc Cert.MergeLossIdeal.main_v0_5)),
      θ_run (Cert.MergeLossIdeal.defs (F := Ideal)) (onTc (τ := Cert.MergeLossIdeal.τ) (Cert.MergeLossIdeal.main (F := Ideal))) ⟨m, fun _ => 0, g⟩ (fun r => ∀ c : Dev Cert.MergeLossIdeal.nD,
          r.2.mem ((c.tc : Thread Cert.MergeLossIdeal.nD Cert.MergeLossIdeal.τ).loc Cert.MergeLossIdeal.main_v0_0) = v0 c
          ∧ r.2.mem ((c.tc : Thread Cert.MergeLossIdeal.nD Cert.MergeLossIdeal.τ).loc Cert.MergeLossIdeal.main_v0_1) = v1 c
          ∧ r.2.mem ((c.tc : Thread Cert.MergeLossIdeal.nD Cert.MergeLossIdeal.τ).loc Cert.MergeLossIdeal.main_v0_2) = v2 c
          ∧ r.2.mem ((c.tc : Thread Cert.MergeLossIdeal.nD Cert.MergeLossIdeal.τ).loc Cert.MergeLossIdeal.main_v0_3) = v3 c
          ∧ r.2.mem ((c.tc : Thread Cert.MergeLossIdeal.nD Cert.MergeLossIdeal.τ).loc Cert.MergeLossIdeal.main_v0_4) = v4 c
          ∧ r.2.mem ((c.tc : Thread Cert.MergeLossIdeal.nD Cert.MergeLossIdeal.τ).loc Cert.MergeLossIdeal.main_v0_5) = v5 c
          ∧ r.2.mem ((c.tc : Thread Cert.MergeLossIdeal.nD Cert.MergeLossIdeal.τ).loc Cert.MergeLossIdeal.main_arg0) = m ((c.tc : Thread Cert.MergeLossIdeal.nD Cert.MergeLossIdeal.τ).loc Cert.MergeLossIdeal.main_arg0)
          ∧ r.2.mem ((c.tc : Thread Cert.MergeLossIdeal.nD Cert.MergeLossIdeal.τ).loc Cert.MergeLossIdeal.main_arg1) = m ((c.tc : Thread Cert.MergeLossIdeal.nD Cert.MergeLossIdeal.τ).loc Cert.MergeLossIdeal.main_arg1)
          ∧ r.2.mem ((c.tc : Thread Cert.MergeLossIdeal.nD Cert.MergeLossIdeal.τ).loc Cert.MergeLossIdeal.main_arg2) = m ((c.tc : Thread Cert.MergeLossIdeal.nD Cert.MergeLossIdeal.τ).loc Cert.MergeLossIdeal.main_arg2)
          ∧ r.2.mem ((c.tc : Thread Cert.MergeLossIdeal.nD Cert.MergeLossIdeal.τ).loc Cert.MergeLossIdeal.main_arg3) = m ((c.tc : Thread Cert.MergeLossIdeal.nD Cert.MergeLossIdeal.τ).loc Cert.MergeLossIdeal.main_arg3)
          ∧ r.2.mem ((c.tc : Thread Cert.MergeLossIdeal.nD Cert.MergeLossIdeal.τ).loc Cert.MergeLossIdeal.main_arg4) = m ((c.tc : Thread Cert.MergeLossIdeal.nD Cert.MergeLossIdeal.τ).loc Cert.MergeLossIdeal.main_arg4)
          ∧ r.2.mem ((c.tc : Thread Cert.MergeLossIdeal.nD Cert.MergeLossIdeal.τ).loc Cert.MergeLossIdeal.main_arg5) = m ((c.tc : Thread Cert.MergeLossIdeal.nD Cert.MergeLossIdeal.τ).loc Cert.MergeLossIdeal.main_arg5)
          ∧ r.2.mem ((c.tc : Thread Cert.MergeLossIdeal.nD Cert.MergeLossIdeal.τ).loc Cert.MergeLossIdeal.main_arg6) = m ((c.tc : Thread Cert.MergeLossIdeal.nD Cert.MergeLossIdeal.τ).loc Cert.MergeLossIdeal.main_arg6)
          ∧ r.2.mem ((c.tc : Thread Cert.MergeLossIdeal.nD Cert.MergeLossIdeal.τ).loc Cert.MergeLossIdeal.main_arg7) = m ((c.tc : Thread Cert.MergeLossIdeal.nD Cert.MergeLossIdeal.τ).loc Cert.MergeLossIdeal.main_arg7)
          ∧ r.2.mem ((c.tc : Thread Cert.MergeLossIdeal.nD Cert.MergeLossIdeal.τ).loc Cert.MergeLossIdeal.main_arg8) = m ((c.tc : Thread Cert.MergeLossIdeal.nD Cert.MergeLossIdeal.τ).loc Cert.MergeLossIdeal.main_arg8)
          ∧ r.2.mem ((c.tc : Thread Cert.MergeLossIdeal.nD Cert.MergeLossIdeal.τ).loc Cert.MergeLossIdeal.main_arg9) = m ((c.tc : Thread Cert.MergeLossIdeal.nD Cert.MergeLossIdeal.τ).loc Cert.MergeLossIdeal.main_arg9))
      ∧ θ_run (Cert.MergeLossRefIdeal.defs (F := Ideal)) (onTc (τ := Cert.MergeLossRefIdeal.τ) (Cert.MergeLossRefIdeal.main (F := Ideal))) ⟨m', fun _ => 0, g'⟩ (fun r => ∀ c : Dev Cert.MergeLossRefIdeal.nD,
          r.2.mem ((c.tc : Thread Cert.MergeLossRefIdeal.nD Cert.MergeLossRefIdeal.τ).loc Cert.MergeLossRefIdeal.main_v59) = v0 c
          ∧ r.2.mem ((c.tc : Thread Cert.MergeLossRefIdeal.nD Cert.MergeLossRefIdeal.τ).loc Cert.MergeLossRefIdeal.main_v60) = v1 c
          ∧ r.2.mem ((c.tc : Thread Cert.MergeLossRefIdeal.nD Cert.MergeLossRefIdeal.τ).loc Cert.MergeLossRefIdeal.main_v61) = v2 c
          ∧ r.2.mem ((c.tc : Thread Cert.MergeLossRefIdeal.nD Cert.MergeLossRefIdeal.τ).loc Cert.MergeLossRefIdeal.main_v62) = v3 c
          ∧ r.2.mem ((c.tc : Thread Cert.MergeLossRefIdeal.nD Cert.MergeLossRefIdeal.τ).loc Cert.MergeLossRefIdeal.main_v58) = v4 c
          ∧ r.2.mem ((c.tc : Thread Cert.MergeLossRefIdeal.nD Cert.MergeLossRefIdeal.τ).loc Cert.MergeLossRefIdeal.main_v63) = v5 c
          ∧ r.2.mem ((c.tc : Thread Cert.MergeLossRefIdeal.nD Cert.MergeLossRefIdeal.τ).loc Cert.MergeLossRefIdeal.main_arg0) = m' ((c.tc : Thread Cert.MergeLossRefIdeal.nD Cert.MergeLossRefIdeal.τ).loc Cert.MergeLossRefIdeal.main_arg0)
          ∧ r.2.mem ((c.tc : Thread Cert.MergeLossRefIdeal.nD Cert.MergeLossRefIdeal.τ).loc Cert.MergeLossRefIdeal.main_arg1) = m' ((c.tc : Thread Cert.MergeLossRefIdeal.nD Cert.MergeLossRefIdeal.τ).loc Cert.MergeLossRefIdeal.main_arg1)
          ∧ r.2.mem ((c.tc : Thread Cert.MergeLossRefIdeal.nD Cert.MergeLossRefIdeal.τ).loc Cert.MergeLossRefIdeal.main_arg2) = m' ((c.tc : Thread Cert.MergeLossRefIdeal.nD Cert.MergeLossRefIdeal.τ).loc Cert.MergeLossRefIdeal.main_arg2)
          ∧ r.2.mem ((c.tc : Thread Cert.MergeLossRefIdeal.nD Cert.MergeLossRefIdeal.τ).loc Cert.MergeLossRefIdeal.main_arg3) = m' ((c.tc : Thread Cert.MergeLossRefIdeal.nD Cert.MergeLossRefIdeal.τ).loc Cert.MergeLossRefIdeal.main_arg3)
          ∧ r.2.mem ((c.tc : Thread Cert.MergeLossRefIdeal.nD Cert.MergeLossRefIdeal.τ).loc Cert.MergeLossRefIdeal.main_arg4) = m' ((c.tc : Thread Cert.MergeLossRefIdeal.nD Cert.MergeLossRefIdeal.τ).loc Cert.MergeLossRefIdeal.main_arg4)
          ∧ r.2.mem ((c.tc : Thread Cert.MergeLossRefIdeal.nD Cert.MergeLossRefIdeal.τ).loc Cert.MergeLossRefIdeal.main_arg5) = m' ((c.tc : Thread Cert.MergeLossRefIdeal.nD Cert.MergeLossRefIdeal.τ).loc Cert.MergeLossRefIdeal.main_arg5)
          ∧ r.2.mem ((c.tc : Thread Cert.MergeLossRefIdeal.nD Cert.MergeLossRefIdeal.τ).loc Cert.MergeLossRefIdeal.main_arg6) = m' ((c.tc : Thread Cert.MergeLossRefIdeal.nD Cert.MergeLossRefIdeal.τ).loc Cert.MergeLossRefIdeal.main_arg6)
          ∧ r.2.mem ((c.tc : Thread Cert.MergeLossRefIdeal.nD Cert.MergeLossRefIdeal.τ).loc Cert.MergeLossRefIdeal.main_arg7) = m' ((c.tc : Thread Cert.MergeLossRefIdeal.nD Cert.MergeLossRefIdeal.τ).loc Cert.MergeLossRefIdeal.main_arg7)
          ∧ r.2.mem ((c.tc : Thread Cert.MergeLossRefIdeal.nD Cert.MergeLossRefIdeal.τ).loc Cert.MergeLossRefIdeal.main_arg8) = m' ((c.tc : Thread Cert.MergeLossRefIdeal.nD Cert.MergeLossRefIdeal.τ).loc Cert.MergeLossRefIdeal.main_arg8)
          ∧ r.2.mem ((c.tc : Thread Cert.MergeLossRefIdeal.nD Cert.MergeLossRefIdeal.τ).loc Cert.MergeLossRefIdeal.main_arg9) = m' ((c.tc : Thread Cert.MergeLossRefIdeal.nD Cert.MergeLossRefIdeal.τ).loc Cert.MergeLossRefIdeal.main_arg9))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)
      ∧ m' ((c.tc : Thread Cert.PreFwdRefIdeal.nD Cert.PreFwdRefIdeal.τ).loc Cert.PreFwdRefIdeal.main_arg2) = m ((c.tc : Thread Cert.PreFwdIdeal.nD Cert.PreFwdIdeal.τ).loc Cert.PreFwdIdeal.main_arg2)
      ∧ m' ((c.tc : Thread Cert.PreFwdRefIdeal.nD Cert.PreFwdRefIdeal.τ).loc Cert.PreFwdRefIdeal.main_arg3) = m ((c.tc : Thread Cert.PreFwdIdeal.nD Cert.PreFwdIdeal.τ).loc Cert.PreFwdIdeal.main_arg3)) →
    ∃ (v0 : (c : Dev Cert.PreFwdIdeal.nD) → Buf (Elt Ideal) ((c.tc : Thread Cert.PreFwdIdeal.nD Cert.PreFwdIdeal.τ).loc Cert.PreFwdIdeal.main_v0)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v0) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
          ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2)
          ∧ r.2.mem ((c.tc : Thread Cert.PreFwdIdeal.nD Cert.PreFwdIdeal.τ).loc Cert.PreFwdIdeal.main_arg3) = m ((c.tc : Thread Cert.PreFwdIdeal.nD Cert.PreFwdIdeal.τ).loc Cert.PreFwdIdeal.main_arg3))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v18) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1)
          ∧ r.2.mem ((c.tc : Thread Cert.PreFwdRefIdeal.nD Cert.PreFwdRefIdeal.τ).loc Cert.PreFwdRefIdeal.main_arg2) = m' ((c.tc : Thread Cert.PreFwdRefIdeal.nD Cert.PreFwdRefIdeal.τ).loc Cert.PreFwdRefIdeal.main_arg2)
          ∧ r.2.mem ((c.tc : Thread Cert.PreFwdRefIdeal.nD Cert.PreFwdRefIdeal.τ).loc Cert.PreFwdRefIdeal.main_arg3) = m' ((c.tc : Thread Cert.PreFwdRefIdeal.nD Cert.PreFwdRefIdeal.τ).loc Cert.PreFwdRefIdeal.main_arg3))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v49) = v0 c
          ∧ r.2.mem ((c.tc : Thread Cert.PreRefIdeal.nD Cert.PreRefIdeal.τ).loc Cert.PreRefIdeal.main_v51) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v16) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v8) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def Claim : Prop :=
  ∃ (hDw : Cert.Dw.Facts) (hDwIdeal : Cert.DwIdeal.Facts) (hDwRefIdeal : Cert.DwRefIdeal.Facts) (hDh : Cert.Dh.Facts) (hDhIdeal : Cert.DhIdeal.Facts) (hDhRefIdeal : Cert.DhRefIdeal.Facts) (hInProj : Cert.InProj.Facts) (hInProjIdeal : Cert.InProjIdeal.Facts) (hInProjRefIdeal : Cert.InProjRefIdeal.Facts) (hGow : Cert.Gow.Facts) (hGowIdeal : Cert.GowIdeal.Facts) (hGowRefIdeal : Cert.GowRefIdeal.Facts) (hMergeFwd : Cert.MergeFwd.Facts) (hMergeFwdIdeal : Cert.MergeFwdIdeal.Facts) (hMergeFwdRefIdeal : Cert.MergeFwdRefIdeal.Facts) (hAdamIn : Cert.AdamIn.Facts) (hAdamInIdeal : Cert.AdamInIdeal.Facts) (hAdamInRefIdeal : Cert.AdamInRefIdeal.Facts) (hAdamPo : Cert.AdamPo.Facts) (hAdamPoIdeal : Cert.AdamPoIdeal.Facts) (hAdamPoRefIdeal : Cert.AdamPoRefIdeal.Facts) (hAdamHo : Cert.AdamHo.Facts) (hAdamHoIdeal : Cert.AdamHoIdeal.Facts) (hAdamHoRefIdeal : Cert.AdamHoRefIdeal.Facts) (hAdamAda : Cert.AdamAda.Facts) (hAdamAdaIdeal : Cert.AdamAdaIdeal.Facts) (hAdamAdaRefIdeal : Cert.AdamAdaRefIdeal.Facts) (hSmall : Cert.Small.Facts) (hSmallIdeal : Cert.SmallIdeal.Facts) (hSmallRefIdeal : Cert.SmallRefIdeal.Facts) (hMergeLoss : Cert.MergeLoss.Facts) (hMergeLossIdeal : Cert.MergeLossIdeal.Facts) (hMergeLossRefIdeal : Cert.MergeLossRefIdeal.Facts) (hPreFwd : Cert.PreFwd.Facts) (hPreFwdIdeal : Cert.PreFwdIdeal.Facts) (hPreFwdRefIdeal : Cert.PreFwdRefIdeal.Facts) (hPre : Cert.Pre.Facts) (hPreIdeal : Cert.PreIdeal.Facts) (hPreRefIdeal : Cert.PreRefIdeal.Facts) (hAdaFwd : Cert.AdaFwd.Facts) (hAdaFwdIdeal : Cert.AdaFwdIdeal.Facts) (hAdaFwdRefIdeal : Cert.AdaFwdRefIdeal.Facts) (hAdaBwd : Cert.AdaBwd.Facts) (hAdaBwdIdeal : Cert.AdaBwdIdeal.Facts) (hAdaBwdRefIdeal : Cert.AdaBwdRefIdeal.Facts),
    quiescent_Dw (hDw := hDw)
    ∧ quiescent_DwIdeal (hDwIdeal := hDwIdeal)
    ∧ quiescent_DwRefIdeal (hDwRefIdeal := hDwRefIdeal)
    ∧ quiescent_Dh (hDh := hDh)
    ∧ quiescent_DhIdeal (hDhIdeal := hDhIdeal)
    ∧ quiescent_DhRefIdeal (hDhRefIdeal := hDhRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gow (hGow := hGow)
    ∧ quiescent_GowIdeal (hGowIdeal := hGowIdeal)
    ∧ quiescent_GowRefIdeal (hGowRefIdeal := hGowRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPo (hAdamPo := hAdamPo)
    ∧ quiescent_AdamPoIdeal (hAdamPoIdeal := hAdamPoIdeal)
    ∧ quiescent_AdamPoRefIdeal (hAdamPoRefIdeal := hAdamPoRefIdeal)
    ∧ quiescent_AdamHo (hAdamHo := hAdamHo)
    ∧ quiescent_AdamHoIdeal (hAdamHoIdeal := hAdamHoIdeal)
    ∧ quiescent_AdamHoRefIdeal (hAdamHoRefIdeal := hAdamHoRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_Small (hSmall := hSmall)
    ∧ quiescent_SmallIdeal (hSmallIdeal := hSmallIdeal)
    ∧ quiescent_SmallRefIdeal (hSmallRefIdeal := hSmallRefIdeal)
    ∧ quiescent_MergeLoss (hMergeLoss := hMergeLoss)
    ∧ quiescent_MergeLossIdeal (hMergeLossIdeal := hMergeLossIdeal)
    ∧ quiescent_MergeLossRefIdeal (hMergeLossRefIdeal := hMergeLossRefIdeal)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_Pre (hPre := hPre)
    ∧ quiescent_PreIdeal (hPreIdeal := hPreIdeal)
    ∧ quiescent_PreRefIdeal (hPreRefIdeal := hPreRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ preserves_Dw_DwIdeal
    ∧ algebraic_DwIdeal_DwRefIdeal (hDwIdeal := hDwIdeal) (hDwRefIdeal := hDwRefIdeal)
    ∧ preserves_Dh_DhIdeal
    ∧ algebraic_DhIdeal_DhRefIdeal (hDhIdeal := hDhIdeal) (hDhRefIdeal := hDhRefIdeal)
    ∧ preserves_InProj_InProjIdeal
    ∧ algebraic_InProjIdeal_InProjRefIdeal (hInProjIdeal := hInProjIdeal) (hInProjRefIdeal := hInProjRefIdeal)
    ∧ preserves_Gow_GowIdeal
    ∧ algebraic_GowIdeal_GowRefIdeal (hGowIdeal := hGowIdeal) (hGowRefIdeal := hGowRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AdamIn_AdamInIdeal
    ∧ algebraic_AdamInIdeal_AdamInRefIdeal (hAdamInIdeal := hAdamInIdeal) (hAdamInRefIdeal := hAdamInRefIdeal)
    ∧ preserves_AdamPo_AdamPoIdeal
    ∧ algebraic_AdamPoIdeal_AdamPoRefIdeal (hAdamPoIdeal := hAdamPoIdeal) (hAdamPoRefIdeal := hAdamPoRefIdeal)
    ∧ preserves_AdamHo_AdamHoIdeal
    ∧ algebraic_AdamHoIdeal_AdamHoRefIdeal (hAdamHoIdeal := hAdamHoIdeal) (hAdamHoRefIdeal := hAdamHoRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_Small_SmallIdeal
    ∧ algebraic_SmallIdeal_SmallRefIdeal (hSmallIdeal := hSmallIdeal) (hSmallRefIdeal := hSmallRefIdeal)
    ∧ preserves_MergeLoss_MergeLossIdeal
    ∧ algebraic_MergeLossIdeal_MergeLossRefIdeal (hMergeLossIdeal := hMergeLossIdeal) (hMergeLossRefIdeal := hMergeLossRefIdeal)
    ∧ preserves_PreFwd_PreFwdIdeal
    ∧ algebraic_PreFwdIdeal_PreFwdRefIdeal (hPreFwdIdeal := hPreFwdIdeal) (hPreFwdRefIdeal := hPreFwdRefIdeal)
    ∧ preserves_Pre_PreIdeal
    ∧ algebraic_PreIdeal_PreRefIdeal (hPreIdeal := hPreIdeal) (hPreRefIdeal := hPreRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
-- ==== Dw.lean ====
abbrev S2048x1024 : Shape := ⟨2, ![2048, 1024]⟩
abbrev S2048x7168 : Shape := ⟨2, ![2048, 7168]⟩
abbrev S8x1024x896 : Shape := ⟨3, ![8, 1024, 896]⟩
abbrev S2048x1792 : Shape := ⟨2, ![2048, 1792]⟩
abbrev S2x1024x896 : Shape := ⟨3, ![2, 1024, 896]⟩
abbrev S1024x1792 : Shape := ⟨2, ![1024, 1792]⟩
abbrev S1024x896 : Shape := ⟨2, ![1024, 896]⟩
abbrev S1x1024x896 : Shape := ⟨3, ![1, 1024, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S8x1024x896, .bf16⟩
  | .local _ .vmem, ⟨0, _⟩ => ⟨S2048x1024, .bf16⟩
  | .local _ .vmem, ⟨1, _⟩ => ⟨S2048x1792, .bf16⟩
  | .local _ .vmem, ⟨2, _⟩ => ⟨S2048x1792, .bf16⟩
  | .local _ .vmem, ⟨3, _⟩ => ⟨S2x1024x896, .bf16⟩
  | .local _ .vmem, ⟨4, _⟩ => ⟨S2x1024x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwRefIdeal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S2048x1024, .f32⟩
  | .hbm, ⟨3, _⟩ => ⟨S_, .f32⟩
  | .hbm, ⟨4, _⟩ => ⟨S1024x7168, .f32⟩
  | .hbm, ⟨5, _⟩ => ⟨S2048x7168, .f32⟩
  | .hbm, ⟨6, _⟩ => ⟨S2048x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | .hbm, ⟨11, _⟩ => ⟨S8x1024x896, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S2048x7168 : Shape := ⟨2, ![2048, 7168]⟩
abbrev S8x1024x896 : Shape := ⟨3, ![8, 1024, 896]⟩
abbrev S2048x1024 : Shape := ⟨2, ![2048, 1024]⟩
abbrev S2048x1792 : Shape := ⟨2, ![2048, 1792]⟩
abbrev S2x1024x896 : Shape := ⟨3, ![2, 1024, 896]⟩
abbrev S1x1024x896 : Shape := ⟨3, ![1, 1024, 896]⟩
abbrev S1024x896 : Shape := ⟨2, ![1024, 896]⟩
abbrev S1024x1792 : Shape := ⟨2, ![1024, 1792]⟩

abbrev nBuf : Space → Nat
  | .hbm => 3
  | .vmem => 5
  | .smem => 0
  | _ => 0

abbrev bufTy : (tb : Table) → Fin (tcTables nBuf tb) → BufTy
  | .hbm, ⟨0, _⟩ => ⟨S2048x7168, .bf16⟩
  | .hbm, ⟨1, _⟩ => ⟨S8x1024x896, .bf16⟩
  | .hbm, ⟨2, _⟩ => ⟨S2048x1024, .f32⟩
  | .local _ .vmem, ⟨0, _⟩ => ⟨S2048x1792, .bf16⟩
  | .local _ .vmem, ⟨1, _⟩ => ⟨S2048x1792, .bf16⟩
  | .local _ .vmem, ⟨2, _⟩ => ⟨S2x1024x896, .bf16⟩
  | .local _ .vmem, ⟨3, _⟩ => ⟨S2x1024x896, .bf16⟩
  | .local _ .vmem, ⟨4, _⟩ => ⟨S2048x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DhRefIdeal.lean ====
abbrev S2048x7168 : Shape := ⟨2, ![2048, 7168]⟩
abbrev S8x1024x896 : Shape := ⟨3, ![8, 1024, 896]⟩
abbrev S1024x8x896 : Shape := ⟨3, ![1024, 8, 896]⟩
abbrev S1024x7168 : Shape := ⟨2, ![1024, 7168]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S8x1024x896, .bf16⟩
  | .hbm, ⟨2, _⟩ => ⟨S8x1024x896, .f32⟩
  | .hbm, ⟨3, _⟩ => ⟨S1024x8x896, .f32⟩
  | .hbm, ⟨4, _⟩ => ⟨S1024x7168, .f32⟩
  | .hbm, ⟨5, _⟩ => ⟨S_, .f32⟩
  | .hbm, ⟨6, _⟩ => ⟨S2048x1024, .f32⟩
  | .hbm, ⟨7, _⟩ => ⟨S2048x7168, .f32⟩
  | .hbm, ⟨8, _⟩ => ⟨S2048x7168, .f32⟩
  | .hbm, ⟨9, _⟩ => ⟨S2048x1024, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S2048x1024 : Shape := ⟨2, ![2048, 1024]⟩
abbrev S8x1024x896 : Shape := ⟨3, ![8, 1024, 896]⟩
abbrev S2048x7168 : Shape := ⟨2, ![2048, 7168]⟩
abbrev S1024x1024 : Shape := ⟨2, ![1024, 1024]⟩
abbrev S2x1024x896 : Shape := ⟨3, ![2, 1024, 896]⟩
abbrev S1024x1792 : Shape := ⟨2, ![1024, 1792]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x896, .bf16⟩
  | .hbm, ⟨2, _⟩ => ⟨S2048x7168, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x896, .bf16⟩
  | .local _ .vmem, ⟨3, _⟩ => ⟨S2x1024x896, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2048x1024 : Shape := ⟨2, ![2048, 1024]⟩
abbrev S8x1024x896 : Shape := ⟨3, ![8, 1024, 896]⟩
abbrev S1024x8x896 : Shape := ⟨3, ![1024, 8, 896]⟩
abbrev S1024x7168 : Shape := ⟨2, ![1024, 7168]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x896, .bf16⟩
  | .hbm, ⟨2, _⟩ => ⟨S2048x1024, .f32⟩
  | .hbm, ⟨3, _⟩ => ⟨S8x1024x896, .f32⟩
  | .hbm, ⟨4, _⟩ => ⟨S1024x8x896, .f32⟩
  | .hbm, ⟨5, _⟩ => ⟨S1024x7168, .f32⟩
  | .hbm, ⟨6, _⟩ => ⟨S2048x7168, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gow.lean ====
abbrev S2048x1024 : Shape := ⟨2, ![2048, 1024]⟩
abbrev S2048x512 : Shape := ⟨2, ![2048, 512]⟩
abbrev S1024x1024 : Shape := ⟨2, ![1024, 1024]⟩
abbrev S8x512x128 : Shape := ⟨3, ![8, 512, 128]⟩
abbrev S1024x512 : Shape := ⟨2, ![1024, 512]⟩
abbrev S4x512x128 : Shape := ⟨3, ![4, 512, 128]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 9
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S8x512x128, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S4x512x128, .bf16⟩
  | .local _ .vmem, ⟨14, _⟩ => ⟨S4x512x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GowRefIdeal.lean ====
abbrev S2048x1024 : Shape := ⟨2, ![2048, 1024]⟩
abbrev S2048x512 : Shape := ⟨2, ![2048, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S2048x1024, .f32⟩
  | .hbm, ⟨7, _⟩ => ⟨S_, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S2048x1024, .f32⟩
  | .hbm, ⟨15, _⟩ => ⟨S_, .f32⟩
  | .hbm, ⟨16, _⟩ => ⟨S1024x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S2048x512, .f32⟩
  | .hbm, ⟨23, _⟩ => ⟨S_, .f32⟩
  | .hbm, ⟨24, _⟩ => ⟨S512x1024, .f32⟩
  | .hbm, ⟨25, _⟩ => ⟨S2048x1024, .f32⟩
  | .hbm, ⟨26, _⟩ => ⟨S2048x1024, .f32⟩
  | .hbm, ⟨27, _⟩ => ⟨S1024x512, .f32⟩
  | .hbm, ⟨28, _⟩ => ⟨S512x1024, .f32⟩
  | .hbm, ⟨29, _⟩ => ⟨S512x8x128, .f32⟩
  | .hbm, ⟨30, _⟩ => ⟨S8x512x128, .f32⟩
  | .hbm, ⟨31, _⟩ => ⟨S8x512x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== MergeFwd.lean ====
abbrev S2048x512 : Shape := ⟨2, ![2048, 512]⟩
abbrev S2048x1024 : Shape := ⟨2, ![2048, 1024]⟩
abbrev S2048x7168 : Shape := ⟨2, ![2048, 7168]⟩
abbrev S8x512x128 : Shape := ⟨3, ![8, 512, 128]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 25
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S8x512x128, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S8x512x128, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeFwdRefIdeal.lean ====
abbrev S2048x512 : Shape := ⟨2, ![2048, 512]⟩
abbrev S2048x1024 : Shape := ⟨2, ![2048, 1024]⟩
abbrev S2048x7168 : Shape := ⟨2, ![2048, 7168]⟩
abbrev S8x512x128 : Shape := ⟨3, ![8, 512, 128]⟩
abbrev S1024x1024 : Shape := ⟨2, ![1024, 1024]⟩
abbrev S1x1024 : Shape := ⟨2, ![1, 1024]⟩
abbrev S2048x2048 : Shape := ⟨2, ![2048, 2048]⟩
abbrev S512x8x128 : Shape := ⟨3, ![512, 8, 128]⟩
abbrev S512x1024 : Shape := ⟨2, ![512, 1024]⟩
abbrev S_ : Shape := ⟨0, ![]⟩
abbrev S2048 : Shape := ⟨1, ![2048]⟩
abbrev S2048x1 : Shape := ⟨2, ![2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S8x512x128, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x2048, .bf16⟩
  | .hbm, ⟨10, _⟩ => ⟨S2048x2048, .f32⟩
  | .hbm, ⟨11, _⟩ => ⟨S2048x512, .f32⟩
  | .hbm, ⟨12, _⟩ => ⟨S8x512x128, .f32⟩
  | .hbm, ⟨13, _⟩ => ⟨S512x8x128, .f32⟩
  | .hbm, ⟨14, _⟩ => ⟨S512x1024, .f32⟩
  | .hbm, ⟨15, _⟩ => ⟨S2048x1024, .f32⟩
  | .hbm, ⟨16, _⟩ => ⟨S2048x1024, .f32⟩
  | .hbm, ⟨17, _⟩ => ⟨S1024x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S1024x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S2048x1024, .bf16⟩
  | .hbm, ⟨62, _⟩ => ⟨S2048x1024, .bf16⟩
  | .hbm, ⟨63, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== AdamIn.lean ====
abbrev S2x1024x896 : Shape := ⟨3, ![2, 1024, 896]⟩
abbrev S4x1024x896 : Shape := ⟨3, ![4, 1024, 896]⟩
abbrev S3x1024x896 : Shape := ⟨3, ![3, 1024, 896]⟩
abbrev S1x512x896 : Shape := ⟨3, ![1, 512, 896]⟩
abbrev S512x896 : Shape := ⟨2, ![512, 896]⟩

abbrev nBuf : Space → Nat
  | .hbm => 13
  | .vmem => 22
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S4x1024x896, .bf16⟩
  | .hbm, ⟨4, _⟩ => ⟨S3x1024x896, .bf16⟩
  | .hbm, ⟨5, _⟩ => ⟨S2x1024x896, .f32⟩
  | .hbm, ⟨6, _⟩ => ⟨S2x1024x896, .f32⟩
  | .hbm, ⟨7, _⟩ => ⟨S2x1024x896, .f32⟩
  | .hbm, ⟨8, _⟩ => ⟨S2x1024x896, .f32⟩
  | .hbm, ⟨9, _⟩ => ⟨S2x1024x896, .f32⟩
  | .hbm, ⟨10, _⟩ => ⟨S2x1024x896, .f32⟩
  | .hbm, ⟨11, _⟩ => ⟨S2x1024x896, .f32⟩
  | .hbm, ⟨12, _⟩ => ⟨S2x1024x896, .f32⟩
  | .local _ .vmem, ⟨0, _⟩ => ⟨S1x512x896, .f32⟩
  | .local _ .vmem, ⟨1, _⟩ => ⟨S1x512x896, .f32⟩
  | .local _ .vmem, ⟨2, _⟩ => ⟨S1x512x896, .f32⟩
  | .local _ .vmem, ⟨3, _⟩ => ⟨S1x512x896, .f32⟩
  | .local _ .vmem, ⟨4, _⟩ => ⟨S1x512x896, .f32⟩
  | .local _ .vmem, ⟨5, _⟩ => ⟨S1x512x896, .f32⟩
  | .local _ .vmem, ⟨6, _⟩ => ⟨S1x512x896, .bf16⟩
  | .local _ .vmem, ⟨7, _⟩ => ⟨S1x512x896, .bf16⟩
  | .local _ .vmem, ⟨8, _⟩ => ⟨S1x512x896, .bf16⟩
  | .local _ .vmem, ⟨9, _⟩ => ⟨S1x512x896, .bf16⟩
  | .local _ .vmem, ⟨10, _⟩ => ⟨S1x512x896, .bf16⟩
  | .local _ .vmem, ⟨11, _⟩ => ⟨S1x512x896, .bf16⟩
  | .local _ .vmem, ⟨12, _⟩ => ⟨S1x512x896, .bf16⟩
  | .local _ .vmem, ⟨13, _⟩ => ⟨S1x512x896, .bf16⟩
  | .local _ .vmem, ⟨14, _⟩ => ⟨S1x512x896, .f32⟩
  | .local _ .vmem, ⟨15, _⟩ => ⟨S1x512x896, .f32⟩
  | .local _ .vmem, ⟨16, _⟩ => ⟨S1x512x896, .f32⟩
  | .local _ .vmem, ⟨17, _⟩ => ⟨S1x512x896, .f32⟩
  | .local _ .vmem, ⟨18, _⟩ => ⟨S1x512x896, .f32⟩
  | .local _ .vmem, ⟨19, _⟩ => ⟨S1x512x896, .f32⟩
  | .local _ .vmem, ⟨20, _⟩ => ⟨S1x512x896, .f32⟩
  | .local _ .vmem, ⟨21, _⟩ => ⟨S1x512x896, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInRefIdeal.lean ====
abbrev S2x1024x896 : Shape := ⟨3, ![2, 1024, 896]⟩
abbrev S4x1024x896 : Shape := ⟨3, ![4, 1024, 896]⟩
abbrev S3x1024x896 : Shape := ⟨3, ![3, 1024, 896]⟩
abbrev S1x1024x896 : Shape := ⟨3, ![1, 1024, 896]⟩
abbrev S1024x896 : Shape := ⟨2, ![1024, 896]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S4x1024x896, .bf16⟩
  | .hbm, ⟨4, _⟩ => ⟨S3x1024x896, .bf16⟩
  | .hbm, ⟨5, _⟩ => ⟨S2x1024x896, .f32⟩
  | .hbm, ⟨6, _⟩ => ⟨S2x1024x896, .f32⟩
  | .hbm, ⟨7, _⟩ => ⟨S2x1024x896, .f32⟩
  | .hbm, ⟨8, _⟩ => ⟨S2x1024x896, .f32⟩
  | .hbm, ⟨9, _⟩ => ⟨S1x1024x896, .bf16⟩
  | .hbm, ⟨10, _⟩ => ⟨S1024x896, .bf16⟩
  | .hbm, ⟨11, _⟩ => ⟨S1024x896, .f32⟩
  | .hbm, ⟨12, _⟩ => ⟨S1x1024x896, .bf16⟩
  | .hbm, ⟨13, _⟩ => ⟨S1024x896, .bf16⟩
  | .hbm, ⟨14, _⟩ => ⟨S1024x896, .f32⟩
  | .hbm, ⟨15, _⟩ => ⟨S1024x896, .f32⟩
  | .hbm, ⟨16, _⟩ => ⟨S1x1024x896, .bf16⟩
  | .hbm, ⟨17, _⟩ => ⟨S1024x896, .bf16⟩
  | .hbm, ⟨18, _⟩ => ⟨S1024x896, .f32⟩
  | .hbm, ⟨19, _⟩ => ⟨S1024x896, .f32⟩
  | .hbm, ⟨20, _⟩ => ⟨S1x1024x896, .bf16⟩
  | .hbm, ⟨21, _⟩ => ⟨S1024x896, .bf16⟩
  | .hbm, ⟨22, _⟩ => ⟨S1024x896, .f32⟩
  | .hbm, ⟨23, _⟩ => ⟨S1024x896, .f32⟩
  | .hbm, ⟨24, _⟩ => ⟨S1x1024x896, .f32⟩
  | .hbm, ⟨25, _⟩ => ⟨S1024x896, .f32⟩
  | .hbm, ⟨26, _⟩ => ⟨S1x1024x896, .f32⟩
  | .hbm, ⟨27, _⟩ => ⟨S1024x896, .f32⟩
  | .hbm, ⟨28, _⟩ => ⟨S1x1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S_, .f32⟩
  | .hbm, ⟨34, _⟩ => ⟨S1024x896, .f32⟩
  | .hbm, ⟨35, _⟩ => ⟨S1024x896, .f32⟩
  | .hbm, ⟨36, _⟩ => ⟨S1024x896, .f32⟩
  | .hbm, ⟨37, _⟩ => ⟨S_, .f32⟩
  | .hbm, ⟨38, _⟩ => ⟨S1024x896, .f32⟩
  | .hbm, ⟨39, _⟩ => ⟨S1024x896, .f32⟩
  | .hbm, ⟨40, _⟩ => ⟨S1024x896, .f32⟩
  | .hbm, ⟨41, _⟩ => ⟨S_, .f32⟩
  | .hbm, ⟨42, _⟩ => ⟨S1024x896, .f32⟩
  | .hbm, ⟨43, _⟩ => ⟨S1024x896, .f32⟩
  | .hbm, ⟨44, _⟩ => ⟨S1024x896, .f32⟩
  | .hbm, ⟨45, _⟩ => ⟨S_, .f32⟩
  | .hbm, ⟨46, _⟩ => ⟨S1024x896, .f32⟩
  | .hbm, ⟨47, _⟩ => ⟨S1024x896, .f32⟩
  | .hbm, ⟨48, _⟩ => ⟨S_, .f32⟩
  | .hbm, ⟨49, _⟩ => ⟨S1024x896, .f32⟩
  | .hbm, ⟨50, _⟩ => ⟨S1024x896, .f32⟩
  | .hbm, ⟨51, _⟩ => ⟨S1024x896, .f32⟩
  | .hbm, ⟨52, _⟩ => ⟨S_, .f32⟩
  | .hbm, ⟨53, _⟩ => ⟨S1024x896, .f32⟩
  | .hbm, ⟨54, _⟩ => ⟨S1024x896, .f32⟩
  | .hbm, ⟨55, _⟩ => ⟨S1024x896, .f32⟩
  | .hbm, ⟨56, _⟩ => ⟨S_, .f32⟩
  | .hbm, ⟨57, _⟩ => ⟨S1024x896, .f32⟩
  | .hbm, ⟨58, _⟩ => ⟨S1024x896, .f32⟩
  | .hbm, ⟨59, _⟩ => ⟨S1024x896, .f32⟩
  | .hbm, ⟨60, _⟩ => ⟨S_, .f32⟩
  | .hbm, ⟨61, _⟩ => ⟨S1024x896, .f32⟩
  | .hbm, ⟨62, _⟩ => ⟨S1024x896, .f32⟩
  | .hbm, ⟨63, _⟩ => ⟨S1x1024x896, .f32⟩
  | .hbm, ⟨64, _⟩ => ⟨S1x1024x896, .f32⟩
  | .hbm, ⟨65, _⟩ => ⟨S2x1024x896, .f32⟩
  | .hbm, ⟨66, _⟩ => ⟨S1x1024x896, .f32⟩
  | .hbm, ⟨67, _⟩ => ⟨S1x1024x896, .f32⟩
  | .hbm, ⟨68, _⟩ => ⟨S2x1024x896, .f32⟩
  | .hbm, ⟨69, _⟩ => ⟨S1x1024x896, .f32⟩
  | .hbm, ⟨70, _⟩ => ⟨S1x1024x896, .f32⟩
  | .hbm, ⟨71, _⟩ => ⟨S2x1024x896, .f32⟩
  | .hbm, ⟨72, _⟩ => ⟨S1x1024x896, .f32⟩
  | .hbm, ⟨73, _⟩ => ⟨S1x1024x896, .f32⟩
  | .hbm, ⟨74, _⟩ => ⟨S2x1024x896, .f32⟩
  | _, _ => ⟨S2x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== AdamPo.lean ====
abbrev S2x512x128 : Shape := ⟨3, ![2, 512, 128]⟩
abbrev S4x512x128 : Shape := ⟨3, ![4, 512, 128]⟩
abbrev S3x512x128 : Shape := ⟨3, ![3, 512, 128]⟩
abbrev S1x512x128 : Shape := ⟨3, ![1, 512, 128]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S4x512x128, .bf16⟩
  | .hbm, ⟨4, _⟩ => ⟨S3x512x128, .bf16⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S2x512x128, .f32⟩
  | .hbm, ⟨11, _⟩ => ⟨S2x512x128, .f32⟩
  | .hbm, ⟨12, _⟩ => ⟨S2x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPoRefIdeal.lean ====
abbrev S2x512x128 : Shape := ⟨3, ![2, 512, 128]⟩
abbrev S4x512x128 : Shape := ⟨3, ![4, 512, 128]⟩
abbrev S3x512x128 : Shape := ⟨3, ![3, 512, 128]⟩
abbrev S1x512x128 : Shape := ⟨3, ![1, 512, 128]⟩
abbrev S512x128 : Shape := ⟨2, ![512, 128]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S4x512x128, .bf16⟩
  | .hbm, ⟨4, _⟩ => ⟨S3x512x128, .bf16⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S1x512x128, .bf16⟩
  | .hbm, ⟨10, _⟩ => ⟨S512x128, .bf16⟩
  | .hbm, ⟨11, _⟩ => ⟨S512x128, .f32⟩
  | .hbm, ⟨12, _⟩ => ⟨S1x512x128, .bf16⟩
  | .hbm, ⟨13, _⟩ => ⟨S512x128, .bf16⟩
  | .hbm, ⟨14, _⟩ => ⟨S512x128, .f32⟩
  | .hbm, ⟨15, _⟩ => ⟨S512x128, .f32⟩
  | .hbm, ⟨16, _⟩ => ⟨S1x512x128, .bf16⟩
  | .hbm, ⟨17, _⟩ => ⟨S512x128, .bf16⟩
  | .hbm, ⟨18, _⟩ => ⟨S512x128, .f32⟩
  | .hbm, ⟨19, _⟩ => ⟨S512x128, .f32⟩
  | .hbm, ⟨20, _⟩ => ⟨S1x512x128, .bf16⟩
  | .hbm, ⟨21, _⟩ => ⟨S512x128, .bf16⟩
  | .hbm, ⟨22, _⟩ => ⟨S512x128, .f32⟩
  | .hbm, ⟨23, _⟩ => ⟨S512x128, .f32⟩
  | .hbm, ⟨24, _⟩ => ⟨S1x512x128, .f32⟩
  | .hbm, ⟨25, _⟩ => ⟨S512x128, .f32⟩
  | .hbm, ⟨26, _⟩ => ⟨S1x512x128, .f32⟩
  | .hbm, ⟨27, _⟩ => ⟨S512x128, .f32⟩
  | .hbm, ⟨28, _⟩ => ⟨S1x512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S_, .f32⟩
  | .hbm, ⟨57, _⟩ => ⟨S512x128, .f32⟩
  | .hbm, ⟨58, _⟩ => ⟨S512x128, .f32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S1x512x128, .f32⟩
  | .hbm, ⟨64, _⟩ => ⟨S1x512x128, .f32⟩
  | .hbm, ⟨65, _⟩ => ⟨S2x512x128, .f32⟩
  | .hbm, ⟨66, _⟩ => ⟨S1x512x128, .f32⟩
  | .hbm, ⟨67, _⟩ => ⟨S1x512x128, .f32⟩
  | .hbm, ⟨68, _⟩ => ⟨S2x512x128, .f32⟩
  | .hbm, ⟨69, _⟩ => ⟨S1x512x128, .f32⟩
  | .hbm, ⟨70, _⟩ => ⟨S1x512x128, .f32⟩
  | .hbm, ⟨71, _⟩ => ⟨S2x512x128, .f32⟩
  | .hbm, ⟨72, _⟩ => ⟨S1x512x128, .f32⟩
  | .hbm, ⟨73, _⟩ => ⟨S1x512x128, .f32⟩
  | .hbm, ⟨74, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== AdamHo.lean ====
abbrev S2x128x1024 : Shape := ⟨3, ![2, 128, 1024]⟩
abbrev S4x128x1024 : Shape := ⟨3, ![4, 128, 1024]⟩
abbrev S3x128x1024 : Shape := ⟨3, ![3, 128, 1024]⟩
abbrev S1x128x1024 : Shape := ⟨3, ![1, 128, 1024]⟩
abbrev S128x1024 : Shape := ⟨2, ![128, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S4x128x1024, .bf16⟩
  | .hbm, ⟨4, _⟩ => ⟨S3x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamHoRefIdeal.lean ====
abbrev S2x128x1024 : Shape := ⟨3, ![2, 128, 1024]⟩
abbrev S4x128x1024 : Shape := ⟨3, ![4, 128, 1024]⟩
abbrev S3x128x1024 : Shape := ⟨3, ![3, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S4x128x1024, .bf16⟩
  | .hbm, ⟨4, _⟩ => ⟨S3x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S1x128x1024, .bf16⟩
  | .hbm, ⟨10, _⟩ => ⟨S128x1024, .bf16⟩
  | .hbm, ⟨11, _⟩ => ⟨S128x1024, .f32⟩
  | .hbm, ⟨12, _⟩ => ⟨S1x128x1024, .bf16⟩
  | .hbm, ⟨13, _⟩ => ⟨S128x1024, .bf16⟩
  | .hbm, ⟨14, _⟩ => ⟨S128x1024, .f32⟩
  | .hbm, ⟨15, _⟩ => ⟨S128x1024, .f32⟩
  | .hbm, ⟨16, _⟩ => ⟨S1x128x1024, .bf16⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S1x128x1024, .bf16⟩
  | .hbm, ⟨21, _⟩ => ⟨S128x1024, .bf16⟩
  | .hbm, ⟨22, _⟩ => ⟨S128x1024, .f32⟩
  | .hbm, ⟨23, _⟩ => ⟨S128x1024, .f32⟩
  | .hbm, ⟨24, _⟩ => ⟨S1x128x1024, .f32⟩
  | .hbm, ⟨25, _⟩ => ⟨S128x1024, .f32⟩
  | .hbm, ⟨26, _⟩ => ⟨S1x128x1024, .f32⟩
  | .hbm, ⟨27, _⟩ => ⟨S128x1024, .f32⟩
  | .hbm, ⟨28, _⟩ => ⟨S1x128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S1x128x1024, .f32⟩
  | .hbm, ⟨64, _⟩ => ⟨S1x128x1024, .f32⟩
  | .hbm, ⟨65, _⟩ => ⟨S2x128x1024, .f32⟩
  | .hbm, ⟨66, _⟩ => ⟨S1x128x1024, .f32⟩
  | .hbm, ⟨67, _⟩ => ⟨S1x128x1024, .f32⟩
  | .hbm, ⟨68, _⟩ => ⟨S2x128x1024, .f32⟩
  | .hbm, ⟨69, _⟩ => ⟨S1x128x1024, .f32⟩
  | .hbm, ⟨70, _⟩ => ⟨S1x128x1024, .f32⟩
  | .hbm, ⟨71, _⟩ => ⟨S2x128x1024, .f32⟩
  | .hbm, ⟨72, _⟩ => ⟨S1x128x1024, .f32⟩
  | .hbm, ⟨73, _⟩ => ⟨S1x128x1024, .f32⟩
  | .hbm, ⟨74, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== AdamAda.lean ====
abbrev S2x1024x384 : Shape := ⟨3, ![2, 1024, 384]⟩
abbrev S1x1024x384 : Shape := ⟨3, ![1, 1024, 384]⟩
abbrev S1x512x384 : Shape := ⟨3, ![1, 512, 384]⟩
abbrev S512x384 : Shape := ⟨2, ![512, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S2x1024x384 : Shape := ⟨3, ![2, 1024, 384]⟩
abbrev S1x1024x384 : Shape := ⟨3, ![1, 1024, 384]⟩
abbrev S1024x384 : Shape := ⟨2, ![1024, 384]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S1024x384, .f32⟩
  | .hbm, ⟨9, _⟩ => ⟨S1x1024x384, .f32⟩
  | .hbm, ⟨10, _⟩ => ⟨S1024x384, .f32⟩
  | .hbm, ⟨11, _⟩ => ⟨S1024x384, .f32⟩
  | .hbm, ⟨12, _⟩ => ⟨S1x1024x384, .f32⟩
  | .hbm, ⟨13, _⟩ => ⟨S1024x384, .f32⟩
  | .hbm, ⟨14, _⟩ => ⟨S1x1024x384, .f32⟩
  | .hbm, ⟨15, _⟩ => ⟨S1024x384, .f32⟩
  | .hbm, ⟨16, _⟩ => ⟨S_, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S_, .f32⟩
  | .hbm, ⟨24, _⟩ => ⟨S1024x384, .f32⟩
  | .hbm, ⟨25, _⟩ => ⟨S1024x384, .f32⟩
  | .hbm, ⟨26, _⟩ => ⟨S1024x384, .f32⟩
  | .hbm, ⟨27, _⟩ => ⟨S_, .f32⟩
  | .hbm, ⟨28, _⟩ => ⟨S1024x384, .f32⟩
  | .hbm, ⟨29, _⟩ => ⟨S1024x384, .f32⟩
  | .hbm, ⟨30, _⟩ => ⟨S1024x384, .f32⟩
  | .hbm, ⟨31, _⟩ => ⟨S_, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | .hbm, ⟨37, _⟩ => ⟨S1024x384, .f32⟩
  | .hbm, ⟨38, _⟩ => ⟨S_, .f32⟩
  | .hbm, ⟨39, _⟩ => ⟨S1024x384, .f32⟩
  | .hbm, ⟨40, _⟩ => ⟨S1024x384, .f32⟩
  | .hbm, ⟨41, _⟩ => ⟨S1024x384, .f32⟩
  | .hbm, ⟨42, _⟩ => ⟨S_, .f32⟩
  | .hbm, ⟨43, _⟩ => ⟨S1024x384, .f32⟩
  | .hbm, ⟨44, _⟩ => ⟨S1024x384, .f32⟩
  | .hbm, ⟨45, _⟩ => ⟨S1024x384, .f32⟩
  | .hbm, ⟨46, _⟩ => ⟨S_, .f32⟩
  | .hbm, ⟨47, _⟩ => ⟨S1024x384, .f32⟩
  | .hbm, ⟨48, _⟩ => ⟨S1024x384, .f32⟩
  | .hbm, ⟨49, _⟩ => ⟨S1x1024x384, .f32⟩
  | .hbm, ⟨50, _⟩ => ⟨S1x1024x384, .f32⟩
  | .hbm, ⟨51, _⟩ => ⟨S2x1024x384, .f32⟩
  | .hbm, ⟨52, _⟩ => ⟨S1x1024x384, .f32⟩
  | .hbm, ⟨53, _⟩ => ⟨S1x1024x384, .f32⟩
  | .hbm, ⟨54, _⟩ => ⟨S2x1024x384, .f32⟩
  | .hbm, ⟨55, _⟩ => ⟨S1x1024x384, .f32⟩
  | .hbm, ⟨56, _⟩ => ⟨S1x1024x384, .f32⟩
  | .hbm, ⟨57, _⟩ => ⟨S2x1024x384, .f32⟩
  | .hbm, ⟨58, _⟩ => ⟨S1x1024x384, .f32⟩
  | .hbm, ⟨59, _⟩ => ⟨S1x1024x384, .f32⟩
  | .hbm, ⟨60, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Small.lean ====
abbrev S1136x128 : Shape := ⟨2, ![1136, 128]⟩
abbrev S8x40x128 : Shape := ⟨3, ![8, 40, 128]⟩
abbrev S8x1104x128 : Shape := ⟨3, ![8, 1104, 128]⟩
abbrev S2x3072 : Shape := ⟨2, ![2, 3072]⟩
abbrev S2x1024 : Shape := ⟨2, ![2, 1024]⟩
abbrev S1024x128 : Shape := ⟨2, ![1024, 128]⟩
abbrev S2x512 : Shape := ⟨2, ![2, 512]⟩
abbrev S2x128 : Shape := ⟨2, ![2, 128]⟩
abbrev S1x40x128 : Shape := ⟨3, ![1, 40, 128]⟩
abbrev S40x128 : Shape := ⟨2, ![40, 128]⟩
abbrev S32x128 : Shape := ⟨2, ![32, 128]⟩
abbrev S1x1104x128 : Shape := ⟨3, ![1, 1104, 128]⟩
abbrev S1104x128 : Shape := ⟨2, ![1104, 128]⟩
abbrev S8x128 : Shape := ⟨2, ![8, 128]⟩
abbrev S1112x128 : Shape := ⟨2, ![1112, 128]⟩
abbrev S1x128 : Shape := ⟨2, ![1, 128]⟩

abbrev nBuf : Space → Nat
  | .hbm => 33
  | .vmem => 37
  | .smem => 0
  | _ => 0

abbrev bufTy : (tb : Table) → Fin (tcTables nBuf tb) → BufTy
  | .hbm, ⟨0, _⟩ => ⟨S1136x128, .f32⟩
  | .hbm, ⟨1, _⟩ => ⟨S1136x128, .f32⟩
  | .hbm, ⟨2, _⟩ => ⟨S1136x128, .f32⟩
  | .hbm, ⟨3, _⟩ => ⟨S8x40x128, .f32⟩
  | .hbm, ⟨4, _⟩ => ⟨S8x1104x128, .f32⟩
  | .hbm, ⟨5, _⟩ => ⟨S2x3072, .f32⟩
  | .hbm, ⟨6, _⟩ => ⟨S2x1024, .f32⟩
  | .hbm, ⟨7, _⟩ => ⟨S2x1024, .f32⟩
  | .hbm, ⟨8, _⟩ => ⟨S1024x128, .f32⟩
  | .hbm, ⟨9, _⟩ => ⟨S2x512, .f32⟩
  | .hbm, ⟨10, _⟩ => ⟨S2x1024, .f32⟩
  | .hbm, ⟨11, _⟩ => ⟨S2x128, .f32⟩
  | .hbm, ⟨12, _⟩ => ⟨S2x3072, .f32⟩
  | .hbm, ⟨13, _⟩ => ⟨S2x1024, .f32⟩
  | .hbm, ⟨14, _⟩ => ⟨S2x1024, .f32⟩
  | .hbm, ⟨15, _⟩ => ⟨S1024x128, .f32⟩
  | .hbm, ⟨16, _⟩ => ⟨S2x512, .f32⟩
  | .hbm, ⟨17, _⟩ => ⟨S2x1024, .f32⟩
  | .hbm, ⟨18, _⟩ => ⟨S2x128, .f32⟩
  | .hbm, ⟨19, _⟩ => ⟨S2x3072, .f32⟩
  | .hbm, ⟨20, _⟩ => ⟨S2x1024, .f32⟩
  | .hbm, ⟨21, _⟩ => ⟨S2x1024, .f32⟩
  | .hbm, ⟨22, _⟩ => ⟨S1024x128, .f32⟩
  | .hbm, ⟨23, _⟩ => ⟨S2x512, .f32⟩
  | .hbm, ⟨24, _⟩ => ⟨S2x1024, .f32⟩
  | .hbm, ⟨25, _⟩ => ⟨S2x128, .f32⟩
  | .hbm, ⟨26, _⟩ => ⟨S2x3072, .f32⟩
  | .hbm, ⟨27, _⟩ => ⟨S2x1024, .f32⟩
  | .hbm, ⟨28, _⟩ => ⟨S2x1024, .f32⟩
  | .hbm, ⟨29, _⟩ => ⟨S1024x128, .f32⟩
  | .hbm, ⟨30, _⟩ => ⟨S2x512, .f32⟩
  | .hbm, ⟨31, _⟩ => ⟨S2x1024, .f32⟩
  | .hbm, ⟨32, _⟩ => ⟨S2x128, .f32⟩
  | .local _ .vmem, ⟨0, _⟩ => ⟨S1136x128, .f32⟩
  | .local _ .vmem, ⟨1, _⟩ => ⟨S1136x128, .f32⟩
  | .local _ .vmem, ⟨2, _⟩ => ⟨S1136x128, .f32⟩
  | .local _ .vmem, ⟨3, _⟩ => ⟨S8x40x128, .f32⟩
  | .local _ .vmem, ⟨4, _⟩ => ⟨S8x1104x128, .f32⟩
  | .local _ .vmem, ⟨5, _⟩ => ⟨S2x3072, .f32⟩
  | .local _ .vmem, ⟨6, _⟩ => ⟨S2x1024, .f32⟩
  | .local _ .vmem, ⟨7, _⟩ => ⟨S2x1024, .f32⟩
  | .local _ .vmem, ⟨8, _⟩ => ⟨S1024x128, .f32⟩
  | .local _ .vmem, ⟨9, _⟩ => ⟨S2x512, .f32⟩
  | .local _ .vmem, ⟨10, _⟩ => ⟨S2x1024, .f32⟩
  | .local _ .vmem, ⟨11, _⟩ => ⟨S2x128, .f32⟩
  | .local _ .vmem, ⟨12, _⟩ => ⟨S2x3072, .f32⟩
  | .local _ .vmem, ⟨13, _⟩ => ⟨S2x1024, .f32⟩
  | .local _ .vmem, ⟨14, _⟩ => ⟨S2x1024, .f32⟩
  | .local _ .vmem, ⟨15, _⟩ => ⟨S1024x128, .f32⟩
  | .local _ .vmem, ⟨16, _⟩ => ⟨S2x512, .f32⟩
  | .local _ .vmem, ⟨17, _⟩ => ⟨S2x1024, .f32⟩
  | .local _ .vmem, ⟨18, _⟩ => ⟨S2x128, .f32⟩
  | .local _ .vmem, ⟨19, _⟩ => ⟨S2x3072, .f32⟩
  | .local _ .vmem, ⟨20, _⟩ => ⟨S2x1024, .f32⟩
  | .local _ .vmem, ⟨21, _⟩ => ⟨S2x1024, .f32⟩
  | .local _ .vmem, ⟨22, _⟩ => ⟨S1024x128, .f32⟩
  | .local _ .vmem, ⟨23, _⟩ => ⟨S2x512, .f32⟩
  | .local _ .vmem, ⟨24, _⟩ => ⟨S2x1024, .f32⟩
  | .local _ .vmem, ⟨25, _⟩ => ⟨S2x128, .f32⟩
  | .local _ .vmem, ⟨26, _⟩ => ⟨S2x3072, .f32⟩
  | .local _ .vmem, ⟨27, _⟩ => ⟨S2x1024, .f32⟩
  | .local _ .vmem, ⟨28, _⟩ => ⟨S2x1024, .f32⟩
  | .local _ .vmem, ⟨29, _⟩ => ⟨S1024x128, .f32⟩
  | .local _ .vmem, ⟨30, _⟩ => ⟨S2x512, .f32⟩
  | .local _ .vmem, ⟨31, _⟩ => ⟨S2x1024, .f32⟩
  | .local _ .vmem, ⟨32, _⟩ => ⟨S2x128, .f32⟩
  | .local _ .vmem, ⟨33, _⟩ => ⟨S1136x128, .f32⟩
  | .local _ .vmem, ⟨34, _⟩ => ⟨S1136x128, .f32⟩
  | .local _ .vmem, ⟨35, _⟩ => ⟨S1136x128, .f32⟩
  | .local _ .vmem, ⟨36, _⟩ => ⟨S1136x128, .f32⟩
  | _, _ => ⟨S1136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev main_v0_10 : Ref sig .tc := ⟨.hbm, 15, rfl⟩
abbrev main_v0_11 : Ref sig .tc := ⟨.hbm, 16, rfl⟩
abbrev main_v0_12 : Ref sig .tc := ⟨.hbm, 17, rfl⟩
abbrev main_v0_13 : Ref sig .tc := ⟨.hbm, 18, rfl⟩
abbrev main_v0_14 : Ref sig .tc := ⟨.hbm, 19, rfl⟩
abbrev main_v0_15 : Ref sig .tc := ⟨.hbm, 20, rfl⟩
abbrev main_v0_16 : Ref sig .tc := ⟨.hbm, 21, rfl⟩
abbrev main_v0_17 : Ref sig .tc := ⟨.hbm, 22, rfl⟩
abbrev main_v0_18 : Ref sig .tc := ⟨.hbm, 23, rfl⟩
abbrev main_v0_19 : Ref sig .tc := ⟨.hbm, 24, rfl⟩
abbrev main_v0_20 : Ref sig .tc := ⟨.hbm, 25, rfl⟩
abbrev main_v0_21 : Ref sig .tc := ⟨.hbm, 26, rfl⟩
abbrev main_v0_22 : Ref sig .tc := ⟨.hbm, 27, rfl⟩
abbrev main_v0_23 : Ref sig .tc := ⟨.hbm, 28, rfl⟩
abbrev main_v0_24 : Ref sig .tc := ⟨.hbm, 29, rfl⟩
abbrev main_v0_25 : Ref sig .tc := ⟨.hbm, 30, rfl⟩
abbrev main_v0_26 : Ref sig .tc := ⟨.hbm, 31, rfl⟩
abbrev main_v0_27 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32

abbrev nD : Nat := 1
abbrev τ : Topo := Topo.v7x

variable {F : FTy → Type} [FloatOps F]

abbrev grid0 : Pipeline.Grid := .none

abbrev stage0_0 : Fin 1 → Memref sig .tc .vmem S1136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x3072 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1024x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
-- ==== SmallRefIdeal.lean ====
abbrev S1136x128 : Shape := ⟨2, ![1136, 128]⟩
abbrev S8x40x128 : Shape := ⟨3, ![8, 40, 128]⟩
abbrev S8x1104x128 : Shape := ⟨3, ![8, 1104, 128]⟩
abbrev S8x32x128 : Shape := ⟨3, ![8, 32, 128]⟩
abbrev S8x1136x128 : Shape := ⟨3, ![8, 1136, 128]⟩
abbrev S_ : Shape := ⟨0, ![]⟩
abbrev S16x128 : Shape := ⟨2, ![16, 128]⟩
abbrev S2x1024 : Shape := ⟨2, ![2, 1024]⟩
abbrev S1024 : Shape := ⟨1, ![1024]⟩
abbrev S1x1024 : Shape := ⟨2, ![1, 1024]⟩
abbrev S1112x128 : Shape := ⟨2, ![1112, 128]⟩
abbrev S8x128 : Shape := ⟨2, ![8, 128]⟩
abbrev S24x128 : Shape := ⟨2, ![24, 128]⟩
abbrev S1x3072 : Shape := ⟨2, ![1, 3072]⟩
abbrev S2x3072 : Shape := ⟨2, ![2, 3072]⟩
abbrev S1024x128 : Shape := ⟨2, ![1024, 128]⟩
abbrev S2x512 : Shape := ⟨2, ![2, 512]⟩
abbrev S2x128 : Shape := ⟨2, ![2, 128]⟩

abbrev nBuf : Space → Nat
  | .hbm => 224
  | .vmem => 0
  | .smem => 0
  | _ => 0

abbrev hbmTy0_0 (i : Nat) : BufTy := match i % 128 with
  | 0 => ⟨S1136x128, .f32⟩
  | 1 => ⟨S1136x128, .f32⟩
  | 2 => ⟨S1136x128, .f32⟩
  | 3 => ⟨S8x40x128, .f32⟩
  | 4 => ⟨S8x1104x128, .f32⟩
  | 5 => ⟨S8x32x128, .f32⟩
  | 6 => ⟨S8x1136x128, .f32⟩
  | 7 => ⟨S_, .f32⟩
  | 8 => ⟨S1136x128, .f32⟩
  | 9 => ⟨S16x128, .f32⟩
  | 10 => ⟨S2x1024, .f32⟩
  | 11 => ⟨S16x128, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .i1⟩
  | 18 => ⟨S2x1024, .f32⟩
  | 19 => ⟨S_, .f32⟩
  | 20 => ⟨S1024, .f32⟩
  | 21 => ⟨S_, .f32⟩
  | 22 => ⟨S1024, .f32⟩
  | 23 => ⟨S1024, .f32⟩
  | 24 => ⟨S_, .f32⟩
  | 25 => ⟨S1024, .f32⟩
  | 26 => ⟨S1024, .i1⟩
  | 27 => ⟨S_, .f32⟩
  | 28 => ⟨S1024, .f32⟩
  | 29 => ⟨S1024, .i1⟩
  | 30 => ⟨S_, .f32⟩
  | 31 => ⟨S1024, .f32⟩
  | 32 => ⟨S_, .f32⟩
  | 33 => ⟨S1024, .f32⟩
  | 34 => ⟨S_, .f32⟩
  | 35 => ⟨S1024, .f32⟩
  | 36 => ⟨S1024, .f32⟩
  | 37 => ⟨S1024, .f32⟩
  | 38 => ⟨S1x1024, .f32⟩
  | 39 => ⟨S2x1024, .f32⟩
  | 40 => ⟨S2x1024, .f32⟩
  | 41 => ⟨S2x1024, .f32⟩
  | 42 => ⟨S_, .f32⟩
  | 43 => ⟨S1024, .f32⟩
  | 44 => ⟨S1x1024, .f32⟩
  | 45 => ⟨S2x1024, .f32⟩
  | 46 => ⟨S2x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S_, .f32⟩
  | 53 => ⟨S2x1024, .f32⟩
  | 54 => ⟨S1x1024, .f32⟩
  | 55 => ⟨S2x1024, .f32⟩
  | 56 => ⟨S2x1024, .f32⟩
  | 57 => ⟨S_, .f32⟩
  | 58 => ⟨S_, .f32⟩
  | 59 => ⟨S_, .f32⟩
  | 60 => ⟨S2x1024, .f32⟩
  | 61 => ⟨S2x1024, .f32⟩
  | 62 => ⟨S2x1024, .f32⟩
  | 63 => ⟨S2x1024, .i1⟩
  | 64 => ⟨S2x1024, .f32⟩
  | 65 => ⟨S2x1024, .i1⟩
  | 66 => ⟨S_, .f32⟩
  | 67 => ⟨S2x1024, .f32⟩
  | 68 => ⟨S_, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S2x1024, .i1⟩
  | 79 => ⟨S2x1024, .f32⟩
  | 80 => ⟨S2x1024, .i1⟩
  | 81 => ⟨S_, .f32⟩
  | 82 => ⟨S2x1024, .f32⟩
  | 83 => ⟨S_, .f32⟩
  | 84 => ⟨S2x1024, .f32⟩
  | 85 => ⟨S_, .f32⟩
  | 86 => ⟨S2x1024, .f32⟩
  | 87 => ⟨S2x1024, .f32⟩
  | 88 => ⟨S2x1024, .f32⟩
  | 89 => ⟨S2x1024, .f32⟩
  | 90 => ⟨S2x1024, .f32⟩
  | 91 => ⟨S2x1024, .f32⟩
  | 92 => ⟨S_, .f32⟩
  | 93 => ⟨S1024, .f32⟩
  | 94 => ⟨S1x1024, .f32⟩
  | 95 => ⟨S_, .f32⟩
  | 96 => ⟨S2x1024, .f32⟩
  | 97 => ⟨S_, .f32⟩
  | 98 => ⟨S_, .f32⟩
  | 99 => ⟨S2x1024, .f32⟩
  | 100 => ⟨S2x1024, .f32⟩
  | 101 => ⟨S2x1024, .f32⟩
  | 102 => ⟨S2x1024, .f32⟩
  | 103 => ⟨S2x1024, .f32⟩
  | 104 => ⟨S_, .f32⟩
  | 105 => ⟨S1024, .f32⟩
  | 106 => ⟨S1x1024, .f32⟩
  | 107 => ⟨S1x1024, .f32⟩
  | 108 => ⟨S2x1024, .f32⟩
  | 109 => ⟨S2x1024, .f32⟩
  | 110 => ⟨S_, .f32⟩
  | 111 => ⟨S1024, .f32⟩
  | 112 => ⟨S2x1024, .f32⟩
  | 113 => ⟨S2x1024, .f32⟩
  | 114 => ⟨S2x1024, .f32⟩
  | 115 => ⟨S1112x128, .f32⟩
  | 116 => ⟨S16x128, .f32⟩
  | 117 => ⟨S8x128, .f32⟩
  | 118 => ⟨S1136x128, .f32⟩
  | 119 => ⟨S_, .f32⟩
  | 120 => ⟨S1136x128, .f32⟩
  | 121 => ⟨S1136x128, .f32⟩
  | 122 => ⟨S_, .f32⟩
  | 123 => ⟨S1136x128, .f32⟩
  | 124 => ⟨S1136x128, .f32⟩
  | 125 => ⟨S1136x128, .f32⟩
  | 126 => ⟨S_, .f32⟩
  | 127 => ⟨S1136x128, .f32⟩
  | _ => ⟨S1136x128, .f32⟩

abbrev hbmTy0_1 (i : Nat) : BufTy := match i % 128 with
  | 0 => ⟨S1136x128, .f32⟩
  | 1 => ⟨S1136x128, .f32⟩
  | 2 => ⟨S_, .f32⟩
  | 3 => ⟨S1136x128, .f32⟩
  | 4 => ⟨S1136x128, .f32⟩
  | 5 => ⟨S1136x128, .f32⟩
  | 6 => ⟨S_, .f32⟩
  | 7 => ⟨S1136x128, .f32⟩
  | 8 => ⟨S1136x128, .f32⟩
  | 9 => ⟨S_, .f32⟩
  | 10 => ⟨S1136x128, .f32⟩
  | 11 => ⟨S1136x128, .f32⟩
  | 12 => ⟨S1136x128, .f32⟩
  | 13 => ⟨S_, .f32⟩
  | 14 => ⟨S1136x128, .f32⟩
  | 15 => ⟨S1136x128, .f32⟩
  | 16 => ⟨S1136x128, .f32⟩
  | 17 => ⟨S_, .f32⟩
  | 18 => ⟨S1136x128, .f32⟩
  | 19 => ⟨S1136x128, .f32⟩
  | 20 => ⟨S1136x128, .f32⟩
  | 21 => ⟨S_, .f32⟩
  | 22 => ⟨S1136x128, .f32⟩
  | 23 => ⟨S1136x128, .f32⟩
  | 24 => ⟨S24x128, .f32⟩
  | 25 => ⟨S1x3072, .f32⟩
  | 26 => ⟨S24x128, .f32⟩
  | 27 => ⟨S1x3072, .f32⟩
  | 28 => ⟨S2x3072, .f32⟩
  | 29 => ⟨S8x128, .f32⟩
  | 30 => ⟨S1x1024, .f32⟩
  | 31 => ⟨S8x128, .f32⟩
  | 32 => ⟨S1x1024, .f32⟩
  | 33 => ⟨S2x1024, .f32⟩
  | 34 => ⟨S16x128, .f32⟩
  | 35 => ⟨S2x1024, .f32⟩
  | 36 => ⟨S1024x128, .f32⟩
  | 37 => ⟨S8x128, .f32⟩
  | 38 => ⟨S2x512, .f32⟩
  | 39 => ⟨S16x128, .f32⟩
  | 40 => ⟨S2x1024, .f32⟩
  | 41 => ⟨S2x128, .f32⟩
  | 42 => ⟨S24x128, .f32⟩
  | 43 => ⟨S1x3072, .f32⟩
  | 44 => ⟨S24x128, .f32⟩
  | 45 => ⟨S1x3072, .f32⟩
  | 46 => ⟨S2x3072, .f32⟩
  | 47 => ⟨S8x128, .f32⟩
  | 48 => ⟨S1x1024, .f32⟩
  | 49 => ⟨S8x128, .f32⟩
  | 50 => ⟨S1x1024, .f32⟩
  | 51 => ⟨S2x1024, .f32⟩
  | 52 => ⟨S16x128, .f32⟩
  | 53 => ⟨S2x1024, .f32⟩
  | 54 => ⟨S1024x128, .f32⟩
  | 55 => ⟨S8x128, .f32⟩
  | 56 => ⟨S2x512, .f32⟩
  | 57 => ⟨S16x128, .f32⟩
  | 58 => ⟨S2x1024, .f32⟩
  | 59 => ⟨S2x128, .f32⟩
  | 60 => ⟨S24x128, .f32⟩
  | 61 => ⟨S1x3072, .f32⟩
  | 62 => ⟨S24x128, .f32⟩
  | 63 => ⟨S1x3072, .f32⟩
  | 64 => ⟨S2x3072, .f32⟩
  | 65 => ⟨S8x128, .f32⟩
  | 66 => ⟨S1x1024, .f32⟩
  | 67 => ⟨S8x128, .f32⟩
  | 68 => ⟨S1x1024, .f32⟩
  | 69 => ⟨S2x1024, .f32⟩
  | 70 => ⟨S16x128, .f32⟩
  | 71 => ⟨S2x1024, .f32⟩
  | 72 => ⟨S1024x128, .f32⟩
  | 73 => ⟨S8x128, .f32⟩
  | 74 => ⟨S2x512, .f32⟩
  | 75 => ⟨S16x128, .f32⟩
  | 76 => ⟨S2x1024, .f32⟩
  | 77 => ⟨S2x128, .f32⟩
  | 78 => ⟨S24x128, .f32⟩
  | 79 => ⟨S1x3072, .f32⟩
  | 80 => ⟨S24x128, .f32⟩
  | 81 => ⟨S1x3072, .f32⟩
  | 82 => ⟨S2x3072, .f32⟩
  | 83 => ⟨S8x128, .f32⟩
  | 84 => ⟨S1x1024, .f32⟩
  | 85 => ⟨S8x128, .f32⟩
  | 86 => ⟨S1x1024, .f32⟩
  | 87 => ⟨S2x1024, .f32⟩
  | 88 => ⟨S16x128, .f32⟩
  | 89 => ⟨S2x1024, .f32⟩
  | 90 => ⟨S1024x128, .f32⟩
  | 91 => ⟨S8x128, .f32⟩
  | 92 => ⟨S2x512, .f32⟩
  | 93 => ⟨S16x128, .f32⟩
  | 94 => ⟨S2x1024, .f32⟩
  | 95 => ⟨S2x128, .f32⟩
  | _ => ⟨S1136x128, .f32⟩

abbrev hbmTy (i : Nat) : BufTy := match i / 128 with
  | 0 => hbmTy0_0 i
  | 1 => hbmTy0_1 i
  | _ => ⟨S1136x128, .f32⟩

abbrev bufTy : (tb : Table) → Fin (tcTables nBuf tb) → BufTy
  | .hbm, ⟨i, _⟩ => hbmTy i
  | _, _ => ⟨S1136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_call0_call0_cst : Ref sig .tc := ⟨.hbm, 51, rfl⟩
abbrev main_call0_call0_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_cst_11 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_cst : Ref sig .tc := ⟨.hbm, 66, rfl⟩
abbrev main_call1_v7 : Ref sig .tc := ⟨.hbm, 67, rfl⟩
abbrev main_call1_cst_0 : Ref sig .tc := ⟨.hbm, 68, rfl⟩
abbrev main_call1_v8 : Ref sig .tc := ⟨.hbm, 69, rfl⟩
abbrev main_call1_cst_1 : Ref sig .tc := ⟨.hbm, 70, rfl⟩
abbrev main_call1_v9 : Ref sig .tc := ⟨.hbm, 71, rfl⟩
abbrev main_call1_v10 : Ref sig .tc := ⟨.hbm, 72, rfl⟩
abbrev main_v39_1 : Ref sig .tc := ⟨.hbm, 73, rfl⟩
abbrev main_call1_v12 : Ref sig .tc := ⟨.hbm, 74, rfl⟩
abbrev main_call1_v13 : Ref sig .tc := ⟨.hbm, 75, rfl⟩
abbrev main_v39_0 : Ref sig .tc := ⟨.hbm, 76, rfl⟩
abbrev main_call1_v15 : Ref sig .tc := ⟨.hbm, 77, rfl⟩
abbrev main_call1_v16 : Ref sig .tc := ⟨.hbm, 78, rfl⟩
abbrev main_call1_v17 : Ref sig .tc := ⟨.hbm, 79, rfl⟩
abbrev main_call1_v18 : Ref sig .tc := ⟨.hbm, 80, rfl⟩
abbrev main_call1_cst_2 : Ref sig .tc := ⟨.hbm, 81, rfl⟩
abbrev main_call1_v19 : Ref sig .tc := ⟨.hbm, 82, rfl⟩
abbrev main_call1_cst_3 : Ref sig .tc := ⟨.hbm, 83, rfl⟩
abbrev main_call1_v20 : Ref sig .tc := ⟨.hbm, 84, rfl⟩
abbrev main_call1_cst_4 : Ref sig .tc := ⟨.hbm, 85, rfl⟩
abbrev main_call1_v21 : Ref sig .tc := ⟨.hbm, 86, rfl⟩
abbrev main_call1_v22 : Ref sig .tc := ⟨.hbm, 87, rfl⟩
abbrev main_v39_2 : Ref sig .tc := ⟨.hbm, 88, rfl⟩
abbrev main_call2_v0 : Ref sig .tc := ⟨.hbm, 89, rfl⟩
abbrev main_v40 : Ref sig .tc := ⟨.hbm, 90, rfl⟩
abbrev main_v41 : Ref sig .tc := ⟨.hbm, 91, rfl⟩
abbrev main_cst_12 : Ref sig .tc := ⟨.hbm, 92, rfl⟩
abbrev main_v42 : Ref sig .tc := ⟨.hbm, 93, rfl⟩
abbrev main_v43 : Ref sig .tc := ⟨.hbm, 94, rfl⟩
abbrev main_cst_13 : Ref sig .tc := ⟨.hbm, 95, rfl⟩
abbrev main_v44 : Ref sig .tc := ⟨.hbm, 96, rfl⟩
abbrev main_call3_call0_cst : Ref sig .tc := ⟨.hbm, 97, rfl⟩
abbrev main_call3_call0_v0 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_cst_14 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_15 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_16 : Ref sig .tc := ⟨.hbm, 119, rfl⟩
abbrev main_v63 : Ref sig .tc := ⟨.hbm, 120, rfl⟩
abbrev main_v64 : Ref sig .tc := ⟨.hbm, 121, rfl⟩
abbrev main_cst_17 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_18 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_19 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_20 : Ref sig .tc := ⟨.hbm, 134, rfl⟩
abbrev main_v74 : Ref sig .tc := ⟨.hbm, 135, rfl⟩
abbrev main_v75 : Ref sig .tc := ⟨.hbm, 136, rfl⟩
abbrev main_cst_21 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_22 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_23 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_24 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩

abbrev nD : Nat := 1
abbrev τ : Topo := Topo.v7x

variable {F : FTy → Type} [FloatOps F]
-- ==== MergeLoss.lean ====
abbrev S2048x512 : Shape := ⟨2, ![2048, 512]⟩
abbrev S2048x1024 : Shape := ⟨2, ![2048, 1024]⟩
abbrev S2048x7168 : Shape := ⟨2, ![2048, 7168]⟩
abbrev S8x512x128 : Shape := ⟨3, ![8, 512, 128]⟩
abbrev S1024x1024 : Shape := ⟨2, ![1024, 1024]⟩
abbrev S1x1024 : Shape := ⟨2, ![1, 1024]⟩
abbrev S1x1 : Shape := ⟨2, ![1, 1]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1 : Shape := ⟨1, ![1]⟩

abbrev nBuf : Space → Nat
  | .hbm => 16
  | .vmem => 28
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S8x512x128, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .f32⟩
  | .hbm, ⟨15, _⟩ => ⟨S1x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S8x512x128, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S1x1, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeLossRefIdeal.lean ====
abbrev S2048x512 : Shape := ⟨2, ![2048, 512]⟩
abbrev S2048x1024 : Shape := ⟨2, ![2048, 1024]⟩
abbrev S2048x7168 : Shape := ⟨2, ![2048, 7168]⟩
abbrev S8x512x128 : Shape := ⟨3, ![8, 512, 128]⟩
abbrev S1024x1024 : Shape := ⟨2, ![1024, 1024]⟩
abbrev S1x1024 : Shape := ⟨2, ![1, 1024]⟩
abbrev S2048x2048 : Shape := ⟨2, ![2048, 2048]⟩
abbrev S512x8x128 : Shape := ⟨3, ![512, 8, 128]⟩
abbrev S512x1024 : Shape := ⟨2, ![512, 1024]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S8x512x128, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x2048, .bf16⟩
  | .hbm, ⟨11, _⟩ => ⟨S2048x2048, .f32⟩
  | .hbm, ⟨12, _⟩ => ⟨S2048x512, .f32⟩
  | .hbm, ⟨13, _⟩ => ⟨S8x512x128, .f32⟩
  | .hbm, ⟨14, _⟩ => ⟨S512x8x128, .f32⟩
  | .hbm, ⟨15, _⟩ => ⟨S512x1024, .f32⟩
  | .hbm, ⟨16, _⟩ => ⟨S2048x1024, .f32⟩
  | .hbm, ⟨17, _⟩ => ⟨S2048x1024, .f32⟩
  | .hbm, ⟨18, _⟩ => ⟨S1024x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S1024x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .bf16⟩
  | .hbm, ⟨85, _⟩ => ⟨S2048x1024, .bf16⟩
  | .hbm, ⟨86, _⟩ => ⟨S2048x1024, .bf16⟩
  | .hbm, ⟨87, _⟩ => ⟨S2048x1024, .bf16⟩
  | .hbm, ⟨88, _⟩ => ⟨S1x1, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_cst_11 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== PreFwd.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Pre.lean ====
abbrev S2048x1024 : Shape := ⟨2, ![2048, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AdaFwd.lean ====
abbrev S8x1024 : Shape := ⟨2, ![8, 1024]⟩
abbrev S2x1024x384 : Shape := ⟨3, ![2, 1024, 384]⟩
abbrev S2x384 : Shape := ⟨2, ![2, 384]⟩
abbrev S2x8x384 : Shape := ⟨3, ![2, 8, 384]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S1x8x384 : Shape := ⟨3, ![1, 8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S2x8x384, .f32⟩
  | .local _ .vmem, ⟨0, _⟩ => ⟨S8x1024, .f32⟩
  | .local _ .vmem, ⟨1, _⟩ => ⟨S2x1024x384, .f32⟩
  | .local _ .vmem, ⟨2, _⟩ => ⟨S2x384, .f32⟩
  | .local _ .vmem, ⟨3, _⟩ => ⟨S2x8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaFwdRefIdeal.lean ====
abbrev S8x1024 : Shape := ⟨2, ![8, 1024]⟩
abbrev S2x1024x384 : Shape := ⟨3, ![2, 1024, 384]⟩
abbrev S2x384 : Shape := ⟨2, ![2, 384]⟩
abbrev S1x1024x384 : Shape := ⟨3, ![1, 1024, 384]⟩
abbrev S1024x384 : Shape := ⟨2, ![1024, 384]⟩
abbrev S1x384 : Shape := ⟨2, ![1, 384]⟩
abbrev S_ : Shape := ⟨0, ![]⟩
abbrev S8x384 : Shape := ⟨2, ![8, 384]⟩
abbrev S1x8x384 : Shape := ⟨3, ![1, 8, 384]⟩
abbrev S2x8x384 : Shape := ⟨3, ![2, 8, 384]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S1x1024x384, .f32⟩
  | .hbm, ⟨4, _⟩ => ⟨S1024x384, .f32⟩
  | .hbm, ⟨5, _⟩ => ⟨S1x384, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x384, .f32⟩
  | .hbm, ⟨16, _⟩ => ⟨S8x384, .f32⟩
  | .hbm, ⟨17, _⟩ => ⟨S8x384, .f32⟩
  | .hbm, ⟨18, _⟩ => ⟨S1x1024x384, .f32⟩
  | .hbm, ⟨19, _⟩ => ⟨S1024x384, .f32⟩
  | .hbm, ⟨20, _⟩ => ⟨S1x384, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x384, .f32⟩
  | .hbm, ⟨31, _⟩ => ⟨S8x384, .f32⟩
  | .hbm, ⟨32, _⟩ => ⟨S8x384, .f32⟩
  | .hbm, ⟨33, _⟩ => ⟨S1x8x384, .f32⟩
  | .hbm, ⟨34, _⟩ => ⟨S1x8x384, .f32⟩
  | .hbm, ⟨35, _⟩ => ⟨S2x8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== AdaBwd.lean ====
abbrev S8x1024 : Shape := ⟨2, ![8, 1024]⟩
abbrev S8x384 : Shape := ⟨2, ![8, 384]⟩
abbrev S1x1024x384 : Shape := ⟨3, ![1, 1024, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .local _ .vmem, ⟨0, _⟩ => ⟨S8x1024, .f32⟩
  | .local _ .vmem, ⟨1, _⟩ => ⟨S8x384, .f32⟩
  | .local _ .vmem, ⟨2, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x1024 : Shape := ⟨2, ![8, 1024]⟩
abbrev S8x384 : Shape := ⟨2, ![8, 384]⟩
abbrev S_ : Shape := ⟨0, ![]⟩
abbrev S1024x384 : Shape := ⟨2, ![1024, 384]⟩
abbrev S1x384 : Shape := ⟨2, ![1, 384]⟩
abbrev S384x1024 : Shape := ⟨2, ![384, 1024]⟩
abbrev S1x1024x384 : Shape := ⟨3, ![1, 1024, 384]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1024x384, .f32⟩
  | .hbm, ⟨4, _⟩ => ⟨S_, .f32⟩
  | .hbm, ⟨5, _⟩ => ⟨S1x384, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x384, .f32⟩
  | .hbm, ⟨16, _⟩ => ⟨S8x384, .f32⟩
  | .hbm, ⟨17, _⟩ => ⟨S8x384, .f32⟩
  | .hbm, ⟨18, _⟩ => ⟨S384x1024, .f32⟩
  | .hbm, ⟨19, _⟩ => ⟨S1024x384, .f32⟩
  | .hbm, ⟨20, _⟩ => ⟨S1x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Proof.Dw.lean ====
/- The weight gradient of the input projection: each point contracts all tokens into two devices' columns, and the result is the reference's. -/
module

public import proofs.«01_k».proof.Defs
public import proofs.«01_k».proof.Proof.Gen.DwIdeal.Value
public import proofs.«01_k».proof.Proof.Gen.DwRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwIdeal.RefValue

open Cert.DwIdeal Cert.DwIdeal.Gen Cert.DwIdeal.Value

variable (m : (ℓ : Loc nD τ sig) → Buf (Elt Ideal) ℓ)

/-- The block each window reads or writes at a point. -/
theorem idx : ∀ t : Fin cfg0.N, win0_0.index t = ![0, 0] ∧ win0_1.index t = ![0, t.val] ∧ win0_2.index t = ![t.val, 0, 0] :=
  (by decide +kernel : ∀ t : Fin grid0.N, _)

set_option backward.proofsInPublic true in
/-- The column of the wide weight at device `d`'s column `n`. -/
abbrev wide (d : Fin 8) (n : Fin 896) : Fin 7168 := ⟨d.val * 896 + n.val, by omega⟩

open Cert.DwRefIdeal.Read in
/-- The reference at an index: the contraction over the tokens. -/
theorem ref_apply (h : Vec Ideal S2048x1024 .bf16) (dz : Vec Ideal S2048x7168 .bf16) (i : S8x1024x896.Idx) :
    val_main_v8 (F := Ideal) h dz i = ∑ k : Fin 2048, h (ix2 k (i 1)) * dz (ix2 k (wide (i 0) (i 2))) := by
  rw [val_main_v8_apply, val_main_v7_apply, val_main_v6_apply, val_main_v5_apply, val_main_v4_apply]
  refine Finset.sum_congr rfl fun k _ => ?_
  rw [val_main_v3_apply, val_main_v0_apply, mul_comm]
  have h0 : (i 0).val < 8 := (i 0).isLt
  have h1 : (i 1).val < 1024 := (i 1).isLt
  have h2 : (i 2).val < 896 := (i 2).isLt
  refine congrArg₂ (· * ·) (congrArg h (funext fun a => Fin.ext ?_)) (congrArg dz (funext fun a => Fin.ext ?_))
  · match a with
    | ⟨0, _⟩ => rfl
    | ⟨1, _⟩ => show (((i 1).val * 8 + (i 0).val) * 896 + (i 2).val) / 7168 = (i 1).val; omega
  · match a with
    | ⟨0, _⟩ => rfl
    | ⟨1, _⟩ => show (((i 1).val * 8 + (i 0).val) * 896 + (i 2).val) % 7168 = (i 0).val * 896 + (i 2).val; omega

/-- The kernel's result array ends as the reference's value. -/
theorem final (c : Dev nD) : (dats m 0 c).arrAt 2 cfg0.N
    = Cert.DwRefIdeal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [canon2_eq]
  rw [ref_apply]
  pointwise [E2, k0_pay1]
  blk_point [iblk, V, idx t]
  all_goals (blk_simp [idx t]; omega)

end Cert.DwIdeal.RefValue

namespace Cert.Proof

/-- The weight gradient of the input projection: the kernel's result is the reference's. -/
theorem dw_algebraic : Cert.algebraic_DwIdeal_DwRefIdeal := by
  pair_intro
  · run_from Cert.DwIdeal.Value.run_blocks m g
  · run_from Cert.DwRefIdeal.Value.run m' g'
    rw [Cert.DwIdeal.RefValue.final m c]
    exact Cert.DwRefIdeal.Read.val_main_v8_eq ..

end Cert.Proof

end
-- ==== Proof.Dh.lean ====
/- The input gradient of the input projection: the kernel's sum over four column blocks is the reference's contraction over all columns. -/
module

public import proofs.«01_k».proof.Defs
public import proofs.«01_k».proof.Proof.Gen.DhIdeal.Value
public import proofs.«01_k».proof.Proof.Gen.DhRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhIdeal.RefValue

open Cert.DhIdeal Cert.DhIdeal.Gen Cert.DhIdeal.Value

variable (m : (ℓ : Loc nD τ sig) → Buf (Elt Ideal) ℓ)

/-- The block each window reads or writes at a point. -/
theorem idx : ∀ t : Fin cfg0.N, win0_0.index t = ![0, t.val] ∧ win0_1.index t = ![t.val, 0, 0] ∧ win0_2.index t = ![0, 0] :=
  (by decide +kernel : ∀ t : Fin grid0.N, _)

set_option backward.proofsInPublic true in
/-- The place of lane `k` of half `q` among a block's columns. -/
abbrev lane (q : Fin 2) (k : Fin 896) : Fin 1792 := ⟨q.val * 896 + k.val, by omega⟩

/-- The block starts at zero. -/
theorem zero_apply (j : S2048x1024.Idx) : k0_pay1 (F := Ideal) j = 0 := by
  pointwise [k0_pay1]

/-- One point's step: it adds the contraction over the point's two pieces of the weight. -/
theorem pay_apply (x0 : Vec Ideal S2048x1792 .bf16) (x1 : Vec Ideal S2x1024x896 .bf16) (acc : Vec Ideal S2048x1024 .f32) (j : S2048x1024.Idx) :
    k0_pay2 (View.ld x1 (Rect.unit (s := S2x1024x896) ![0, 0, 0] ![1, 1024, 896] inb_S2x1024x896_S1x1024x896_0_0_0))
      (View.ld x1 (Rect.unit (s := S2x1024x896) ![1, 0, 0] ![1, 1024, 896] inb_S2x1024x896_S1x1024x896_1_0_0)) acc x0 j
      = acc j + ∑ q : Fin 2, ∑ k : Fin 896, x0 (ix2 (j 0) (lane q k)) * x1 (ix3 q (j 1) k) := by
  rw [Fin.sum_univ_two]
  pointwise [k0_pay2]
  rfl

set_option backward.proofsInPublic true in
/-- The column of the wide weight at device `d`'s column `n`. -/
abbrev wide (d : Fin 8) (n : Fin 896) : Fin 7168 := ⟨d.val * 896 + n.val, by omega⟩

open Cert.DhRefIdeal.Read in
/-- The reference at an index: the contraction over all columns, device by device. -/
theorem ref_apply (dz : Vec Ideal S2048x7168 .bf16) (w : Vec Ideal S8x1024x896 .bf16) (i : S2048x1024.Idx) :
    val_main_v6 (F := Ideal) dz w i = ∑ d : Fin 8, ∑ k : Fin 896, dz (ix2 (i 0) (wide d k)) * w (ix3 d (i 1) k) := by
  rw [val_main_v6_apply]
  symm
  refine Fin.sum_mul_add_congr fun d k h => ?_
  rw [val_main_v5_apply, val_main_v2_apply, val_main_v1_apply, val_main_v0_apply]
  have h1 : (i 1).val < 1024 := (i 1).isLt
  refine congrArg₂ (· * ·) (congrArg dz (funext fun a => Fin.ext ?_)) (congrArg w (funext fun a => Fin.ext ?_))
  · match a with
    | ⟨0, _⟩ => rfl
    | ⟨1, _⟩ => rfl
  · match a with
    | ⟨0, _⟩ => show d.val = ((i 1).val * 7168 + (d.val * 896 + k.val)) / 896 % 8; omega
    | ⟨1, _⟩ => show (i 1).val = ((i 1).val * 7168 + (d.val * 896 + k.val)) / 7168; omega
    | ⟨2, _⟩ => show k.val = ((i 1).val * 7168 + (d.val * 896 + k.val)) % 896; omega

/-- The kernel's result array ends as the reference's value. -/
theorem final (c : Dev nD) : (dats m 0 c).arrAt 2 cfg0.N
    = Cert.DhRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [pay_apply, zero_apply])
    (fun t h j => by rw [outsAt0_B m c t h]; frame_out; rw [pay_apply])
    t ((flush0_2 t).mp hf) _, zero_add, ref_apply]
  refine Fin.sum_mul_add_congr fun s q h => ?_
  refine Fin.sum_fin_congr fun k => ?_
  have ht : t.val < 4 := lt_of_lt_of_eq t.isLt N_0
  congr 1 <;> blk_ext [iblk, V, idx, idx t]

end Cert.DhIdeal.RefValue

namespace Cert.Proof

/-- The input gradient of the input projection: the kernel's result is the reference's. -/
theorem dh_algebraic : Cert.algebraic_DhIdeal_DhRefIdeal := by
  pair_intro
  · run_from Cert.DhIdeal.Value.run_blocks m g
  · run_from Cert.DhRefIdeal.Value.run m' g'
    rw [Cert.DhIdeal.RefValue.final m c]
    exact Cert.DhRefIdeal.Read.val_main_v6_eq (F := Ideal) ..

end Cert.Proof

end
-- ==== Proof.InProj.lean ====
/- The input projection: the kernel keeps one block of the weight while it walks the token tiles, and its result is the reference's product. -/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen Cert.InProjIdeal.Value

variable (m : (ℓ : Loc nD τ sig) → Buf (Elt Ideal) ℓ)

/-- The block each window reads or writes at a point. -/
theorem idx : ∀ t : Fin cfg0.N, win0_0.index t = ![t.val % 2, 0] ∧ win0_1.index t = ![t.val / 2, 0, 0] ∧ win0_2.index t = ![t.val % 2, t.val / 2] :=
  (by decide +kernel : ∀ t : Fin grid0.N, _)

/-- The kept pair of weight pieces, side by side. -/
abbrev pair (x1 : Vec Ideal S2x1024x896 .bf16) : Vec Ideal S1024x1792 .bf16 :=
  k0_pay1 (View.ld x1 (Rect.unit (s := S2x1024x896) ![0, 0, 0] ![1, 1024, 896] inb_S2x1024x896_S1x1024x896_0_0_0))
    (View.ld x1 (Rect.unit (s := S2x1024x896) ![1, 0, 0] ![1, 1024, 896] inb_S2x1024x896_S1x1024x896_1_0_0))

/-- The weight's block is the same one at the point before, when this point is not the first of its run. -/
theorem block_prev (c : Dev nD) (t : Fin cfg0.N) (h : ¬ t.val % 2 = 0) (hp : t.val - 1 < cfg0.N) :
    iblk m c 1 ⟨t.val - 1, hp⟩ = iblk m c 1 t := by
  have e : (t.val - 1) / 2 = t.val / 2 := by omega
  funext y
  blk_ext [iblk, V, idx t, idx ⟨t.val - 1, hp⟩]

/-- What the result's buffer holds after any point: the product of the point's token tile with the pair. -/
theorem out_eq (c : Dev nD) (t : Fin cfg0.N) :
    (outsAt0 m c t.val t.isLt).1 = k0_pay2 (iblk m c 0 t) (pair (iblk m c 1 t)) := by
  by_cases h : t.val % 2 = 0
  · rw [outsAt0_A m c t h]; frame_out
  · have hp : t.val - 1 < cfg0.N := Nat.lt_of_le_of_lt (Nat.sub_le _ _) t.isLt
    have e : (outsAt0 m c (t.val - 1) hp).2 = pair (iblk m c 1 t) := by
      have h' : (t.val - 1) % 2 = 0 := by omega
      have e' := outsAt0_A m c ⟨t.val - 1, hp⟩ h'
      dsimp only at e'
      rw [e', ← block_prev m c t h hp]; frame_out
    rw [outsAt0_B m c t h]; frame_out
    rw [e, (Memref.isWhole_whole cc0_scratch0).read_unread]

set_option backward.proofsInPublic true in
/-- Which piece of the weight holds column `n`, and where in it. -/
abbrev dev (n : Fin 7168) : Fin 8 := ⟨n.val / 896, by omega⟩
set_option backward.proofsInPublic true in
abbrev col (n : Fin 7168) : Fin 896 := ⟨n.val % 896, by omega⟩

open Cert.InProjRefIdeal.Read in
/-- The reference at an index: the contraction over the width. -/
theorem ref_apply (h : Vec Ideal S2048x1024 .bf16) (w : Vec Ideal S8x1024x896 .bf16) (i : S2048x7168.Idx) :
    val_main_v4 (F := Ideal) h w i = ∑ k : Fin 1024, h (ix2 (i 0) k) * w (ix3 (dev (i 1)) k (col (i 1))) := by
  rw [val_main_v4_apply]
  refine Finset.sum_congr rfl fun k _ => ?_
  rw [val_main_v3_apply, val_main_v2_apply, val_main_v1_apply, val_main_v0_apply]
  have h1 : (i 1).val < 7168 := (i 1).isLt
  refine congrArg₂ (· * ·) (congrArg h (funext fun a => Fin.ext ?_)) (congrArg w (funext fun a => Fin.ext ?_))
  · match a with
    | ⟨0, _⟩ => rfl
    | ⟨1, _⟩ => rfl
  · match a with
    | ⟨0, _⟩ => show (k.val * 7168 + (i 1).val) / 896 % 8 = (i 1).val / 896; omega
    | ⟨1, _⟩ => show (k.val * 7168 + (i 1).val) / 7168 = k.val; omega
    | ⟨2, _⟩ => show (k.val * 7168 + (i 1).val) % 896 = (i 1).val % 896; omega

/-- The kernel's result array ends as the reference's value. -/
theorem final (c : Dev nD) : (dats m 0 c).arrAt 2 cfg0.N
    = Cert.InProjRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq, ref_apply]
  pointwise [k0_pay2, pair, k0_pay1]
  refine Fin.sum_fin_congr fun x => ?_
  have hy : (y 1).val < 1792 := (y 1).isLt
  split
  · congr 1
    · blk_ext [iblk, V, idx t]
    · blk_ext [iblk, V, idx t]
      all_goals (blk_simp [idx t]; omega)
  · congr 1
    · blk_ext [iblk, V, idx t]
    · blk_ext [iblk, V, idx t]
      all_goals (blk_simp [idx t]; omega)

end Cert.InProjIdeal.RefValue

namespace Cert.Proof

/-- The input projection: the kernel's result is the reference's. -/
theorem in_proj_algebraic : Cert.algebraic_InProjIdeal_InProjRefIdeal := by
  pair_intro
  · run_from Cert.InProjIdeal.Value.run_blocks m g
  · run_from Cert.InProjRefIdeal.Value.run m' g'
    rw [Cert.InProjIdeal.RefValue.final m c]
    exact Cert.InProjRefIdeal.Read.val_main_v4_eq (F := Ideal) ..

end Cert.Proof

end
-- ==== Proof.Gow.lean ====
/- The three output-projection weight gradients: each of the kernel's results is the reference's, a contraction over the tokens written one half of the columns at a time. -/
module

public import proofs.«01_k».proof.Defs
public import proofs.«01_k».proof.Proof.Gen.GowIdeal.Value
public import proofs.«01_k».proof.Proof.Gen.GowRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GowIdeal.RefValue

open Cert.GowIdeal Cert.GowIdeal.Gen Cert.GowIdeal.Value

variable (m : (ℓ : Loc nD τ sig) → Buf (Elt Ideal) ℓ)

/-- The block each window reads or writes at a point. -/
theorem idx : ∀ t : Fin cfg0.N, win0_0.index t = ![0, 0] ∧ win0_1.index t = ![0, t.val] ∧ win0_2.index t = ![0, 0]
    ∧ win0_3.index t = ![0, t.val] ∧ win0_4.index t = ![0, 0] ∧ win0_5.index t = ![0, t.val]
    ∧ win0_6.index t = ![0, t.val] ∧ win0_7.index t = ![0, t.val] ∧ win0_8.index t = ![t.val, 0, 0] :=
  (by decide +kernel : ∀ t : Fin grid0.N, _)

set_option backward.proofsInPublic true in
/-- The column of the wide weight at group `d`'s column `n`. -/
abbrev wide (d : Fin 8) (n : Fin 128) : Fin 1024 := ⟨d.val * 128 + n.val, by omega⟩

open Cert.GowRefIdeal.Read in
/-- The first weight's reference at an index: the contraction over the tokens. -/
theorem ref6_apply (a ct : Vec Ideal S2048x1024 .bf16) (i : S1024x1024.Idx) :
    val_main_v6 (F := Ideal) a ct i = ∑ k : Fin 2048, a (ix2 k (i 0)) * ct (ix2 k (i 1)) := by
  rw [val_main_v6_apply, val_main_v5_apply, val_main_v4_apply]
  refine Finset.sum_congr rfl fun k _ => ?_
  rw [val_main_v3_apply, val_main_v0_apply, mul_comm]
  exact congrArg₂ (· * ·) (congrArg a (funext fun b => by match b with | ⟨0, _⟩ => rfl | ⟨1, _⟩ => rfl))
    (congrArg ct (funext fun b => by match b with | ⟨0, _⟩ => rfl | ⟨1, _⟩ => rfl))

open Cert.GowRefIdeal.Read in
/-- The second weight's reference at an index. -/
theorem ref13_apply (a ct : Vec Ideal S2048x1024 .bf16) (i : S1024x1024.Idx) :
    val_main_v13 (F := Ideal) a ct i = ∑ k : Fin 2048, a (ix2 k (i 0)) * ct (ix2 k (i 1)) := by
  rw [val_main_v13_apply, val_main_v12_apply, val_main_v11_apply]
  refine Finset.sum_congr rfl fun k _ => ?_
  rw [val_main_v10_apply, val_main_v7_apply, mul_comm]
  exact congrArg₂ (· * ·) (congrArg a (funext fun b => by match b with | ⟨0, _⟩ => rfl | ⟨1, _⟩ => rfl))
    (congrArg ct (funext fun b => by match b with | ⟨0, _⟩ => rfl | ⟨1, _⟩ => rfl))

open Cert.GowRefIdeal.Read in
/-- The third weight's reference at an index: the contraction over the tokens, the columns packed by groups. -/
theorem ref22_apply (a : Vec Ideal S2048x512 .bf16) (ct : Vec Ideal S2048x1024 .bf16) (i : S8x512x128.Idx) :
    val_main_v22 (F := Ideal) a ct i = ∑ k : Fin 2048, a (ix2 k (i 1)) * ct (ix2 k (wide (i 0) (i 2))) := by
  rw [val_main_v22_apply, val_main_v21_apply, val_main_v20_apply, val_main_v19_apply, val_main_v18_apply]
  refine Finset.sum_congr rfl fun k _ => ?_
  rw [val_main_v17_apply, val_main_v14_apply, mul_comm]
  have h0 : (i 0).val < 8 := (i 0).isLt
  have h1 : (i 1).val < 512 := (i 1).isLt
  have h2 : (i 2).val < 128 := (i 2).isLt
  refine congrArg₂ (· * ·) (congrArg a (funext fun b => Fin.ext ?_)) (congrArg ct (funext fun b => Fin.ext ?_))
  · match b with
    | ⟨0, _⟩ => rfl
    | ⟨1, _⟩ => show (((i 1).val * 8 + (i 0).val) * 128 + (i 2).val) / 1024 = (i 1).val; omega
  · match b with
    | ⟨0, _⟩ => rfl
    | ⟨1, _⟩ => show (((i 1).val * 8 + (i 0).val) * 128 + (i 2).val) % 1024 = (i 0).val * 128 + (i 2).val; omega

/-- The first weight gradient ends as the reference's. -/
theorem final6 (c : Dev nD) : (dats m 0 c).arrAt 6 cfg0.N
    = Cert.GowRefIdeal.Read.val_main_v6 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  frame_out
  rw [ref6_apply]
  pointwise [k0_pay3]
  blk_point [iblk, V, idx t]

/-- The second weight gradient ends as the reference's. -/
theorem final7 (c : Dev nD) : (dats m 0 c).arrAt 7 cfg0.N
    = Cert.GowRefIdeal.Read.val_main_v13 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [ref13_apply]
  pointwise [k0_pay4]
  blk_point [iblk, V, idx t]

/-- The third weight gradient ends as the reference's. -/
theorem final8 (c : Dev nD) : (dats m 0 c).arrAt 8 cfg0.N
    = Cert.GowRefIdeal.Read.val_main_v22 (F := Ideal) (m ((c : Thread nD τ).loc main_arg4)) (m ((c : Thread nD τ).loc main_arg5)) := by
  refine (dats m 0 c).arrAt_eq_of_covers 8 _ (by decide +kernel) fun t hf y => ?_
  blk_simp
  rw [after0_8]
  frame_out
  rw [canon8_eq]
  rw [ref22_apply]
  pointwise [E8, k0_pay5]
  blk_point [iblk, V, idx t]
  all_goals (blk_simp [idx t]; omega)

end Cert.GowIdeal.RefValue

namespace Cert.Proof

/-- The three weight gradients of the output side: the kernel's results are the reference's. -/
theorem gow_algebraic : Cert.algebraic_GowIdeal_GowRefIdeal := by
  pair_intro
  · run_from Cert.GowIdeal.Value.run_blocks m g
  · run_from Cert.GowRefIdeal.Value.run m' g'
    all_goals (first
      | (rw [Cert.GowIdeal.RefValue.final6 m c]; exact Cert.GowRefIdeal.Read.val_main_v6_eq ..)
      | (rw [Cert.GowIdeal.RefValue.final7 m c]; exact Cert.GowRefIdeal.Read.val_main_v13_eq ..)
      | (rw [Cert.GowIdeal.RefValue.final8 m c]; exact Cert.GowRefIdeal.Read.val_main_v22_eq ..))

end Cert.Proof

end
-- ==== Proof.MergeFwd.lean ====
/- The merge: the two branches' output projections, their gated sum, its projection and the next activation, tile by tile of the tokens, equal the reference's. -/
module

public import proofs.«01_k».proof.Defs
public import proofs.«01_k».proof.Proof.Gen.MergeFwdIdeal.Value
public import proofs.«01_k».proof.Proof.Gen.MergeFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeFwdIdeal.RefValue

open Cert.MergeFwdIdeal Cert.MergeFwdIdeal.Gen Cert.MergeFwdIdeal.Value

variable (a : Vec Ideal S2048x512 .bf16) (b : Vec Ideal S2048x1024 .bf16) (z : Vec Ideal S2048x7168 .bf16) (x : Vec Ideal S2048x1024 .f32) (w : Vec Ideal S8x512x128 .bf16) (w2 w3 : Vec Ideal S1024x1024 .bf16) (g gp : Vec Ideal S1x1024 .f32)

set_option backward.proofsInPublic true in
/-- The group of column `n` of the pooling projection, and the column within the group. -/
abbrev grp (n : Fin 1024) : Fin 8 := ⟨n.val / 128, by omega⟩
set_option backward.proofsInPublic true in
abbrev inGrp (n : Fin 1024) : Fin 128 := ⟨n.val % 128, by omega⟩
set_option backward.proofsInPublic true in
/-- The columns of the two merge gates in the projection. -/
abbrev gateP (n : Fin 1024) : Fin 7168 := ⟨5120 + n.val, by omega⟩
set_option backward.proofsInPublic true in
abbrev gateH (n : Fin 1024) : Fin 7168 := ⟨6144 + n.val, by omega⟩

/-- The logistic function. -/
def lgst (v : EReal) : EReal := Ideal.div 1 (1 + Ideal.exp (-v))

/-- The pooling branch's output projection at token `r`, column `n`. -/
def sBa (r : Fin 2048) (n : Fin 1024) : EReal := ∑ k : Fin 512, a (ix2 r k) * w (ix3 (grp n) k (inGrp n))

/-- The recurrent branch's output projection. -/
def sBb (r : Fin 2048) (n : Fin 1024) : EReal := ∑ k : Fin 1024, b (ix2 r k) * w2 (ix2 k n)

/-- The gated merge of the two branches. -/
def sMer (r : Fin 2048) (n : Fin 1024) : EReal :=
  lgst (z (ix2 r (gateP n))) * sBa a w r n + lgst (z (ix2 r (gateH n))) * sBb b w2 r n

/-- The merged value's projection. -/
def sY (r : Fin 2048) (n : Fin 1024) : EReal := ∑ k : Fin 1024, sMer a b z w w2 r k * w3 (ix2 k n)

/-- The next activation: the residual plus the gated, normalised projection. -/
def sOut (r : Fin 2048) (n : Fin 1024) : EReal :=
  x (ix2 r n) + g (ix2 0 n) * (sY a b z w w2 w3 r n
    * Ideal.rsqrt (Ideal.div (∑ k : Fin 1024, sY a b z w w2 w3 r k * sY a b z w w2 w3 r k) (Ideal.ofBits FTy.f32 1149239296#32)
      + Ideal.ofBits FTy.f32 897988541#32) * gp (ix2 0 n))

/-! ## The reference at an index -/

section
open Cert.MergeFwdRefIdeal.Read

theorem ref_ba (i : S2048x1024.Idx) : val_main_v6 (F := Ideal) a w i = sBa a w (i 0) (i 1) := by
  rw [val_main_v6_apply]
  refine Finset.sum_congr rfl fun k _ => ?_
  rw [val_main_v2_apply, val_main_v5_apply, val_main_v4_apply, val_main_v3_apply]
  have h1 : (i 1).val < 1024 := (i 1).isLt
  refine congrArg₂ (· * ·) (congrArg a (funext fun a => Fin.ext ?_)) (congrArg w (funext fun a => Fin.ext ?_))
  · match a with
    | ⟨0, _⟩ => rfl
    | ⟨1, _⟩ => rfl
  · match a with
    | ⟨0, _⟩ => show (k.val * 1024 + (i 1).val) / 128 % 8 = (i 1).val / 128; omega
    | ⟨1, _⟩ => show (k.val * 1024 + (i 1).val) / 1024 = k.val; omega
    | ⟨2, _⟩ => show (k.val * 1024 + (i 1).val) % 128 = (i 1).val % 128; omega

theorem ref_bb (i : S2048x1024.Idx) : val_main_v9 (F := Ideal) b w2 i = sBb b w2 (i 0) (i 1) := by
  rw [val_main_v9_apply]
  refine Finset.sum_congr rfl fun k _ => ?_
  rw [val_main_v7_apply, val_main_v8_apply]
  refine congrArg₂ (· * ·) (congrArg b (funext fun a => Fin.ext ?_)) (congrArg w2 (funext fun a => Fin.ext ?_)) <;>
  · match a with
    | ⟨0, _⟩ => rfl
    | ⟨1, _⟩ => rfl

theorem ref_mer (i : S2048x1024.Idx) :
    val_main_v26 (F := Ideal) a b z w w2 i = sMer a b z w w2 (i 0) (i 1) := by
  rw [val_main_v26_apply, val_main_v25_apply, val_main_v24_apply, val_main_v22_apply, val_main_v23_apply, val_main_v21_apply,
    val_main_v20_apply, val_main_v19_apply, val_main_v18_apply, val_main_v1_apply, val_main_v0_apply, val_main_v17_apply,
    val_main_v16_apply, val_main_v14_apply, val_main_v15_apply, val_main_v13_apply,
    val_main_v12_apply, val_main_v11_apply, val_main_v10_apply, val_main_v1_apply, val_main_v0_apply, ref_ba, ref_bb]
  have e5 : idx_main_v0 (idx_main_v10 i) = ix2 (i 0) (gateP (i 1)) := by
    funext a; refine Fin.ext ?_
    match a with
    | ⟨0, _⟩ => rfl
    | ⟨1, _⟩ => show _ + (i 1).val = 5120 + (i 1).val; omega
  have e6 : idx_main_v0 (idx_main_v18 i) = ix2 (i 0) (gateH (i 1)) := by
    funext a; refine Fin.ext ?_
    match a with
    | ⟨0, _⟩ => rfl
    | ⟨1, _⟩ => show 5120 + (1024 + (i 1).val) = 6144 + (i 1).val; omega
  rw [e5, e6]
  pointwise [val_main_cst_1, val_main_cst_2, val_main_cst, val_main_cst_0]
  rfl

theorem ref_y (i : S2048x1024.Idx) :
    val_main_v28 (F := Ideal) a b z w w2 w3 i = sY a b z w w2 w3 (i 0) (i 1) := by
  rw [val_main_v28_apply]
  refine Finset.sum_congr rfl fun k _ => ?_
  rw [val_main_v27_apply, ref_mer]
  refine congrArg₂ (· * ·) rfl (congrArg w3 (funext fun a => Fin.ext ?_))
  match a with
  | ⟨0, _⟩ => rfl
  | ⟨1, _⟩ => rfl

theorem ref_out (i : S2048x1024.Idx) :
    val_main_v43 (F := Ideal) a b z x w w2 w3 g gp i = sOut a b z x w w2 w3 g gp (i 0) (i 1) := by
  rw [val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, ref_y]
  have e : ∀ k, val_main_v29 (F := Ideal) a b z w w2 w3 (idx_main_v30 (idx_main_v31 (idx_main_v37 i)) k)
      = sY a b z w w2 w3 (i 0) k * sY a b z w w2 w3 (i 0) k := by
    intro k; rw [val_main_v29_apply, ref_y]; rfl
  simp only [e]
  have e1 : x i = x (ix2 (i 0) (i 1)) := congrArg x (funext fun a => by match a with | ⟨0, _⟩ => rfl | ⟨1, _⟩ => rfl)
  have e2 : g (idx_main_v41 i) = g (ix2 0 (i 1)) := congrArg g (funext fun a => by match a with | ⟨0, _⟩ => rfl | ⟨1, _⟩ => rfl)
  have e3 : gp (idx_main_v39 i) = gp (ix2 0 (i 1)) := congrArg gp (funext fun a => by match a with | ⟨0, _⟩ => rfl | ⟨1, _⟩ => rfl)
  rw [e2, e3]
  pointwise [val_main_cst_3, val_main_cst_4, val_main_cst_5]
  unfold sOut
  rw [← e1]

end

/-! ## One tile of the kernel -/

/-- What a tile's blocks are of the arrays: rows `R` of the token arrays, and the weights whole. -/
structure Tile (R : Fin 512 → Fin 2048) (x0 : Vec Ideal S512x512 .bf16) (x1 : Vec Ideal S512x1024 .bf16) (x2 : Vec Ideal S512x1024 .bf16) (x3 : Vec Ideal S512x1024 .bf16) (x4 : Vec Ideal S512x1024 .f32) (x5 : Vec Ideal S8x512x128 .bf16) (x6 : Vec Ideal S1024x1024 .bf16) (x7 : Vec Ideal S1024x1024 .bf16) (x8 : Vec Ideal S1x1024 .f32) (x9 : Vec Ideal S1x1024 .f32) : Prop where
  h0 : ∀ r k, x0 (ix2 r k) = a (ix2 (R r) k)
  h1 : ∀ r k, x1 (ix2 r k) = b (ix2 (R r) k)
  h2 : ∀ r k, x2 (ix2 r k) = z (ix2 (R r) (gateP k))
  h3 : ∀ r k, x3 (ix2 r k) = z (ix2 (R r) (gateH k))
  h4 : ∀ r k, x4 (ix2 r k) = x (ix2 (R r) k)
  h5 : x5 = w
  h6 : x6 = w2
  h7 : x7 = w3
  h8 : x8 = g
  h9 : x9 = gp

variable {a b z x w w2 w3 g gp}
variable {R : Fin 512 → Fin 2048} {x0 : Vec Ideal S512x512 .bf16} {x1 : Vec Ideal S512x1024 .bf16} {x2 : Vec Ideal S512x1024 .bf16} {x3 : Vec Ideal S512x1024 .bf16} {x4 : Vec Ideal S512x1024 .f32} {x5 : Vec Ideal S8x512x128 .bf16} {x6 : Vec Ideal S1024x1024 .bf16} {x7 : Vec Ideal S1024x1024 .bf16} {x8 : Vec Ideal S1x1024 .f32} {x9 : Vec Ideal S1x1024 .f32} (T : Tile a b z x w w2 w3 g gp R x0 x1 x2 x3 x4 x5 x6 x7 x8 x9)

include T

set_option maxHeartbeats 1000000 in
theorem t_ba (r : Fin 512) (n : Fin 1024) : k0_pay12 x0 x1 x2 x3 x4 x5 x6 x7 x8 x9 (ix2 r n) = sBa a w (R r) n := by
  have hn := n.isLt
  unfold k0_pay12
  pointwise [k0_pay3]
  unfold sBa
  refine Fin.sum_fin_congr fun k => ?_
  rw [T.h0, T.h5]
  refine congrArg₂ (· * ·) rfl ?_
  split
  · rw [show grp n = 0 from Fin.ext (show n.val / 128 = 0 by omega), show inGrp n = ⟨n.val, by omega⟩ from Fin.ext (show n.val % 128 = n.val by omega)]
  split
  · rw [show grp n = 1 from Fin.ext (show n.val / 128 = 1 by omega), show inGrp n = ⟨n.val - 128, by omega⟩ from Fin.ext (show n.val % 128 = n.val - 128 by omega)]
  split
  · rw [show grp n = 2 from Fin.ext (show n.val / 128 = 2 by omega), show inGrp n = ⟨n.val - 128 - 128, by omega⟩ from Fin.ext (show n.val % 128 = n.val - 128 - 128 by omega)]
  split
  · rw [show grp n = 3 from Fin.ext (show n.val / 128 = 3 by omega), show inGrp n = ⟨n.val - 128 - 128 - 128, by omega⟩ from Fin.ext (show n.val % 128 = n.val - 128 - 128 - 128 by omega)]
  split
  · rw [show grp n = 4 from Fin.ext (show n.val / 128 = 4 by omega), show inGrp n = ⟨n.val - 128 - 128 - 128 - 128, by omega⟩ from Fin.ext (show n.val % 128 = n.val - 128 - 128 - 128 - 128 by omega)]
  split
  · rw [show grp n = 5 from Fin.ext (show n.val / 128 = 5 by omega), show inGrp n = ⟨n.val - 128 - 128 - 128 - 128 - 128, by omega⟩ from Fin.ext (show n.val % 128 = n.val - 128 - 128 - 128 - 128 - 128 by omega)]
  split
  · rw [show grp n = 6 from Fin.ext (show n.val / 128 = 6 by omega), show inGrp n = ⟨n.val - 128 - 128 - 128 - 128 - 128 - 128, by omega⟩ from Fin.ext (show n.val % 128 = n.val - 128 - 128 - 128 - 128 - 128 - 128 by omega)]
  rw [show grp n = 7 from Fin.ext (show n.val / 128 = 7 by omega), show inGrp n = ⟨n.val - 128 - 128 - 128 - 128 - 128 - 128 - 128, by omega⟩ from Fin.ext (show n.val % 128 = n.val - 128 - 128 - 128 - 128 - 128 - 128 - 128 by omega)]

theorem t_bb (r : Fin 512) (n : Fin 1024) : k0_pay13 x0 x1 x2 x3 x4 x5 x6 x7 x8 x9 (ix2 r n) = sBb b w2 (R r) n := by
  unfold k0_pay13
  pointwise [k0_pay4]
  unfold sBb
  refine Fin.sum_fin_congr fun k => ?_
  rw [T.h1, T.h6]

theorem t_mer (r : Fin 512) (n : Fin 1024) :
    k0_pay6 (k0_pay12 x0 x1 x2 x3 x4 x5 x6 x7 x8 x9) (k0_pay13 x0 x1 x2 x3 x4 x5 x6 x7 x8 x9) x2 (k0_pay14 x0 x1 x2 x3 x4 x5 x6 x7 x8 x9) x3 (ix2 r n) = sMer a b z w w2 (R r) n := by
  unfold k0_pay14
  pointwise [k0_pay6, k0_pay5]
  rw [t_ba T, t_bb T, T.h2, T.h3, zero_sub, zero_sub]
  rfl

theorem t_y (r : Fin 512) (n : Fin 1024) :
    k0_pay7 (k0_pay12 x0 x1 x2 x3 x4 x5 x6 x7 x8 x9) (k0_pay13 x0 x1 x2 x3 x4 x5 x6 x7 x8 x9) x2 (k0_pay14 x0 x1 x2 x3 x4 x5 x6 x7 x8 x9) x3 x7 (ix2 r n) = sY a b z w w2 w3 (R r) n := by
  pointwise [k0_pay7]
  unfold sY
  refine Fin.sum_fin_congr fun k => ?_
  rw [t_mer T, T.h7]

theorem t_norm (r : Fin 512) (n : Fin 1024) :
    k0_pay8 (k0_pay12 x0 x1 x2 x3 x4 x5 x6 x7 x8 x9) (k0_pay13 x0 x1 x2 x3 x4 x5 x6 x7 x8 x9) x2 (k0_pay14 x0 x1 x2 x3 x4 x5 x6 x7 x8 x9) x3 x7 (ix2 r n)
      = sY a b z w w2 w3 (R r) n
        * Ideal.rsqrt (Ideal.div (∑ k : Fin 1024, sY a b z w w2 w3 (R r) k * sY a b z w w2 w3 (R r) k) (Ideal.ofBits FTy.f32 1149239296#32)
          + Ideal.ofBits FTy.f32 897988541#32) := by
  pointwise [k0_pay8]
  simp only [t_y T]

theorem o10 (y : S512x1024.Idx) : out0_10 x0 x1 x2 x3 x4 x5 x6 x7 x8 x9 y = sBa a w (R (y 0)) (y 1) := by
  idx_vars y
  unfold out0_10
  frame_out
  pointwise [k0_pay9]
  exact t_ba T _ _

theorem o11 (y : S512x1024.Idx) : out0_11 x0 x1 x2 x3 x4 x5 x6 x7 x8 x9 y = sBb b w2 (R (y 0)) (y 1) := by
  idx_vars y
  unfold out0_11
  frame_out
  pointwise [k0_pay10]
  exact t_bb T _ _

theorem o12 (y : S512x1024.Idx) : out0_12 x0 x1 x2 x3 x4 x5 x6 x7 x8 x9 y = sMer a b z w w2 (R (y 0)) (y 1) := by
  idx_vars y
  unfold out0_12
  frame_out
  pointwise [k0_pay11]
  exact t_mer T _ _

theorem o13 (y : S512x1024.Idx) : out0_13 x0 x1 x2 x3 x4 x5 x6 x7 x8 x9 y = sY a b z w w2 w3 (R (y 0)) (y 1) := by
  idx_vars y
  unfold out0_13
  frame_out
  pointwise [k0_pay1]
  exact t_y T _ _

theorem o14 (y : S512x1024.Idx) : out0_14 x0 x1 x2 x3 x4 x5 x6 x7 x8 x9 y = sOut a b z x w w2 w3 g gp (R (y 0)) (y 1) := by
  idx_vars y
  unfold out0_14
  frame_out
  pointwise [k0_pay2]
  rw [t_norm T, T.h4, T.h8, T.h9]
  rfl

omit T

/-- The block each window reads or writes at a point. -/
theorem idx : ∀ t : Fin cfg0.N, win0_0.index t = ![t.val, 0] ∧ win0_1.index t = ![t.val, 0] ∧ win0_2.index t = ![t.val, 5]
    ∧ win0_3.index t = ![t.val, 6] ∧ win0_4.index t = ![t.val, 0] ∧ win0_5.index t = ![0, 0, 0] ∧ win0_6.index t = ![0, 0]
    ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ)

/-- The tile's rows at a point. -/
def rows (t : Fin cfg0.N) (r : Fin 512) : Fin 2048 := ⟨512 * t.val + r.val, by have := t.isLt; have h : cfg0.N = 4 := rfl; omega⟩

/-- The windows' blocks at a point are a tile of the arrays. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rows t)
    (iblk m c 0 t) (iblk m c 1 t) (iblk m c 2 t) (iblk m c 3 t) (iblk m c 4 t) (iblk m c 5 t) (iblk m c 6 t) (iblk m c 7 t) (iblk m c 8 t) (iblk m c 9 t) where
  h0 r k := by blk_ext [iblk, V, idx t, rows]; all_goals (blk_simp [idx t]; omega)
  h1 r k := by blk_ext [iblk, V, idx t, rows]; all_goals (blk_simp [idx t]; omega)
  h2 r k := by blk_ext [iblk, V, idx t, rows]; all_goals (blk_simp [idx t]; omega)
  h3 r k := by blk_ext [iblk, V, idx t, rows]; all_goals (blk_simp [idx t]; omega)
  h4 r k := by blk_ext [iblk, V, idx t, rows]; all_goals (blk_simp [idx t]; omega)
  h5 := by funext y; blk_ext [iblk, V, idx t]
  h6 := by funext y; blk_ext [iblk, V, idx t]
  h7 := by funext y; blk_ext [iblk, V, idx t]
  h8 := by funext y; blk_ext [iblk, V, idx t]
  h9 := by funext y; blk_ext [iblk, V, idx t]

theorem final10 (c : Dev nD) : (dats m 0 c).arrAt 10 cfg0.N
    = Cert.MergeFwdRefIdeal.Read.val_main_v44 (F := Ideal) (m ((c : Thread nD τ).loc main_arg0)) (m ((c : Thread nD τ).loc main_arg4)) := by
  refine (dats m 0 c).arrAt_eq_of_covers 10 _ (by decide +kernel) fun t hf y => ?_
  blk_simp
  rw [after0_10, o10 (tile m c t)]
  refine Eq.trans ?_ (ref_ba ..).symm
  congr 1 <;> (refine Fin.ext ?_; blk_simp [idx t, rows]; try first | omega | (dsimp only; omega))

theorem final11 (c : Dev nD) : (dats m 0 c).arrAt 11 cfg0.N
    = Cert.MergeFwdRefIdeal.Read.val_main_v45 (F := Ideal) (m ((c : Thread nD τ).loc main_arg1)) (m ((c : Thread nD τ).loc main_arg5)) := by
  refine (dats m 0 c).arrAt_eq_of_covers 11 _ (by decide +kernel) fun t hf y => ?_
  blk_simp
  rw [after0_11, o11 (tile m c t)]
  refine Eq.trans ?_ (ref_bb ..).symm
  congr 1 <;> (refine Fin.ext ?_; blk_simp [idx t, rows]; try first | omega | (dsimp only; omega))

theorem final12 (c : Dev nD) : (dats m 0 c).arrAt 12 cfg0.N
    = Cert.MergeFwdRefIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 12 _ (by decide +kernel) fun t hf y => ?_
  blk_simp
  rw [after0_12, o12 (tile m c t)]
  refine Eq.trans ?_ (ref_mer ..).symm
  congr 1 <;> (refine Fin.ext ?_; blk_simp [idx t, rows]; try first | omega | (dsimp only; omega))

theorem final13 (c : Dev nD) : (dats m 0 c).arrAt 13 cfg0.N
    = Cert.MergeFwdRefIdeal.Read.val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13, o13 (tile m c t)]
  refine Eq.trans ?_ (ref_y ..).symm
  congr 1 <;> (refine Fin.ext ?_; blk_simp [idx t, rows]; try first | omega | (dsimp only; omega))

theorem final14 (c : Dev nD) : (dats m 0 c).arrAt 14 cfg0.N
    = Cert.MergeFwdRefIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14, o14 (tile m c t)]
  refine Eq.trans ?_ (ref_out ..).symm
  congr 1 <;> (refine Fin.ext ?_; blk_simp [idx t, rows]; try first | omega | (dsimp only; omega))

end Cert.MergeFwdIdeal.RefValue

namespace Cert.Proof

/-- The merge's forward call: the kernel's results are the reference's. -/
theorem merge_fwd_algebraic : Cert.algebraic_MergeFwdIdeal_MergeFwdRefIdeal := by
  pair_intro
  · run_from Cert.MergeFwdIdeal.Value.run_blocks m g
  · run_from Cert.MergeFwdRefIdeal.Value.run m' g'
    all_goals obtain ⟨a0, a1, a2, a3, a4, a5, a6, a7, a8⟩ := hagree c
    all_goals (first
      | (rw [Cert.MergeFwdIdeal.RefValue.final10 m c]; exact Cert.MergeFwdRefIdeal.Read.val_main_v44_eq (F := Ideal) ..)
      | (rw [Cert.MergeFwdIdeal.RefValue.final11 m c]; exact Cert.MergeFwdRefIdeal.Read.val_main_v45_eq (F := Ideal) ..)
      | (rw [Cert.MergeFwdIdeal.RefValue.final12 m c]; exact Cert.MergeFwdRefIdeal.Read.val_main_v46_eq (F := Ideal) ..)
      | (rw [Cert.MergeFwdIdeal.RefValue.final13 m c]; exact Cert.MergeFwdRefIdeal.Read.val_main_v47_eq (F := Ideal) ..)
      | (rw [Cert.MergeFwdIdeal.RefValue.final14 m c, ← a0, ← a1, ← a2, ← a3, ← a4, ← a5, ← a6, ← a7, ← a8]; exact Cert.MergeFwdRefIdeal.Read.val_main_v43_eq (F := Ideal) ..))

end Cert.Proof

end
-- ==== Proof.AdamIn.lean ====
/- The optimiser call of the first layer for weights of 1024 rows and 896 columns: what the kernel leaves in its four results is, over the extended reals, what the reference computes, row by row of the first layer, with the other layer left as it was given. -/
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit.Partial
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamInIdeal.RefValue

open Cert.AdamInIdeal Cert.AdamInIdeal.Gen

section Spec

variable (w m v : (⟨S2x1024x896, .f32⟩ : BufTy).Contents (Elt Ideal)) (o : (⟨S4x1024x896, .bf16⟩ : BufTy).Contents (Elt Ideal)) (x : (⟨S3x1024x896, .bf16⟩ : BufTy).Contents (Elt Ideal)) (r : Fin 1024) (k : Fin 896)

/-- The weight's gradient, summed over the devices' partial sums. -/
def gradS : EReal := o (ix3 3 r k) + x (ix3 0 r k) + x (ix3 1 r k) + x (ix3 2 r k)

/-- The first moment after the step. -/
def momS : EReal := Ideal.ofBits .f32 0x3F666666#32 * m (ix3 0 r k) + Ideal.ofBits .f32 0x3DCCCCCD#32 * gradS o x r k

/-- The second moment after the step. -/
def varS : EReal := Ideal.ofBits .f32 0x3F7FBE77#32 * v (ix3 0 r k) + Ideal.ofBits .f32 0x3A83126F#32 * (gradS o x r k * gradS o x r k)

/-- The step itself. -/
def stepS : EReal := Ideal.ofBits .f32 0xBA83126F#32 * (Ideal.div (Ideal.div (momS m o x r k) (Ideal.ofBits .f32 0x3F26BD02#32))
    (Ideal.sqrt (Ideal.div (varS v o x r k) (Ideal.ofBits .f32 0x3C231ACC#32)) + Ideal.ofBits .f32 0x322BCC77#32) + Ideal.ofBits .f32 0x3C23D70A#32 * w (ix3 0 r k))

end Spec

section Reference

open Cert.AdamInRefIdeal.Read

variable (w m v : (⟨S2x1024x896, .f32⟩ : BufTy).Contents (Elt Ideal)) (o : (⟨S4x1024x896, .bf16⟩ : BufTy).Contents (Elt Ideal)) (x : (⟨S3x1024x896, .bf16⟩ : BufTy).Contents (Elt Ideal)) (p : (⟨S2x1024x896, .f32⟩ : BufTy).Contents (Elt Ideal)) (r : Fin 1024) (k : Fin 896)

theorem read_own (z : (⟨S4x1024x896, .bf16⟩ : BufTy).Contents (Elt Ideal)) : val_main_v1 (F := Ideal) z (ix2 r k) = z (ix3 3 r k) := by
  have hr := r.isLt
  have hk := k.isLt
  rw [val_main_v1_apply, val_main_v0_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_first (z : (⟨S3x1024x896, .bf16⟩ : BufTy).Contents (Elt Ideal)) : val_main_v4 (F := Ideal) z (ix2 r k) = z (ix3 0 r k) := by
  have hr := r.isLt
  have hk := k.isLt
  rw [val_main_v4_apply, val_main_v3_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_second (z : (⟨S3x1024x896, .bf16⟩ : BufTy).Contents (Elt Ideal)) : val_main_v8 (F := Ideal) z (ix2 r k) = z (ix3 1 r k) := by
  have hr := r.isLt
  have hk := k.isLt
  rw [val_main_v8_apply, val_main_v7_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_third (z : (⟨S3x1024x896, .bf16⟩ : BufTy).Contents (Elt Ideal)) : val_main_v12 (F := Ideal) z (ix2 r k) = z (ix3 2 r k) := by
  have hr := r.isLt
  have hk := k.isLt
  rw [val_main_v12_apply, val_main_v11_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_weight (z : (⟨S2x1024x896, .f32⟩ : BufTy).Contents (Elt Ideal)) : val_main_v16 (F := Ideal) z (ix2 r k) = z (ix3 0 r k) := by
  have hr := r.isLt
  have hk := k.isLt
  rw [val_main_v16_apply, val_main_v15_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_moment (z : (⟨S2x1024x896, .f32⟩ : BufTy).Contents (Elt Ideal)) : val_main_v18 (F := Ideal) z (ix2 r k) = z (ix3 0 r k) := by
  have hr := r.isLt
  have hk := k.isLt
  rw [val_main_v18_apply, val_main_v17_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem read_variance (z : (⟨S2x1024x896, .f32⟩ : BufTy).Contents (Elt Ideal)) : val_main_v20 (F := Ideal) z (ix2 r k) = z (ix3 0 r k) := by
  have hr := r.isLt
  have hk := k.isLt
  rw [val_main_v20_apply, val_main_v19_apply]
  refine congrArg z (funext fun a => Fin.ext ?_)
  match a with
  | ⟨0, _⟩ => rfl
  | ⟨1, _⟩ => show (r.val * 896 + k.val) / 896 % 1024 = r.val; omega
  | ⟨2, _⟩ => show (r.val * 896 + k.val) % 896 = k.val; omega

theorem ref_g : val_main_v14 (F := Ideal) o x (ix2 r k) = gradS o x r k := by
  rw [val_main_v14_apply, val_main_v13_apply, val_main_v10_apply, val_main_v9_apply, val_main_v6_apply, val_main_v5_apply, val_main_v2_apply, read_own, read_first, read_second, read_third]
  rfl

theorem ref_m : val_main_v25 (F := Ideal) m o x (ix2 r k) = momS m o x r k := by
  rw [val_main_v25_apply, val_main_v22_apply, val_main_v24_apply, val_main_v21_apply, val_main_v23_apply, ref_g, read_moment]
  rfl

theorem ref_v : val_main_v31 (F := Ideal) v o x (ix2 r k) = varS v o x r k := by
  rw [val_main_v31_apply, val_main_v27_apply, val_main_v30_apply, val_main_v28_apply, val_main_v26_apply, val_main_v29_apply, ref_g, read_variance]
  rfl

theorem ref_d : val_main_v44 (F := Ideal) w m v o x (ix2 r k) = stepS w m v o x r k := by
  rw [val_main_v44_apply, val_main_v42_apply, val_main_v41_apply, val_main_v39_apply, val_main_v38_apply, val_main_v36_apply, val_main_v35_apply, val_main_v33_apply, val_main_v43_apply, val_main_v40_apply, val_main_v37_apply, val_main_v34_apply, val_main_v32_apply, ref_m, ref_v, read_weight]
  rfl

theorem top_g (i : S2x1024x896.Idx) (h : i = ix3 0 r k) : val_main_v47 (F := Ideal) o x p i = gradS o x r k := by
  subst h
  unfold val_main_v47
  pointwise [val_main_v45_apply]
  exact ref_g o x r k

theorem rest_g (i : S2x1024x896.Idx) (h : ¬ (i 0).val = 0) : val_main_v47 (F := Ideal) o x p i = p i := by
  have h0 : (i 0).val < 2 := (i 0).isLt
  unfold val_main_v47
  pointwise [val_main_v46_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_d (i : S2x1024x896.Idx) (h : i = ix3 0 r k) : val_main_v50 (F := Ideal) w m v o x p i = stepS w m v o x r k := by
  subst h
  unfold val_main_v50
  pointwise [val_main_v48_apply]
  exact ref_d w m v o x r k

theorem rest_d (i : S2x1024x896.Idx) (h : ¬ (i 0).val = 0) : val_main_v50 (F := Ideal) w m v o x p i = p i := by
  have h0 : (i 0).val < 2 := (i 0).isLt
  unfold val_main_v50
  pointwise [val_main_v49_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_m (i : S2x1024x896.Idx) (h : i = ix3 0 r k) : val_main_v53 (F := Ideal) m o x p i = momS m o x r k := by
  subst h
  unfold val_main_v53
  pointwise [val_main_v51_apply]
  exact ref_m m o x r k

theorem rest_m (i : S2x1024x896.Idx) (h : ¬ (i 0).val = 0) : val_main_v53 (F := Ideal) m o x p i = p i := by
  have h0 : (i 0).val < 2 := (i 0).isLt
  unfold val_main_v53
  pointwise [val_main_v52_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_v (i : S2x1024x896.Idx) (h : i = ix3 0 r k) : val_main_v56 (F := Ideal) v o x p i = varS v o x r k := by
  subst h
  unfold val_main_v56
  pointwise [val_main_v54_apply]
  exact ref_v v o x r k

theorem rest_v (i : S2x1024x896.Idx) (h : ¬ (i 0).val = 0) : val_main_v56 (F := Ideal) v o x p i = p i := by
  have h0 : (i 0).val < 2 := (i 0).isLt
  unfold val_main_v56
  pointwise [val_main_v55_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

end Reference

/-- The blocks a point reads are rows of the arrays' layers. -/
structure Tile (w m v : (⟨S2x1024x896, .f32⟩ : BufTy).Contents (Elt Ideal)) (o : (⟨S4x1024x896, .bf16⟩ : BufTy).Contents (Elt Ideal)) (x : (⟨S3x1024x896, .bf16⟩ : BufTy).Contents (Elt Ideal)) (R : Fin 512 → Fin 1024) (x0 x1 x2 : Vec Ideal S1x512x896 .f32) (x3 x4 x5 x6 : Vec Ideal S1x512x896 .bf16) : Prop where
  h0 : ∀ r k, x0 (ix3 0 r k) = w (ix3 0 (R r) k)
  h1 : ∀ r k, x1 (ix3 0 r k) = m (ix3 0 (R r) k)
  h2 : ∀ r k, x2 (ix3 0 r k) = v (ix3 0 (R r) k)
  h3 : ∀ r k, x3 (ix3 0 r k) = o (ix3 3 (R r) k)
  h4 : ∀ r k, x4 (ix3 0 r k) = x (ix3 0 (R r) k)
  h5 : ∀ r k, x5 (ix3 0 r k) = x (ix3 1 (R r) k)
  h6 : ∀ r k, x6 (ix3 0 r k) = x (ix3 2 (R r) k)

section Tiles

variable {w m v : (⟨S2x1024x896, .f32⟩ : BufTy).Contents (Elt Ideal)} {o : (⟨S4x1024x896, .bf16⟩ : BufTy).Contents (Elt Ideal)} {x : (⟨S3x1024x896, .bf16⟩ : BufTy).Contents (Elt Ideal)} {R : Fin 512 → Fin 1024} {x0 x1 x2 : Vec Ideal S1x512x896 .f32} {x3 x4 x5 x6 : Vec Ideal S1x512x896 .bf16}

variable (Ti : Tile w m v o x R x0 x1 x2 x3 x4 x5 x6)

include Ti

theorem t_g (r : Fin 512) (k : Fin 896) : k0_pay5 (F := Ideal) x3 x4 x5 x6 (ix2 r k) = gradS o x (R r) k := by
  unfold k0_pay5
  pointwise
  rw [Ti.h3, Ti.h4, Ti.h5, Ti.h6]
  rfl

theorem t_m (r : Fin 512) (k : Fin 896) : k0_pay7 (F := Ideal) x3 x4 x5 x6 x1 (ix2 r k) = momS m o x (R r) k := by
  unfold k0_pay7
  pointwise
  rw [t_g Ti, Ti.h1]
  rfl

theorem t_v (r : Fin 512) (k : Fin 896) : k0_pay8 (F := Ideal) x3 x4 x5 x6 x2 (ix2 r k) = varS v o x (R r) k := by
  unfold k0_pay8
  pointwise
  rw [t_g Ti, Ti.h2]
  rfl

theorem t_w (r : Fin 512) (k : Fin 896) : k0_pay6 (F := Ideal) x0 (ix2 r k) = w (ix3 0 (R r) k) := by
  unfold k0_pay6
  pointwise
  exact Ti.h0 r k

theorem t_d (r : Fin 512) (k : Fin 896) :
    k0_pay2 (F := Ideal) (k0_pay6 x0) (k0_pay7 x3 x4 x5 x6 x1) (k0_pay8 x3 x4 x5 x6 x2) k0_pay9 (ix3 0 r k) = stepS w m v o x (R r) k := by
  unfold k0_pay2 k0_pay9
  pointwise
  rw [t_m Ti, t_v Ti, t_w Ti]
  rfl

end Tiles

/-- The block each window reads or writes at a point. -/
theorem idx : ∀ t : Fin cfg0.N, win0_0.index t = ![0, t.val, 0]
    ∧ win0_1.index t = ![0, t.val, 0]
    ∧ win0_2.index t = ![0, t.val, 0]
    ∧ win0_3.index t = ![3, t.val, 0]
    ∧ win0_4.index t = ![0, t.val, 0]
    ∧ win0_5.index t = ![1, t.val, 0]
    ∧ win0_6.index t = ![2, t.val, 0]
    ∧ win0_7.index t = ![0, t.val, 0]
    ∧ win0_8.index t = ![0, t.val, 0]
    ∧ win0_9.index t = ![0, t.val, 0]
    ∧ win0_10.index t = ![0, t.val, 0] :=
  (by decide +kernel : ∀ t : Fin grid0.N, _)

variable (m : (ℓ : Loc nD τ sig) → Buf (Elt Ideal) ℓ)

/-- The rows of the arrays that a point's blocks hold. -/
def rows (t : Fin cfg0.N) (r : Fin 512) : Fin 1024 := ⟨512 * t.val + r.val, by have := t.isLt; have h : cfg0.N = 2 := rfl; omega⟩

/-- The windows' blocks at a point are such rows. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (rows t)
    (iblk m c 0 t) (iblk m c 1 t) (iblk m c 2 t) (iblk m c 3 t) (iblk m c 4 t) (iblk m c 5 t) (iblk m c 6 t) where
  h0 r k := by blk_ext [iblk, V, idx t, rows]; all_goals (blk_simp [idx t]; try omega)
  h1 r k := by blk_ext [iblk, V, idx t, rows]; all_goals (blk_simp [idx t]; try omega)
  h2 r k := by blk_ext [iblk, V, idx t, rows]; all_goals (blk_simp [idx t]; try omega)
  h3 r k := by blk_ext [iblk, V, idx t, rows]; all_goals (blk_simp [idx t]; try omega)
  h4 r k := by blk_ext [iblk, V, idx t, rows]; all_goals (blk_simp [idx t]; try omega)
  h5 r k := by blk_ext [iblk, V, idx t, rows]; all_goals (blk_simp [idx t]; try omega)
  h6 r k := by blk_ext [iblk, V, idx t, rows]; all_goals (blk_simp [idx t]; try omega)

theorem entry_g (c : Dev nD) : V m c main_v0_0 = (m ((c : Thread nD τ).loc main_arg5)) := by
  unfold V
  after_results
  try rfl

theorem final_g (c : Dev nD) : (dats m 0 c).arrAt 7 cfg0.N
    = Cert.AdamInRefIdeal.Read.val_main_v47 (F := Ideal) (m ((c : Thread nD τ).loc main_arg3)) (m ((c : Thread nD τ).loc main_arg4)) (m ((c : Thread nD τ).loc main_arg5)) := by
  refine (dats m 0 c).arrAt_eq_of_coversWhere_of_agree 7 _ (fun β => β (0 : Fin _) = 0) (by decide +kernel) (fun t hf y => ?_) (fun j hj => ?_)
  · blk_simp
    idx_vars y
    obtain rfl : y0 = 0 := Fin.ext (by have := y0.isLt; omega)
    rw [after0_7]
    unfold outsAt0 out0_A_7
    frame_out
    unfold k0_pay1
    pointwise
    refine (t_g (tile m c t) y1 y2).trans ?_
    symm
    apply top_g
    blk_ext [idx t, rows]
    all_goals (blk_simp [idx t]; try omega)
  · rw [A_eq]
    refine Eq.trans (congrFun (entry_g m c) _) ?_
    symm
    apply rest_g
    intro h
    apply hj
    blk_simp [Pipeline.Window.cell_apply] at h ⊢
    omega

theorem entry_d (c : Dev nD) : V m c main_v0_1 = (m ((c : Thread nD τ).loc main_arg6)) := by
  unfold V
  after_results
  try rfl

theorem final_d (c : Dev nD) : (dats m 0 c).arrAt 8 cfg0.N
    = Cert.AdamInRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 8 _ (fun β => β (0 : Fin _) = 0) (by decide +kernel) (fun t hf y => ?_) (fun j hj => ?_)
  · blk_simp
    idx_vars y
    obtain rfl : y0 = 0 := Fin.ext (by have := y0.isLt; omega)
    rw [after0_8]
    unfold outsAt0 out0_A_8
    frame_out

    refine (t_d (tile m c t) y1 y2).trans ?_
    symm
    apply top_d
    blk_ext [idx t, rows]
    all_goals (blk_simp [idx t]; try omega)
  · rw [A_eq]
    refine Eq.trans (congrFun (entry_d m c) _) ?_
    symm
    apply rest_d
    intro h
    apply hj
    blk_simp [Pipeline.Window.cell_apply] at h ⊢
    omega

theorem entry_m (c : Dev nD) : V m c main_v0_2 = (m ((c : Thread nD τ).loc main_arg7)) := by
  unfold V
  after_results
  try rfl

theorem final_m (c : Dev nD) : (dats m 0 c).arrAt 9 cfg0.N
    = Cert.AdamInRefIdeal.Read.val_main_v53 (F := Ideal) (m ((c : Thread nD τ).loc main_arg1)) (m ((c : Thread nD τ).loc main_arg3)) (m ((c : Thread nD τ).loc main_arg4)) (m ((c : Thread nD τ).loc main_arg7)) := by
  refine (dats m 0 c).arrAt_eq_of_coversWhere_of_agree 9 _ (fun β => β (0 : Fin _) = 0) (by decide +kernel) (fun t hf y => ?_) (fun j hj => ?_)
  · blk_simp
    idx_vars y
    obtain rfl : y0 = 0 := Fin.ext (by have := y0.isLt; omega)
    rw [after0_9]
    unfold outsAt0 out0_A_9
    frame_out
    unfold k0_pay3
    pointwise
    refine (t_m (tile m c t) y1 y2).trans ?_
    symm
    apply top_m
    blk_ext [idx t, rows]
    all_goals (blk_simp [idx t]; try omega)
  · rw [A_eq]
    refine Eq.trans (congrFun (entry_m m c) _) ?_
    symm
    apply rest_m
    intro h
    apply hj
    blk_simp [Pipeline.Window.cell_apply] at h ⊢
    omega

theorem entry_v (c : Dev nD) : V m c main_v0_3 = (m ((c : Thread nD τ).loc main_arg8)) := by
  unfold V
  after_results
  try rfl

theorem final_v (c : Dev nD) : (dats m 0 c).arrAt 10 cfg0.N
    = Cert.AdamInRefIdeal.Read.val_main_v56 (F := Ideal) (m ((c : Thread nD τ).loc main_arg2)) (m ((c : Thread nD τ).loc main_arg3)) (m ((c : Thread nD τ).loc main_arg4)) (m ((c : Thread nD τ).loc main_arg8)) := by
  refine (dats m 0 c).arrAt_eq_of_coversWhere_of_agree 10 _ (fun β => β (0 : Fin _) = 0) (by decide +kernel) (fun t hf y => ?_) (fun j hj => ?_)
  · blk_simp
    idx_vars y
    obtain rfl : y0 = 0 := Fin.ext (by have := y0.isLt; omega)
    rw [after0_10]
    unfold outsAt0 out0_A_10
    frame_out
    unfold k0_pay4
    pointwise
    refine (t_v (tile m c t) y1 y2).trans ?_
    symm
    apply top_v
    blk_ext [idx t, rows]
    all_goals (blk_simp [idx t]; try omega)
  · rw [A_eq]
    refine Eq.trans (congrFun (entry_v m c) _) ?_
    symm
    apply rest_v
    intro h
    apply hj
    blk_simp [Pipeline.Window.cell_apply] at h ⊢
    omega

end Cert.AdamInIdeal.RefValue

namespace Cert.Proof

/-- The first layer's optimiser call: the kernel's four results are the reference's. -/
theorem adam_in_algebraic : Cert.algebraic_AdamInIdeal_AdamInRefIdeal := by
  pair_intro
  · run_from Cert.AdamInIdeal.Value.run_blocks m g
  · run_from Cert.AdamInRefIdeal.Value.run m' g'
    all_goals obtain ⟨a0, a1, a2, a3, a4, a5, a6, a7, a8⟩ := hagree c
    all_goals (first
      | (rw [Cert.AdamInIdeal.RefValue.final_g m c]; exact Cert.AdamInRefIdeal.Read.val_main_v47_eq (F := Ideal) ..)
      | (rw [Cert.AdamInIdeal.RefValue.final_g m c, ← a3, ← a4, ← a5]; exact Cert.AdamInRefIdeal.Read.val_main_v47_eq (F := Ideal) ..)
      | (rw [Cert.AdamInIdeal.RefValue.final_m m c]; exact Cert.AdamInRefIdeal.Read.val_main_v53_eq (F := Ideal) ..)
      | (rw [Cert.AdamInIdeal.RefValue.final_m m c, ← a1, ← a3, ← a4, ← a7]; exact Cert.AdamInRefIdeal.Read.val_main_v53_eq (F := Ideal) ..)
      | (rw [Cert.AdamInIdeal.RefValue.final_v m c]; exact Cert.AdamInRefIdeal.Read.val_main_v56_eq (F := Ideal) ..)
      | (rw [Cert.AdamInIdeal.RefValue.final_v m c, ← a2, ← a3, ← a4, ← a8]; exact Cert.AdamInRefIdeal.Read.val_main_v56_eq (F := Ideal) ..)
      | (rw [Cert.AdamInIdeal.RefValue.final_d m c]; exact Cert.AdamInRefIdeal.Read.val_main_v50_eq (F := Ideal) ..)
      | (rw [Cert.AdamInIdeal.RefValue.final_d m c, ← a0, ← a1, ← a2, ← a3, ← a4, ← a6]; exact Cert.AdamInRefIdeal.Read.val_main_v50_eq (F := Ideal) ..))

end Cert.Proof

end
-- ==== Proof.AdamPo.lean ====
/- The optimiser call of the first layer for weights of 512 rows and 128 columns: what the kernel leaves in its four results is, over the extended reals, what the reference computes, row by row of the first layer, with the other layer left as it was given. -/
module

public import proofs.«01_k».proof.Defs
public import proofs.«01_k».proof.Proof.Gen.AdamPoIdeal.Value
public import proofs.«01_k».proof.Proof.Gen.AdamPoRefIdeal.Run
public import proofs.«01_k».proof.Proof.Gen.AdamPoRefIdeal.Read
public import Idealize.ShloMosaic.Lib.Pipeline.ValueKit.Partial
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamPoIdeal.RefValue

open Cert.AdamPoIdeal Cert.AdamPoIdeal.Gen

section Spec

variable (w m v : (⟨S2x512x128, .f32⟩ : BufTy).Contents (Elt Ideal)) (o : (⟨S4x512x128, .bf16⟩ : BufTy).Contents (Elt Ideal)) (x : (⟨S3x512x128, .bf16⟩ : BufTy).Contents (Elt Ideal)) (r : Fin 512) (k : Fin 128)

/-- The weight's gradient, summed over the devices' partial sums. -/
def gradS : EReal := o (ix3 3 r k) + x (ix3 0 r k) + x (ix3 1 r k) + x (ix3 2 r k)

/-- The first moment after the step. -/
def momS : EReal := Ideal.ofBits .f32 0x3F666666#32 * m (ix3 0 r k) + Ideal.ofBits .f32 0x3DCCCCCD#32 * gradS o x r k

/-- The second moment after the step. -/
def varS : EReal := Ideal.ofBits .f32 0x3F7FBE77#32 * v (ix3 0 r k) + Ideal.ofBits .f32 0x3A83126F#32 * (gradS o x r k * gradS o x r k)

/-- The step itself. -/
def stepS : EReal := Ideal.ofBits .f32 0xBA83126F#32 * (Ideal.div (Ideal.div (momS m o x r k) (Ideal.ofBits .f32 0x3F26BD02#32))
    (Ideal.sqrt (Ideal.div (varS v o x r k) (Ideal.ofBits .f32 0x3C231ACC#32)) + Ideal.ofBits .f32 0x322BCC77#32) + Ideal.ofBits .f32 0x3C23D70A#32 * w (ix3 0 r k))

end Spec

section Reference

open Cert.AdamPoRefIdeal.Read

variable (w m v : (⟨S2x512x128, .f32⟩ : BufTy).Contents (Elt Ideal)) (o : (⟨S4x512x128, .bf16⟩ : BufTy).Contents (Elt Ideal)) (x : (⟨S3x512x128, .bf16⟩ : BufTy).Contents (Elt Ideal)) (p : (⟨S2x512x128, .f32⟩ : BufTy).Contents (Elt Ideal)) (r : Fin 512) (k : Fin 128)

theorem read_own (z : (⟨S4x512x128, .bf16⟩ : BufTy).Contents (Elt Ideal)) : val_main_v1 (F := Ideal) z (ix2 r k) = z (ix3 3 r k) := by
  have hr := r.isLt
  have hk := k.isLt
  rw [val_main_v1_apply, val_main_v0_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_first (z : (⟨S3x512x128, .bf16⟩ : BufTy).Contents (Elt Ideal)) : val_main_v4 (F := Ideal) z (ix2 r k) = z (ix3 0 r k) := by
  have hr := r.isLt
  have hk := k.isLt
  rw [val_main_v4_apply, val_main_v3_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_second (z : (⟨S3x512x128, .bf16⟩ : BufTy).Contents (Elt Ideal)) : val_main_v8 (F := Ideal) z (ix2 r k) = z (ix3 1 r k) := by
  have hr := r.isLt
  have hk := k.isLt
  rw [val_main_v8_apply, val_main_v7_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_third (z : (⟨S3x512x128, .bf16⟩ : BufTy).Contents (Elt Ideal)) : val_main_v12 (F := Ideal) z (ix2 r k) = z (ix3 2 r k) := by
  have hr := r.isLt
  have hk := k.isLt
  rw [val_main_v12_apply, val_main_v11_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_weight (z : (⟨S2x512x128, .f32⟩ : BufTy).Contents (Elt Ideal)) : val_main_v16 (F := Ideal) z (ix2 r k) = z (ix3 0 r k) := by
  have hr := r.isLt
  have hk := k.isLt
  rw [val_main_v16_apply, val_main_v15_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_moment (z : (⟨S2x512x128, .f32⟩ : BufTy).Contents (Elt Ideal)) : val_main_v18 (F := Ideal) z (ix2 r k) = z (ix3 0 r k) := by
  have hr := r.isLt
  have hk := k.isLt
  rw [val_main_v18_apply, val_main_v17_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem read_variance (z : (⟨S2x512x128, .f32⟩ : BufTy).Contents (Elt Ideal)) : val_main_v20 (F := Ideal) z (ix2 r k) = z (ix3 0 r k) := by
  have hr := r.isLt
  have hk := k.isLt
  rw [val_main_v20_apply, val_main_v19_apply]
  refine congrArg z (funext fun a => Fin.ext ?_)
  match a with
  | ⟨0, _⟩ => rfl
  | ⟨1, _⟩ => show (r.val * 128 + k.val) / 128 % 512 = r.val; omega
  | ⟨2, _⟩ => show (r.val * 128 + k.val) % 128 = k.val; omega

theorem ref_g : val_main_v14 (F := Ideal) o x (ix2 r k) = gradS o x r k := by
  rw [val_main_v14_apply, val_main_v13_apply, val_main_v10_apply, val_main_v9_apply, val_main_v6_apply, val_main_v5_apply, val_main_v2_apply, read_own, read_first, read_second, read_third]
  rfl

theorem ref_m : val_main_v25 (F := Ideal) m o x (ix2 r k) = momS m o x r k := by
  rw [val_main_v25_apply, val_main_v22_apply, val_main_v24_apply, val_main_v21_apply, val_main_v23_apply, ref_g, read_moment]
  rfl

theorem ref_v : val_main_v31 (F := Ideal) v o x (ix2 r k) = varS v o x r k := by
  rw [val_main_v31_apply, val_main_v27_apply, val_main_v30_apply, val_main_v28_apply, val_main_v26_apply, val_main_v29_apply, ref_g, read_variance]
  rfl

theorem ref_d : val_main_v44 (F := Ideal) w m v o x (ix2 r k) = stepS w m v o x r k := by
  rw [val_main_v44_apply, val_main_v42_apply, val_main_v41_apply, val_main_v39_apply, val_main_v38_apply, val_main_v36_apply, val_main_v35_apply, val_main_v33_apply, val_main_v43_apply, val_main_v40_apply, val_main_v37_apply, val_main_v34_apply, val_main_v32_apply, ref_m, ref_v, read_weight]
  rfl

theorem top_g (i : S2x512x128.Idx) (h : i = ix3 0 r k) : val_main_v47 (F := Ideal) o x p i = gradS o x r k := by
  subst h
  unfold val_main_v47
  pointwise [val_main_v45_apply]
  exact ref_g o x r k

theorem rest_g (i : S2x512x128.Idx) (h : ¬ (i 0).val = 0) : val_main_v47 (F := Ideal) o x p i = p i := by
  have h0 : (i 0).val < 2 := (i 0).isLt
  unfold val_main_v47
  pointwise [val_main_v46_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_d (i : S2x512x128.Idx) (h : i = ix3 0 r k) : val_main_v50 (F := Ideal) w m v o x p i = stepS w m v o x r k := by
  subst h
  unfold val_main_v50
  pointwise [val_main_v48_apply]
  exact ref_d w m v o x r k

theorem rest_d (i : S2x512x128.Idx) (h : ¬ (i 0).val = 0) : val_main_v50 (F := Ideal) w m v o x p i = p i := by
  have h0 : (i 0).val < 2 := (i 0).isLt
  unfold val_main_v50
  pointwise [val_main_v49_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_m (i : S2x512x128.Idx) (h : i = ix3 0 r k) : val_main_v53 (F := Ideal) m o x p i = momS m o x r k := by
  subst h
  unfold val_main_v53
  pointwise [val_main_v51_apply]
  exact ref_m m o x r k

theorem rest_m (i : S2x512x128.Idx) (h : ¬ (i 0).val = 0) : val_main_v53 (F := Ideal) m o x p i = p i := by
  have h0 : (i 0).val < 2 := (i 0).isLt
  unfold val_main_v53
  pointwise [val_main_v52_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_v (i : S2x512x128.Idx) (h : i = ix3 0 r k) : val_main_v56 (F := Ideal) v o x p i = varS v o x r k := by
  subst h
  unfold val_main_v56
  pointwise [val_main_v54_apply]
  exact ref_v v o x r k

theorem rest_v (i : S2x512x128.Idx) (h : ¬ (i 0).val = 0) : val_main_v56 (F := Ideal) v o x p i = p i := by
  have h0 : (i 0).val < 2 := (i 0).isLt
  unfold val_main_v56
  pointwise [val_main_v55_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

end Reference

/-- The blocks a point reads are rows of the arrays' layers. -/
structure Tile (w m v : (⟨S2x512x128, .f32⟩ : BufTy).Contents (Elt Ideal)) (o : (⟨S4x512x128, .bf16⟩ : BufTy).Contents (Elt Ideal)) (x : (⟨S3x512x128, .bf16⟩ : BufTy).Contents (Elt Ideal)) (R : Fin 512 → Fin 512) (x0 x1 x2 : Vec Ideal S1x512x128 .f32) (x3 x4 x5 x6 : Vec Ideal S1x512x128 .bf16) : Prop where
  h0 : ∀ r k, x0 (ix3 0 r k) = w (ix3 0 (R r) k)
  h1 : ∀ r k, x1 (ix3 0 r k) = m (ix3 0 (R r) k)
  h2 : ∀ r k, x2 (ix3 0 r k) = v (ix3 0 (R r) k)
  h3 : ∀ r k, x3 (ix3 0 r k) = o (ix3 3 (R r) k)
  h4 : ∀ r k, x4 (ix3 0 r k) = x (ix3 0 (R r) k)
  h5 : ∀ r k, x5 (ix3 0 r k) = x (ix3 1 (R r) k)
  h6 : ∀ r k, x6 (ix3 0 r k) = x (ix3 2 (R r) k)

section Tiles

variable {w m v : (⟨S2x512x128, .f32⟩ : BufTy).Contents (Elt Ideal)} {o : (⟨S4x512x128, .bf16⟩ : BufTy).Contents (Elt Ideal)} {x : (⟨S3x512x128, .bf16⟩ : BufTy).Contents (Elt Ideal)} {R : Fin 512 → Fin 512} {x0 x1 x2 : Vec Ideal S1x512x128 .f32} {x3 x4 x5 x6 : Vec Ideal S1x512x128 .bf16}

variable (Ti : Tile w m v o x R x0 x1 x2 x3 x4 x5 x6)

include Ti

theorem t_g (r : Fin 512) (k : Fin 128) : k0_pay5 (F := Ideal) x3 x4 x5 x6 (ix2 r k) = gradS o x (R r) k := by
  unfold k0_pay5
  pointwise
  rw [Ti.h3, Ti.h4, Ti.h5, Ti.h6]
  rfl

theorem t_m (r : Fin 512) (k : Fin 128) : k0_pay7 (F := Ideal) x3 x4 x5 x6 x1 (ix2 r k) = momS m o x (R r) k := by
  unfold k0_pay7
  pointwise
  rw [t_g Ti, Ti.h1]
  rfl

theorem t_v (r : Fin 512) (k : Fin 128) : k0_pay8 (F := Ideal) x3 x4 x5 x6 x2 (ix2 r k) = varS v o x (R r) k := by
  unfold k0_pay8
  pointwise
  rw [t_g Ti, Ti.h2]
  rfl

theorem t_w (r : Fin 512) (k : Fin 128) : k0_pay6 (F := Ideal) x0 (ix2 r k) = w (ix3 0 (R r) k) := by
  unfold k0_pay6
  pointwise
  exact Ti.h0 r k

theorem t_d (r : Fin 512) (k : Fin 128) :
    k0_pay2 (F := Ideal) (k0_pay6 x0) (k0_pay7 x3 x4 x5 x6 x1) (k0_pay8 x3 x4 x5 x6 x2) k0_pay9 (ix3 0 r k) = stepS w m v o x (R r) k := by
  unfold k0_pay2 k0_pay9
  pointwise
  rw [t_m Ti, t_v Ti, t_w Ti]
  rfl

end Tiles

/-- The block each window reads or writes at a point. -/
theorem idx : ∀ t : Fin cfg0.N, win0_0.index t = ![0, t.val, 0]
    ∧ win0_1.index t = ![0, t.val, 0]
    ∧ win0_2.index t = ![0, t.val, 0]
    ∧ win0_3.index t = ![3, t.val, 0]
    ∧ win0_4.index t = ![0, t.val, 0]
    ∧ win0_5.index t = ![1, t.val, 0]
    ∧ win0_6.index t = ![2, t.val, 0]
    ∧ win0_7.index t = ![0, t.val, 0]
    ∧ win0_8.index t = ![0, t.val, 0]
    ∧ win0_9.index t = ![0, t.val, 0]
    ∧ win0_10.index t = ![0, t.val, 0] :=
  (by decide +kernel : ∀ t : Fin grid0.N, _)

variable (m : (ℓ : Loc nD τ sig) → Buf (Elt Ideal) ℓ)

/-- The rows of the arrays that a point's blocks hold. -/
def rows (t : Fin cfg0.N) (r : Fin 512) : Fin 512 := ⟨512 * t.val + r.val, by have := t.isLt; have h : cfg0.N = 1 := rfl; omega⟩

/-- The windows' blocks at a point are such rows. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (rows t)
    (iblk m c 0 t) (iblk m c 1 t) (iblk m c 2 t) (iblk m c 3 t) (iblk m c 4 t) (iblk m c 5 t) (iblk m c 6 t) where
  h0 r k := by blk_ext [iblk, V, idx t, rows]; all_goals (blk_simp [idx t]; try omega)
  h1 r k := by blk_ext [iblk, V, idx t, rows]; all_goals (blk_simp [idx t]; try omega)
  h2 r k := by blk_ext [iblk, V, idx t, rows]; all_goals (blk_simp [idx t]; try omega)
  h3 r k := by blk_ext [iblk, V, idx t, rows]; all_goals (blk_simp [idx t]; try omega)
  h4 r k := by blk_ext [iblk, V, idx t, rows]; all_goals (blk_simp [idx t]; try omega)
  h5 r k := by blk_ext [iblk, V, idx t, rows]; all_goals (blk_simp [idx t]; try omega)
  h6 r k := by blk_ext [iblk, V, idx t, rows]; all_goals (blk_simp [idx t]; try omega)

theorem entry_g (c : Dev nD) : V m c main_v0_0 = (m ((c : Thread nD τ).loc main_arg5)) := by
  unfold V
  after_results
  try rfl

theorem final_g (c : Dev nD) : (dats m 0 c).arrAt 7 cfg0.N
    = Cert.AdamPoRefIdeal.Read.val_main_v47 (F := Ideal) (m ((c : Thread nD τ).loc main_arg3)) (m ((c : Thread nD τ).loc main_arg4)) (m ((c : Thread nD τ).loc main_arg5)) := by
  refine (dats m 0 c).arrAt_eq_of_coversWhere_of_agree 7 _ (fun β => β (0 : Fin _) = 0) (by decide +kernel) (fun t hf y => ?_) (fun j hj => ?_)
  · blk_simp
    idx_vars y
    obtain rfl : y0 = 0 := Fin.ext (by have := y0.isLt; omega)
    rw [after0_7]
    unfold outsAt0 out0_A_7
    frame_out
    unfold k0_pay1
    pointwise
    refine (t_g (tile m c t) y1 y2).trans ?_
    symm
    apply top_g
    blk_ext [idx t, rows]
    all_goals (blk_simp [idx t]; try omega)
  · rw [A_eq]
    refine Eq.trans (congrFun (entry_g m c) _) ?_
    symm
    apply rest_g
    intro h
    apply hj
    blk_simp [Pipeline.Window.cell_apply] at h ⊢
    omega

theorem entry_d (c : Dev nD) : V m c main_v0_1 = (m ((c : Thread nD τ).loc main_arg6)) := by
  unfold V
  after_results
  try rfl

theorem final_d (c : Dev nD) : (dats m 0 c).arrAt 8 cfg0.N
    = Cert.AdamPoRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 8 _ (fun β => β (0 : Fin _) = 0) (by decide +kernel) (fun t hf y => ?_) (fun j hj => ?_)
  · blk_simp
    idx_vars y
    obtain rfl : y0 = 0 := Fin.ext (by have := y0.isLt; omega)
    rw [after0_8]
    unfold outsAt0 out0_A_8
    frame_out

    refine (t_d (tile m c t) y1 y2).trans ?_
    symm
    apply top_d
    blk_ext [idx t, rows]
    all_goals (blk_simp [idx t]; try omega)
  · rw [A_eq]
    refine Eq.trans (congrFun (entry_d m c) _) ?_
    symm
    apply rest_d
    intro h
    apply hj
    blk_simp [Pipeline.Window.cell_apply] at h ⊢
    omega

theorem entry_m (c : Dev nD) : V m c main_v0_2 = (m ((c : Thread nD τ).loc main_arg7)) := by
  unfold V
  after_results
  try rfl

theorem final_m (c : Dev nD) : (dats m 0 c).arrAt 9 cfg0.N
    = Cert.AdamPoRefIdeal.Read.val_main_v53 (F := Ideal) (m ((c : Thread nD τ).loc main_arg1)) (m ((c : Thread nD τ).loc main_arg3)) (m ((c : Thread nD τ).loc main_arg4)) (m ((c : Thread nD τ).loc main_arg7)) := by
  refine (dats m 0 c).arrAt_eq_of_coversWhere_of_agree 9 _ (fun β => β (0 : Fin _) = 0) (by decide +kernel) (fun t hf y => ?_) (fun j hj => ?_)
  · blk_simp
    idx_vars y
    obtain rfl : y0 = 0 := Fin.ext (by have := y0.isLt; omega)
    rw [after0_9]
    unfold outsAt0 out0_A_9
    frame_out
    unfold k0_pay3
    pointwise
    refine (t_m (tile m c t) y1 y2).trans ?_
    symm
    apply top_m
    blk_ext [idx t, rows]
    all_goals (blk_simp [idx t]; try omega)
  · rw [A_eq]
    refine Eq.trans (congrFun (entry_m m c) _) ?_
    symm
    apply rest_m
    intro h
    apply hj
    blk_simp [Pipeline.Window.cell_apply] at h ⊢
    omega

theorem entry_v (c : Dev nD) : V m c main_v0_3 = (m ((c : Thread nD τ).loc main_arg8)) := by
  unfold V
  after_results
  try rfl

theorem final_v (c : Dev nD) : (dats m 0 c).arrAt 10 cfg0.N
    = Cert.AdamPoRefIdeal.Read.val_main_v56 (F := Ideal) (m ((c : Thread nD τ).loc main_arg2)) (m ((c : Thread nD τ).loc main_arg3)) (m ((c : Thread nD τ).loc main_arg4)) (m ((c : Thread nD τ).loc main_arg8)) := by
  refine (dats m 0 c).arrAt_eq_of_coversWhere_of_agree 10 _ (fun β => β (0 : Fin _) = 0) (by decide +kernel) (fun t hf y => ?_) (fun j hj => ?_)
  · blk_simp
    idx_vars y
    obtain rfl : y0 = 0 := Fin.ext (by have := y0.isLt; omega)
    rw [after0_10]
    unfold outsAt0 out0_A_10
    frame_out
    unfold k0_pay4
    pointwise
    refine (t_v (tile m c t) y1 y2).trans ?_
    symm
    apply top_v
    blk_ext [idx t, rows]
    all_goals (blk_simp [idx t]; try omega)
  · rw [A_eq]
    refine Eq.trans (congrFun (entry_v m c) _) ?_
    symm
    apply rest_v
    intro h
    apply hj
    blk_simp [Pipeline.Window.cell_apply] at h ⊢
    omega

end Cert.AdamPoIdeal.RefValue

namespace Cert.Proof

/-- The first layer's optimiser call: the kernel's four results are the reference's. -/
theorem adam_po_algebraic : Cert.algebraic_AdamPoIdeal_AdamPoRefIdeal := by
  pair_intro
  · run_from Cert.AdamPoIdeal.Value.run_blocks m g
  · run_from Cert.AdamPoRefIdeal.Value.run m' g'
    all_goals obtain ⟨a0, a1, a2, a3, a4, a5, a6, a7, a8⟩ := hagree c
    all_goals (first
      | (rw [Cert.AdamPoIdeal.RefValue.final_g m c]; exact Cert.AdamPoRefIdeal.Read.val_main_v47_eq (F := Ideal) ..)
      | (rw [Cert.AdamPoIdeal.RefValue.final_g m c, ← a3, ← a4, ← a5]; exact Cert.AdamPoRefIdeal.Read.val_main_v47_eq (F := Ideal) ..)
      | (rw [Cert.AdamPoIdeal.RefValue.final_m m c]; exact Cert.AdamPoRefIdeal.Read.val_main_v53_eq (F := Ideal) ..)
      | (rw [Cert.AdamPoIdeal.RefValue.final_m m c, ← a1, ← a3, ← a4, ← a7]; exact Cert.AdamPoRefIdeal.Read.val_main_v53_eq (F := Ideal) ..)
      | (rw [Cert.AdamPoIdeal.RefValue.final_v m c]; exact Cert.AdamPoRefIdeal.Read.val_main_v56_eq (F := Ideal) ..)
      | (rw [Cert.AdamPoIdeal.RefValue.final_v m c, ← a2, ← a3, ← a4, ← a8]; exact Cert.AdamPoRefIdeal.Read.val_main_v56_eq (F := Ideal) ..)
      | (rw [Cert.AdamPoIdeal.RefValue.final_d m c]; exact Cert.AdamPoRefIdeal.Read.val_main_v50_eq (F := Ideal) ..)
      | (rw [Cert.AdamPoIdeal.RefValue.final_d m c, ← a0, ← a1, ← a2, ← a3, ← a4, ← a6]; exact Cert.AdamPoRefIdeal.Read.val_main_v50_eq (F := Ideal) ..))

end Cert.Proof

end
-- ==== Proof.AdamHo.lean ====
/- The optimiser call of the first layer for weights of 128 rows and 1024 columns: what the kernel leaves in its four results is, over the extended reals, what the reference computes, row by row of the first layer, with the other layer left as it was given. -/
module

public import proofs.«01_k».proof.Defs
public import proofs.«01_k».proof.Proof.Gen.AdamHoIdeal.Value
public import proofs.«01_k».proof.Proof.Gen.AdamHoRefIdeal.Run
public import proofs.«01_k».proof.Proof.Gen.AdamHoRefIdeal.Read
public import Idealize.ShloMosaic.Lib.Pipeline.ValueKit.Partial
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamHoIdeal.RefValue

open Cert.AdamHoIdeal Cert.AdamHoIdeal.Gen

section Spec

variable (w m v : (⟨S2x128x1024, .f32⟩ : BufTy).Contents (Elt Ideal)) (o : (⟨S4x128x1024, .bf16⟩ : BufTy).Contents (Elt Ideal)) (x : (⟨S3x128x1024, .bf16⟩ : BufTy).Contents (Elt Ideal)) (r : Fin 128) (k : Fin 1024)

/-- The weight's gradient, summed over the devices' partial sums. -/
def gradS : EReal := o (ix3 3 r k) + x (ix3 0 r k) + x (ix3 1 r k) + x (ix3 2 r k)

/-- The first moment after the step. -/
def momS : EReal := Ideal.ofBits .f32 0x3F666666#32 * m (ix3 0 r k) + Ideal.ofBits .f32 0x3DCCCCCD#32 * gradS o x r k

/-- The second moment after the step. -/
def varS : EReal := Ideal.ofBits .f32 0x3F7FBE77#32 * v (ix3 0 r k) + Ideal.ofBits .f32 0x3A83126F#32 * (gradS o x r k * gradS o x r k)

/-- The step itself. -/
def stepS : EReal := Ideal.ofBits .f32 0xBA83126F#32 * (Ideal.div (Ideal.div (momS m o x r k) (Ideal.ofBits .f32 0x3F26BD02#32))
    (Ideal.sqrt (Ideal.div (varS v o x r k) (Ideal.ofBits .f32 0x3C231ACC#32)) + Ideal.ofBits .f32 0x322BCC77#32) + Ideal.ofBits .f32 0x3C23D70A#32 * w (ix3 0 r k))

end Spec

section Reference

open Cert.AdamHoRefIdeal.Read

variable (w m v : (⟨S2x128x1024, .f32⟩ : BufTy).Contents (Elt Ideal)) (o : (⟨S4x128x1024, .bf16⟩ : BufTy).Contents (Elt Ideal)) (x : (⟨S3x128x1024, .bf16⟩ : BufTy).Contents (Elt Ideal)) (p : (⟨S2x128x1024, .f32⟩ : BufTy).Contents (Elt Ideal)) (r : Fin 128) (k : Fin 1024)

theorem read_own (z : (⟨S4x128x1024, .bf16⟩ : BufTy).Contents (Elt Ideal)) : val_main_v1 (F := Ideal) z (ix2 r k) = z (ix3 3 r k) := by
  have hr := r.isLt
  have hk := k.isLt
  rw [val_main_v1_apply, val_main_v0_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_first (z : (⟨S3x128x1024, .bf16⟩ : BufTy).Contents (Elt Ideal)) : val_main_v4 (F := Ideal) z (ix2 r k) = z (ix3 0 r k) := by
  have hr := r.isLt
  have hk := k.isLt
  rw [val_main_v4_apply, val_main_v3_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_second (z : (⟨S3x128x1024, .bf16⟩ : BufTy).Contents (Elt Ideal)) : val_main_v8 (F := Ideal) z (ix2 r k) = z (ix3 1 r k) := by
  have hr := r.isLt
  have hk := k.isLt
  rw [val_main_v8_apply, val_main_v7_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_third (z : (⟨S3x128x1024, .bf16⟩ : BufTy).Contents (Elt Ideal)) : val_main_v12 (F := Ideal) z (ix2 r k) = z (ix3 2 r k) := by
  have hr := r.isLt
  have hk := k.isLt
  rw [val_main_v12_apply, val_main_v11_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_weight (z : (⟨S2x128x1024, .f32⟩ : BufTy).Contents (Elt Ideal)) : val_main_v16 (F := Ideal) z (ix2 r k) = z (ix3 0 r k) := by
  have hr := r.isLt
  have hk := k.isLt
  rw [val_main_v16_apply, val_main_v15_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_moment (z : (⟨S2x128x1024, .f32⟩ : BufTy).Contents (Elt Ideal)) : val_main_v18 (F := Ideal) z (ix2 r k) = z (ix3 0 r k) := by
  have hr := r.isLt
  have hk := k.isLt
  rw [val_main_v18_apply, val_main_v17_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem read_variance (z : (⟨S2x128x1024, .f32⟩ : BufTy).Contents (Elt Ideal)) : val_main_v20 (F := Ideal) z (ix2 r k) = z (ix3 0 r k) := by
  have hr := r.isLt
  have hk := k.isLt
  rw [val_main_v20_apply, val_main_v19_apply]
  refine congrArg z (funext fun a => Fin.ext ?_)
  match a with
  | ⟨0, _⟩ => rfl
  | ⟨1, _⟩ => show (r.val * 1024 + k.val) / 1024 % 128 = r.val; omega
  | ⟨2, _⟩ => show (r.val * 1024 + k.val) % 1024 = k.val; omega

theorem ref_g : val_main_v14 (F := Ideal) o x (ix2 r k) = gradS o x r k := by
  rw [val_main_v14_apply, val_main_v13_apply, val_main_v10_apply, val_main_v9_apply, val_main_v6_apply, val_main_v5_apply, val_main_v2_apply, read_own, read_first, read_second, read_third]
  rfl

theorem ref_m : val_main_v25 (F := Ideal) m o x (ix2 r k) = momS m o x r k := by
  rw [val_main_v25_apply, val_main_v22_apply, val_main_v24_apply, val_main_v21_apply, val_main_v23_apply, ref_g, read_moment]
  rfl

theorem ref_v : val_main_v31 (F := Ideal) v o x (ix2 r k) = varS v o x r k := by
  rw [val_main_v31_apply, val_main_v27_apply, val_main_v30_apply, val_main_v28_apply, val_main_v26_apply, val_main_v29_apply, ref_g, read_variance]
  rfl

theorem ref_d : val_main_v44 (F := Ideal) w m v o x (ix2 r k) = stepS w m v o x r k := by
  rw [val_main_v44_apply, val_main_v42_apply, val_main_v41_apply, val_main_v39_apply, val_main_v38_apply, val_main_v36_apply, val_main_v35_apply, val_main_v33_apply, val_main_v43_apply, val_main_v40_apply, val_main_v37_apply, val_main_v34_apply, val_main_v32_apply, ref_m, ref_v, read_weight]
  rfl

theorem top_g (i : S2x128x1024.Idx) (h : i = ix3 0 r k) : val_main_v47 (F := Ideal) o x p i = gradS o x r k := by
  subst h
  unfold val_main_v47
  pointwise [val_main_v45_apply]
  exact ref_g o x r k

theorem rest_g (i : S2x128x1024.Idx) (h : ¬ (i 0).val = 0) : val_main_v47 (F := Ideal) o x p i = p i := by
  have h0 : (i 0).val < 2 := (i 0).isLt
  unfold val_main_v47
  pointwise [val_main_v46_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_d (i : S2x128x1024.Idx) (h : i = ix3 0 r k) : val_main_v50 (F := Ideal) w m v o x p i = stepS w m v o x r k := by
  subst h
  unfold val_main_v50
  pointwise [val_main_v48_apply]
  exact ref_d w m v o x r k

theorem rest_d (i : S2x128x1024.Idx) (h : ¬ (i 0).val = 0) : val_main_v50 (F := Ideal) w m v o x p i = p i := by
  have h0 : (i 0).val < 2 := (i 0).isLt
  unfold val_main_v50
  pointwise [val_main_v49_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_m (i : S2x128x1024.Idx) (h : i = ix3 0 r k) : val_main_v53 (F := Ideal) m o x p i = momS m o x r k := by
  subst h
  unfold val_main_v53
  pointwise [val_main_v51_apply]
  exact ref_m m o x r k

theorem rest_m (i : S2x128x1024.Idx) (h : ¬ (i 0).val = 0) : val_main_v53 (F := Ideal) m o x p i = p i := by
  have h0 : (i 0).val < 2 := (i 0).isLt
  unfold val_main_v53
  pointwise [val_main_v52_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_v (i : S2x128x1024.Idx) (h : i = ix3 0 r k) : val_main_v56 (F := Ideal) v o x p i = varS v o x r k := by
  subst h
  unfold val_main_v56
  pointwise [val_main_v54_apply]
  exact ref_v v o x r k

theorem rest_v (i : S2x128x1024.Idx) (h : ¬ (i 0).val = 0) : val_main_v56 (F := Ideal) v o x p i = p i := by
  have h0 : (i 0).val < 2 := (i 0).isLt
  unfold val_main_v56
  pointwise [val_main_v55_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

end Reference

/-- The blocks a point reads are rows of the arrays' layers. -/
structure Tile (w m v : (⟨S2x128x1024, .f32⟩ : BufTy).Contents (Elt Ideal)) (o : (⟨S4x128x1024, .bf16⟩ : BufTy).Contents (Elt Ideal)) (x : (⟨S3x128x1024, .bf16⟩ : BufTy).Contents (Elt Ideal)) (R : Fin 128 → Fin 128) (x0 x1 x2 : Vec Ideal S1x128x1024 .f32) (x3 x4 x5 x6 : Vec Ideal S1x128x1024 .bf16) : Prop where
  h0 : ∀ r k, x0 (ix3 0 r k) = w (ix3 0 (R r) k)
  h1 : ∀ r k, x1 (ix3 0 r k) = m (ix3 0 (R r) k)
  h2 : ∀ r k, x2 (ix3 0 r k) = v (ix3 0 (R r) k)
  h3 : ∀ r k, x3 (ix3 0 r k) = o (ix3 3 (R r) k)
  h4 : ∀ r k, x4 (ix3 0 r k) = x (ix3 0 (R r) k)
  h5 : ∀ r k, x5 (ix3 0 r k) = x (ix3 1 (R r) k)
  h6 : ∀ r k, x6 (ix3 0 r k) = x (ix3 2 (R r) k)

section Tiles

variable {w m v : (⟨S2x128x1024, .f32⟩ : BufTy).Contents (Elt Ideal)} {o : (⟨S4x128x1024, .bf16⟩ : BufTy).Contents (Elt Ideal)} {x : (⟨S3x128x1024, .bf16⟩ : BufTy).Contents (Elt Ideal)} {R : Fin 128 → Fin 128} {x0 x1 x2 : Vec Ideal S1x128x1024 .f32} {x3 x4 x5 x6 : Vec Ideal S1x128x1024 .bf16}

variable (Ti : Tile w m v o x R x0 x1 x2 x3 x4 x5 x6)

include Ti

theorem t_g (r : Fin 128) (k : Fin 1024) : k0_pay5 (F := Ideal) x3 x4 x5 x6 (ix2 r k) = gradS o x (R r) k := by
  unfold k0_pay5
  pointwise
  rw [Ti.h3, Ti.h4, Ti.h5, Ti.h6]
  rfl

theorem t_m (r : Fin 128) (k : Fin 1024) : k0_pay7 (F := Ideal) x3 x4 x5 x6 x1 (ix2 r k) = momS m o x (R r) k := by
  unfold k0_pay7
  pointwise
  rw [t_g Ti, Ti.h1]
  rfl

theorem t_v (r : Fin 128) (k : Fin 1024) : k0_pay8 (F := Ideal) x3 x4 x5 x6 x2 (ix2 r k) = varS v o x (R r) k := by
  unfold k0_pay8
  pointwise
  rw [t_g Ti, Ti.h2]
  rfl

theorem t_w (r : Fin 128) (k : Fin 1024) : k0_pay6 (F := Ideal) x0 (ix2 r k) = w (ix3 0 (R r) k) := by
  unfold k0_pay6
  pointwise
  exact Ti.h0 r k

theorem t_d (r : Fin 128) (k : Fin 1024) :
    k0_pay2 (F := Ideal) (k0_pay6 x0) (k0_pay7 x3 x4 x5 x6 x1) (k0_pay8 x3 x4 x5 x6 x2) k0_pay9 (ix3 0 r k) = stepS w m v o x (R r) k := by
  unfold k0_pay2 k0_pay9
  pointwise
  rw [t_m Ti, t_v Ti, t_w Ti]
  rfl

end Tiles

/-- The block each window reads or writes at a point. -/
theorem idx : ∀ t : Fin cfg0.N, win0_0.index t = ![0, t.val, 0]
    ∧ win0_1.index t = ![0, t.val, 0]
    ∧ win0_2.index t = ![0, t.val, 0]
    ∧ win0_3.index t = ![3, t.val, 0]
    ∧ win0_4.index t = ![0, t.val, 0]
    ∧ win0_5.index t = ![1, t.val, 0]
    ∧ win0_6.index t = ![2, t.val, 0]
    ∧ win0_7.index t = ![0, t.val, 0]
    ∧ win0_8.index t = ![0, t.val, 0]
    ∧ win0_9.index t = ![0, t.val, 0]
    ∧ win0_10.index t = ![0, t.val, 0] :=
  (by decide +kernel : ∀ t : Fin grid0.N, _)

variable (m : (ℓ : Loc nD τ sig) → Buf (Elt Ideal) ℓ)

/-- The rows of the arrays that a point's blocks hold. -/
def rows (t : Fin cfg0.N) (r : Fin 128) : Fin 128 := ⟨128 * t.val + r.val, by have := t.isLt; have h : cfg0.N = 1 := rfl; omega⟩

/-- The windows' blocks at a point are such rows. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (rows t)
    (iblk m c 0 t) (iblk m c 1 t) (iblk m c 2 t) (iblk m c 3 t) (iblk m c 4 t) (iblk m c 5 t) (iblk m c 6 t) where
  h0 r k := by blk_ext [iblk, V, idx t, rows]; all_goals (blk_simp [idx t]; try omega)
  h1 r k := by blk_ext [iblk, V, idx t, rows]; all_goals (blk_simp [idx t]; try omega)
  h2 r k := by blk_ext [iblk, V, idx t, rows]; all_goals (blk_simp [idx t]; try omega)
  h3 r k := by blk_ext [iblk, V, idx t, rows]; all_goals (blk_simp [idx t]; try omega)
  h4 r k := by blk_ext [iblk, V, idx t, rows]; all_goals (blk_simp [idx t]; try omega)
  h5 r k := by blk_ext [iblk, V, idx t, rows]; all_goals (blk_simp [idx t]; try omega)
  h6 r k := by blk_ext [iblk, V, idx t, rows]; all_goals (blk_simp [idx t]; try omega)

theorem entry_g (c : Dev nD) : V m c main_v0_0 = (m ((c : Thread nD τ).loc main_arg5)) := by
  unfold V
  after_results
  try rfl

theorem final_g (c : Dev nD) : (dats m 0 c).arrAt 7 cfg0.N
    = Cert.AdamHoRefIdeal.Read.val_main_v47 (F := Ideal) (m ((c : Thread nD τ).loc main_arg3)) (m ((c : Thread nD τ).loc main_arg4)) (m ((c : Thread nD τ).loc main_arg5)) := by
  refine (dats m 0 c).arrAt_eq_of_coversWhere_of_agree 7 _ (fun β => β (0 : Fin _) = 0) (by decide +kernel) (fun t hf y => ?_) (fun j hj => ?_)
  · blk_simp
    idx_vars y
    obtain rfl : y0 = 0 := Fin.ext (by have := y0.isLt; omega)
    rw [after0_7]
    unfold outsAt0 out0_A_7
    frame_out
    unfold k0_pay1
    pointwise
    refine (t_g (tile m c t) y1 y2).trans ?_
    symm
    apply top_g
    blk_ext [idx t, rows]
    all_goals (blk_simp [idx t]; try omega)
  · rw [A_eq]
    refine Eq.trans (congrFun (entry_g m c) _) ?_
    symm
    apply rest_g
    intro h
    apply hj
    blk_simp [Pipeline.Window.cell_apply] at h ⊢
    omega

theorem entry_d (c : Dev nD) : V m c main_v0_1 = (m ((c : Thread nD τ).loc main_arg6)) := by
  unfold V
  after_results
  try rfl

theorem final_d (c : Dev nD) : (dats m 0 c).arrAt 8 cfg0.N
    = Cert.AdamHoRefIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_coversWhere_of_agree 8 _ (fun β => β (0 : Fin _) = 0) (by decide +kernel) (fun t hf y => ?_) (fun j hj => ?_)
  · blk_simp
    idx_vars y
    obtain rfl : y0 = 0 := Fin.ext (by have := y0.isLt; omega)
    rw [after0_8]
    unfold outsAt0 out0_A_8
    frame_out

    refine (t_d (tile m c t) y1 y2).trans ?_
    symm
    apply top_d
    blk_ext [idx t, rows]
    all_goals (blk_simp [idx t]; try omega)
  · rw [A_eq]
    refine Eq.trans (congrFun (entry_d m c) _) ?_
    symm
    apply rest_d
    intro h
    apply hj
    blk_simp [Pipeline.Window.cell_apply] at h ⊢
    omega

theorem entry_m (c : Dev nD) : V m c main_v0_2 = (m ((c : Thread nD τ).loc main_arg7)) := by
  unfold V
  after_results
  try rfl

theorem final_m (c : Dev nD) : (dats m 0 c).arrAt 9 cfg0.N
    = Cert.AdamHoRefIdeal.Read.val_main_v53 (F := Ideal) (m ((c : Thread nD τ).loc main_arg1)) (m ((c : Thread nD τ).loc main_arg3)) (m ((c : Thread nD τ).loc main_arg4)) (m ((c : Thread nD τ).loc main_arg7)) := by
  refine (dats m 0 c).arrAt_eq_of_coversWhere_of_agree 9 _ (fun β => β (0 : Fin _) = 0) (by decide +kernel) (fun t hf y => ?_) (fun j hj => ?_)
  · blk_simp
    idx_vars y
    obtain rfl : y0 = 0 := Fin.ext (by have := y0.isLt; omega)
    rw [after0_9]
    unfold outsAt0 out0_A_9
    frame_out
    unfold k0_pay3
    pointwise
    refine (t_m (tile m c t) y1 y2).trans ?_
    symm
    apply top_m
    blk_ext [idx t, rows]
    all_goals (blk_simp [idx t]; try omega)
  · rw [A_eq]
    refine Eq.trans (congrFun (entry_m m c) _) ?_
    symm
    apply rest_m
    intro h
    apply hj
    blk_simp [Pipeline.Window.cell_apply] at h ⊢
    omega

theorem entry_v (c : Dev nD) : V m c main_v0_3 = (m ((c : Thread nD τ).loc main_arg8)) := by
  unfold V
  after_results
  try rfl

theorem final_v (c : Dev nD) : (dats m 0 c).arrAt 10 cfg0.N
    = Cert.AdamHoRefIdeal.Read.val_main_v56 (F := Ideal) (m ((c : Thread nD τ).loc main_arg2)) (m ((c : Thread nD τ).loc main_arg3)) (m ((c : Thread nD τ).loc main_arg4)) (m ((c : Thread nD τ).loc main_arg8)) := by
  refine (dats m 0 c).arrAt_eq_of_coversWhere_of_agree 10 _ (fun β => β (0 : Fin _) = 0) (by decide +kernel) (fun t hf y => ?_) (fun j hj => ?_)
  · blk_simp
    idx_vars y
    obtain rfl : y0 = 0 := Fin.ext (by have := y0.isLt; omega)
    rw [after0_10]
    unfold outsAt0 out0_A_10
    frame_out
    unfold k0_pay4
    pointwise
    refine (t_v (tile m c t) y1 y2).trans ?_
    symm
    apply top_v
    blk_ext [idx t, rows]
    all_goals (blk_simp [idx t]; try omega)
  · rw [A_eq]
    refine Eq.trans (congrFun (entry_v m c) _) ?_
    symm
    apply rest_v
    intro h
    apply hj
    blk_simp [Pipeline.Window.cell_apply] at h ⊢
    omega

end Cert.AdamHoIdeal.RefValue

namespace Cert.Proof

/-- The first layer's optimiser call: the kernel's four results are the reference's. -/
theorem adam_ho_algebraic : Cert.algebraic_AdamHoIdeal_AdamHoRefIdeal := by
  pair_intro
  · run_from Cert.AdamHoIdeal.Value.run_blocks m g
  · run_from Cert.AdamHoRefIdeal.Value.run m' g'
    all_goals obtain ⟨a0, a1, a2, a3, a4, a5, a6, a7, a8⟩ := hagree c
    all_goals (first
      | (rw [Cert.AdamHoIdeal.RefValue.final_g m c]; exact Cert.AdamHoRefIdeal.Read.val_main_v47_eq (F := Ideal) ..)
      | (rw [Cert.AdamHoIdeal.RefValue.final_g m c, ← a3, ← a4, ← a5]; exact Cert.AdamHoRefIdeal.Read.val_main_v47_eq (F := Ideal) ..)
      | (rw [Cert.AdamHoIdeal.RefValue.final_m m c]; exact Cert.AdamHoRefIdeal.Read.val_main_v53_eq (F := Ideal) ..)
      | (rw [Cert.AdamHoIdeal.RefValue.final_m m c, ← a1, ← a3, ← a4, ← a7]; exact Cert.AdamHoRefIdeal.Read.val_main_v53_eq (F := Ideal) ..)
      | (rw [Cert.AdamHoIdeal.RefValue.final_v m c]; exact Cert.AdamHoRefIdeal.Read.val_main_v56_eq (F := Ideal) ..)
      | (rw [Cert.AdamHoIdeal.RefValue.final_v m c, ← a2, ← a3, ← a4, ← a8]; exact Cert.AdamHoRefIdeal.Read.val_main_v56_eq (F := Ideal) ..)
      | (rw [Cert.AdamHoIdeal.RefValue.final_d m c]; exact Cert.AdamHoRefIdeal.Read.val_main_v50_eq (F := Ideal) ..)
      | (rw [Cert.AdamHoIdeal.RefValue.final_d m c, ← a0, ← a1, ← a2, ← a3, ← a4, ← a6]; exact Cert.AdamHoRefIdeal.Read.val_main_v50_eq (F := Ideal) ..))

end Cert.Proof

end
-- ==== Proof.AdamAda.lean ====
/- The optimiser call of the first layer for weights of 1024 rows and 384 columns: what the kernel leaves in its four results is, over the extended reals, what the reference computes, row by row of the first layer, with the other layer left as it was given. -/
module

public import proofs.«01_k».proof.Defs
public import proofs.«01_k».proof.Proof.Gen.AdamAdaIdeal.Value
public import proofs.«01_k».proof.Proof.Gen.AdamAdaRefIdeal.Run
public import proofs.«01_k».proof.Proof.Gen.AdamAdaRefIdeal.Read
public import Idealize.ShloMosaic.Lib.Pipeline.ValueKit.Partial
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamAdaIdeal.RefValue

open Cert.AdamAdaIdeal Cert.AdamAdaIdeal.Gen

section Spec

variable (w m v : (⟨S2x1024x384, .f32⟩ : BufTy).Contents (Elt Ideal)) (o : (⟨S1x1024x384, .f32⟩ : BufTy).Contents (Elt Ideal)) (r : Fin 1024) (k : Fin 384)

/-- The weight's gradient. -/
def gradS : EReal := o (ix3 0 r k)

/-- The first moment after the step. -/
def momS : EReal := Ideal.ofBits .f32 0x3F666666#32 * m (ix3 0 r k) + Ideal.ofBits .f32 0x3DCCCCCD#32 * gradS o r k

/-- The second moment after the step. -/
def varS : EReal := Ideal.ofBits .f32 0x3F7FBE77#32 * v (ix3 0 r k) + Ideal.ofBits .f32 0x3A83126F#32 * (gradS o r k * gradS o r k)

/-- The step itself. -/
def stepS : EReal := Ideal.ofBits .f32 0xBA83126F#32 * (Ideal.div (Ideal.div (momS m o r k) (Ideal.ofBits .f32 0x3F26BD02#32))
    (Ideal.sqrt (Ideal.div (varS v o r k) (Ideal.ofBits .f32 0x3C231ACC#32)) + Ideal.ofBits .f32 0x322BCC77#32) + Ideal.ofBits .f32 0x3C23D70A#32 * w (ix3 0 r k))

end Spec

section Reference

open Cert.AdamAdaRefIdeal.Read

variable (w m v : (⟨S2x1024x384, .f32⟩ : BufTy).Contents (Elt Ideal)) (o : (⟨S1x1024x384, .f32⟩ : BufTy).Contents (Elt Ideal)) (p : (⟨S2x1024x384, .f32⟩ : BufTy).Contents (Elt Ideal)) (r : Fin 1024) (k : Fin 384)

theorem read_weight (z : (⟨S2x1024x384, .f32⟩ : BufTy).Contents (Elt Ideal)) : val_main_v2 (F := Ideal) z (ix2 r k) = z (ix3 0 r k) := by
  have hr := r.isLt
  have hk := k.isLt
  rw [val_main_v2_apply, val_main_v1_apply]
  refine congrArg z (funext fun a => Fin.ext ?_)
  match a with
  | ⟨0, _⟩ => rfl
  | ⟨1, _⟩ => show (r.val * 384 + k.val) / 384 % 1024 = r.val; omega
  | ⟨2, _⟩ => show (r.val * 384 + k.val) % 384 = k.val; omega

theorem read_moment (z : (⟨S2x1024x384, .f32⟩ : BufTy).Contents (Elt Ideal)) : val_main_v5 (F := Ideal) z (ix2 r k) = z (ix3 0 r k) := by
  have hr := r.isLt
  have hk := k.isLt
  rw [val_main_v5_apply, val_main_v4_apply]
  refine congrArg z (funext fun a => Fin.ext ?_)
  match a with
  | ⟨0, _⟩ => rfl
  | ⟨1, _⟩ => show (r.val * 384 + k.val) / 384 % 1024 = r.val; omega
  | ⟨2, _⟩ => show (r.val * 384 + k.val) % 384 = k.val; omega

theorem read_variance (z : (⟨S2x1024x384, .f32⟩ : BufTy).Contents (Elt Ideal)) : val_main_v7 (F := Ideal) z (ix2 r k) = z (ix3 0 r k) := by
  have hr := r.isLt
  have hk := k.isLt
  rw [val_main_v7_apply, val_main_v6_apply]
  refine congrArg z (funext fun a => Fin.ext ?_)
  match a with
  | ⟨0, _⟩ => rfl
  | ⟨1, _⟩ => show (r.val * 384 + k.val) / 384 % 1024 = r.val; omega
  | ⟨2, _⟩ => show (r.val * 384 + k.val) % 384 = k.val; omega

theorem read_grad (z : (⟨S1x1024x384, .f32⟩ : BufTy).Contents (Elt Ideal)) : val_main_v0 (F := Ideal) z (ix2 r k) = z (ix3 0 r k) := by
  have hr := r.isLt
  have hk := k.isLt
  rw [val_main_v0_apply]
  refine congrArg z (funext fun a => Fin.ext ?_)
  match a with
  | ⟨0, _⟩ => rfl
  | ⟨1, _⟩ => show (r.val * 384 + k.val) / 384 % 1024 = r.val; omega
  | ⟨2, _⟩ => show (r.val * 384 + k.val) % 384 = k.val; omega

theorem read_grad_again (z : (⟨S1x1024x384, .f32⟩ : BufTy).Contents (Elt Ideal)) : val_main_v3 (F := Ideal) z (ix2 r k) = z (ix3 0 r k) := by
  have hr := r.isLt
  have hk := k.isLt
  rw [val_main_v3_apply]
  refine congrArg z (funext fun a => Fin.ext ?_)
  match a with
  | ⟨0, _⟩ => rfl
  | ⟨1, _⟩ => show (r.val * 384 + k.val) / 384 % 1024 = r.val; omega
  | ⟨2, _⟩ => show (r.val * 384 + k.val) % 384 = k.val; omega

theorem ref_g : val_main_v0 (F := Ideal) o (ix2 r k) = gradS o r k := by
  rw [read_grad]
  rfl

theorem ref_m : val_main_v12 (F := Ideal) m o (ix2 r k) = momS m o r k := by
  rw [val_main_v12_apply, val_main_v9_apply, val_main_v11_apply, val_main_v8_apply, val_main_v10_apply, read_grad_again, read_moment]
  rfl

theorem ref_v : val_main_v18 (F := Ideal) v o (ix2 r k) = varS v o r k := by
  rw [val_main_v18_apply, val_main_v14_apply, val_main_v17_apply, val_main_v15_apply, val_main_v13_apply, val_main_v16_apply, read_grad_again, read_variance]
  rfl

theorem ref_d : val_main_v31 (F := Ideal) w m v o (ix2 r k) = stepS w m v o r k := by
  rw [val_main_v31_apply, val_main_v29_apply, val_main_v28_apply, val_main_v26_apply, val_main_v25_apply, val_main_v23_apply, val_main_v22_apply, val_main_v20_apply, val_main_v30_apply, val_main_v27_apply, val_main_v24_apply, val_main_v21_apply, val_main_v19_apply, ref_m, ref_v, read_weight]
  rfl

theorem top_g (i : S2x1024x384.Idx) (h : i = ix3 0 r k) : val_main_v34 (F := Ideal) o p i = gradS o r k := by
  subst h
  unfold val_main_v34
  pointwise [val_main_v32_apply]
  exact ref_g o r k

theorem rest_g (i : S2x1024x384.Idx) (h : ¬ (i 0).val = 0) : val_main_v34 (F := Ideal) o p i = p i := by
  have h0 : (i 0).val < 2 := (i 0).isLt
  unfold val_main_v34
  pointwise [val_main_v33_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_d (i : S2x1024x384.Idx) (h : i = ix3 0 r k) : val_main_v37 (F := Ideal) w m v o p i = stepS w m v o r k := by
  subst h
  unfold val_main_v37
  pointwise [val_main_v35_apply]
  exact ref_d w m v o r k

theorem rest_d (i : S2x1024x384.Idx) (h : ¬ (i 0).val = 0) : val_main_v37 (F := Ideal) w m v o p i = p i := by
  have h0 : (i 0).val < 2 := (i 0).isLt
  unfold val_main_v37
  pointwise [val_main_v36_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_m (i : S2x1024x384.Idx) (h : i = ix3 0 r k) : val_main_v40 (F := Ideal) m o p i = momS m o r k := by
  subst h
  unfold val_main_v40
  pointwise [val_main_v38_apply]
  exact ref_m m o r k

theorem rest_m (i : S2x1024x384.Idx) (h : ¬ (i 0).val = 0) : val_main_v40 (F := Ideal) m o p i = p i := by
  have h0 : (i 0).val < 2 := (i 0).isLt
  unfold val_main_v40
  pointwise [val_main_v39_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

theorem top_v (i : S2x1024x384.Idx) (h : i = ix3 0 r k) : val_main_v43 (F := Ideal) v o p i = varS v o r k := by
  subst h
  unfold val_main_v43
  pointwise [val_main_v41_apply]
  exact ref_v v o r k

theorem rest_v (i : S2x1024x384.Idx) (h : ¬ (i 0).val = 0) : val_main_v43 (F := Ideal) v o p i = p i := by
  have h0 : (i 0).val < 2 := (i 0).isLt
  unfold val_main_v43
  pointwise [val_main_v42_apply]
  rw [dif_neg (by omega)]
  refine congrArg p (funext fun a => Fin.ext ?_)
  match a with
  | ⟨0, _⟩ => show 1 + ((i 0).val - 1) = (i 0).val; omega
  | ⟨1, _⟩ => rfl
  | ⟨2, _⟩ => rfl

end Reference

/-- The blocks a point reads are rows of the arrays' layers. -/
structure Tile (w m v : (⟨S2x1024x384, .f32⟩ : BufTy).Contents (Elt Ideal)) (o : (⟨S1x1024x384, .f32⟩ : BufTy).Contents (Elt Ideal)) (R : Fin 512 → Fin 1024) (x0 x1 x2 x3 : Vec Ideal S1x512x384 .f32) : Prop where
  h0 : ∀ r k, x0 (ix3 0 r k) = w (ix3 0 (R r) k)
  h1 : ∀ r k, x1 (ix3 0 r k) = m (ix3 0 (R r) k)
  h2 : ∀ r k, x2 (ix3 0 r k) = v (ix3 0 (R r) k)
  h3 : ∀ r k, x3 (ix3 0 r k) = o (ix3 0 (R r) k)

section Tiles

variable {w m v : (⟨S2x1024x384, .f32⟩ : BufTy).Contents (Elt Ideal)} {o : (⟨S1x1024x384, .f32⟩ : BufTy).Contents (Elt Ideal)} {R : Fin 512 → Fin 1024} {x0 x1 x2 x3 : Vec Ideal S1x512x384 .f32}

variable (Ti : Tile w m v o R x0 x1 x2 x3)

include Ti

theorem t_g (r : Fin 512) (k : Fin 384) : k0_pay4 (F := Ideal) x3 (ix2 r k) = gradS o (R r) k := by
  unfold k0_pay4
  pointwise
  rw [Ti.h3]
  rfl

theorem t_m (r : Fin 512) (k : Fin 384) : k0_pay5 (F := Ideal) x3 x1 (ix2 r k) = momS m o (R r) k := by
  unfold k0_pay5
  pointwise
  rw [t_g Ti, Ti.h1]
  rfl

theorem t_v (r : Fin 512) (k : Fin 384) : k0_pay6 (F := Ideal) x3 x2 (ix2 r k) = varS v o (R r) k := by
  unfold k0_pay6
  pointwise
  rw [t_g Ti, Ti.h2]
  rfl

theorem t_d (r : Fin 512) (k : Fin 384) :
    k0_pay1 (F := Ideal) (k0_pay7 x3 x0 x1 x2) (ix3 0 r k) = stepS w m v o (R r) k := by
  unfold k0_pay1 k0_pay7
  pointwise
  rw [t_m Ti, t_v Ti, Ti.h0]
  rfl

end Tiles

/-- The block each window reads or writes at a point. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

variable (m : (ℓ : Loc nD τ sig) → Buf (Elt Ideal) ℓ)

/-- The rows of the arrays that a point's blocks hold. -/
def rows (t : Fin cfg0.N) (r : Fin 512) : Fin 1024 := ⟨512 * t.val + r.val, by have := t.isLt; have h : cfg0.N = 2 := rfl; omega⟩

/-- The windows' blocks at a point are such rows. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (rows t)
    (iblk m c 0 t) (iblk m c 1 t) (iblk m c 2 t) (iblk m c 3 t) where
  h0 r k := by blk_ext [iblk, V, idx t, rows]; all_goals (blk_simp [idx t]; try omega)
  h1 r k := by blk_ext [iblk, V, idx t, rows]; all_goals (blk_simp [idx t]; try omega)
  h2 r k := by blk_ext [iblk, V, idx t, rows]; all_goals (blk_simp [idx t]; try omega)
  h3 r k := by blk_ext [iblk, V, idx t, rows]; all_goals (blk_simp [idx t]; try omega)

theorem entry_g (c : Dev nD) : V m c main_v0_0 = (m ((c : Thread nD τ).loc main_arg4)) := by
  unfold V
  after_results
  try rfl

theorem final_g (c : Dev nD) : (dats m 0 c).arrAt 4 cfg0.N
    = Cert.AdamAdaRefIdeal.Read.val_main_v34 (F := Ideal) (m ((c : Thread nD τ).loc main_arg3)) (m ((c : Thread nD τ).loc main_arg4)) := by
  refine (dats m 0 c).arrAt_eq_of_coversWhere_of_agree 4 _ (fun β => β (0 : Fin _) = 0) (by decide +kernel) (fun t hf y => ?_) (fun j hj => ?_)
  · blk_simp
    idx_vars y
    obtain rfl : y0 = 0 := Fin.ext (by have := y0.isLt; omega)
    rw [after0_4]
    unfold outsAt0 out0_A_4
    frame_out
    unfold k0_pay8
    pointwise
    refine (t_g (tile m c t) y1 y2).trans ?_
    symm
    apply top_g
    blk_ext [idx t, rows]
    all_goals (blk_simp [idx t]; try omega)
  · rw [A_eq]
    refine Eq.trans (congrFun (entry_g m c) _) ?_
    symm
    apply rest_g
    intro h
    apply hj
    blk_simp [Pipeline.Window.cell_apply] at h ⊢
    omega

theorem entry_d (c : Dev nD) : V m c main_v0_1 = (m ((c : Thread nD τ).loc main_arg5)) := by
  unfold V
  after_results
  try rfl

theorem final_d (c : Dev nD) : (dats m 0 c).arrAt 5 cfg0.N
    = Cert.AdamAdaRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_coversWhere_of_agree 5 _ (fun β => β (0 : Fin _) = 0) (by decide +kernel) (fun t hf y => ?_) (fun j hj => ?_)
  · blk_simp
    idx_vars y
    obtain rfl : y0 = 0 := Fin.ext (by have := y0.isLt; omega)
    rw [after0_5]
    unfold outsAt0 out0_A_5
    frame_out

    refine (t_d (tile m c t) y1 y2).trans ?_
    symm
    apply top_d
    blk_ext [idx t, rows]
    all_goals (blk_simp [idx t]; try omega)
  · rw [A_eq]
    refine Eq.trans (congrFun (entry_d m c) _) ?_
    symm
    apply rest_d
    intro h
    apply hj
    blk_simp [Pipeline.Window.cell_apply] at h ⊢
    omega

theorem entry_m (c : Dev nD) : V m c main_v0_2 = (m ((c : Thread nD τ).loc main_arg6)) := by
  unfold V
  after_results
  try rfl

theorem final_m (c : Dev nD) : (dats m 0 c).arrAt 6 cfg0.N
    = Cert.AdamAdaRefIdeal.Read.val_main_v40 (F := Ideal) (m ((c : Thread nD τ).loc main_arg1)) (m ((c : Thread nD τ).loc main_arg3)) (m ((c : Thread nD τ).loc main_arg6)) := by
  refine (dats m 0 c).arrAt_eq_of_coversWhere_of_agree 6 _ (fun β => β (0 : Fin _) = 0) (by decide +kernel) (fun t hf y => ?_) (fun j hj => ?_)
  · blk_simp
    idx_vars y
    obtain rfl : y0 = 0 := Fin.ext (by have := y0.isLt; omega)
    rw [after0_6]
    unfold outsAt0 out0_A_6
    frame_out
    unfold k0_pay2
    pointwise
    refine (t_m (tile m c t) y1 y2).trans ?_
    symm
    apply top_m
    blk_ext [idx t, rows]
    all_goals (blk_simp [idx t]; try omega)
  · rw [A_eq]
    refine Eq.trans (congrFun (entry_m m c) _) ?_
    symm
    apply rest_m
    intro h
    apply hj
    blk_simp [Pipeline.Window.cell_apply] at h ⊢
    omega

theorem entry_v (c : Dev nD) : V m c main_v0_3 = (m ((c : Thread nD τ).loc main_arg7)) := by
  unfold V
  after_results
  try rfl

theorem final_v (c : Dev nD) : (dats m 0 c).arrAt 7 cfg0.N
    = Cert.AdamAdaRefIdeal.Read.val_main_v43 (F := Ideal) (m ((c : Thread nD τ).loc main_arg2)) (m ((c : Thread nD τ).loc main_arg3)) (m ((c : Thread nD τ).loc main_arg7)) := by
  refine (dats m 0 c).arrAt_eq_of_coversWhere_of_agree 7 _ (fun β => β (0 : Fin _) = 0) (by decide +kernel) (fun t hf y => ?_) (fun j hj => ?_)
  · blk_simp
    idx_vars y
    obtain rfl : y0 = 0 := Fin.ext (by have := y0.isLt; omega)
    rw [after0_7]
    unfold outsAt0 out0_A_7
    frame_out
    unfold k0_pay3
    pointwise
    refine (t_v (tile m c t) y1 y2).trans ?_
    symm
    apply top_v
    blk_ext [idx t, rows]
    all_goals (blk_simp [idx t]; try omega)
  · rw [A_eq]
    refine Eq.trans (congrFun (entry_v m c) _) ?_
    symm
    apply rest_v
    intro h
    apply hj
    blk_simp [Pipeline.Window.cell_apply] at h ⊢
    omega

end Cert.AdamAdaIdeal.RefValue

namespace Cert.Proof

/-- The first layer's optimiser call: the kernel's four results are the reference's. -/
theorem adam_ada_algebraic : Cert.algebraic_AdamAdaIdeal_AdamAdaRefIdeal := by
  pair_intro
  · run_from Cert.AdamAdaIdeal.Value.run_blocks m g
  · run_from Cert.AdamAdaRefIdeal.Value.run m' g'
    all_goals obtain ⟨a0, a1, a2, a3, a4, a5, a6, a7⟩ := hagree c
    all_goals (first
      | (rw [Cert.AdamAdaIdeal.RefValue.final_g m c]; exact Cert.AdamAdaRefIdeal.Read.val_main_v34_eq (F := Ideal) ..)
      | (rw [Cert.AdamAdaIdeal.RefValue.final_g m c, ← a3, ← a4]; exact Cert.AdamAdaRefIdeal.Read.val_main_v34_eq (F := Ideal) ..)
      | (rw [Cert.AdamAdaIdeal.RefValue.final_m m c]; exact Cert.AdamAdaRefIdeal.Read.val_main_v40_eq (F := Ideal) ..)
      | (rw [Cert.AdamAdaIdeal.RefValue.final_m m c, ← a1, ← a3, ← a6]; exact Cert.AdamAdaRefIdeal.Read.val_main_v40_eq (F := Ideal) ..)
      | (rw [Cert.AdamAdaIdeal.RefValue.final_v m c]; exact Cert.AdamAdaRefIdeal.Read.val_main_v43_eq (F := Ideal) ..)
      | (rw [Cert.AdamAdaIdeal.RefValue.final_v m c, ← a2, ← a3, ← a7]; exact Cert.AdamAdaRefIdeal.Read.val_main_v43_eq (F := Ideal) ..)
      | (rw [Cert.AdamAdaIdeal.RefValue.final_d m c]; exact Cert.AdamAdaRefIdeal.Read.val_main_v37_eq (F := Ideal) ..)
      | (rw [Cert.AdamAdaIdeal.RefValue.final_d m c, ← a0, ← a1, ← a2, ← a3, ← a5]; exact Cert.AdamAdaRefIdeal.Read.val_main_v37_eq (F := Ideal) ..))

end Cert.Proof

end
-- ==== Proof.MergeLoss.lean ====
/- The last layer's merge and the loss: the two branches' output projections, their gated sum, its projection the gradient of the loss and the loss, tile by tile of the tokens, equal the reference's. -/
module

public import proofs.«01_k».proof.Defs
public import proofs.«01_k».proof.Proof.Gen.MergeLossIdeal.Value
public import proofs.«01_k».proof.Proof.Gen.MergeLossRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeLossIdeal.RefValue

open Cert.MergeLossIdeal Cert.MergeLossIdeal.Gen Cert.MergeLossIdeal.Value

variable (a : Vec Ideal S2048x512 .bf16) (b : Vec Ideal S2048x1024 .bf16) (z : Vec Ideal S2048x7168 .bf16) (x : Vec Ideal S2048x1024 .f32) (w : Vec Ideal S8x512x128 .bf16) (w2 w3 : Vec Ideal S1024x1024 .bf16) (g gp : Vec Ideal S1x1024 .f32) (tgt : Vec Ideal S2048x1024 .f32)

set_option backward.proofsInPublic true in
/-- The group of column `n` of the pooling projection, and the column within the group. -/
abbrev grp (n : Fin 1024) : Fin 8 := ⟨n.val / 128, by omega⟩
set_option backward.proofsInPublic true in
abbrev inGrp (n : Fin 1024) : Fin 128 := ⟨n.val % 128, by omega⟩
set_option backward.proofsInPublic true in
/-- The columns of the two merge gates in the projection. -/
abbrev gateP (n : Fin 1024) : Fin 7168 := ⟨5120 + n.val, by omega⟩
set_option backward.proofsInPublic true in
abbrev gateH (n : Fin 1024) : Fin 7168 := ⟨6144 + n.val, by omega⟩

/-- The logistic function. -/
def lgst (v : EReal) : EReal := Ideal.div 1 (1 + Ideal.exp (-v))

/-- The pooling branch's output projection at token `r`, column `n`. -/
def sBa (r : Fin 2048) (n : Fin 1024) : EReal := ∑ k : Fin 512, a (ix2 r k) * w (ix3 (grp n) k (inGrp n))

/-- The recurrent branch's output projection. -/
def sBb (r : Fin 2048) (n : Fin 1024) : EReal := ∑ k : Fin 1024, b (ix2 r k) * w2 (ix2 k n)

/-- The gated merge of the two branches. -/
def sMer (r : Fin 2048) (n : Fin 1024) : EReal :=
  lgst (z (ix2 r (gateP n))) * sBa a w r n + lgst (z (ix2 r (gateH n))) * sBb b w2 r n

/-- The merged value's projection. -/
def sY (r : Fin 2048) (n : Fin 1024) : EReal := ∑ k : Fin 1024, sMer a b z w w2 r k * w3 (ix2 k n)

/-- The next activation: the residual plus the gated, normalised projection. -/
def sOut (r : Fin 2048) (n : Fin 1024) : EReal :=
  x (ix2 r n) + g (ix2 0 n) * (sY a b z w w2 w3 r n
    * Ideal.rsqrt (Ideal.div (∑ k : Fin 1024, sY a b z w w2 w3 r k * sY a b z w w2 w3 r k) (Ideal.ofBits FTy.f32 1149239296#32)
      + Ideal.ofBits FTy.f32 897988541#32) * gp (ix2 0 n))

/-- The error: the activation less the target. -/
def sErr (r : Fin 2048) (n : Fin 1024) : EReal := sOut a b z x w w2 w3 g gp r n - tgt (ix2 r n)

/-- A token's mean squared error. -/
def sSq (r : Fin 2048) : EReal :=
  Ideal.div (∑ k : Fin 1024, sErr a b z x w w2 w3 g gp tgt r k * sErr a b z x w w2 w3 g gp tgt r k) (Ideal.ofBits FTy.f32 0x44800000#32)

/-- The loss: half the sum over the tokens of their mean squared errors. -/
def sLoss : EReal := Ideal.ofBits FTy.f32 0x3F000000#32 * ∑ r : Fin 2048, sSq a b z x w w2 w3 g gp tgt r

theorem half_eq : Ideal.ofBits FTy.f32 0x3F000000#32 = ((1 / 2 : ℝ) : EReal) := by
  simp [Ideal.ofBits, Ideal.ieee, -EReal.coe_mul]; try norm_num
theorem two_eq : Ideal.ofBits FTy.f32 0x40000000#32 = ((2 : ℝ) : EReal) := by
  simp [Ideal.ofBits, Ideal.ieee, -EReal.coe_mul]; try norm_num
theorem cols_eq : Ideal.ofBits FTy.f32 0x44800000#32 = ((1024 : ℝ) : EReal) := by
  simp [Ideal.ofBits, Ideal.ieee, -EReal.coe_mul]; try norm_num
theorem inv_eq : Ideal.ofBits FTy.f32 0x3A800000#32 = ((1 / 1024 : ℝ) : EReal) := by
  simp [Ideal.ofBits, Ideal.ieee, -EReal.coe_mul]; try norm_num

/-- Half a mean's share of twice a number is the mean's share of the number. -/
theorem share (e : EReal) : Ideal.div (Ideal.ofBits FTy.f32 0x3F000000#32) (Ideal.ofBits FTy.f32 0x44800000#32)
    * (Ideal.ofBits FTy.f32 0x40000000#32 * e) = e * Ideal.ofBits FTy.f32 0x3A800000#32 := by
  rw [half_eq, two_eq, cols_eq, inv_eq, Ideal.div_coe (by norm_num), ← EReal.coe_mul, ← mul_assoc, ← EReal.coe_mul, mul_comm]
  congr 2; norm_num

/-- A half distributes over a sum. -/
theorem half_sum (f : Fin 4 → EReal) : ∑ t : Fin 4, Ideal.ofBits FTy.f32 0x3F000000#32 * f t = Ideal.ofBits FTy.f32 0x3F000000#32 * ∑ t : Fin 4, f t := by
  have h0 : (0 : EReal) ≤ ((1 / 2 : ℝ) : EReal) := by exact_mod_cast (by norm_num : (0 : ℝ) ≤ 1 / 2)
  rw [half_eq]
  simp only [Fin.sum_univ_four, EReal.left_distrib_of_nonneg_of_ne_top h0 (EReal.coe_ne_top _)]

/-! ## The reference at an index -/

section
open Cert.MergeLossRefIdeal.Read

theorem ref_ba (i : S2048x1024.Idx) : val_main_v6 (F := Ideal) a w i = sBa a w (i 0) (i 1) := by
  rw [val_main_v6_apply]
  refine Finset.sum_congr rfl fun k _ => ?_
  rw [val_main_v2_apply, val_main_v5_apply, val_main_v4_apply, val_main_v3_apply]
  have h1 : (i 1).val < 1024 := (i 1).isLt
  refine congrArg₂ (· * ·) (congrArg a (funext fun a => Fin.ext ?_)) (congrArg w (funext fun a => Fin.ext ?_))
  · match a with
    | ⟨0, _⟩ => rfl
    | ⟨1, _⟩ => rfl
  · match a with
    | ⟨0, _⟩ => show (k.val * 1024 + (i 1).val) / 128 % 8 = (i 1).val / 128; omega
    | ⟨1, _⟩ => show (k.val * 1024 + (i 1).val) / 1024 = k.val; omega
    | ⟨2, _⟩ => show (k.val * 1024 + (i 1).val) % 128 = (i 1).val % 128; omega

theorem ref_bb (i : S2048x1024.Idx) : val_main_v9 (F := Ideal) b w2 i = sBb b w2 (i 0) (i 1) := by
  rw [val_main_v9_apply]
  refine Finset.sum_congr rfl fun k _ => ?_
  rw [val_main_v7_apply, val_main_v8_apply]
  refine congrArg₂ (· * ·) (congrArg b (funext fun a => Fin.ext ?_)) (congrArg w2 (funext fun a => Fin.ext ?_)) <;>
  · match a with
    | ⟨0, _⟩ => rfl
    | ⟨1, _⟩ => rfl

theorem ref_mer (i : S2048x1024.Idx) :
    val_main_v26 (F := Ideal) a b z w w2 i = sMer a b z w w2 (i 0) (i 1) := by
  rw [val_main_v26_apply, val_main_v25_apply, val_main_v24_apply, val_main_v22_apply, val_main_v23_apply, val_main_v21_apply,
    val_main_v20_apply, val_main_v19_apply, val_main_v18_apply, val_main_v1_apply, val_main_v0_apply, val_main_v17_apply,
    val_main_v16_apply, val_main_v14_apply, val_main_v15_apply, val_main_v13_apply,
    val_main_v12_apply, val_main_v11_apply, val_main_v10_apply, val_main_v1_apply, val_main_v0_apply, ref_ba, ref_bb]
  have e5 : idx_main_v0 (idx_main_v10 i) = ix2 (i 0) (gateP (i 1)) := by
    funext a; refine Fin.ext ?_
    match a with
    | ⟨0, _⟩ => rfl
    | ⟨1, _⟩ => show _ + (i 1).val = 5120 + (i 1).val; omega
  have e6 : idx_main_v0 (idx_main_v18 i) = ix2 (i 0) (gateH (i 1)) := by
    funext a; refine Fin.ext ?_
    match a with
    | ⟨0, _⟩ => rfl
    | ⟨1, _⟩ => show 5120 + (1024 + (i 1).val) = 6144 + (i 1).val; omega
  rw [e5, e6]
  pointwise [val_main_cst_1, val_main_cst_2, val_main_cst, val_main_cst_0]
  rfl

theorem ref_y (i : S2048x1024.Idx) :
    val_main_v28 (F := Ideal) a b z w w2 w3 i = sY a b z w w2 w3 (i 0) (i 1) := by
  rw [val_main_v28_apply]
  refine Finset.sum_congr rfl fun k _ => ?_
  rw [val_main_v27_apply, ref_mer]
  refine congrArg₂ (· * ·) rfl (congrArg w3 (funext fun a => Fin.ext ?_))
  match a with
  | ⟨0, _⟩ => rfl
  | ⟨1, _⟩ => rfl

theorem ref_out (i : S2048x1024.Idx) :
    val_main_v43 (F := Ideal) a b z x w w2 w3 g gp i = sOut a b z x w w2 w3 g gp (i 0) (i 1) := by
  rw [val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, ref_y]
  have e : ∀ k, val_main_v29 (F := Ideal) a b z w w2 w3 (idx_main_v30 (idx_main_v31 (idx_main_v37 i)) k)
      = sY a b z w w2 w3 (i 0) k * sY a b z w w2 w3 (i 0) k := by
    intro k; rw [val_main_v29_apply, ref_y]; rfl
  simp only [e]
  have e1 : x i = x (ix2 (i 0) (i 1)) := congrArg x (funext fun a => by match a with | ⟨0, _⟩ => rfl | ⟨1, _⟩ => rfl)
  have e2 : g (idx_main_v41 i) = g (ix2 0 (i 1)) := congrArg g (funext fun a => by match a with | ⟨0, _⟩ => rfl | ⟨1, _⟩ => rfl)
  have e3 : gp (idx_main_v39 i) = gp (ix2 0 (i 1)) := congrArg gp (funext fun a => by match a with | ⟨0, _⟩ => rfl | ⟨1, _⟩ => rfl)
  rw [e2, e3]
  pointwise [val_main_cst_3, val_main_cst_4, val_main_cst_5]
  unfold sOut
  rw [← e1]

theorem ref_err (i : S2048x1024.Idx) :
    val_main_v44 (F := Ideal) a b z x w w2 w3 g gp tgt i = sErr a b z x w w2 w3 g gp tgt (i 0) (i 1) := by
  rw [val_main_v44_apply, ref_out]
  have e1 : tgt i = tgt (ix2 (i 0) (i 1)) := congrArg tgt (funext fun a => by match a with | ⟨0, _⟩ => rfl | ⟨1, _⟩ => rfl)
  rw [e1]
  rfl

theorem ref_grad (i : S2048x1024.Idx) :
    val_main_v58 (F := Ideal) a b z x w w2 w3 g gp tgt i = sErr a b z x w w2 w3 g gp tgt (i 0) (i 1) * Ideal.ofBits FTy.f32 0x3A800000#32 := by
  rw [val_main_v58_apply, val_main_v57_apply, val_main_v56_apply, val_main_v55_apply, val_main_v54_apply, val_main_v53_apply,
    val_main_v47_apply, val_main_v46_apply, ref_err]
  pointwise [val_main_cst_6, val_main_cst_11, val_main_cst_12, val_main_cst_13]
  exact share _

theorem ref_sq (i : Cert.MergeLossRefIdeal.S2048.Idx) :
    val_main_v50 (F := Ideal) a b z x w w2 w3 g gp tgt i = sSq a b z x w w2 w3 g gp tgt (i 0) := by
  rw [val_main_v50_apply, val_main_v49_apply, val_main_v48_apply]
  have e : ∀ k, val_main_v45 (F := Ideal) a b z x w w2 w3 g gp tgt (idx_main_v48 i k)
      = sErr a b z x w w2 w3 g gp tgt (i 0) k * sErr a b z x w w2 w3 g gp tgt (i 0) k := by
    intro k; rw [val_main_v45_apply, ref_err]; rfl
  simp only [e]
  pointwise [val_main_cst_7, val_main_cst_8]
  rfl

theorem ref_loss (i : S1x1.Idx) : val_main_v63 (F := Ideal) a b z x w w2 w3 g gp tgt i = sLoss a b z x w w2 w3 g gp tgt := by
  have e : ∀ j, val_main_v63 (F := Ideal) a b z x w w2 w3 g gp tgt i = val_main_v52 (F := Ideal) a b z x w w2 w3 g gp tgt j := by
    intro j; unfold val_main_v63; exact congrArg (val_main_v52 (F := Ideal) a b z x w w2 w3 g gp tgt) (funext fun a => a.elim0)
  rw [e (fun a => a.elim0), val_main_v52_apply, val_main_v51_apply]
  simp only [ref_sq]
  rw [show (∑ j : Cert.MergeLossRefIdeal.S2048.Idx, sSq a b z x w w2 w3 g gp tgt (j 0)) = ∑ r : Fin 2048, sSq a b z x w w2 w3 g gp tgt r from
    sum_idx1 (fun j : Cert.MergeLossRefIdeal.S2048.Idx => sSq a b z x w w2 w3 g gp tgt (j 0))]
  pointwise [val_main_cst_9, val_main_cst_10]
  rfl

end

/-! ## One tile of the kernel -/

/-- What a tile's blocks are of the arrays: rows `R` of the token arrays, and the weights whole. -/
structure Tile (R : Fin 512 → Fin 2048) (x0 : Vec Ideal S512x512 .bf16) (x1 : Vec Ideal S512x1024 .bf16) (x2 : Vec Ideal S512x1024 .bf16) (x3 : Vec Ideal S512x1024 .bf16) (x4 : Vec Ideal S512x1024 .f32) (x5 : Vec Ideal S8x512x128 .bf16) (x6 : Vec Ideal S1024x1024 .bf16) (x7 : Vec Ideal S1024x1024 .bf16) (x8 : Vec Ideal S1x1024 .f32) (x9 : Vec Ideal S1x1024 .f32) (x10 : Vec Ideal S512x1024 .f32) : Prop where
  h0 : ∀ r k, x0 (ix2 r k) = a (ix2 (R r) k)
  h1 : ∀ r k, x1 (ix2 r k) = b (ix2 (R r) k)
  h2 : ∀ r k, x2 (ix2 r k) = z (ix2 (R r) (gateP k))
  h3 : ∀ r k, x3 (ix2 r k) = z (ix2 (R r) (gateH k))
  h4 : ∀ r k, x4 (ix2 r k) = x (ix2 (R r) k)
  h5 : x5 = w
  h6 : x6 = w2
  h7 : x7 = w3
  h8 : x8 = g
  h9 : x9 = gp
  h10 : ∀ r k, x10 (ix2 r k) = tgt (ix2 (R r) k)

variable {a b z x w w2 w3 g gp tgt}
variable {R : Fin 512 → Fin 2048} {x0 : Vec Ideal S512x512 .bf16} {x1 : Vec Ideal S512x1024 .bf16} {x2 : Vec Ideal S512x1024 .bf16} {x3 : Vec Ideal S512x1024 .bf16} {x4 : Vec Ideal S512x1024 .f32} {x5 : Vec Ideal S8x512x128 .bf16} {x6 : Vec Ideal S1024x1024 .bf16} {x7 : Vec Ideal S1024x1024 .bf16} {x8 : Vec Ideal S1x1024 .f32} {x9 : Vec Ideal S1x1024 .f32} {x10 : Vec Ideal S512x1024 .f32} (T : Tile a b z x w w2 w3 g gp tgt R x0 x1 x2 x3 x4 x5 x6 x7 x8 x9 x10)

/-- A tile's two branches, as the body computes them. -/
abbrev kBa (x0 : Vec Ideal S512x512 .bf16) (x5 : Vec Ideal S8x512x128 .bf16) : FVec Ideal S512x1024 .f32 :=
  k0_pay1 x0 (View.ld x5 (Rect.unit ![0, 0, 0] ![1, 512, 128] inb_S8x512x128_S1x512x128_0_0_0)) (View.ld x5 (Rect.unit ![1, 0, 0] ![1, 512, 128] inb_S8x512x128_S1x512x128_1_0_0)) (View.ld x5 (Rect.unit ![2, 0, 0] ![1, 512, 128] inb_S8x512x128_S1x512x128_2_0_0)) (View.ld x5 (Rect.unit ![3, 0, 0] ![1, 512, 128] inb_S8x512x128_S1x512x128_3_0_0)) (View.ld x5 (Rect.unit ![4, 0, 0] ![1, 512, 128] inb_S8x512x128_S1x512x128_4_0_0)) (View.ld x5 (Rect.unit ![5, 0, 0] ![1, 512, 128] inb_S8x512x128_S1x512x128_5_0_0)) (View.ld x5 (Rect.unit ![6, 0, 0] ![1, 512, 128] inb_S8x512x128_S1x512x128_6_0_0)) (View.ld x5 (Rect.unit ![7, 0, 0] ![1, 512, 128] inb_S8x512x128_S1x512x128_7_0_0))
abbrev kBb (x1 : Vec Ideal S512x1024 .bf16) (x6 : Vec Ideal S1024x1024 .bf16) : FVec Ideal S512x1024 .f32 := k0_pay2 x1 x6

include T

set_option maxHeartbeats 1000000 in
theorem t_ba (r : Fin 512) (n : Fin 1024) : kBa x0 x5 (ix2 r n) = sBa a w (R r) n := by
  have hn := n.isLt
  unfold kBa
  pointwise [k0_pay1]
  unfold sBa
  refine Fin.sum_fin_congr fun k => ?_
  rw [T.h0, T.h5]
  refine congrArg₂ (· * ·) rfl ?_
  split
  · rw [show grp n = 0 from Fin.ext (show n.val / 128 = 0 by omega), show inGrp n = ⟨n.val, by omega⟩ from Fin.ext (show n.val % 128 = n.val by omega)]
  split
  · rw [show grp n = 1 from Fin.ext (show n.val / 128 = 1 by omega), show inGrp n = ⟨n.val - 128, by omega⟩ from Fin.ext (show n.val % 128 = n.val - 128 by omega)]
  split
  · rw [show grp n = 2 from Fin.ext (show n.val / 128 = 2 by omega), show inGrp n = ⟨n.val - 128 - 128, by omega⟩ from Fin.ext (show n.val % 128 = n.val - 128 - 128 by omega)]
  split
  · rw [show grp n = 3 from Fin.ext (show n.val / 128 = 3 by omega), show inGrp n = ⟨n.val - 128 - 128 - 128, by omega⟩ from Fin.ext (show n.val % 128 = n.val - 128 - 128 - 128 by omega)]
  split
  · rw [show grp n = 4 from Fin.ext (show n.val / 128 = 4 by omega), show inGrp n = ⟨n.val - 128 - 128 - 128 - 128, by omega⟩ from Fin.ext (show n.val % 128 = n.val - 128 - 128 - 128 - 128 by omega)]
  split
  · rw [show grp n = 5 from Fin.ext (show n.val / 128 = 5 by omega), show inGrp n = ⟨n.val - 128 - 128 - 128 - 128 - 128, by omega⟩ from Fin.ext (show n.val % 128 = n.val - 128 - 128 - 128 - 128 - 128 by omega)]
  split
  · rw [show grp n = 6 from Fin.ext (show n.val / 128 = 6 by omega), show inGrp n = ⟨n.val - 128 - 128 - 128 - 128 - 128 - 128, by omega⟩ from Fin.ext (show n.val % 128 = n.val - 128 - 128 - 128 - 128 - 128 - 128 by omega)]
  rw [show grp n = 7 from Fin.ext (show n.val / 128 = 7 by omega), show inGrp n = ⟨n.val - 128 - 128 - 128 - 128 - 128 - 128 - 128, by omega⟩ from Fin.ext (show n.val % 128 = n.val - 128 - 128 - 128 - 128 - 128 - 128 - 128 by omega)]

theorem t_bb (r : Fin 512) (n : Fin 1024) : kBb x1 x6 (ix2 r n) = sBb b w2 (R r) n := by
  pointwise [kBb, k0_pay2]
  unfold sBb
  refine Fin.sum_fin_congr fun k => ?_
  rw [T.h1, T.h6]

theorem t_mer (r : Fin 512) (n : Fin 1024) : k0_pay4 (kBa x0 x5) (kBb x1 x6) x2 k0_pay3 x3 (ix2 r n) = sMer a b z w w2 (R r) n := by
  have e1 := t_ba T r n
  have e2 := t_bb T r n
  generalize kBa x0 x5 = p at e1 ⊢
  generalize kBb x1 x6 = q at e2 ⊢
  pointwise [k0_pay4, k0_pay3]
  rw [e1, e2, T.h2, T.h3, zero_sub, zero_sub]
  rfl

theorem t_y (r : Fin 512) (n : Fin 1024) : k0_pay5 (kBa x0 x5) (kBb x1 x6) x2 k0_pay3 x3 x7 (ix2 r n) = sY a b z w w2 w3 (R r) n := by
  pointwise [k0_pay5]
  unfold sY
  refine Fin.sum_fin_congr fun k => ?_
  rw [t_mer T, T.h7]

theorem t_norm (r : Fin 512) (n : Fin 1024) :
    k0_pay6 (kBa x0 x5) (kBb x1 x6) x2 k0_pay3 x3 x7 (ix2 r n)
      = sY a b z w w2 w3 (R r) n
        * Ideal.rsqrt (Ideal.div (∑ k : Fin 1024, sY a b z w w2 w3 (R r) k * sY a b z w w2 w3 (R r) k) (Ideal.ofBits FTy.f32 1149239296#32)
          + Ideal.ofBits FTy.f32 897988541#32) := by
  pointwise [k0_pay6]
  simp only [t_y T]

theorem t_err (r : Fin 512) (n : Fin 1024) :
    k0_pay12 (k0_pay6 (kBa x0 x5) (kBb x1 x6) x2 k0_pay3 x3 x7) x4 x8 x9 x10 (ix2 r n) = sErr a b z x w w2 w3 g gp tgt (R r) n := by
  have e1 := t_norm T r n
  generalize k0_pay6 (kBa x0 x5) (kBb x1 x6) x2 k0_pay3 x3 x7 = p at e1 ⊢
  pointwise [k0_pay12]
  rw [e1, T.h4, T.h8, T.h9, T.h10]
  rfl

theorem t_loss (acc : Vec Ideal S1x1 .f32) (j : S1x1.Idx) :
    k0_pay13 (k0_pay6 (kBa x0 x5) (kBb x1 x6) x2 k0_pay3 x3 x7) x4 x8 x9 x10 acc j
      = acc j + Ideal.ofBits FTy.f32 0x3F000000#32 * ∑ r : Fin 512, sSq a b z x w w2 w3 g gp tgt (R r) := by
  have e1 := fun r n => t_err T r n
  generalize k0_pay6 (kBa x0 x5) (kBb x1 x6) x2 k0_pay3 x3 x7 = p at e1 ⊢
  idx_vars j
  pointwise [k0_pay13]
  simp only [e1]
  rfl

omit T

theorem zero_loss (j : S1x1.Idx) : k0_pay11 (F := Ideal) j = 0 := by pointwise [k0_pay11]

/-- The block each window reads or writes at a point. -/
theorem idx : ∀ t : Fin cfg0.N, win0_0.index t = ![t.val, 0] ∧ win0_1.index t = ![t.val, 0] ∧ win0_2.index t = ![t.val, 5] ∧ win0_3.index t = ![t.val, 6] ∧ win0_4.index t = ![t.val, 0] ∧ win0_5.index t = ![0, 0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![0, 0] :=
  (by decide +kernel : ∀ t : Fin grid0.N, _)

variable (m : (ℓ : Loc nD τ sig) → Buf (Elt Ideal) ℓ)

/-- The tile's rows at a point. -/
def rows (t : Fin cfg0.N) (r : Fin 512) : Fin 2048 := ⟨512 * t.val + r.val, by have := t.isLt; have h : cfg0.N = 4 := rfl; omega⟩

/-- The windows' blocks at a point are a tile of the arrays. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rows t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) where
  h0 r k := by blk_ext [iblk, V, idx t, rows]; all_goals (blk_simp [idx t]; omega)
  h1 r k := by blk_ext [iblk, V, idx t, rows]; all_goals (blk_simp [idx t]; omega)
  h2 r k := by blk_ext [iblk, V, idx t, rows]; all_goals (blk_simp [idx t]; omega)
  h3 r k := by blk_ext [iblk, V, idx t, rows]; all_goals (blk_simp [idx t]; omega)
  h4 r k := by blk_ext [iblk, V, idx t, rows]; all_goals (blk_simp [idx t]; omega)
  h5 := by funext y; blk_ext [iblk, V, idx t]
  h6 := by funext y; blk_ext [iblk, V, idx t]
  h7 := by funext y; blk_ext [iblk, V, idx t]
  h8 := by funext y; blk_ext [iblk, V, idx t]
  h9 := by funext y; blk_ext [iblk, V, idx t]
  h10 r k := by blk_ext [iblk, V, idx t, rows]; all_goals (blk_simp [idx t]; omega)

theorem o11 (c : Dev nD) (t : Fin cfg0.N) (y : S512x1024.Idx) : (outsAt0 m c t.val t.isLt).1 y
    = sBa (m ((c : Thread nD τ).loc main_arg0)) (m ((c : Thread nD τ).loc main_arg4)) (rows t (y 0)) (y 1) := by
  have e : (outsAt0 m c t.val t.isLt).1 = k0_pay7 (kBa (iblk m c 0 t) (iblk m c 5 t)) := by
    by_cases h : t.val % 4 = 0
    · rw [outsAt0_A m c t h]; frame_out
    · rw [outsAt0_B m c t h]; frame_out
  rw [e]
  idx_vars y
  pointwise [k0_pay7]
  exact t_ba (tile m c t) _ _

theorem final11 (c : Dev nD) : (dats m 0 c).arrAt 11 cfg0.N
    = Cert.MergeLossRefIdeal.Read.val_main_v59 (F := Ideal) (m ((c : Thread nD τ).loc main_arg0)) (m ((c : Thread nD τ).loc main_arg4)) := by
  refine (dats m 0 c).arrAt_eq_of_covers 11 _ (by decide +kernel) fun t hf y => ?_
  blk_simp
  rw [after0_11, o11]
  refine Eq.trans ?_ (ref_ba ..).symm
  congr 1 <;> (refine Fin.ext ?_; blk_simp [idx t, rows]; try first | omega | (dsimp only; omega))

theorem o12 (c : Dev nD) (t : Fin cfg0.N) (y : S512x1024.Idx) : (outsAt0 m c t.val t.isLt).2.1 y
    = sBb (m ((c : Thread nD τ).loc main_arg1)) (m ((c : Thread nD τ).loc main_arg5)) (rows t (y 0)) (y 1) := by
  have e : (outsAt0 m c t.val t.isLt).2.1 = k0_pay8 (kBb (iblk m c 1 t) (iblk m c 6 t)) := by
    by_cases h : t.val % 4 = 0
    · rw [outsAt0_A m c t h]; frame_out
    · rw [outsAt0_B m c t h]; frame_out
  rw [e]
  idx_vars y
  pointwise [k0_pay8]
  exact t_bb (tile m c t) _ _

theorem final12 (c : Dev nD) : (dats m 0 c).arrAt 12 cfg0.N
    = Cert.MergeLossRefIdeal.Read.val_main_v60 (F := Ideal) (m ((c : Thread nD τ).loc main_arg1)) (m ((c : Thread nD τ).loc main_arg5)) := by
  refine (dats m 0 c).arrAt_eq_of_covers 12 _ (by decide +kernel) fun t hf y => ?_
  blk_simp
  rw [after0_12, o12]
  refine Eq.trans ?_ (ref_bb ..).symm
  congr 1 <;> (refine Fin.ext ?_; blk_simp [idx t, rows]; try first | omega | (dsimp only; omega))

theorem o13 (c : Dev nD) (t : Fin cfg0.N) (y : S512x1024.Idx) : (outsAt0 m c t.val t.isLt).2.2.1 y
    = sMer (m ((c : Thread nD τ).loc main_arg0)) (m ((c : Thread nD τ).loc main_arg1)) (m ((c : Thread nD τ).loc main_arg2)) (m ((c : Thread nD τ).loc main_arg4)) (m ((c : Thread nD τ).loc main_arg5)) (rows t (y 0)) (y 1) := by
  have e : (outsAt0 m c t.val t.isLt).2.2.1 = k0_pay9 (kBa (iblk m c 0 t) (iblk m c 5 t)) (kBb (iblk m c 1 t) (iblk m c 6 t)) (iblk m c 2 t) k0_pay3 (iblk m c 3 t) := by
    by_cases h : t.val % 4 = 0
    · rw [outsAt0_A m c t h]; frame_out
    · rw [outsAt0_B m c t h]; frame_out
  rw [e]
  idx_vars y
  pointwise [k0_pay9]
  exact t_mer (tile m c t) _ _

theorem final13 (c : Dev nD) : (dats m 0 c).arrAt 13 cfg0.N
    = Cert.MergeLossRefIdeal.Read.val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 13 _ (by decide +kernel) fun t hf y => ?_
  blk_simp
  rw [after0_13, o13]
  refine Eq.trans ?_ (ref_mer ..).symm
  congr 1 <;> (refine Fin.ext ?_; blk_simp [idx t, rows]; try first | omega | (dsimp only; omega))

theorem o14 (c : Dev nD) (t : Fin cfg0.N) (y : S512x1024.Idx) : (outsAt0 m c t.val t.isLt).2.2.2.1 y
    = sY (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (rows t (y 0)) (y 1) := by
  have e : (outsAt0 m c t.val t.isLt).2.2.2.1 = k0_pay10 (k0_pay5 (kBa (iblk m c 0 t) (iblk m c 5 t)) (kBb (iblk m c 1 t) (iblk m c 6 t)) (iblk m c 2 t) k0_pay3 (iblk m c 3 t) (iblk m c 7 t)) := by
    by_cases h : t.val % 4 = 0
    · rw [outsAt0_A m c t h]; frame_out
    · rw [outsAt0_B m c t h]; frame_out
  rw [e]
  idx_vars y
  pointwise [k0_pay10]
  exact t_y (tile m c t) _ _

theorem final14 (c : Dev nD) : (dats m 0 c).arrAt 14 cfg0.N
    = Cert.MergeLossRefIdeal.Read.val_main_v62 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 14 _ (by decide +kernel) fun t hf y => ?_
  blk_simp
  rw [after0_14, o14]
  refine Eq.trans ?_ (ref_y ..).symm
  congr 1 <;> (refine Fin.ext ?_; blk_simp [idx t, rows]; try first | omega | (dsimp only; omega))

theorem o15 (c : Dev nD) (t : Fin cfg0.N) (y : S512x1024.Idx) : (outsAt0 m c t.val t.isLt).2.2.2.2.1 y
    = sErr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rows t (y 0)) (y 1) * Ideal.ofBits FTy.f32 0x3A800000#32 := by
  have e : (outsAt0 m c t.val t.isLt).2.2.2.2.1 = k0_pay14 (k0_pay6 (kBa (iblk m c 0 t) (iblk m c 5 t)) (kBb (iblk m c 1 t) (iblk m c 6 t)) (iblk m c 2 t) k0_pay3 (iblk m c 3 t) (iblk m c 7 t)) (iblk m c 4 t) (iblk m c 8 t) (iblk m c 9 t) (iblk m c 10 t) := by
    by_cases h : t.val % 4 = 0
    · rw [outsAt0_A m c t h]; frame_out
    · rw [outsAt0_B m c t h]; frame_out
  rw [e]
  idx_vars y
  pointwise [k0_pay14]
  rw [t_err (tile m c t)]

theorem final15 (c : Dev nD) : (dats m 0 c).arrAt 15 cfg0.N
    = Cert.MergeLossRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  rw [after0_15, o15]
  refine Eq.trans ?_ (ref_grad ..).symm
  congr 2 <;> (refine Fin.ext ?_; blk_simp [idx t, rows]; try first | omega | (dsimp only; omega))

theorem final16 (c : Dev nD) : (dats m 0 c).arrAt 16 cfg0.N
    = Cert.MergeLossRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 16 t0_3 (by decide +kernel) _ fun j => ?_
  blk_simp
  rw [after0_16, Pipeline.eq_sum_fin_of_reset_step_apply_last (fun n h => (outsAt0 m c n h).2.2.2.2.2) 4 (fun _ => 0) _
    (fun t h j => by rw [outsAt0_A m c t h]; frame_out; rw [t_loss (tile m c t), zero_loss])
    (fun t h j => by rw [outsAt0_B m c t h]; frame_out; rw [t_loss (tile m c t)])
    (le_of_eq N_0) t0_3 rfl j, zero_add, ref_loss]
  refine (half_sum fun t => ∑ r : Fin 512, sSq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rows t r)).trans ?_
  unfold sLoss
  refine congrArg (_ * ·) ?_
  refine Fin.sum_mul_add_congr fun s k hl => ?_
  exact congrArg _ (Fin.ext (show 512 * s.val + k.val = s.val * 512 + k.val by omega))

end Cert.MergeLossIdeal.RefValue

namespace Cert.Proof

/-- The last layer's merge and the loss: the kernel's results are the reference's. -/
theorem merge_loss_algebraic : Cert.algebraic_MergeLossIdeal_MergeLossRefIdeal := by
  pair_intro
  · run_from Cert.MergeLossIdeal.Value.run_blocks m g
  · run_from Cert.MergeLossRefIdeal.Value.run m' g'
    all_goals obtain ⟨a0, a1, a2, a3, a4, a5, a6, a7, a8, a9⟩ := hagree c
    all_goals (first
      | (rw [Cert.MergeLossIdeal.RefValue.final11 m c]; exact Cert.MergeLossRefIdeal.Read.val_main_v59_eq (F := Ideal) ..)
      | (rw [Cert.MergeLossIdeal.RefValue.final12 m c]; exact Cert.MergeLossRefIdeal.Read.val_main_v60_eq (F := Ideal) ..)
      | (rw [Cert.MergeLossIdeal.RefValue.final13 m c]; exact Cert.MergeLossRefIdeal.Read.val_main_v61_eq (F := Ideal) ..)
      | (rw [Cert.MergeLossIdeal.RefValue.final14 m c]; exact Cert.MergeLossRefIdeal.Read.val_main_v62_eq (F := Ideal) ..)
      | (rw [Cert.MergeLossIdeal.RefValue.final15 m c, ← a0, ← a1, ← a2, ← a3, ← a4, ← a5, ← a6, ← a7, ← a8, ← a9]; exact Cert.MergeLossRefIdeal.Read.val_main_v58_eq (F := Ideal) ..)
      | (rw [Cert.MergeLossIdeal.RefValue.final16 m c, ← a0, ← a1, ← a2, ← a3, ← a4, ← a5, ← a6, ← a7, ← a8, ← a9]; exact Cert.MergeLossRefIdeal.Read.val_main_v63_eq (F := Ideal) ..))

end Cert.Proof

end
-- ==== Proof.PreFwd.lean ====
/- The norm before a layer: the normalised, scaled and shifted activation, tile by tile of the tokens, equals the reference's. -/
module

public import proofs.«01_k».proof.Defs
public import proofs.«01_k».proof.Proof.Gen.PreFwdIdeal.Value
public import proofs.«01_k».proof.Proof.Gen.PreFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PreFwdIdeal.RefValue

open Cert.PreFwdIdeal Cert.PreFwdIdeal.Gen Cert.PreFwdIdeal.Value

variable (x : Vec Ideal S2048x1024 .f32) (g sh sc : Vec Ideal S1x1024 .f32)

/-- The mean square of a token's activation, with the norm's epsilon. -/
def sQ (r : Fin 2048) : EReal :=
  Ideal.div (∑ k : Fin 1024, x (ix2 r k) * x (ix2 r k)) (Ideal.ofBits FTy.f32 1149239296#32) + Ideal.ofBits FTy.f32 897988541#32

/-- The call's result at a token and a column. -/
def sOut (r : Fin 2048) (k : Fin 1024) : EReal :=
  x (ix2 r k) * Ideal.rsqrt (sQ x r) * g (ix2 0 k) * (1 + sc (ix2 0 k)) + sh (ix2 0 k)

section
open Cert.PreFwdRefIdeal.Read

theorem ix_eq {d : Fin 2 → ℕ} (i : (⟨2, d⟩ : Shape).Idx) (j : (⟨2, d⟩ : Shape).Idx) (h0 : (i 0).val = (j 0).val) (h1 : (i 1).val = (j 1).val) : i = j := by
  funext a; refine Fin.ext ?_
  match a with
  | ⟨0, _⟩ => exact h0
  | ⟨1, _⟩ => exact h1

theorem ref_q (i : Cert.PreFwdRefIdeal.S2048x1.Idx) : val_main_v6 (F := Ideal) x i = sQ x (i 0) := by
  rw [val_main_v6_apply, val_main_v4_apply, val_main_v2_apply, val_main_v1_apply, val_main_v3_apply, val_main_v5_apply]
  have e : ∀ k, val_main_v0 (F := Ideal) x (idx_main_v1 (idx_main_v2 i) k) = x (ix2 (i 0) k) * x (ix2 (i 0) k) := by
    intro k; rw [val_main_v0_apply, ix_eq (idx_main_v1 (idx_main_v2 i) k) (ix2 (i 0) k) rfl rfl]; rfl
  simp only [e]
  pointwise [val_main_cst, val_main_cst_0, val_main_cst_1]
  rfl

theorem ref_out (i : S2048x1024.Idx) : val_main_v18 (F := Ideal) x g sh sc i = sOut x g sh sc (i 0) (i 1) := by
  have ex : x i = x (ix2 (i 0) (i 1)) := congrArg x (ix_eq _ _ rfl rfl)
  have e10 : idx_main_v10 i = ix2 0 (i 1) := ix_eq _ _ rfl rfl
  have e16 : idx_main_v16 i = ix2 0 (i 1) := ix_eq _ _ rfl rfl
  have e14 : idx_main_v14 i = ix2 0 (i 1) := ix_eq _ _ rfl rfl
  rw [val_main_v18_apply, val_main_v17_apply, val_main_v16_apply, val_main_v15_apply, val_main_v14_apply, val_main_v13_apply,
    val_main_v12_apply, val_main_v11_apply, val_main_v10_apply, val_main_v9_apply, val_main_v8_apply, val_main_v7_apply, ref_q,
    e10, e14, e16, ex, show ∀ j, val_main_cst_2 (F := Ideal) j = (1 : EReal) from fun j => by pointwise [val_main_cst_2]]
  rfl

end

/-- What a tile's blocks are of the arrays: rows `R` of the token arrays, and the weights whole. -/
structure Tile (R : Fin 1024 → Fin 2048) (x0 : Vec Ideal S1024x1024 .f32) (x1 x2 x3 : Vec Ideal S1x1024 .f32) : Prop where
  h0 : ∀ r k, x0 (ix2 r k) = x (ix2 (R r) k)
  h1 : x1 = g
  h2 : x2 = sh
  h3 : x3 = sc

variable {x g sh sc}
variable {R : Fin 1024 → Fin 2048} {x0 : Vec Ideal S1024x1024 .f32} {x1 x2 x3 : Vec Ideal S1x1024 .f32} (T : Tile x g sh sc R x0 x1 x2 x3)

include T

theorem o4 (y : S1024x1024.Idx) : out0_4 x0 x1 x2 x3 y = sOut x g sh sc (R (y 0)) (y 1) := by
  idx_vars y
  unfold out0_4
  frame_out
  pointwise [k0_pay1]
  simp only [T.h0, T.h1, T.h2, T.h3]
  rfl

omit T

/-- The block each window reads or writes at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

variable (m : (ℓ : Loc nD τ sig) → Buf (Elt Ideal) ℓ)

/-- The tile's rows at a point. -/
def rows (t : Fin cfg0.N) (r : Fin 1024) : Fin 2048 := ⟨1024 * t.val + r.val, by have := t.isLt; have h : cfg0.N = 2 := rfl; omega⟩

/-- The windows' blocks at a point are a tile of the arrays. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (rows t)
    (iblk m c 0 t) (iblk m c 1 t) (iblk m c 2 t) (iblk m c 3 t) where
  h0 r k := by blk_ext [iblk, V, idx t, rows]; all_goals (blk_simp [idx t]; omega)
  h1 := by funext y; blk_ext [iblk, V, idx t]
  h2 := by funext y; blk_ext [iblk, V, idx t]
  h3 := by funext y; blk_ext [iblk, V, idx t]

theorem final4 (c : Dev nD) : (dats m 0 c).arrAt 4 cfg0.N
    = Cert.PreFwdRefIdeal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, o4 (tile m c t)]
  refine Eq.trans ?_ (ref_out ..).symm
  congr 1 <;> (refine Fin.ext ?_; blk_simp [idx t, rows]; try first | omega | (dsimp only; omega))

end Cert.PreFwdIdeal.RefValue

namespace Cert.Proof

/-- The norm before a layer: the kernel's result is the reference's. -/
theorem pre_fwd_algebraic : Cert.algebraic_PreFwdIdeal_PreFwdRefIdeal := by
  pair_intro
  · run_from Cert.PreFwdIdeal.Value.run_blocks m g
  · run_from Cert.PreFwdRefIdeal.Value.run m' g'
    all_goals obtain ⟨a0, a1, a2, a3⟩ := hagree c
    all_goals (first
      | (rw [Cert.PreFwdIdeal.RefValue.final4 m c]; exact Cert.PreFwdRefIdeal.Read.val_main_v18_eq (F := Ideal) ..)
      | (rw [Cert.PreFwdIdeal.RefValue.final4 m c, ← a0, ← a1, ← a2, ← a3]; exact Cert.PreFwdRefIdeal.Read.val_main_v18_eq (F := Ideal) ..))

end Cert.Proof

end
-- ==== Proof.Pre.lean ====
/- The norm before a layer, backward: the gradient of the activation and the sums of the gradients of the norm's weight, scale and shift, tile by tile of the tokens, equal the reference's. -/
module

public import proofs.«01_k».proof.Defs
public import proofs.«01_k».proof.Proof.Gen.PreIdeal.Value
public import proofs.«01_k».proof.Proof.Gen.PreRefIdeal.Read
public import Idealize.ShloMosaic.Lib.Pipeline.ValueKit
public import Idealize.ShloMosaic.Lib.Claim
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.PreIdeal.RefValue

open Cert.PreIdeal Cert.PreIdeal.Gen Cert.PreIdeal.Value

/-! ## The extended reals -/

/-- A real factor that is not negative goes into a sum. -/
theorem smul_sum {ι : Type} (s : ℝ) (hs : 0 ≤ s) (t : Finset ι) (f : ι → EReal) : (s : EReal) * ∑ k ∈ t, f k = ∑ k ∈ t, (s : EReal) * f k := by
  classical
  induction t using Finset.induction_on with
  | empty => simp
  | insert a t ha ih =>
    rw [Finset.sum_insert ha, Finset.sum_insert ha,
      EReal.left_distrib_of_nonneg_of_ne_top (EReal.coe_nonneg.mpr hs) (EReal.coe_ne_top s), ih]

theorem sq_nonneg' (x : EReal) : 0 ≤ x * x := by
  induction x with
  | bot => simp
  | top => simp
  | coe r => exact_mod_cast mul_self_nonneg r

/-- The inverse root of a positive number is a real number that is not negative, and over the number it is its cube. -/
theorem rsqrt_real (q : EReal) (hq : 0 < q) :
    ∃ s : ℝ, 0 ≤ s ∧ Ideal.rsqrt q = (s : EReal) ∧ Ideal.div (Ideal.rsqrt q) q = ((s * s * s : ℝ) : EReal) := by
  induction q with
  | bot => exact absurd hq (by simp)
  | top =>
    refine ⟨0, le_refl _, ?_, ?_⟩
    · rfl
    · show Ideal.div 0 ⊤ = _
      simp [Ideal.div]
  | coe r =>
    have hr : 0 < r := by exact_mod_cast hq
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    refine ⟨(Real.sqrt r)⁻¹, inv_nonneg.mpr (Real.sqrt_nonneg r), e, ?_⟩
    rw [e, Ideal.div_coe hr.ne', ← EReal.coe_mul]
    refine congrArg _ ?_
    have h2 : (Real.sqrt r)⁻¹ * (Real.sqrt r)⁻¹ = 1 / r := by
      rw [← mul_inv, Real.mul_self_sqrt hr.le, one_div]
    rw [mul_assoc, h2]

theorem div_width (v : EReal) : Ideal.div v (Ideal.ofBits FTy.f32 1149239296#32) = v * ((1 / 1024 : ℝ) : EReal) := by
  have h : Ideal.ofBits FTy.f32 1149239296#32 = ((1024 : ℝ) : EReal) := by
    simp [Ideal.ofBits, Ideal.ieee, -EReal.coe_mul]; try norm_num
  rw [h, Ideal.div_coe (by norm_num)]

theorem half : Ideal.ofBits FTy.f32 3204448256#32 = ((-(1 / 2) : ℝ) : EReal) := by
  simp [Ideal.ofBits, Ideal.ieee, -EReal.coe_mul]; try norm_num

theorem eps_pos : 0 < Ideal.ofBits FTy.f32 897988541#32 := by
  simp [Ideal.ofBits, Ideal.ieee, -EReal.coe_mul]; try norm_num

/-- The gradient of the normalised activation: the kernel's form and the reference's. -/
theorem grad_norm (n : ℕ) (x d : Fin n → EReal) (q : EReal) (hq : 0 < q) (i : Fin n) :
    Ideal.rsqrt q * (d i - x i * Ideal.rsqrt q
        * Ideal.div (∑ k, d k * (x k * Ideal.rsqrt q)) (Ideal.ofBits FTy.f32 1149239296#32))
      = d i * Ideal.rsqrt q
        + x i * Ideal.div ((∑ k, x k * d k) * (Ideal.ofBits FTy.f32 3204448256#32 * Ideal.div (Ideal.rsqrt q) q)) (Ideal.ofBits FTy.f32 1149239296#32)
        + Ideal.div ((∑ k, x k * d k) * (Ideal.ofBits FTy.f32 3204448256#32 * Ideal.div (Ideal.rsqrt q) q)) (Ideal.ofBits FTy.f32 1149239296#32) * x i := by
  obtain ⟨s, hs, e1, e2⟩ := rsqrt_real q hq
  rw [e2, e1, div_width, div_width, half]
  have e3 : ∑ k, d k * (x k * (s : EReal)) = (s : EReal) * ∑ k, x k * d k := by
    rw [smul_sum s hs]
    exact Finset.sum_congr rfl fun k _ => by ac_rfl
  rw [e3]
  generalize (∑ k, x k * d k) = S
  have hc : 0 ≤ s * s * s / 2048 := by positivity
  have l : x i * (s : EReal) * ((s : EReal) * S * ((1 / 1024 : ℝ) : EReal)) = ((s * s / 1024 : ℝ) : EReal) * (x i * S) := by
    rw [show (s * s / 1024 : ℝ) = s * s * (1 / 1024) by ring, EReal.coe_mul, EReal.coe_mul]
    ac_rfl
  have r : S * (((-(1 / 2) : ℝ) : EReal) * ((s * s * s : ℝ) : EReal)) * ((1 / 1024 : ℝ) : EReal) = -(((s * s * s / 2048 : ℝ) : EReal) * S) := by
    rw [← neg_mul, ← EReal.coe_neg, show (-(s * s * s / 2048) : ℝ) = -(1 / 2) * (s * s * s) * (1 / 1024) by ring,
      EReal.coe_mul, EReal.coe_mul]
    ac_rfl
  rw [l, r]
  have r2 : x i * -(((s * s * s / 2048 : ℝ) : EReal) * S) = ((s * s * s / 2048 : ℝ) : EReal) * -(x i * S) := by
    rw [mul_neg, mul_neg]; exact congrArg _ (by ac_rfl)
  have r3 : -(((s * s * s / 2048 : ℝ) : EReal) * S) * x i = ((s * s * s / 2048 : ℝ) : EReal) * -(x i * S) := by
    rw [mul_comm, r2]
  rw [r2, r3, add_assoc, ← EReal.right_distrib_of_nonneg (EReal.coe_nonneg.mpr hc) (EReal.coe_nonneg.mpr hc), ← EReal.coe_add,
    show (s * s * s / 2048 + s * s * s / 2048 : ℝ) = s * (s * s / 1024) by ring, sub_eq_add_neg,
    EReal.left_distrib_of_nonneg_of_ne_top (EReal.coe_nonneg.mpr hs) (EReal.coe_ne_top s), EReal.coe_mul, mul_comm (d i)]
  refine congrArg _ ?_
  rw [mul_neg, mul_neg, mul_assoc]

variable (x dh dr : Vec Ideal S2048x1024 .f32) (g sc : Vec Ideal S1x1024 .f32)

/-! ## The call's arithmetic -/

/-- The mean square of a token's activation, with the norm's epsilon. -/
def sQ (r : Fin 2048) : EReal :=
  Ideal.div (∑ k : Fin 1024, x (ix2 r k) * x (ix2 r k)) (Ideal.ofBits FTy.f32 1149239296#32) + Ideal.ofBits FTy.f32 897988541#32

/-- The normalised activation. -/
def sXn (r : Fin 2048) (k : Fin 1024) : EReal := x (ix2 r k) * Ideal.rsqrt (sQ x r)

/-- The gradient of the norm's result, before and after the norm's weight. -/
def sDn (r : Fin 2048) (k : Fin 1024) : EReal := dh (ix2 r k) * (1 + sc (ix2 0 k))
def sD (r : Fin 2048) (k : Fin 1024) : EReal := sDn dh sc r k * g (ix2 0 k)

/-- The gradient of the activation. -/
def sDx (r : Fin 2048) (k : Fin 1024) : EReal :=
  Ideal.rsqrt (sQ x r) * (sD dh g sc r k - x (ix2 r k) * Ideal.rsqrt (sQ x r)
    * Ideal.div (∑ j : Fin 1024, sD dh g sc r j * (x (ix2 r j) * Ideal.rsqrt (sQ x r))) (Ideal.ofBits FTy.f32 1149239296#32)) + dr (ix2 r k)

/-- What a token adds to row `a` of the sums: the gradients of the shift, the scale and the weight. -/
def sAdd (a : Fin 8) (n : Fin 1024) (r : Fin 2048) : EReal :=
  if a.val = 0 then dh (ix2 r n) else if a.val = 1 then dh (ix2 r n) * (sXn x r n * g (ix2 0 n))
    else if a.val = 2 then sDn dh sc r n * sXn x r n else 0

theorem sQ_pos (r : Fin 2048) : 0 < sQ x r := by
  unfold sQ
  rw [div_width]
  refine lt_of_lt_of_le eps_pos (le_add_of_nonneg_left ?_)
  exact mul_nonneg (Finset.sum_nonneg fun k _ => sq_nonneg' _) (EReal.coe_nonneg.mpr (by norm_num))

/-! ## The reference at an index -/

section
open Cert.PreRefIdeal.Read

theorem ix_eq {d : Fin 2 → ℕ} (i : (⟨2, d⟩ : Shape).Idx) (j : (⟨2, d⟩ : Shape).Idx) (h0 : (i 0).val = (j 0).val) (h1 : (i 1).val = (j 1).val) : i = j := by
  funext a; refine Fin.ext ?_
  match a with
  | ⟨0, _⟩ => exact h0
  | ⟨1, _⟩ => exact h1

theorem ref_q (i : Cert.PreRefIdeal.S2048x1.Idx) : val_main_v7 (F := Ideal) x i = sQ x (i 0) := by
  rw [val_main_v7_apply, val_main_v5_apply, val_main_v3_apply, val_main_v2_apply, val_main_v4_apply, val_main_v6_apply]
  have e : ∀ k, val_main_v1 (F := Ideal) x (idx_main_v2 (idx_main_v3 i) k) = x (ix2 (i 0) k) * x (ix2 (i 0) k) := by
    intro k; rw [val_main_v1_apply, ix_eq (idx_main_v2 (idx_main_v3 i) k) (ix2 (i 0) k) rfl rfl]; rfl
  simp only [e]
  pointwise [val_main_cst_0, val_main_cst_1, val_main_cst_2]
  rfl

theorem ref_xn (i : S2048x1024.Idx) : val_main_v13 (F := Ideal) x i = sXn x (i 0) (i 1) := by
  rw [val_main_v13_apply, val_main_v12_apply, val_main_v8_apply, ref_q, ix_eq i (ix2 (i 0) (i 1)) rfl rfl]
  rfl

theorem ref_dn (i : S2048x1024.Idx) : val_main_v29 (F := Ideal) dh sc i = sDn dh sc (i 0) (i 1) := by
  rw [val_main_v29_apply, val_main_v22_apply, val_main_v28_apply, val_main_v17_apply, val_main_v16_apply]
  rw [ix_eq (idx_main_v28 i) (ix2 0 (i 1)) rfl rfl]
  have e : idx_main_v22 i = ix2 (i 0) (i 1) := by
    have h0 : (i 0).val < 2048 := (i 0).isLt
    have h1 : (i 1).val < 1024 := (i 1).isLt
    refine ix_eq _ _ ?_ ?_
    · show ((i 0).val * 1024 + (i 1).val) / 1024 = (i 0).val; omega
    · show ((i 0).val * 1024 + (i 1).val) % 1024 = (i 1).val; omega
  rw [e, show val_main_cst_4 (F := Ideal) (idx_main_v16 (ix2 0 (i 1))) = (1 : EReal) by pointwise [val_main_cst_4]]
  rfl

theorem ref_d (i : S2048x1024.Idx) : val_main_v34 (F := Ideal) dh g sc i = sD dh g sc (i 0) (i 1) := by
  rw [val_main_v34_apply, val_main_v33_apply, ref_dn, ix_eq (idx_main_v33 i) (ix2 0 (i 1)) rfl rfl]
  rfl

theorem ref_v (i : Cert.PreRefIdeal.S2048x1.Idx) : val_main_v42 (F := Ideal) x dh g sc i
    = Ideal.div ((∑ k : Fin 1024, x (ix2 (i 0) k) * sD dh g sc (i 0) k) * (Ideal.ofBits FTy.f32 3204448256#32
      * Ideal.div (Ideal.rsqrt (sQ x (i 0))) (sQ x (i 0)))) (Ideal.ofBits FTy.f32 1149239296#32) := by
  rw [val_main_v42_apply, val_main_v40_apply, val_main_v37_apply, val_main_v36_apply, val_main_v11_apply, val_main_v10_apply,
    val_main_v9_apply, val_main_v8_apply, ref_q, val_main_v41_apply]
  have h0 : (i 0).val < 2048 := (i 0).isLt
  have h1 : (i 1).val < 1 := (i 1).isLt
  have e : ∀ k, val_main_v35 (F := Ideal) x dh g sc (idx_main_v36 (idx_main_v37 i) k) = x (ix2 (i 0) k) * sD dh g sc (i 0) k := by
    intro k
    rw [val_main_v35_apply, ref_d, ix_eq (idx_main_v36 (idx_main_v37 i) k) (ix2 (i 0) k) (show (i 0).val * 1 + (i 1).val = (i 0).val by omega) rfl]
    rfl
  simp only [e]
  pointwise [val_main_cst_8, val_main_cst_9, val_main_cst_3]

theorem ref_v' (i : Cert.PreRefIdeal.S2048.Idx) : val_main_v43 (F := Ideal) x dh g sc i
    = Ideal.div ((∑ k : Fin 1024, x (ix2 (i 0) k) * sD dh g sc (i 0) k) * (Ideal.ofBits FTy.f32 3204448256#32
      * Ideal.div (Ideal.rsqrt (sQ x (i 0))) (sQ x (i 0)))) (Ideal.ofBits FTy.f32 1149239296#32) := by
  rw [val_main_v43_apply, Fin.sum_univ_one, ref_v,
    show ∀ j, val_main_cst_10 (F := Ideal) j = (0 : EReal) from fun j => by pointwise [val_main_cst_10]]
  exact zero_add _

theorem ref_dx (i : S2048x1024.Idx) : val_main_v49 (F := Ideal) x dh dr g sc i = sDx x dh dr g sc (i 0) (i 1) := by
  rw [val_main_v49_apply, val_main_v48_apply, val_main_v47_apply, val_main_v46_apply, val_main_v45_apply, val_main_v44_apply,
    ref_v', val_main_v39_apply, val_main_v38_apply, val_main_v8_apply, ref_d, ref_q]
  have ex : x i = x (ix2 (i 0) (i 1)) := congrArg x (ix_eq _ _ rfl rfl)
  have er : dr i = dr (ix2 (i 0) (i 1)) := congrArg dr (ix_eq _ _ rfl rfl)
  rw [ex, er]
  unfold sDx
  rw [grad_norm 1024 (fun k => x (ix2 (i 0) k)) (fun k => sD dh g sc (i 0) k) (sQ x (i 0)) (sQ_pos x (i 0)) (i 1)]
  rfl

theorem ref_r0 (u : Fin 1) (n : Fin 1024) : val_main_v24 (F := Ideal) dh (ix2 u n) = ∑ r : Fin 2048, dh (ix2 r n) := by
  have h0 := u.isLt
  rw [val_main_v24_apply, val_main_v23_apply, show ∀ j, val_main_cst_5 (F := Ideal) j = (0 : EReal) from fun j => by pointwise [val_main_cst_5]]
  refine (zero_add _).trans (Fin.sum_fin_congr fun k => congrArg dh (ix_eq _ _ rfl ?_))
  show u.val * 1024 + n.val = n.val; omega

theorem ref_r1 (u : Fin 1) (n : Fin 1024) :
    val_main_v27 (F := Ideal) x dh g (ix2 u n) = ∑ r : Fin 2048, dh (ix2 r n) * (sXn x r n * g (ix2 0 n)) := by
  have h0 := u.isLt
  have h1 := n.isLt
  rw [val_main_v27_apply, val_main_v26_apply, show ∀ j, val_main_cst_6 (F := Ideal) j = (0 : EReal) from fun j => by pointwise [val_main_cst_6]]
  refine (zero_add _).trans (Fin.sum_fin_congr fun k => ?_)
  have ek : idx_main_v26 (idx_main_v27 (ix2 u n)) k = ix2 k n := ix_eq _ _ rfl (show u.val * 1024 + n.val = n.val by omega)
  have e22 : idx_main_v22 (ix2 k n) = ix2 k n :=
    ix_eq _ _ (show (k.val * 1024 + n.val) / 1024 = k.val by omega) (show (k.val * 1024 + n.val) % 1024 = n.val by omega)
  have e14 : idx_main_v14 (ix2 k n) = ix2 0 n := ix_eq _ _ rfl rfl
  rw [ek, val_main_v25_apply, val_main_v22_apply, val_main_v15_apply, val_main_v14_apply, ref_xn, e22, e14]
  exact mul_comm _ _

theorem ref_r2 (u : Fin 1) (n : Fin 1024) :
    val_main_v32 (F := Ideal) x dh sc (ix2 u n) = ∑ r : Fin 2048, sDn dh sc r n * sXn x r n := by
  have h0 := u.isLt
  rw [val_main_v32_apply, val_main_v31_apply, show ∀ j, val_main_cst_7 (F := Ideal) j = (0 : EReal) from fun j => by pointwise [val_main_cst_7]]
  refine (zero_add _).trans (Fin.sum_fin_congr fun k => ?_)
  have ek : idx_main_v31 (idx_main_v32 (ix2 u n)) k = ix2 k n := ix_eq _ _ rfl (show u.val * 1024 + n.val = n.val by omega)
  rw [ek, val_main_v30_apply, ref_dn, ref_xn]
  exact mul_comm _ _

theorem ref_sum (i : S8x1024.Idx) : val_main_v51 (F := Ideal) x dh g sc i = ∑ r : Fin 2048, sAdd x dh g sc (i 0) (i 1) r := by
  idx_vars i
  have e0 := ref_r0 dh
  have e1 := ref_r1 x dh g
  have e2 := ref_r2 x dh sc
  generalize hp0 : val_main_v24 (F := Ideal) dh = p0 at e0
  generalize hp1 : val_main_v27 (F := Ideal) x dh g = p1 at e1
  generalize hp2 : val_main_v32 (F := Ideal) x dh sc = p2 at e2
  unfold val_main_v51
  rw [hp0, hp1, hp2]
  pointwise [val_main_v50, val_main_cst_11]
  simp only [e0, e1, e2]
  unfold sAdd
  obtain h | h | h | h : i0.val = 0 ∨ i0.val = 1 ∨ i0.val = 2 ∨ 3 ≤ i0.val := by omega
  · rw [dif_pos (by omega)]
    exact Finset.sum_congr rfl fun r _ => (if_pos h).symm
  · rw [dif_neg (by omega), dif_pos (by omega)]
    exact Finset.sum_congr rfl fun r _ => by rw [if_neg (by omega), if_pos h]
  · rw [dif_neg (by omega), dif_neg (by omega), dif_pos (by omega)]
    exact Finset.sum_congr rfl fun r _ => by rw [if_neg (by omega), if_neg (by omega), if_pos h]
  · rw [dif_neg (by omega), dif_neg (by omega), dif_neg (by omega)]
    exact (Finset.sum_eq_zero fun r _ => by rw [if_neg (by omega), if_neg (by omega), if_neg (by omega)]).symm

end

/-! ## One tile of the kernel -/

/-- What a tile's blocks are of the arrays: rows `R` of the token arrays, and the weights whole. -/
structure Tile (R : Fin 1024 → Fin 2048) (x0 x1 x2 : Vec Ideal S1024x1024 .f32) (x3 x4 : Vec Ideal S1x1024 .f32) : Prop where
  h0 : ∀ r k, x0 (ix2 r k) = x (ix2 (R r) k)
  h1 : ∀ r k, x1 (ix2 r k) = dh (ix2 (R r) k)
  h2 : ∀ r k, x2 (ix2 r k) = dr (ix2 (R r) k)
  h3 : x3 = g
  h4 : x4 = sc

variable {x dh dr g sc}
variable {R : Fin 1024 → Fin 2048} {x0 x1 x2 : Vec Ideal S1024x1024 .f32} {x3 x4 : Vec Ideal S1x1024 .f32} (T : Tile x dh dr g sc R x0 x1 x2 x3 x4)

include T

theorem t_rs (r : Fin 1024) (n : Fin 1) : k0_pay5 x0 (ix2 r n) = Ideal.rsqrt (sQ x (R r)) := by
  pointwise [k0_pay5]
  simp only [T.h0]
  rfl

theorem t_xn (r n : Fin 1024) : k0_pay6 x0 (ix2 r n) = sXn x (R r) n := by
  have e := t_rs T r 0
  unfold k0_pay6
  generalize k0_pay5 x0 = p at e ⊢
  pointwise
  rw [T.h0]
  first | rw [e] | (erw [e])
  rfl

theorem t_dx (r n : Fin 1024) :
    k0_pay3 (k0_pay5 x0) (k0_pay6 x0) x1 x4 (FloatOps.ofBits FTy.f32 1065353216#32) x3 x2 (ix2 r n) = sDx x dh dr g sc (R r) n := by
  have e := t_rs T
  have e' := t_xn T
  generalize k0_pay5 x0 = p at e ⊢
  generalize k0_pay6 x0 = p' at e' ⊢
  pointwise [k0_pay3, k0_pay1]
  simp only [e, e', T.h1, T.h2, T.h3, T.h4]
  rfl

theorem t_p7 (a : Vec Ideal S1x1024 .f32) (n : Fin 1024) : k0_pay7 x1 a (ix2 0 n) = a (ix2 0 n) + ∑ r : Fin 1024, sAdd x dh g sc 0 n (R r) := by
  pointwise [k0_pay7]
  refine congrArg _ (Fin.sum_fin_congr fun k => ?_)
  rw [T.h1]
  rfl

theorem t_p8 (a : Vec Ideal S1x1024 .f32) (n : Fin 1024) : k0_pay8 x0 x1 a x3 (ix2 0 n) = a (ix2 0 n) + ∑ r : Fin 1024, sAdd x dh g sc 1 n (R r) := by
  have e' := t_xn T
  unfold k0_pay8
  generalize k0_pay6 x0 = p' at e' ⊢
  pointwise
  refine congrArg _ (Fin.sum_fin_congr fun k => ?_)
  rw [T.h1, e', T.h3]
  rfl

theorem t_p2 (a : Vec Ideal S1x1024 .f32) (n : Fin 1024) :
    k0_pay2 (k0_pay6 x0) x1 x4 (FloatOps.ofBits FTy.f32 1065353216#32) a (ix2 0 n) = a (ix2 0 n) + ∑ r : Fin 1024, sAdd x dh g sc 2 n (R r) := by
  have e' := t_xn T
  generalize k0_pay6 x0 = p' at e' ⊢
  pointwise [k0_pay2, k0_pay1]
  refine congrArg _ (Fin.sum_fin_congr fun k => ?_)
  rw [T.h1, e', T.h4]
  rfl

omit T

/-- The block each window reads or writes at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ)

/-- The tile's rows at a point. -/
def rows (t : Fin cfg0.N) (r : Fin 1024) : Fin 2048 := ⟨1024 * t.val + r.val, by have := t.isLt; have h : cfg0.N = 2 := rfl; omega⟩

/-- The windows' blocks at a point are a tile of the arrays. -/
theorem tile (c : Dev nD) (t : Fin cfg0.N) : Tile (m ((c : Thread nD τ).loc main_arg0)) (m ((c : Thread nD τ).loc main_arg1)) (m ((c : Thread nD τ).loc main_arg2)) (m ((c : Thread nD τ).loc main_arg3)) (m ((c : Thread nD τ).loc main_arg4)) (rows t)
    (iblk m c 0 t) (iblk m c 1 t) (iblk m c 2 t) (iblk m c 3 t) (iblk m c 4 t) where
  h0 r k := by blk_ext [iblk, V, idx t, rows]; all_goals (blk_simp [idx t]; omega)
  h1 r k := by blk_ext [iblk, V, idx t, rows]; all_goals (blk_simp [idx t]; omega)
  h2 r k := by blk_ext [iblk, V, idx t, rows]; all_goals (blk_simp [idx t]; omega)
  h3 := by funext y; blk_ext [iblk, V, idx t]
  h4 := by funext y; blk_ext [iblk, V, idx t]

theorem o5 (c : Dev nD) (t : Fin cfg0.N) (y : S1024x1024.Idx) : (outsAt0 m c t.val t.isLt).1 y
    = sDx (m ((c : Thread nD τ).loc main_arg0)) (m ((c : Thread nD τ).loc main_arg1)) (m ((c : Thread nD τ).loc main_arg2)) (m ((c : Thread nD τ).loc main_arg3)) (m ((c : Thread nD τ).loc main_arg4)) (rows t (y 0)) (y 1) := by
  idx_vars y
  by_cases h : t.val % 2 = 0
  · rw [outsAt0_A m c t h]
    frame_out
    exact t_dx (tile m c t) _ _
  · rw [outsAt0_B m c t h]
    frame_out
    exact t_dx (tile m c t) _ _

/-- What a point adds to the sums. -/
def part (c : Dev nD) (t : Fin cfg0.N) (j : S8x1024.Idx) : EReal :=
  ∑ r : Fin 1024, sAdd (m ((c : Thread nD τ).loc main_arg0)) (m ((c : Thread nD τ).loc main_arg1)) (m ((c : Thread nD τ).loc main_arg3)) (m ((c : Thread nD τ).loc main_arg4)) (j 0) (j 1) (rows t r)

theorem part_row (c : Dev nD) (t : Fin cfg0.N) (j : S8x1024.Idx) (a : Fin 8) (h : (j 0).val = a.val) : part m c t j
    = ∑ r : Fin 1024, sAdd (m ((c : Thread nD τ).loc main_arg0)) (m ((c : Thread nD τ).loc main_arg1)) (m ((c : Thread nD τ).loc main_arg3)) (m ((c : Thread nD τ).loc main_arg4)) a (j 1) (rows t r) := by
  unfold part
  rw [show j 0 = a from Fin.ext h]

theorem part_rest (c : Dev nD) (t : Fin cfg0.N) (j : S8x1024.Idx) (h : 3 ≤ (j 0).val) : part m c t j = 0 := by
  unfold part sAdd
  refine Finset.sum_eq_zero fun r _ => ?_
  rw [if_neg (by omega), if_neg (by omega), if_neg (by omega)]

theorem o6_A (c : Dev nD) (t : Fin cfg0.N) (h : t.val % 2 = 0) (j : S8x1024.Idx) : (outsAt0 m c t.val t.isLt).2 j = 0 + part m c t j := by
  rw [outsAt0_A m c t h]
  frame_out
  rw [← View.read_writes_junk_eq_canon (ms0_6 t).view]
  have h8 : (j 0).val < 8 := (j 0).isLt
  have z : ∀ i, (k0_pay4 (F := Ideal)) i = 0 := fun i => by pointwise [k0_pay4]
  obtain h0 | h0 | h0 | h0 : (j 0).val = 0 ∨ (j 0).val = 1 ∨ (j 0).val = 2 ∨ 3 ≤ (j 0).val := by omega
  · rw [View.read_writes_cons_rows_of_not_mem (size := ![1, 1024]) (o := 2) (W := 1) _ _ _ _ _ j rfl rfl (by omega),
      View.read_writes_cons_rows_of_not_mem (size := ![1, 1024]) (o := 1) (W := 1) _ _ _ _ _ j rfl rfl (by omega),
      View.read_writes_cons_rows_of_mem (size := ![1, 1024]) (o := 0) _ _ _ _ _ j (ix2 0 (j 1)) rfl h0 rfl]
    refine (t_p7 (tile m c t) _ (j 1)).trans (congrArg₂ (· + ·) ?_ (part_row m c t j 0 h0).symm)
    exact Eq.trans (View.read_writes_cons_rows_of_mem (size := ![8, 1024]) (o := 0) _ _ _ _ _ _ (ix2 0 (j 1)) rfl rfl (show 0 + 1 * (j 1).val = (j 1).val by omega)) (z _)
  · rw [View.read_writes_cons_rows_of_not_mem (size := ![1, 1024]) (o := 2) (W := 1) _ _ _ _ _ j rfl rfl (by omega),
      View.read_writes_cons_rows_of_mem (size := ![1, 1024]) (o := 1) _ _ _ _ _ j (ix2 0 (j 1)) rfl h0 rfl]
    refine (t_p8 (tile m c t) _ (j 1)).trans (congrArg₂ (· + ·) ?_ (part_row m c t j 1 h0).symm)
    refine Eq.trans (View.read_writes_cons_rows_of_not_mem (size := ![1, 1024]) (o := 0) (W := 1) _ _ _ _ _ _ rfl rfl (Or.inr (le_refl 1))) ?_
    exact Eq.trans (View.read_writes_cons_rows_of_mem (size := ![8, 1024]) (o := 0) _ _ _ _ _ _ (ix2 1 (j 1)) rfl rfl (show 0 + 1 * (j 1).val = (j 1).val by omega)) (z _)
  · rw [View.read_writes_cons_rows_of_mem (size := ![1, 1024]) (o := 2) _ _ _ _ _ j (ix2 0 (j 1)) rfl h0 rfl]
    refine (t_p2 (tile m c t) _ (j 1)).trans (congrArg₂ (· + ·) ?_ (part_row m c t j 2 h0).symm)
    refine Eq.trans (View.read_writes_cons_rows_of_not_mem (size := ![1, 1024]) (o := 1) (W := 1) _ _ _ _ _ _ rfl rfl (Or.inr (le_refl 2))) ?_
    refine Eq.trans (View.read_writes_cons_rows_of_not_mem (size := ![1, 1024]) (o := 0) (W := 1) _ _ _ _ _ _ rfl rfl (Or.inr (show 1 ≤ 2 by omega))) ?_
    exact Eq.trans (View.read_writes_cons_rows_of_mem (size := ![8, 1024]) (o := 0) _ _ _ _ _ _ (ix2 2 (j 1)) rfl rfl (show 0 + 1 * (j 1).val = (j 1).val by omega)) (z _)
  · rw [View.read_writes_cons_rows_of_not_mem (size := ![1, 1024]) (o := 2) (W := 1) _ _ _ _ _ j rfl rfl (by omega),
      View.read_writes_cons_rows_of_not_mem (size := ![1, 1024]) (o := 1) (W := 1) _ _ _ _ _ j rfl rfl (by omega),
      View.read_writes_cons_rows_of_not_mem (size := ![1, 1024]) (o := 0) (W := 1) _ _ _ _ _ j rfl rfl (by omega), part_rest m c t j h0, add_zero]
    exact Eq.trans (View.read_writes_cons_rows_of_mem (size := ![8, 1024]) (o := 0) _ _ _ _ _ _ j rfl (Nat.zero_add _).symm rfl) (z _)

theorem o6_B (c : Dev nD) (t : Fin cfg0.N) (h : ¬ t.val % 2 = 0) (j : S8x1024.Idx) : (outsAt0 m c t.val t.isLt).2 j
    = (outsAt0 m c (t.val - 1) (Nat.lt_of_le_of_lt (Nat.sub_le _ _) t.isLt)).2 j + part m c t j := by
  rw [outsAt0_B m c t h]
  frame_out
  generalize (outsAt0 m c (t.val - 1) _).2 = prev
  have h8 : (j 0).val < 8 := (j 0).isLt
  obtain h0 | h0 | h0 | h0 : (j 0).val = 0 ∨ (j 0).val = 1 ∨ (j 0).val = 2 ∨ 3 ≤ (j 0).val := by omega
  · rw [View.read_writes_cons_rows_of_not_mem (size := ![1, 1024]) (o := 2) (W := 1) _ _ _ _ _ j rfl rfl (by omega),
      View.read_writes_cons_rows_of_not_mem (size := ![1, 1024]) (o := 1) (W := 1) _ _ _ _ _ j rfl rfl (by omega),
      View.read_writes_cons_rows_of_mem (size := ![1, 1024]) (o := 0) _ _ _ _ _ j (ix2 0 (j 1)) rfl h0 rfl]
    refine (t_p7 (tile m c t) _ (j 1)).trans (congrArg₂ (· + ·) ?_ (part_row m c t j 0 h0).symm)
    exact congrArg prev (ix_eq _ _ (h0.symm ▸ rfl) (show 0 + 1 * (j 1).val = (j 1).val by omega))
  · rw [View.read_writes_cons_rows_of_not_mem (size := ![1, 1024]) (o := 2) (W := 1) _ _ _ _ _ j rfl rfl (by omega),
      View.read_writes_cons_rows_of_mem (size := ![1, 1024]) (o := 1) _ _ _ _ _ j (ix2 0 (j 1)) rfl h0 rfl]
    refine (t_p8 (tile m c t) _ (j 1)).trans (congrArg₂ (· + ·) ?_ (part_row m c t j 1 h0).symm)
    exact congrArg prev (ix_eq _ _ (h0.symm ▸ rfl) (show 0 + 1 * (j 1).val = (j 1).val by omega))
  · rw [View.read_writes_cons_rows_of_mem (size := ![1, 1024]) (o := 2) _ _ _ _ _ j (ix2 0 (j 1)) rfl h0 rfl]
    refine (t_p2 (tile m c t) _ (j 1)).trans (congrArg₂ (· + ·) ?_ (part_row m c t j 2 h0).symm)
    exact congrArg prev (ix_eq _ _ (h0.symm ▸ rfl) (show 0 + 1 * (j 1).val = (j 1).val by omega))
  · rw [View.read_writes_cons_rows_of_not_mem (size := ![1, 1024]) (o := 2) (W := 1) _ _ _ _ _ j rfl rfl (by omega),
      View.read_writes_cons_rows_of_not_mem (size := ![1, 1024]) (o := 1) (W := 1) _ _ _ _ _ j rfl rfl (by omega),
      View.read_writes_cons_rows_of_not_mem (size := ![1, 1024]) (o := 0) (W := 1) _ _ _ _ _ j rfl rfl (by omega), part_rest m c t j h0, add_zero,
      View.writes_nil, Memref.IsWhole.read_unread]

theorem final5 (c : Dev nD) : (dats m 0 c).arrAt 5 cfg0.N
    = Cert.PreRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, o5 m c t]
  refine Eq.trans ?_ (ref_dx ..).symm
  congr 1 <;> (refine Fin.ext ?_; blk_simp [idx t, rows]; try first | omega | (dsimp only; omega))

/-- The grid's last point. -/
def last : Fin cfg0.N := ⟨1, by decide +kernel⟩

theorem final6 (c : Dev nD) : (dats m 0 c).arrAt 6 cfg0.N
    = Cert.PreRefIdeal.Read.val_main_v51 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_after_last 6 last (by decide +kernel) _ fun j => ?_
  blk_simp
  rw [after0_6, Pipeline.eq_sum_fin_of_reset_step_apply_last (fun n h => (outsAt0 m c n h).2) 2 (fun _ => 0) (fun t j => part m c t j)
    (fun t h j => o6_A m c t h j) (fun t h j => o6_B m c t h j) (le_of_eq N_0) last rfl j, zero_add, ref_sum]
  unfold part
  refine Fin.sum_mul_add_congr fun s k hl => ?_
  exact congrArg _ (Fin.ext (show 1024 * s.val + k.val = s.val * 1024 + k.val by omega))

end Cert.PreIdeal.RefValue

namespace Cert.Proof

/-- The norm before a layer, backward: the kernel's results are the reference's. -/
theorem pre_algebraic : Cert.algebraic_PreIdeal_PreRefIdeal := by
  pair_intro
  · run_from Cert.PreIdeal.Value.run_blocks m g
  · run_from Cert.PreRefIdeal.Value.run m' g'
    all_goals obtain ⟨a0, a1, a2, a3, a4⟩ := hagree c
    all_goals (first
      | (rw [Cert.PreIdeal.RefValue.final5 m c, ← a0, ← a1, ← a2, ← a3, ← a4]; exact Cert.PreRefIdeal.Read.val_main_v49_eq (F := Ideal) ..)
      | (rw [Cert.PreIdeal.RefValue.final6 m c, ← a0, ← a1, ← a3, ← a4]; exact Cert.PreRefIdeal.Read.val_main_v51_eq (F := Ideal) ..))

end Cert.Proof

end
-- ==== Proof.AdaFwd.lean ====
/- The conditioning projection: the two layers' slabs the kernel writes are the reference's stacked results. -/
module

public import proofs.«01_k».proof.Defs
public import proofs.«01_k».proof.Proof.Gen.AdaFwdIdeal.Value
public import proofs.«01_k».proof.Proof.Gen.AdaFwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaFwdIdeal.RefValue

open Cert.AdaFwdIdeal Cert.AdaFwdIdeal.Gen Cert.AdaFwdIdeal.Value Cert.AdaFwdRefIdeal.Read

variable (c : Vec Ideal S8x1024 .f32) (w : Vec Ideal S2x1024x384 .f32) (b : Vec Ideal S2x384 .f32)

/-- Layer `l`'s projection of `silu` of device `r`'s vector, at column `n`. -/
abbrev proj (l : Fin 2) (r : Fin 8) (n : Fin 384) : EReal :=
  (∑ k : Fin 1024, (c (ix2 r k) * Ideal.div 1 (1 + Ideal.exp (0 - c (ix2 r k)))) * w (ix3 l k n)) + b (ix2 l n)

/-- The kernel's result at an index. -/
theorem ker (y : S2x8x384.Idx) (l : Fin 2) (r : Fin 8) (n : Fin 384) (hl : (y 0).val = l.val) (hr : (y 1).val = r.val)
    (hn : (y 2).val = n.val) : G3 (F := Ideal) c w b y = proj c w b l r n := by
  unfold G3
  canon_tiles x h
  · have e : l = 1 := Fin.ext (by show l.val = 1; omega)
    subst e
    pointwise [k0_pay3, k0_pay1]
    obtain rfl : r = x 1 := Fin.ext (by omega)
    obtain rfl : n = x 2 := Fin.ext (by omega)
    rfl
  · have e : l = 0 := Fin.ext (by show l.val = 0; omega)
    subst e
    pointwise [k0_pay2, k0_pay1]
    obtain rfl : r = x 1 := Fin.ext (by omega)
    obtain rfl : n = x 2 := Fin.ext (by omega)
    rfl

/-- The reference's `silu` for layer 0. -/
theorem silu3 (r : Fin 8) (k : Fin 1024) (j : S8x1024.Idx) (h0 : (j 0).val = r.val) (h1 : (j 1).val = k.val) :
    val_main_v3 (F := Ideal) c j = c (ix2 r k) * Ideal.div 1 (1 + Ideal.exp (0 - c (ix2 r k))) := by
  obtain rfl : j = ix2 r k := funext fun a => Fin.ext (by match a with | ⟨0, _⟩ => exact h0 | ⟨1, _⟩ => exact h1)
  pointwise [val_main_v3, val_main_call0_v5, val_main_call0_v4, val_main_call0_v3, val_main_call0_v2, val_main_call0_v1,
    val_main_call0_v0, val_main_call0_cst, val_main_call0_cst_0]
  rw [zero_sub]

/-- The reference's `silu` for layer 1. -/
theorem silu10 (r : Fin 8) (k : Fin 1024) (j : S8x1024.Idx) (h0 : (j 0).val = r.val) (h1 : (j 1).val = k.val) :
    val_main_v10 (F := Ideal) c j = c (ix2 r k) * Ideal.div 1 (1 + Ideal.exp (0 - c (ix2 r k))) := by
  obtain rfl : j = ix2 r k := funext fun a => Fin.ext (by match a with | ⟨0, _⟩ => exact h0 | ⟨1, _⟩ => exact h1)
  pointwise [val_main_v10, val_main_call1_v5, val_main_call1_v4, val_main_call1_v3, val_main_call1_v2, val_main_call1_v1,
    val_main_call1_v0, val_main_call1_cst, val_main_call1_cst_0]
  rw [zero_sub]

/-- The reference's result at an index. -/
theorem ref (l : Fin 2) (r : Fin 8) (n : Fin 384) :
    val_main_v16 (F := Ideal) c w b (ix3 l r n) = proj c w b l r n := by
  fin_cases l
  · pointwise [val_main_v16, val_main_v14, val_main_v6, val_main_v5, val_main_v2]
    rw [val_main_v4_apply]
    refine congrArg (· + _) (Finset.sum_congr rfl fun k _ => congrArg₂ (· * ·) (silu3 c r k _ rfl rfl) ?_)
    pointwise [val_main_v1, val_main_v0]
  · pointwise [val_main_v16, val_main_v15, val_main_v13, val_main_v12, val_main_v9]
    rw [val_main_v11_apply]
    refine congrArg (· + _) (Finset.sum_congr rfl fun k _ => congrArg₂ (· * ·) (silu10 c r k _ rfl rfl) ?_)
    pointwise [val_main_v8, val_main_v7]

/-- The two agree. -/
theorem val : G3 (F := Ideal) c w b = val_main_v16 (F := Ideal) c w b := by
  funext y
  have e : y = ix3 (y 0) (y 1) (y 2) := funext fun a => by match a with | ⟨0, _⟩ => rfl | ⟨1, _⟩ => rfl | ⟨2, _⟩ => rfl
  exact (ker c w b y (y 0) (y 1) (y 2) rfl rfl rfl).trans
    ((ref c w b (y 0) (y 1) (y 2)).symm.trans (congrArg (val_main_v16 (F := Ideal) c w b) e.symm))

end Cert.AdaFwdIdeal.RefValue

namespace Cert.Proof

/-- The conditioning projection of both layers: the kernel's result is the reference's. -/
theorem ada_fwd_algebraic : Cert.algebraic_AdaFwdIdeal_AdaFwdRefIdeal := by
  pair_intro
  · run_from Cert.AdaFwdIdeal.Value.run_blocks m g
  · run_from Cert.AdaFwdRefIdeal.Value.run m' g'
    rw [Cert.AdaFwdIdeal.Value.final3 (F := Ideal) m c, Cert.AdaFwdIdeal.RefValue.val]
    rw [(hagree c).2.2]
    exact Cert.AdaFwdRefIdeal.Read.val_main_v16_eq (F := Ideal) ..

end Cert.Proof

end
-- ==== Proof.AdaBwd.lean ====
/- The gradient of the conditioning projection's weight: the kernel's contraction over the devices' vectors is the reference's. -/
module

public import proofs.«01_k».proof.Defs
public import proofs.«01_k».proof.Proof.Gen.AdaBwdIdeal.Value
public import proofs.«01_k».proof.Proof.Gen.AdaBwdRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaBwdIdeal.RefValue

open Cert.AdaBwdIdeal Cert.AdaBwdIdeal.Gen Cert.AdaBwdIdeal.Value Cert.AdaBwdRefIdeal.Read

/-- The reference's `silu` at an index. -/
theorem silu (c : Vec Ideal S8x1024 .f32) (j : S8x1024.Idx) :
    val_main_v2 (F := Ideal) c j = c j * Ideal.div 1 (1 + Ideal.exp (0 - c j)) := by
  pointwise [val_main_v2, val_main_call0_v5, val_main_call0_v4, val_main_call0_v3, val_main_call0_v2, val_main_call0_v1,
    val_main_call0_v0, val_main_call0_cst, val_main_call0_cst_0]
  rw [zero_sub]

/-- The kernel's result is the reference's, at every index a contraction over the eight devices. -/
theorem val (c : Vec Ideal S8x1024 .f32) (d : Vec Ideal S8x384 .f32) : G2 (F := Ideal) c d = val_main_v8 (F := Ideal) c d := by
  funext i
  rw [val_main_v8_apply, val_main_v7_apply, val_main_v6_apply]
  pointwise [G2, k0_pay1]
  refine Finset.sum_congr rfl fun k _ => ?_
  rw [mul_comm]
  refine congrArg₂ (· * ·) (congrArg d (funext fun a => by match a with | ⟨0, _⟩ => rfl | ⟨1, _⟩ => rfl)) ?_
  have e : Cert.AdaBwdRefIdeal.Read.ridx_main_v6 (idx_main_v7 (idx_main_v8 i)) k = ix2 k (i 1) :=
    funext fun a => by match a with | ⟨0, _⟩ => rfl | ⟨1, _⟩ => rfl
  exact (silu c _).symm.trans (congrArg (val_main_v2 (F := Ideal) c) e.symm)

end Cert.AdaBwdIdeal.RefValue

namespace Cert.Proof

/-- The gradient of the conditioning projection's weight: the kernel's result is the reference's. -/
theorem ada_bwd_algebraic : Cert.algebraic_AdaBwdIdeal_AdaBwdRefIdeal := by
  pair_intro
  · run_from Cert.AdaBwdIdeal.Value.run m g
  · run_from Cert.AdaBwdRefIdeal.Value.run m' g'
    exact (Cert.AdaBwdRefIdeal.Read.val_main_v8_eq ..).trans (Cert.AdaBwdIdeal.RefValue.val _ _).symm

end Cert.Proof

end
-- ==== Proof.SmallRun.lean ====
/- One run of the small weights' optimiser body, with what it stores. -/
module

public import proofs.«01_k».proof.Proof.Gen.SmallIdeal.Frame.Runs

@[expose] public section

set_option maxRecDepth 16384

noncomputable section

namespace Cert.SmallIdeal.Run

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of one run of the optimiser kernel, buffer by buffer: the twenty-eight results and the four packs. -/
structure Stores (F : FTy → Type) where
  L5 : List (View.Piece (Elt F) S2x3072 .f32)
  L6 : List (View.Piece (Elt F) S2x1024 .f32)
  L7 : List (View.Piece (Elt F) S2x1024 .f32)
  L8 : List (View.Piece (Elt F) S1024x128 .f32)
  L9 : List (View.Piece (Elt F) S2x512 .f32)
  L10 : List (View.Piece (Elt F) S2x1024 .f32)
  L11 : List (View.Piece (Elt F) S2x128 .f32)
  L12 : List (View.Piece (Elt F) S2x3072 .f32)
  L13 : List (View.Piece (Elt F) S2x1024 .f32)
  L14 : List (View.Piece (Elt F) S2x1024 .f32)
  L15 : List (View.Piece (Elt F) S1024x128 .f32)
  L16 : List (View.Piece (Elt F) S2x512 .f32)
  L17 : List (View.Piece (Elt F) S2x1024 .f32)
  L18 : List (View.Piece (Elt F) S2x128 .f32)
  L19 : List (View.Piece (Elt F) S2x3072 .f32)
  L20 : List (View.Piece (Elt F) S2x1024 .f32)
  L21 : List (View.Piece (Elt F) S2x1024 .f32)
  L22 : List (View.Piece (Elt F) S1024x128 .f32)
  L23 : List (View.Piece (Elt F) S2x512 .f32)
  L24 : List (View.Piece (Elt F) S2x1024 .f32)
  L25 : List (View.Piece (Elt F) S2x128 .f32)
  L26 : List (View.Piece (Elt F) S2x3072 .f32)
  L27 : List (View.Piece (Elt F) S2x1024 .f32)
  L28 : List (View.Piece (Elt F) S2x1024 .f32)
  L29 : List (View.Piece (Elt F) S1024x128 .f32)
  L30 : List (View.Piece (Elt F) S2x512 .f32)
  L31 : List (View.Piece (Elt F) S2x1024 .f32)
  L32 : List (View.Piece (Elt F) S2x128 .f32)
  LT0 : List (View.Piece (Elt F) S1136x128 .f32)
  LT1 : List (View.Piece (Elt F) S1136x128 .f32)
  LT2 : List (View.Piece (Elt F) S1136x128 .f32)
  LT3 : List (View.Piece (Elt F) S1136x128 .f32)

set_option maxHeartbeats 5788000 in
/-- The body run once over whole buffers: what it stores, and the triple that it stores it. -/
def run (c : Dev nD) (arg0 : Memref sig .tc .vmem S1136x128 .f32) (harg0 : arg0.IsWhole) (arg1 : Memref sig .tc .vmem S1136x128 .f32) (harg1 : arg1.IsWhole) (arg2 : Memref sig .tc .vmem S1136x128 .f32) (harg2 : arg2.IsWhole) (arg3 : Memref sig .tc .vmem S8x40x128 .f32) (harg3 : arg3.IsWhole) (arg4 : Memref sig .tc .vmem S8x1104x128 .f32) (harg4 : arg4.IsWhole) (arg5 : Memref sig .tc .vmem S2x3072 .f32) (harg5 : arg5.IsWhole) (arg6 : Memref sig .tc .vmem S2x1024 .f32) (harg6 : arg6.IsWhole) (arg7 : Memref sig .tc .vmem S2x1024 .f32) (harg7 : arg7.IsWhole) (arg8 : Memref sig .tc .vmem S1024x128 .f32) (harg8 : arg8.IsWhole) (arg9 : Memref sig .tc .vmem S2x512 .f32) (harg9 : arg9.IsWhole) (arg10 : Memref sig .tc .vmem S2x1024 .f32) (harg10 : arg10.IsWhole) (arg11 : Memref sig .tc .vmem S2x128 .f32) (harg11 : arg11.IsWhole) (arg12 : Memref sig .tc .vmem S2x3072 .f32) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1024x128 .f32) (harg15 : arg15.IsWhole) (arg16 : Memref sig .tc .vmem S2x512 .f32) (harg16 : arg16.IsWhole) (arg17 : Memref sig .tc .vmem S2x1024 .f32) (harg17 : arg17.IsWhole) (arg18 : Memref sig .tc .vmem S2x128 .f32) (harg18 : arg18.IsWhole) (arg19 : Memref sig .tc .vmem S2x3072 .f32) (harg19 : arg19.IsWhole) (arg20 : Memref sig .tc .vmem S2x1024 .f32) (harg20 : arg20.IsWhole) (arg21 : Memref sig .tc .vmem S2x1024 .f32) (harg21 : arg21.IsWhole) (arg22 : Memref sig .tc .vmem S1024x128 .f32) (harg22 : arg22.IsWhole) (arg23 : Memref sig .tc .vmem S2x512 .f32) (harg23 : arg23.IsWhole) (arg24 : Memref sig .tc .vmem S2x1024 .f32) (harg24 : arg24.IsWhole) (arg25 : Memref sig .tc .vmem S2x128 .f32) (harg25 : arg25.IsWhole) (arg26 : Memref sig .tc .vmem S2x3072 .f32) (harg26 : arg26.IsWhole) (arg27 : Memref sig .tc .vmem S2x1024 .f32) (harg27 : arg27.IsWhole) (arg28 : Memref sig .tc .vmem S2x1024 .f32) (harg28 : arg28.IsWhole) (arg29 : Memref sig .tc .vmem S1024x128 .f32) (harg29 : arg29.IsWhole) (arg30 : Memref sig .tc .vmem S2x512 .f32) (harg30 : arg30.IsWhole) (arg31 : Memref sig .tc .vmem S2x1024 .f32) (harg31 : arg31.IsWhole) (arg32 : Memref sig .tc .vmem S2x128 .f32) (harg32 : arg32.IsWhole) (arg33 : Memref sig .tc .vmem S1136x128 .f32) (harg33 : arg33.IsWhole) (arg34 : Memref sig .tc .vmem S1136x128 .f32) (harg34 : arg34.IsWhole) (arg35 : Memref sig .tc .vmem S1136x128 .f32) (harg35 : arg35.IsWhole) (arg36 : Memref sig .tc .vmem S1136x128 .f32) (harg36 : arg36.IsWhole)
    (x0 : Vec F S1136x128 .f32) (x1 : Vec F S1136x128 .f32) (x2 : Vec F S1136x128 .f32) (x3 : Vec F S8x40x128 .f32) (x4 : Vec F S8x1104x128 .f32) :
    { p : Stores F //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f p.L5) ∗ (∃ f, arg6.view.loc (c : Thread nD τ) ↦[arg6.view.set]{fullShare} arg6.view.writes (Elt F) f p.L6) ∗ (∃ f, arg7.view.loc (c : Thread nD τ) ↦[arg7.view.set]{fullShare} arg7.view.writes (Elt F) f p.L7) ∗ (∃ f, arg8.view.loc (c : Thread nD τ) ↦[arg8.view.set]{fullShare} arg8.view.writes (Elt F) f p.L8) ∗ (∃ f, arg9.view.loc (c : Thread nD τ) ↦[arg9.view.set]{fullShare} arg9.view.writes (Elt F) f p.L9) ∗ (∃ f, arg10.view.loc (c : Thread nD τ) ↦[arg10.view.set]{fullShare} arg10.view.writes (Elt F) f p.L10) ∗ (∃ f, arg11.view.loc (c : Thread nD τ) ↦[arg11.view.set]{fullShare} arg11.view.writes (Elt F) f p.L11) ∗ (∃ f, arg12.view.loc (c : Thread nD τ) ↦[arg12.view.set]{fullShare} arg12.view.writes (Elt F) f p.L12) ∗ (∃ f, arg13.view.loc (c : Thread nD τ) ↦[arg13.view.set]{fullShare} arg13.view.writes (Elt F) f p.L13) ∗ (∃ f, arg14.view.loc (c : Thread nD τ) ↦[arg14.view.set]{fullShare} arg14.view.writes (Elt F) f p.L14) ∗ (∃ f, arg15.view.loc (c : Thread nD τ) ↦[arg15.view.set]{fullShare} arg15.view.writes (Elt F) f p.L15) ∗ (∃ f, arg16.view.loc (c : Thread nD τ) ↦[arg16.view.set]{fullShare} arg16.view.writes (Elt F) f p.L16) ∗ (∃ f, arg17.view.loc (c : Thread nD τ) ↦[arg17.view.set]{fullShare} arg17.view.writes (Elt F) f p.L17) ∗ (∃ f, arg18.view.loc (c : Thread nD τ) ↦[arg18.view.set]{fullShare} arg18.view.writes (Elt F) f p.L18) ∗ (∃ f, arg19.view.loc (c : Thread nD τ) ↦[arg19.view.set]{fullShare} arg19.view.writes (Elt F) f p.L19) ∗ (∃ f, arg20.view.loc (c : Thread nD τ) ↦[arg20.view.set]{fullShare} arg20.view.writes (Elt F) f p.L20) ∗ (∃ f, arg21.view.loc (c : Thread nD τ) ↦[arg21.view.set]{fullShare} arg21.view.writes (Elt F) f p.L21) ∗ (∃ f, arg22.view.loc (c : Thread nD τ) ↦[arg22.view.set]{fullShare} arg22.view.writes (Elt F) f p.L22) ∗ (∃ f, arg23.view.loc (c : Thread nD τ) ↦[arg23.view.set]{fullShare} arg23.view.writes (Elt F) f p.L23) ∗ (∃ f, arg24.view.loc (c : Thread nD τ) ↦[arg24.view.set]{fullShare} arg24.view.writes (Elt F) f p.L24) ∗ (∃ f, arg25.view.loc (c : Thread nD τ) ↦[arg25.view.set]{fullShare} arg25.view.writes (Elt F) f p.L25) ∗ (∃ f, arg26.view.loc (c : Thread nD τ) ↦[arg26.view.set]{fullShare} arg26.view.writes (Elt F) f p.L26) ∗ (∃ f, arg27.view.loc (c : Thread nD τ) ↦[arg27.view.set]{fullShare} arg27.view.writes (Elt F) f p.L27) ∗ (∃ f, arg28.view.loc (c : Thread nD τ) ↦[arg28.view.set]{fullShare} arg28.view.writes (Elt F) f p.L28) ∗ (∃ f, arg29.view.loc (c : Thread nD τ) ↦[arg29.view.set]{fullShare} arg29.view.writes (Elt F) f p.L29) ∗ (∃ f, arg30.view.loc (c : Thread nD τ) ↦[arg30.view.set]{fullShare} arg30.view.writes (Elt F) f p.L30) ∗ (∃ f, arg31.view.loc (c : Thread nD τ) ↦[arg31.view.set]{fullShare} arg31.view.writes (Elt F) f p.L31) ∗ (∃ f, arg32.view.loc (c : Thread nD τ) ↦[arg32.view.set]{fullShare} arg32.view.writes (Elt F) f p.L32) ∗ (∃ f, arg33.view.loc (c : Thread nD τ) ↦[arg33.view.set]{fullShare} arg33.view.writes (Elt F) f p.LT0) ∗ (∃ f, arg34.view.loc (c : Thread nD τ) ↦[arg34.view.set]{fullShare} arg34.view.writes (Elt F) f p.LT1) ∗ (∃ f, arg35.view.loc (c : Thread nD τ) ↦[arg35.view.set]{fullShare} arg35.view.writes (Elt F) f p.LT2) ∗ (∃ f, arg36.view.loc (c : Thread nD τ) ↦[arg36.view.set]{fullShare} arg36.view.writes (Elt F) f p.LT3)) -∗ K ⟨⟩))
          ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, fun E K => ?run⟩
  case run =>
    dsimp only
    simp only [cc0_adamw_small_eq_skeleton]; unfold cc0_adamw_small_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%ds0, %fs0, -, HS0⟩, ⟨%ds1, %fs1, -, HS1⟩, ⟨%ds2, %fs2, -, HS2⟩, ⟨%ds3, %fs3, -, HS3⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [HS0]; · iexists _; iexact HS0
    isplitl [HS1]; · iexists _; iexact HS1
    isplitl [HS2]; · iexists _; iexact HS2
    iexists _; iexact HS3

end Cert.SmallIdeal.Run

end
-- ==== Proof.SmallCover.lean ====
/- What the body stores covers each result block. -/
module

public import proofs.«01_k».proof.Proof.SmallRun

@[expose] public section

set_option maxRecDepth 16384

noncomputable section

namespace Cert.SmallIdeal.Run

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (a0 : Memref sig .tc .vmem S1136x128 .f32) (k0 : a0.IsWhole) (a1 : Memref sig .tc .vmem S1136x128 .f32) (k1 : a1.IsWhole) (a2 : Memref sig .tc .vmem S1136x128 .f32) (k2 : a2.IsWhole) (a3 : Memref sig .tc .vmem S8x40x128 .f32) (k3 : a3.IsWhole) (a4 : Memref sig .tc .vmem S8x1104x128 .f32) (k4 : a4.IsWhole) (a5 : Memref sig .tc .vmem S2x3072 .f32) (k5 : a5.IsWhole) (a6 : Memref sig .tc .vmem S2x1024 .f32) (k6 : a6.IsWhole) (a7 : Memref sig .tc .vmem S2x1024 .f32) (k7 : a7.IsWhole) (a8 : Memref sig .tc .vmem S1024x128 .f32) (k8 : a8.IsWhole) (a9 : Memref sig .tc .vmem S2x512 .f32) (k9 : a9.IsWhole) (a10 : Memref sig .tc .vmem S2x1024 .f32) (k10 : a10.IsWhole) (a11 : Memref sig .tc .vmem S2x128 .f32) (k11 : a11.IsWhole) (a12 : Memref sig .tc .vmem S2x3072 .f32) (k12 : a12.IsWhole) (a13 : Memref sig .tc .vmem S2x1024 .f32) (k13 : a13.IsWhole) (a14 : Memref sig .tc .vmem S2x1024 .f32) (k14 : a14.IsWhole) (a15 : Memref sig .tc .vmem S1024x128 .f32) (k15 : a15.IsWhole) (a16 : Memref sig .tc .vmem S2x512 .f32) (k16 : a16.IsWhole) (a17 : Memref sig .tc .vmem S2x1024 .f32) (k17 : a17.IsWhole) (a18 : Memref sig .tc .vmem S2x128 .f32) (k18 : a18.IsWhole) (a19 : Memref sig .tc .vmem S2x3072 .f32) (k19 : a19.IsWhole) (a20 : Memref sig .tc .vmem S2x1024 .f32) (k20 : a20.IsWhole) (a21 : Memref sig .tc .vmem S2x1024 .f32) (k21 : a21.IsWhole) (a22 : Memref sig .tc .vmem S1024x128 .f32) (k22 : a22.IsWhole) (a23 : Memref sig .tc .vmem S2x512 .f32) (k23 : a23.IsWhole) (a24 : Memref sig .tc .vmem S2x1024 .f32) (k24 : a24.IsWhole) (a25 : Memref sig .tc .vmem S2x128 .f32) (k25 : a25.IsWhole) (a26 : Memref sig .tc .vmem S2x3072 .f32) (k26 : a26.IsWhole) (a27 : Memref sig .tc .vmem S2x1024 .f32) (k27 : a27.IsWhole) (a28 : Memref sig .tc .vmem S2x1024 .f32) (k28 : a28.IsWhole) (a29 : Memref sig .tc .vmem S1024x128 .f32) (k29 : a29.IsWhole) (a30 : Memref sig .tc .vmem S2x512 .f32) (k30 : a30.IsWhole) (a31 : Memref sig .tc .vmem S2x1024 .f32) (k31 : a31.IsWhole) (a32 : Memref sig .tc .vmem S2x128 .f32) (k32 : a32.IsWhole) (a33 : Memref sig .tc .vmem S1136x128 .f32) (k33 : a33.IsWhole) (a34 : Memref sig .tc .vmem S1136x128 .f32) (k34 : a34.IsWhole) (a35 : Memref sig .tc .vmem S1136x128 .f32) (k35 : a35.IsWhole) (a36 : Memref sig .tc .vmem S1136x128 .f32) (k36 : a36.IsWhole)
    (x0 : Vec F S1136x128 .f32) (x1 : Vec F S1136x128 .f32) (x2 : Vec F S1136x128 .f32) (x3 : Vec F S8x40x128 .f32) (x4 : Vec F S8x1104x128 .f32)

/-- The stores to result buffer 5 tile it. -/
theorem cover5 (y : S2x3072.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L5, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L5 S1x128.size (by sl_kernel_rfl) y

/-- Result buffer 5 after the run. -/
def out5 : Vec F S2x3072 .f32 :=
  VO0_5.read (Elt F) (VO0_5.writes (Elt F) VO0_5.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L5)

/-- The stores to result buffer 6 tile it. -/
theorem cover6 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L6, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L6 S1x128.size (by sl_kernel_rfl) y

/-- Result buffer 6 after the run. -/
def out6 : Vec F S2x1024 .f32 :=
  VO0_6.read (Elt F) (VO0_6.writes (Elt F) VO0_6.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L6)

/-- The stores to result buffer 7 tile it. -/
theorem cover7 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L7, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L7 S1x128.size (by sl_kernel_rfl) y

/-- Result buffer 7 after the run. -/
def out7 : Vec F S2x1024 .f32 :=
  VO0_7.read (Elt F) (VO0_7.writes (Elt F) VO0_7.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L7)

/-- The stores to result buffer 8 tile it. -/
theorem cover8 (y : S1024x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L8, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L8 S1024x128.size (by sl_kernel_rfl) y

/-- Result buffer 8 after the run. -/
def out8 : Vec F S1024x128 .f32 :=
  VO0_8.read (Elt F) (VO0_8.writes (Elt F) VO0_8.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L8)

/-- The stores to result buffer 9 tile it. -/
theorem cover9 (y : S2x512.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L9, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L9 S1x128.size (by sl_kernel_rfl) y

/-- Result buffer 9 after the run. -/
def out9 : Vec F S2x512 .f32 :=
  VO0_9.read (Elt F) (VO0_9.writes (Elt F) VO0_9.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L9)

/-- The stores to result buffer 10 tile it. -/
theorem cover10 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L10, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L10 S1x128.size (by sl_kernel_rfl) y

/-- Result buffer 10 after the run. -/
def out10 : Vec F S2x1024 .f32 :=
  VO0_10.read (Elt F) (VO0_10.writes (Elt F) VO0_10.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L10)

/-- The stores to result buffer 11 tile it. -/
theorem cover11 (y : S2x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L11, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L11 S1x128.size (by sl_kernel_rfl) y

/-- Result buffer 11 after the run. -/
def out11 : Vec F S2x128 .f32 :=
  VO0_11.read (Elt F) (VO0_11.writes (Elt F) VO0_11.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L11)

/-- The stores to result buffer 12 tile it. -/
theorem cover12 (y : S2x3072.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L12, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L12 S1x128.size (by sl_kernel_rfl) y

/-- Result buffer 12 after the run. -/
def out12 : Vec F S2x3072 .f32 :=
  VO0_12.read (Elt F) (VO0_12.writes (Elt F) VO0_12.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L12)

/-- The stores to result buffer 13 tile it. -/
theorem cover13 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L13, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L13 S1x128.size (by sl_kernel_rfl) y

/-- Result buffer 13 after the run. -/
def out13 : Vec F S2x1024 .f32 :=
  VO0_13.read (Elt F) (VO0_13.writes (Elt F) VO0_13.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L13)

/-- The stores to result buffer 14 tile it. -/
theorem cover14 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L14, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L14 S1x128.size (by sl_kernel_rfl) y

/-- Result buffer 14 after the run. -/
def out14 : Vec F S2x1024 .f32 :=
  VO0_14.read (Elt F) (VO0_14.writes (Elt F) VO0_14.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L14)

/-- The stores to result buffer 15 tile it. -/
theorem cover15 (y : S1024x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L15, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L15 S1024x128.size (by sl_kernel_rfl) y

/-- Result buffer 15 after the run. -/
def out15 : Vec F S1024x128 .f32 :=
  VO0_15.read (Elt F) (VO0_15.writes (Elt F) VO0_15.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L15)

/-- The stores to result buffer 16 tile it. -/
theorem cover16 (y : S2x512.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L16, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L16 S1x128.size (by sl_kernel_rfl) y

/-- Result buffer 16 after the run. -/
def out16 : Vec F S2x512 .f32 :=
  VO0_16.read (Elt F) (VO0_16.writes (Elt F) VO0_16.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L16)

/-- The stores to result buffer 17 tile it. -/
theorem cover17 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L17, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L17 S1x128.size (by sl_kernel_rfl) y

/-- Result buffer 17 after the run. -/
def out17 : Vec F S2x1024 .f32 :=
  VO0_17.read (Elt F) (VO0_17.writes (Elt F) VO0_17.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L17)

/-- The stores to result buffer 18 tile it. -/
theorem cover18 (y : S2x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L18, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L18 S1x128.size (by sl_kernel_rfl) y

/-- Result buffer 18 after the run. -/
def out18 : Vec F S2x128 .f32 :=
  VO0_18.read (Elt F) (VO0_18.writes (Elt F) VO0_18.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L18)

/-- The stores to result buffer 19 tile it. -/
theorem cover19 (y : S2x3072.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L19, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L19 S1x128.size (by sl_kernel_rfl) y

/-- Result buffer 19 after the run. -/
def out19 : Vec F S2x3072 .f32 :=
  VO0_19.read (Elt F) (VO0_19.writes (Elt F) VO0_19.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L19)

/-- The stores to result buffer 20 tile it. -/
theorem cover20 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L20, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L20 S1x128.size (by sl_kernel_rfl) y

/-- Result buffer 20 after the run. -/
def out20 : Vec F S2x1024 .f32 :=
  VO0_20.read (Elt F) (VO0_20.writes (Elt F) VO0_20.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L20)

/-- The stores to result buffer 21 tile it. -/
theorem cover21 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L21, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L21 S1x128.size (by sl_kernel_rfl) y

/-- Result buffer 21 after the run. -/
def out21 : Vec F S2x1024 .f32 :=
  VO0_21.read (Elt F) (VO0_21.writes (Elt F) VO0_21.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L21)

/-- The stores to result buffer 22 tile it. -/
theorem cover22 (y : S1024x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L22, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L22 S1024x128.size (by sl_kernel_rfl) y

/-- Result buffer 22 after the run. -/
def out22 : Vec F S1024x128 .f32 :=
  VO0_22.read (Elt F) (VO0_22.writes (Elt F) VO0_22.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L22)

/-- The stores to result buffer 23 tile it. -/
theorem cover23 (y : S2x512.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L23, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L23 S1x128.size (by sl_kernel_rfl) y

/-- Result buffer 23 after the run. -/
def out23 : Vec F S2x512 .f32 :=
  VO0_23.read (Elt F) (VO0_23.writes (Elt F) VO0_23.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L23)

/-- The stores to result buffer 24 tile it. -/
theorem cover24 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L24, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L24 S1x128.size (by sl_kernel_rfl) y

/-- Result buffer 24 after the run. -/
def out24 : Vec F S2x1024 .f32 :=
  VO0_24.read (Elt F) (VO0_24.writes (Elt F) VO0_24.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L24)

/-- The stores to result buffer 25 tile it. -/
theorem cover25 (y : S2x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L25, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L25 S1x128.size (by sl_kernel_rfl) y

/-- Result buffer 25 after the run. -/
def out25 : Vec F S2x128 .f32 :=
  VO0_25.read (Elt F) (VO0_25.writes (Elt F) VO0_25.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L25)

/-- The stores to result buffer 26 tile it. -/
theorem cover26 (y : S2x3072.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L26, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L26 S1x128.size (by sl_kernel_rfl) y

/-- Result buffer 26 after the run. -/
def out26 : Vec F S2x3072 .f32 :=
  VO0_26.read (Elt F) (VO0_26.writes (Elt F) VO0_26.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L26)

/-- The stores to result buffer 27 tile it. -/
theorem cover27 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L27, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L27 S1x128.size (by sl_kernel_rfl) y

/-- Result buffer 27 after the run. -/
def out27 : Vec F S2x1024 .f32 :=
  VO0_27.read (Elt F) (VO0_27.writes (Elt F) VO0_27.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L27)

/-- The stores to result buffer 28 tile it. -/
theorem cover28 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L28, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L28 S1x128.size (by sl_kernel_rfl) y

/-- Result buffer 28 after the run. -/
def out28 : Vec F S2x1024 .f32 :=
  VO0_28.read (Elt F) (VO0_28.writes (Elt F) VO0_28.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L28)

/-- The stores to result buffer 29 tile it. -/
theorem cover29 (y : S1024x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L29, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L29 S1024x128.size (by sl_kernel_rfl) y

/-- Result buffer 29 after the run. -/
def out29 : Vec F S1024x128 .f32 :=
  VO0_29.read (Elt F) (VO0_29.writes (Elt F) VO0_29.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L29)

/-- The stores to result buffer 30 tile it. -/
theorem cover30 (y : S2x512.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L30, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L30 S1x128.size (by sl_kernel_rfl) y

/-- Result buffer 30 after the run. -/
def out30 : Vec F S2x512 .f32 :=
  VO0_30.read (Elt F) (VO0_30.writes (Elt F) VO0_30.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L30)

/-- The stores to result buffer 31 tile it. -/
theorem cover31 (y : S2x1024.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L31, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L31 S1x128.size (by sl_kernel_rfl) y

/-- Result buffer 31 after the run. -/
def out31 : Vec F S2x1024 .f32 :=
  VO0_31.read (Elt F) (VO0_31.writes (Elt F) VO0_31.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L31)

/-- The stores to result buffer 32 tile it. -/
theorem cover32 (y : S2x128.Idx) : ∃ pc ∈ (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L32, y ∈ pc.1.set :=
  View.cover_of_tiledL (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L32 S1x128.size (by sl_kernel_rfl) y

/-- Result buffer 32 after the run. -/
def out32 : Vec F S2x128 .f32 :=
  VO0_32.read (Elt F) (VO0_32.writes (Elt F) VO0_32.junk (run c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4).1.L32)

end Cert.SmallIdeal.Run

end
-- ==== Proof.SmallFrame.lean ====
/- The run of the small weights' optimiser call: its frame, and its results as the pipeline's arrays. -/
module

public import proofs.«01_k».proof.Proof.SmallCover
public import Idealize.ShloMosaic.Lib.Claim

@[expose] public section

set_option maxRecDepth 16384

noncomputable section

namespace Cert.SmallIdeal.Run

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Result buffer 5 after grid point `t`. -/
def at5 (c : Dev nD) (t : Fin cfg0.N) : Vec F S2x3072 .f32 := out5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 6 after grid point `t`. -/
def at6 (c : Dev nD) (t : Fin cfg0.N) : Vec F S2x1024 .f32 := out6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 7 after grid point `t`. -/
def at7 (c : Dev nD) (t : Fin cfg0.N) : Vec F S2x1024 .f32 := out7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 8 after grid point `t`. -/
def at8 (c : Dev nD) (t : Fin cfg0.N) : Vec F S1024x128 .f32 := out8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 9 after grid point `t`. -/
def at9 (c : Dev nD) (t : Fin cfg0.N) : Vec F S2x512 .f32 := out9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 10 after grid point `t`. -/
def at10 (c : Dev nD) (t : Fin cfg0.N) : Vec F S2x1024 .f32 := out10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 11 after grid point `t`. -/
def at11 (c : Dev nD) (t : Fin cfg0.N) : Vec F S2x128 .f32 := out11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 12 after grid point `t`. -/
def at12 (c : Dev nD) (t : Fin cfg0.N) : Vec F S2x3072 .f32 := out12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 13 after grid point `t`. -/
def at13 (c : Dev nD) (t : Fin cfg0.N) : Vec F S2x1024 .f32 := out13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 14 after grid point `t`. -/
def at14 (c : Dev nD) (t : Fin cfg0.N) : Vec F S2x1024 .f32 := out14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 15 after grid point `t`. -/
def at15 (c : Dev nD) (t : Fin cfg0.N) : Vec F S1024x128 .f32 := out15 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 16 after grid point `t`. -/
def at16 (c : Dev nD) (t : Fin cfg0.N) : Vec F S2x512 .f32 := out16 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 17 after grid point `t`. -/
def at17 (c : Dev nD) (t : Fin cfg0.N) : Vec F S2x1024 .f32 := out17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 18 after grid point `t`. -/
def at18 (c : Dev nD) (t : Fin cfg0.N) : Vec F S2x128 .f32 := out18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 19 after grid point `t`. -/
def at19 (c : Dev nD) (t : Fin cfg0.N) : Vec F S2x3072 .f32 := out19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 20 after grid point `t`. -/
def at20 (c : Dev nD) (t : Fin cfg0.N) : Vec F S2x1024 .f32 := out20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 21 after grid point `t`. -/
def at21 (c : Dev nD) (t : Fin cfg0.N) : Vec F S2x1024 .f32 := out21 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 22 after grid point `t`. -/
def at22 (c : Dev nD) (t : Fin cfg0.N) : Vec F S1024x128 .f32 := out22 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 23 after grid point `t`. -/
def at23 (c : Dev nD) (t : Fin cfg0.N) : Vec F S2x512 .f32 := out23 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 24 after grid point `t`. -/
def at24 (c : Dev nD) (t : Fin cfg0.N) : Vec F S2x1024 .f32 := out24 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 25 after grid point `t`. -/
def at25 (c : Dev nD) (t : Fin cfg0.N) : Vec F S2x128 .f32 := out25 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 26 after grid point `t`. -/
def at26 (c : Dev nD) (t : Fin cfg0.N) : Vec F S2x3072 .f32 := out26 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 27 after grid point `t`. -/
def at27 (c : Dev nD) (t : Fin cfg0.N) : Vec F S2x1024 .f32 := out27 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 28 after grid point `t`. -/
def at28 (c : Dev nD) (t : Fin cfg0.N) : Vec F S2x1024 .f32 := out28 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 29 after grid point `t`. -/
def at29 (c : Dev nD) (t : Fin cfg0.N) : Vec F S1024x128 .f32 := out29 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 30 after grid point `t`. -/
def at30 (c : Dev nD) (t : Fin cfg0.N) : Vec F S2x512 .f32 := out30 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 31 after grid point `t`. -/
def at31 (c : Dev nD) (t : Fin cfg0.N) : Vec F S2x1024 .f32 := out31 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- Result buffer 32 after grid point `t`. -/
def at32 (c : Dev nD) (t : Fin cfg0.N) : Vec F S2x128 .f32 := out32 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- The pipeline's data: each input buffer holds its block, each result buffer what the run leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => at5 m c t
    | ⟨6, _⟩ => at6 m c t
    | ⟨7, _⟩ => at7 m c t
    | ⟨8, _⟩ => at8 m c t
    | ⟨9, _⟩ => at9 m c t
    | ⟨10, _⟩ => at10 m c t
    | ⟨11, _⟩ => at11 m c t
    | ⟨12, _⟩ => at12 m c t
    | ⟨13, _⟩ => at13 m c t
    | ⟨14, _⟩ => at14 m c t
    | ⟨15, _⟩ => at15 m c t
    | ⟨16, _⟩ => at16 m c t
    | ⟨17, _⟩ => at17 m c t
    | ⟨18, _⟩ => at18 m c t
    | ⟨19, _⟩ => at19 m c t
    | ⟨20, _⟩ => at20 m c t
    | ⟨21, _⟩ => at21 m c t
    | ⟨22, _⟩ => at22 m c t
    | ⟨23, _⟩ => at23 m c t
    | ⟨24, _⟩ => at24 m c t
    | ⟨25, _⟩ => at25 m c t
    | ⟨26, _⟩ => at26 m c t
    | ⟨27, _⟩ => at27 m c t
    | ⟨28, _⟩ => at28 m c t
    | ⟨29, _⟩ => at29 m c t
    | ⟨30, _⟩ => at30 m c t
    | ⟨31, _⟩ => at31 m c t
    | ⟨32, _⟩ => at32 m c t
    | ⟨_ + 33, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = at5 m c t := by dsimp only [dats]
theorem after0_6 (c : Dev nD) (t : Fin cfg0.N) : (dats m 0 c).after 6 t = at6 m c t := by dsimp only [dats]
theorem after0_7 (c : Dev nD) (t : Fin cfg0.N) : (dats m 0 c).after 7 t = at7 m c t := by dsimp only [dats]
theorem after0_8 (c : Dev nD) (t : Fin cfg0.N) : (dats m 0 c).after 8 t = at8 m c t := by dsimp only [dats]
theorem after0_9 (c : Dev nD) (t : Fin cfg0.N) : (dats m 0 c).after 9 t = at9 m c t := by dsimp only [dats]
theorem after0_10 (c : Dev nD) (t : Fin cfg0.N) : (dats m 0 c).after 10 t = at10 m c t := by dsimp only [dats]
theorem after0_11 (c : Dev nD) (t : Fin cfg0.N) : (dats m 0 c).after 11 t = at11 m c t := by dsimp only [dats]
theorem after0_12 (c : Dev nD) (t : Fin cfg0.N) : (dats m 0 c).after 12 t = at12 m c t := by dsimp only [dats]
theorem after0_13 (c : Dev nD) (t : Fin cfg0.N) : (dats m 0 c).after 13 t = at13 m c t := by dsimp only [dats]
theorem after0_14 (c : Dev nD) (t : Fin cfg0.N) : (dats m 0 c).after 14 t = at14 m c t := by dsimp only [dats]
theorem after0_15 (c : Dev nD) (t : Fin cfg0.N) : (dats m 0 c).after 15 t = at15 m c t := by dsimp only [dats]
theorem after0_16 (c : Dev nD) (t : Fin cfg0.N) : (dats m 0 c).after 16 t = at16 m c t := by dsimp only [dats]
theorem after0_17 (c : Dev nD) (t : Fin cfg0.N) : (dats m 0 c).after 17 t = at17 m c t := by dsimp only [dats]
theorem after0_18 (c : Dev nD) (t : Fin cfg0.N) : (dats m 0 c).after 18 t = at18 m c t := by dsimp only [dats]
theorem after0_19 (c : Dev nD) (t : Fin cfg0.N) : (dats m 0 c).after 19 t = at19 m c t := by dsimp only [dats]
theorem after0_20 (c : Dev nD) (t : Fin cfg0.N) : (dats m 0 c).after 20 t = at20 m c t := by dsimp only [dats]
theorem after0_21 (c : Dev nD) (t : Fin cfg0.N) : (dats m 0 c).after 21 t = at21 m c t := by dsimp only [dats]
theorem after0_22 (c : Dev nD) (t : Fin cfg0.N) : (dats m 0 c).after 22 t = at22 m c t := by dsimp only [dats]
theorem after0_23 (c : Dev nD) (t : Fin cfg0.N) : (dats m 0 c).after 23 t = at23 m c t := by dsimp only [dats]
theorem after0_24 (c : Dev nD) (t : Fin cfg0.N) : (dats m 0 c).after 24 t = at24 m c t := by dsimp only [dats]
theorem after0_25 (c : Dev nD) (t : Fin cfg0.N) : (dats m 0 c).after 25 t = at25 m c t := by dsimp only [dats]
theorem after0_26 (c : Dev nD) (t : Fin cfg0.N) : (dats m 0 c).after 26 t = at26 m c t := by dsimp only [dats]
theorem after0_27 (c : Dev nD) (t : Fin cfg0.N) : (dats m 0 c).after 27 t = at27 m c t := by dsimp only [dats]
theorem after0_28 (c : Dev nD) (t : Fin cfg0.N) : (dats m 0 c).after 28 t = at28 m c t := by dsimp only [dats]
theorem after0_29 (c : Dev nD) (t : Fin cfg0.N) : (dats m 0 c).after 29 t = at29 m c t := by dsimp only [dats]
theorem after0_30 (c : Dev nD) (t : Fin cfg0.N) : (dats m 0 c).after 30 t = at30 m c t := by dsimp only [dats]
theorem after0_31 (c : Dev nD) (t : Fin cfg0.N) : (dats m 0 c).after 31 t = at31 m c t := by dsimp only [dats]
theorem after0_32 (c : Dev nD) (t : Fin cfg0.N) : (dats m 0 c).after 32 t = at32 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 3600000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply ((run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [HS0]; · iexact HS0
  isplitl [HS1]; · iexact HS1
  isplitl [HS2]; · iexact HS2
  isplitl [HS3]; · iexact HS3
  iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; unfold at5 out5; exact View.read_writes_of_cover _ _ _ _ _ (cover5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H6]
  · unfold owns; iexists _; isplitr
    swap; · iexact H6
    ipureintro; unfold at6 out6; exact View.read_writes_of_cover _ _ _ _ _ (cover6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H7]
  · unfold owns; iexists _; isplitr
    swap; · iexact H7
    ipureintro; unfold at7 out7; exact View.read_writes_of_cover _ _ _ _ _ (cover7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H8]
  · unfold owns; iexists _; isplitr
    swap; · iexact H8
    ipureintro; unfold at8 out8; exact View.read_writes_of_cover _ _ _ _ _ (cover8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H9]
  · unfold owns; iexists _; isplitr
    swap; · iexact H9
    ipureintro; unfold at9 out9; exact View.read_writes_of_cover _ _ _ _ _ (cover9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H10]
  · unfold owns; iexists _; isplitr
    swap; · iexact H10
    ipureintro; unfold at10 out10; exact View.read_writes_of_cover _ _ _ _ _ (cover10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H11]
  · unfold owns; iexists _; isplitr
    swap; · iexact H11
    ipureintro; unfold at11 out11; exact View.read_writes_of_cover _ _ _ _ _ (cover11 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H12]
  · unfold owns; iexists _; isplitr
    swap; · iexact H12
    ipureintro; unfold at12 out12; exact View.read_writes_of_cover _ _ _ _ _ (cover12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H13]
  · unfold owns; iexists _; isplitr
    swap; · iexact H13
    ipureintro; unfold at13 out13; exact View.read_writes_of_cover _ _ _ _ _ (cover13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H14]
  · unfold owns; iexists _; isplitr
    swap; · iexact H14
    ipureintro; unfold at14 out14; exact View.read_writes_of_cover _ _ _ _ _ (cover14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H15]
  · unfold owns; iexists _; isplitr
    swap; · iexact H15
    ipureintro; unfold at15 out15; exact View.read_writes_of_cover _ _ _ _ _ (cover15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H16]
  · unfold owns; iexists _; isplitr
    swap; · iexact H16
    ipureintro; unfold at16 out16; exact View.read_writes_of_cover _ _ _ _ _ (cover16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H17]
  · unfold owns; iexists _; isplitr
    swap; · iexact H17
    ipureintro; unfold at17 out17; exact View.read_writes_of_cover _ _ _ _ _ (cover17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H18]
  · unfold owns; iexists _; isplitr
    swap; · iexact H18
    ipureintro; unfold at18 out18; exact View.read_writes_of_cover _ _ _ _ _ (cover18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H19]
  · unfold owns; iexists _; isplitr
    swap; · iexact H19
    ipureintro; unfold at19 out19; exact View.read_writes_of_cover _ _ _ _ _ (cover19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H20]
  · unfold owns; iexists _; isplitr
    swap; · iexact H20
    ipureintro; unfold at20 out20; exact View.read_writes_of_cover _ _ _ _ _ (cover20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H21]
  · unfold owns; iexists _; isplitr
    swap; · iexact H21
    ipureintro; unfold at21 out21; exact View.read_writes_of_cover _ _ _ _ _ (cover21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H22]
  · unfold owns; iexists _; isplitr
    swap; · iexact H22
    ipureintro; unfold at22 out22; exact View.read_writes_of_cover _ _ _ _ _ (cover22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H23]
  · unfold owns; iexists _; isplitr
    swap; · iexact H23
    ipureintro; unfold at23 out23; exact View.read_writes_of_cover _ _ _ _ _ (cover23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H24]
  · unfold owns; iexists _; isplitr
    swap; · iexact H24
    ipureintro; unfold at24 out24; exact View.read_writes_of_cover _ _ _ _ _ (cover24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H25]
  · unfold owns; iexists _; isplitr
    swap; · iexact H25
    ipureintro; unfold at25 out25; exact View.read_writes_of_cover _ _ _ _ _ (cover25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H26]
  · unfold owns; iexists _; isplitr
    swap; · iexact H26
    ipureintro; unfold at26 out26; exact View.read_writes_of_cover _ _ _ _ _ (cover26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H27]
  · unfold owns; iexists _; isplitr
    swap; · iexact H27
    ipureintro; unfold at27 out27; exact View.read_writes_of_cover _ _ _ _ _ (cover27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H28]
  · unfold owns; iexists _; isplitr
    swap; · iexact H28
    ipureintro; unfold at28 out28; exact View.read_writes_of_cover _ _ _ _ _ (cover28 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H29]
  · unfold owns; iexists _; isplitr
    swap; · iexact H29
    ipureintro; unfold at29 out29; exact View.read_writes_of_cover _ _ _ _ _ (cover29 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H30]
  · unfold owns; iexists _; isplitr
    swap; · iexact H30
    ipureintro; unfold at30 out30; exact View.read_writes_of_cover _ _ _ _ _ (cover30 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  isplitl [H31]
  · unfold owns; iexists _; isplitr
    swap; · iexact H31
    ipureintro; unfold at31 out31; exact View.read_writes_of_cover _ _ _ _ _ (cover31 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
  unfold owns; iexists _; isplitr
  swap; · iexact H32
  ipureintro; unfold at32 out32; exact View.read_writes_of_cover _ _ _ _ _ (cover32 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution of the program ends with the arrays the pipeline's data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

set_option maxHeartbeats 4000000 in
/-- Every execution ends with the twenty-eight results at the pipeline's arrays and the arguments unchanged. -/
theorem run_results : θ_run defs (onTc (τ := τ) (main (F := F))) ⟨m, fun _ => 0, ρ⟩ (fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_v0_5) = (dats m 0 c).arrAt 10 cfg0.N
      ∧ r.2.mem ((c : Thread nD τ).loc main_v0_6) = (dats m 0 c).arrAt 11 cfg0.N
      ∧ r.2.mem ((c : Thread nD τ).loc main_v0_7) = (dats m 0 c).arrAt 12 cfg0.N
      ∧ r.2.mem ((c : Thread nD τ).loc main_v0_8) = (dats m 0 c).arrAt 13 cfg0.N
      ∧ r.2.mem ((c : Thread nD τ).loc main_v0_9) = (dats m 0 c).arrAt 14 cfg0.N
      ∧ r.2.mem ((c : Thread nD τ).loc main_v0_10) = (dats m 0 c).arrAt 15 cfg0.N
      ∧ r.2.mem ((c : Thread nD τ).loc main_v0_11) = (dats m 0 c).arrAt 16 cfg0.N
      ∧ r.2.mem ((c : Thread nD τ).loc main_v0_12) = (dats m 0 c).arrAt 17 cfg0.N
      ∧ r.2.mem ((c : Thread nD τ).loc main_v0_13) = (dats m 0 c).arrAt 18 cfg0.N
      ∧ r.2.mem ((c : Thread nD τ).loc main_v0_14) = (dats m 0 c).arrAt 19 cfg0.N
      ∧ r.2.mem ((c : Thread nD τ).loc main_v0_15) = (dats m 0 c).arrAt 20 cfg0.N
      ∧ r.2.mem ((c : Thread nD τ).loc main_v0_16) = (dats m 0 c).arrAt 21 cfg0.N
      ∧ r.2.mem ((c : Thread nD τ).loc main_v0_17) = (dats m 0 c).arrAt 22 cfg0.N
      ∧ r.2.mem ((c : Thread nD τ).loc main_v0_18) = (dats m 0 c).arrAt 23 cfg0.N
      ∧ r.2.mem ((c : Thread nD τ).loc main_v0_19) = (dats m 0 c).arrAt 24 cfg0.N
      ∧ r.2.mem ((c : Thread nD τ).loc main_v0_20) = (dats m 0 c).arrAt 25 cfg0.N
      ∧ r.2.mem ((c : Thread nD τ).loc main_v0_21) = (dats m 0 c).arrAt 26 cfg0.N
      ∧ r.2.mem ((c : Thread nD τ).loc main_v0_22) = (dats m 0 c).arrAt 27 cfg0.N
      ∧ r.2.mem ((c : Thread nD τ).loc main_v0_23) = (dats m 0 c).arrAt 28 cfg0.N
      ∧ r.2.mem ((c : Thread nD τ).loc main_v0_24) = (dats m 0 c).arrAt 29 cfg0.N
      ∧ r.2.mem ((c : Thread nD τ).loc main_v0_25) = (dats m 0 c).arrAt 30 cfg0.N
      ∧ r.2.mem ((c : Thread nD τ).loc main_v0_26) = (dats m 0 c).arrAt 31 cfg0.N
      ∧ r.2.mem ((c : Thread nD τ).loc main_v0_27) = (dats m 0 c).arrAt 32 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5,
    (h c).1 6,
    (h c).1 7,
    (h c).1 8,
    (h c).1 9,
    (h c).1 10,
    (h c).1 11,
    (h c).1 12,
    (h c).1 13,
    (h c).1 14,
    (h c).1 15,
    (h c).1 16,
    (h c).1 17,
    (h c).1 18,
    (h c).1 19,
    (h c).1 20,
    (h c).1 21,
    (h c).1 22,
    (h c).1 23,
    (h c).1 24,
    (h c).1 25,
    (h c).1 26,
    (h c).1 27,
    (h c).1 28,
    (h c).1 29,
    (h c).1 30,
    (h c).1 31,
    (h c).1 32,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.SmallIdeal.Run

end
-- ==== Proof.SmallLb.lean ====
/- The gradient of the forget gates' lower bounds in their logits, as the reference computes it. -/
module

public import Idealize.ShloMosaic.Lib.Pipeline.ValueKit
public import Idealize.ShloMosaic.Lib.Pointwise

/-!
The gradient of a two-layer softmax followed by a shifted running sum and a clip to [0, 1], over the extended
reals: the closed form with the probabilities equals the form that differentiates the quotient.
-/

@[expose] public section

noncomputable section

open Idealize.ShloMosaic
namespace Cert.SmallLb

/-- The exponential of a number at most `m`, less `m`, is a real number that is not negative. -/
theorem exp_real (x m : EReal) (h : x ≤ m) : ∃ r : ℝ, 0 ≤ r ∧ Ideal.exp (x - m) = (r : EReal) := by
  induction x using EReal.rec with
  | bot => exact ⟨0, le_refl _, by simp only [sub_eq_add_neg, EReal.bot_add, EReal.neg_top, EReal.add_bot]; rfl⟩
  | top =>
    obtain rfl : m = ⊤ := top_le_iff.mp h
    exact ⟨0, le_refl _, by simp only [sub_eq_add_neg, EReal.bot_add, EReal.neg_top, EReal.add_bot]; rfl⟩
  | coe x =>
    induction m using EReal.rec with
    | bot => simp at h
    | top => exact ⟨0, le_refl _, by simp only [sub_eq_add_neg, EReal.bot_add, EReal.neg_top, EReal.add_bot]; rfl⟩
    | coe m => exact ⟨Real.exp (x - m), (Real.exp_pos _).le, by rw [← EReal.coe_sub]; rfl⟩

/-- The slope of the clip to [0, 1], with one half at both ends. -/
def slope (h x : EReal) : EReal := if 0 < x ∧ x < 1 then 1 else if x = 0 ∨ x = 1 then h else 0

theorem slope_bot (h : EReal) : slope h ⊥ = 0 := by
  rw [slope, if_neg (fun e => absurd e.1 not_lt_bot), if_neg (fun e => e.elim (EReal.bot_lt_coe 0).ne (EReal.bot_lt_coe 1).ne)]

/-- The slope of the minimum with 1 after the maximum with 0, times that of the maximum. -/
theorem slope_two (h c x : EReal) :
    c * (if max 0 x < 1 then 1 else if (1 : EReal) = max 0 x then h else 0) * (if 0 < x then 1 else if x = 0 then h else 0)
      = c * slope h x := by
  have h01 : (0 : EReal) < 1 := zero_lt_one
  rcases lt_trichotomy x 0 with hx | rfl | hx
  · simp [slope, max_eq_left hx.le, hx.not_gt, hx.ne, (hx.trans h01).ne]
  · simp [slope]
  · rw [max_eq_right hx.le]
    rcases lt_trichotomy x 1 with h1 | rfl | h1
    · simp [slope, hx, h1]
    · simp [slope]
    · simp [slope, h1.not_gt, h1.ne, h1.ne', hx, hx.ne']

theorem sub_self_inf (a b : EReal) (h : ¬ ∃ r s : ℝ, a = r ∧ b = s) : (a + b) - (a + b) = ⊥ := by
  induction a using EReal.rec <;> induction b using EReal.rec <;>
    first | exact absurd ⟨_, _, rfl, rfl⟩ h | simp [sub_eq_add_neg]

theorem neg_add_inf (a b : EReal) (h : ¬ ∃ r s : ℝ, a = r ∧ b = s) : (-a + -b) + (a + b) = ⊥ := by
  induction a using EReal.rec <;> induction b using EReal.rec <;>
    first | exact absurd ⟨_, _, rfl, rfl⟩ h | simp [← EReal.coe_neg]

/-- Both layers' gradients, for weights `e0`, `e1` that are real and not negative: the closed form on the left,
    the differentiated quotient on the right. -/
theorem grad_eq (r0 r1 : ℝ) (h0 : 0 ≤ r0) (h1 : 0 ≤ r1) (e0 e1 S a b : EReal) (he0 : e0 = r0) (he1 : e1 = r1) (hS : S = e0 + e1)
    (hab : r0 + r1 = 0 → a = 0 ∧ b = 0) :
    Ideal.div e0 S * (((a + b) - (a + b)) - (Ideal.div e0 S * ((a + b) - (a + b)) + Ideal.div e1 S * b))
        = (Ideal.div ((-a + -b) + (a + b)) S
            + -(((-a + -b) + (a + b)) * Ideal.div 1 (S * S) * e0 + b * Ideal.div 1 (S * S) * e1)) * e0
      ∧ Ideal.div e1 S * (b - (Ideal.div e0 S * ((a + b) - (a + b)) + Ideal.div e1 S * b))
        = (Ideal.div b S + -(((-a + -b) + (a + b)) * Ideal.div 1 (S * S) * e0 + b * Ideal.div 1 (S * S) * e1)) * e1 := by
  subst hS he0 he1
  rcases (add_nonneg h0 h1).eq_or_lt with hz | hp
  · obtain ⟨rfl, rfl⟩ := hab hz.symm
    have z0 : r0 = 0 := by linarith
    have z1 : r1 = 0 := by linarith
    subst z0 z1
    simp
  · have hne : r0 + r1 ≠ 0 := hp.ne'
    have hne2 : (r0 + r1) * (r0 + r1) ≠ 0 := mul_ne_zero hne hne
    have hk : 0 < 1 / (r0 + r1) := by positivity
    have hp2 : 0 < 1 / ((r0 + r1) * (r0 + r1)) := by positivity
    have d (x : EReal) : Ideal.div x ((r0 : EReal) + r1) = x * ((1 / (r0 + r1) : ℝ) : EReal) := by
      rw [← EReal.coe_add, Ideal.div_coe hne]
    have d2 : Ideal.div (1 : EReal) (((r0 : EReal) + r1) * (r0 + r1)) = ((1 / ((r0 + r1) * (r0 + r1)) : ℝ) : EReal) := by
      rw [← EReal.coe_add, ← EReal.coe_mul, Ideal.div_coe hne2, one_mul]
    rw [d2]
    simp only [d]
    by_cases hr : ∃ r s : ℝ, a = r ∧ b = s
    · obtain ⟨a, b, rfl, rfl⟩ := hr
      constructor
      · norm_cast
        field_simp
        ring
      · norm_cast
        field_simp
        ring
    · rw [sub_self_inf a b hr, neg_add_inf a b hr]
      generalize hkk : 1 / (r0 + r1) = k at *
      generalize hk2 : 1 / ((r0 + r1) * (r0 + r1)) = k2 at *
      rcases h0.eq_or_lt with rfl | q0
      · have q1 : 0 < r1 := by linarith
        induction b using EReal.rec with
        | bot => simp [sub_eq_add_neg, ← EReal.coe_mul, mul_pos, EReal.bot_mul_coe_of_pos, EReal.coe_mul_bot_of_pos, hk, hp2, q1]
        | top => simp [sub_eq_add_neg, ← EReal.coe_mul, mul_pos, EReal.top_mul_coe_of_pos, EReal.coe_mul_top_of_pos, EReal.bot_mul_coe_of_pos, EReal.coe_mul_bot_of_pos, hk, hp2, q1]
        | coe b =>
          simp [EReal.bot_mul_coe_of_pos, hp2]
          norm_cast
          subst hkk hk2
          field_simp
          ring
      · have hq : 0 < r0 * k := mul_pos q0 hk
        have e : (r0 : EReal) * (k : EReal) * ⊥ = ⊥ := by rw [← EReal.coe_mul, EReal.coe_mul_bot_of_pos hq]
        rw [e, EReal.bot_mul_coe_of_pos hk, EReal.bot_mul_coe_of_pos hp2, EReal.bot_mul_coe_of_pos q0]
        simp only [EReal.bot_add, EReal.neg_bot, sub_eq_add_neg, EReal.bot_mul_coe_of_pos q0, e, true_and]
        rcases h1.eq_or_lt with rfl | q1
        · simp
        · induction b using EReal.rec with
          | bot => simp [← EReal.coe_mul, EReal.bot_mul_coe_of_pos, EReal.coe_mul_bot_of_pos, mul_pos, hk, hp2, q1]
          | top => simp [← EReal.coe_mul, EReal.top_mul_coe_of_pos, EReal.coe_mul_top_of_pos, mul_pos, hk, hp2, q1]
          | coe b => simp [← EReal.coe_mul, EReal.top_mul_coe_of_pos, EReal.coe_mul_top_of_pos, mul_pos, hk, hp2, q1]

end Cert.SmallLb
-- ==== Proof.SmallRef.lean ====
/- The reference of the small weights' optimiser step, row by row of the packs. -/
module

public import proofs.«01_k».proof.Proof.Gen.SmallRefIdeal.Read
public import Idealize.ShloMosaic.Lib.Pipeline.ValueKit
public import Idealize.ShloMosaic.Lib.Pointwise
public import Idealize.ShloMosaic.Lib.KernelVsHost
public import proofs.«01_k».proof.Proof.SmallLb

/-!
The reference of the small-weights step read at an index.
-/

@[expose] public section

set_option maxRecDepth 16384

noncomputable section

open Idealize.ShloMosaic Idealize.ShloMosaic.TcCoe Idealize.SL.Sem
namespace Cert.SmallRefIdeal.RefValue
open Cert.SmallRefIdeal Cert.SmallRefIdeal.Gen Cert.SmallRefIdeal.Read

abbrev Ws : Shape := ⟨2, ![2, 1]⟩

theorem finRange_W : List.finRange Ws.numel = [⟨0, by decide⟩, ⟨1, by decide⟩] := by decide

theorem symm_W0 : Ws.rowMajor.symm ⟨0, by decide⟩ = ix2 (0 : Fin 2) (0 : Fin 1) :=
  (Ws.rowMajor.symm_apply_eq).2 (Fin.ext (by rw [Shape.rowMajor_val_two]; rfl))

theorem symm_W1 : Ws.rowMajor.symm ⟨1, by decide⟩ = ix2 (1 : Fin 2) (0 : Fin 1) :=
  (Ws.rowMajor.symm_apply_eq).2 (Fin.ext (by rw [Shape.rowMajor_val_two]; rfl))

/-- The host's running sum over two rows, at either row. -/
theorem cumsum_apply (x : FVec Ideal S2x1024 .f32) (init : FVec Ideal S_ .f32) (z : init (Shape.Idx.first h_S_) = 0)
    (h : S2x1024.ReduceWindows ![2, 1] ![1, 1] ![1, 0] ![0, 0] S2x1024) (n : Fin 1024) :
    Host.reduceWindowAdd ![2, 1] ![1, 1] ![1, 0] ![0, 0] x init h h_S_ (ix2 (0 : Fin 2) n) = x (ix2 (0 : Fin 2) n)
      ∧ Host.reduceWindowAdd ![2, 1] ![1, 1] ![1, 0] ![0, 0] x init h h_S_ (ix2 (1 : Fin 2) n) = x (ix2 (0 : Fin 2) n) + x (ix2 (1 : Fin 2) n) := by
  constructor
  · unfold Host.reduceWindowAdd
    rw [Ideal.hostReduceWindowAdd_def]
    unfold Ideal.hostReduceWindowAdd Host.reduceWindow
    dsimp only
    change List.foldl _ _ (List.finRange Ws.numel) = _
    rw [finRange_W, z, List.foldl_cons, List.foldl_cons, List.foldl_nil]
    rw [dif_neg (fun hh => by
      have h0 := hh 0
      change 1 ≤ 0 * 1 + (Ws.rowMajor.symm ⟨0, by decide⟩ 0).val ∧ 0 * 1 + (Ws.rowMajor.symm ⟨0, by decide⟩ 0).val - 1 < 2 at h0
      rw [symm_W0] at h0
      exact absurd h0 (by decide))]
    rw [dif_pos (show _ from fun a => by
      match a with
      | ⟨0, _⟩ =>
        show 1 ≤ 0 * 1 + (Ws.rowMajor.symm ⟨1, by decide⟩ 0).val ∧ 0 * 1 + (Ws.rowMajor.symm ⟨1, by decide⟩ 0).val - 1 < 2
        rw [symm_W1]; decide
      | ⟨1, _⟩ =>
        show 0 ≤ n.val * 1 + (Ws.rowMajor.symm ⟨1, by decide⟩ 1).val ∧ n.val * 1 + (Ws.rowMajor.symm ⟨1, by decide⟩ 1).val - 0 < 1024
        rw [symm_W1]; exact ⟨Nat.zero_le _, by show n.val * 1 + 0 - 0 < 1024; omega⟩)]
    rw [zero_add, zero_add]
    exact (congrArg x (funext fun a => Fin.ext (by
      match a with
      | ⟨0, _⟩ => show 0 * 1 + (Ws.rowMajor.symm ⟨1, by decide⟩ 0).val - 1 = 0; rw [symm_W1]; rfl
      | ⟨1, _⟩ => show n.val * 1 + (Ws.rowMajor.symm ⟨1, by decide⟩ 1).val - 0 = n.val; rw [symm_W1]; show n.val * 1 + 0 - 0 = n.val; omega)))
  · unfold Host.reduceWindowAdd
    rw [Ideal.hostReduceWindowAdd_def]
    unfold Ideal.hostReduceWindowAdd Host.reduceWindow
    dsimp only
    change List.foldl _ _ (List.finRange Ws.numel) = _
    rw [finRange_W, z, List.foldl_cons, List.foldl_cons, List.foldl_nil]
    rw [dif_pos (show _ from fun a => by
      match a with
      | ⟨0, _⟩ =>
        show 1 ≤ 1 * 1 + (Ws.rowMajor.symm ⟨0, by decide⟩ 0).val ∧ 1 * 1 + (Ws.rowMajor.symm ⟨0, by decide⟩ 0).val - 1 < 2
        rw [symm_W0]; decide
      | ⟨1, _⟩ =>
        show 0 ≤ n.val * 1 + (Ws.rowMajor.symm ⟨0, by decide⟩ 1).val ∧ n.val * 1 + (Ws.rowMajor.symm ⟨0, by decide⟩ 1).val - 0 < 1024
        rw [symm_W0]; exact ⟨Nat.zero_le _, by show n.val * 1 + 0 - 0 < 1024; omega⟩)]
    rw [dif_pos (show _ from fun a => by
      match a with
      | ⟨0, _⟩ =>
        show 1 ≤ 1 * 1 + (Ws.rowMajor.symm ⟨1, by decide⟩ 0).val ∧ 1 * 1 + (Ws.rowMajor.symm ⟨1, by decide⟩ 0).val - 1 < 2
        rw [symm_W1]; decide
      | ⟨1, _⟩ =>
        show 0 ≤ n.val * 1 + (Ws.rowMajor.symm ⟨1, by decide⟩ 1).val ∧ n.val * 1 + (Ws.rowMajor.symm ⟨1, by decide⟩ 1).val - 0 < 1024
        rw [symm_W1]; exact ⟨Nat.zero_le _, by show n.val * 1 + 0 - 0 < 1024; omega⟩)]
    rw [zero_add]
    exact congrArg₂ (fun u v : EReal => u + v) (congrArg x (funext fun a => Fin.ext (by
      match a with
      | ⟨0, _⟩ => show 1 * 1 + (Ws.rowMajor.symm ⟨0, by decide⟩ 0).val - 1 = 0; rw [symm_W0]; rfl
      | ⟨1, _⟩ => show n.val * 1 + (Ws.rowMajor.symm ⟨0, by decide⟩ 1).val - 0 = n.val; rw [symm_W0]; show n.val * 1 + 0 - 0 = n.val; omega)))
      (congrArg x (funext fun a => Fin.ext (by
      match a with
      | ⟨0, _⟩ => show 1 * 1 + (Ws.rowMajor.symm ⟨1, by decide⟩ 0).val - 1 = 1; rw [symm_W1]; rfl
      | ⟨1, _⟩ => show n.val * 1 + (Ws.rowMajor.symm ⟨1, by decide⟩ 1).val - 0 = n.val; rw [symm_W1]; show n.val * 1 + 0 - 0 = n.val; omega)))

/-- The host's running sum from the last of two rows, at either row. -/
theorem revsum_apply (x : FVec Ideal S2x1024 .f32) (init : FVec Ideal S_ .f32) (z : init (Shape.Idx.first h_S_) = 0)
    (h : S2x1024.ReduceWindows ![2, 1] ![1, 1] ![0, 0] ![1, 0] S2x1024) (n : Fin 1024) :
    Host.reduceWindowAdd ![2, 1] ![1, 1] ![0, 0] ![1, 0] x init h h_S_ (ix2 (0 : Fin 2) n) = x (ix2 (0 : Fin 2) n) + x (ix2 (1 : Fin 2) n)
      ∧ Host.reduceWindowAdd ![2, 1] ![1, 1] ![0, 0] ![1, 0] x init h h_S_ (ix2 (1 : Fin 2) n) = x (ix2 (1 : Fin 2) n) := by
  constructor
  · unfold Host.reduceWindowAdd
    rw [Ideal.hostReduceWindowAdd_def]
    unfold Ideal.hostReduceWindowAdd Host.reduceWindow
    dsimp only
    change List.foldl _ _ (List.finRange Ws.numel) = _
    rw [finRange_W, z, List.foldl_cons, List.foldl_cons, List.foldl_nil]
    rw [dif_pos (show _ from fun a => by
      match a with
      | ⟨0, _⟩ =>
        show 0 ≤ 0 * 1 + (Ws.rowMajor.symm ⟨0, by decide⟩ 0).val ∧ 0 * 1 + (Ws.rowMajor.symm ⟨0, by decide⟩ 0).val - 0 < 2
        rw [symm_W0]; decide
      | ⟨1, _⟩ =>
        show 0 ≤ n.val * 1 + (Ws.rowMajor.symm ⟨0, by decide⟩ 1).val ∧ n.val * 1 + (Ws.rowMajor.symm ⟨0, by decide⟩ 1).val - 0 < 1024
        rw [symm_W0]; exact ⟨Nat.zero_le _, by show n.val * 1 + 0 - 0 < 1024; omega⟩)]
    rw [dif_pos (show _ from fun a => by
      match a with
      | ⟨0, _⟩ =>
        show 0 ≤ 0 * 1 + (Ws.rowMajor.symm ⟨1, by decide⟩ 0).val ∧ 0 * 1 + (Ws.rowMajor.symm ⟨1, by decide⟩ 0).val - 0 < 2
        rw [symm_W1]; decide
      | ⟨1, _⟩ =>
        show 0 ≤ n.val * 1 + (Ws.rowMajor.symm ⟨1, by decide⟩ 1).val ∧ n.val * 1 + (Ws.rowMajor.symm ⟨1, by decide⟩ 1).val - 0 < 1024
        rw [symm_W1]; exact ⟨Nat.zero_le _, by show n.val * 1 + 0 - 0 < 1024; omega⟩)]
    rw [zero_add]
    exact congrArg₂ (fun u v : EReal => u + v) (congrArg x (funext fun a => Fin.ext (by
      match a with
      | ⟨0, _⟩ => show 0 * 1 + (Ws.rowMajor.symm ⟨0, by decide⟩ 0).val - 0 = 0; rw [symm_W0]; rfl
      | ⟨1, _⟩ => show n.val * 1 + (Ws.rowMajor.symm ⟨0, by decide⟩ 1).val - 0 = n.val; rw [symm_W0]; show n.val * 1 + 0 - 0 = n.val; omega)))
      (congrArg x (funext fun a => Fin.ext (by
      match a with
      | ⟨0, _⟩ => show 0 * 1 + (Ws.rowMajor.symm ⟨1, by decide⟩ 0).val - 0 = 1; rw [symm_W1]; rfl
      | ⟨1, _⟩ => show n.val * 1 + (Ws.rowMajor.symm ⟨1, by decide⟩ 1).val - 0 = n.val; rw [symm_W1]; show n.val * 1 + 0 - 0 = n.val; omega)))
  · unfold Host.reduceWindowAdd
    rw [Ideal.hostReduceWindowAdd_def]
    unfold Ideal.hostReduceWindowAdd Host.reduceWindow
    dsimp only
    change List.foldl _ _ (List.finRange Ws.numel) = _
    rw [finRange_W, z, List.foldl_cons, List.foldl_cons, List.foldl_nil]
    rw [dif_pos (show _ from fun a => by
      match a with
      | ⟨0, _⟩ =>
        show 0 ≤ 1 * 1 + (Ws.rowMajor.symm ⟨0, by decide⟩ 0).val ∧ 1 * 1 + (Ws.rowMajor.symm ⟨0, by decide⟩ 0).val - 0 < 2
        rw [symm_W0]; decide
      | ⟨1, _⟩ =>
        show 0 ≤ n.val * 1 + (Ws.rowMajor.symm ⟨0, by decide⟩ 1).val ∧ n.val * 1 + (Ws.rowMajor.symm ⟨0, by decide⟩ 1).val - 0 < 1024
        rw [symm_W0]; exact ⟨Nat.zero_le _, by show n.val * 1 + 0 - 0 < 1024; omega⟩)]
    rw [dif_neg (fun hh => by
      have h0 := hh 0
      change 0 ≤ 1 * 1 + (Ws.rowMajor.symm ⟨1, by decide⟩ 0).val ∧ 1 * 1 + (Ws.rowMajor.symm ⟨1, by decide⟩ 0).val - 0 < 2 at h0
      rw [symm_W1] at h0
      exact absurd h0 (by decide))]
    rw [add_zero, zero_add]
    exact (congrArg x (funext fun a => Fin.ext (by
      match a with
      | ⟨0, _⟩ => show 1 * 1 + (Ws.rowMajor.symm ⟨0, by decide⟩ 0).val - 0 = 1; rw [symm_W0]; rfl
      | ⟨1, _⟩ => show n.val * 1 + (Ws.rowMajor.symm ⟨0, by decide⟩ 1).val - 0 = n.val; rw [symm_W0]; show n.val * 1 + 0 - 0 = n.val; omega)))

theorem v44_apply (w c d) (n : Fin 1024) :
    val_main_v44 (F := Ideal) w c d (ix2 (0 : Fin 2) n) = val_main_v43 (F := Ideal) w c d (ix2 (0 : Fin 1) n)
      ∧ val_main_v44 (F := Ideal) w c d (ix2 (1 : Fin 2) n) = 0 := by
  constructor
  · exact pad_apply_of_inside _ _ _ _ _ _ _ _ (ix2 (0 : Fin 1) n) (fun a => by match a with | ⟨0, _⟩ => rfl | ⟨1, _⟩ => simp)
  · refine (pad_apply_of_not_inside _ _ _ _ _ _ _ _ (0 : Fin 2) (by rintro ⟨_, _, h⟩; exact absurd h (by show ¬ (1 - 0) / (0 + 1) < 1; decide))).trans ?_
    exact Ideal.ofBits_zero_f32

theorem lift_two (h : S2x1024.Reduces [0] S1024) (n : Fin 1024) (k : Fin 2) : h.lift (ix1 n) k = ix2 k n := by
  funext c; apply Fin.ext
  fin_cases c <;> rfl

/-- From −∞ the host's maximum over two rows is the larger of the two. -/
theorem reduce_max_two (x : FVec Ideal S2x1024 .f32) (h' : S2x1024.ReducesTo [0] S1024) (h : S2x1024.Reduces [0] S1024) (n : Fin 1024) :
    Host.reduce FloatOps.maximumf x (constant S_ .f32 0xFF800000#32) h' h_S_ (ix1 n) = max (x (ix2 (0 : Fin 2) n)) (x (ix2 (1 : Fin 2) n)) := by
  rw [Host.reduce_eq_fold_single FloatOps.maximumf x _ h' h h_S_]
  have hf : (x ∘ h.lift (ix1 n)) = fun k : Fin 2 => x (ix2 k n) := funext fun k => congrArg x (lift_two h n k)
  refine (congrArg (fun f => Finset.fold max (Ideal.ofBits .f32 0xFF800000#32) f (Finset.univ : Finset (Fin 2))) hf).trans ?_
  have hu : (Finset.univ : Finset (Fin 2)) = {0, 1} := by decide
  have hb : Ideal.ofBits .f32 0xFF800000#32 = ⊥ := by simp [Ideal.ofBits, Ideal.ieee]
  rw [hu, hb, Finset.fold_insert (by decide), Finset.fold_singleton, max_eq_left bot_le]

theorem v7_apply (w : Vec Ideal S1136x128 .f32) (n : Fin 1024) :
    val_main_v7 (F := Ideal) w (ix1 n)
      = max (val_main_v4 (F := Ideal) w (ix2 (0 : Fin 2) n)) (val_main_v4 (F := Ideal) w (ix2 (1 : Fin 2) n)) :=
  reduce_max_two (val_main_v4 (F := Ideal) w) _ (by decide) n

theorem v27_at (w : Vec Ideal S1136x128 .f32) (l : Fin 2) (n : Fin 1024) :
    val_main_v27 (F := Ideal) w (ix2 l n) = Ideal.exp (val_main_v4 (F := Ideal) w (ix2 l n)
      - max (val_main_v4 (F := Ideal) w (ix2 (0 : Fin 2) n)) (val_main_v4 (F := Ideal) w (ix2 (1 : Fin 2) n))) := by
  pointwise [val_main_v27, val_main_v26, val_main_v25, val_main_v24, val_main_v14, val_main_v13, val_main_cst_2, v7_apply]
  have hb : Ideal.ofBits FTy.f32 4286578688#32 = ⊥ := by simp [Ideal.ofBits, Ideal.ieee]
  rw [hb, max_eq_right bot_le]

theorem v28_at (w : Vec Ideal S1136x128 .f32) (n : Fin 1024) :
    val_main_v28 (F := Ideal) w (ix1 n) = val_main_v27 (F := Ideal) w (ix2 (0 : Fin 2) n) + val_main_v27 (F := Ideal) w (ix2 (1 : Fin 2) n) := by
  rw [val_main_v28_apply, Fin.sum_univ_two]
  pointwise [val_main_cst_8]
  exact congrArg₂ (fun u v : EReal => u + v) (congrArg _ (by blk_ext [idx_main_v28])) (congrArg _ (by blk_ext [idx_main_v28]))
theorem v31_at (w : Vec Ideal S1136x128 .f32) (l : Fin 2) (n : Fin 1024) :
    val_main_v31 (F := Ideal) w (ix2 l n) = Ideal.div (val_main_v27 (F := Ideal) w (ix2 l n)) (val_main_v28 (F := Ideal) w (ix1 n)) := by
  pointwise [val_main_v31, val_main_v30, val_main_v29]
theorem v38_at (w : Vec Ideal S1136x128 .f32) (l : Fin 2) (n : Fin 1024) :
    val_main_v38 (F := Ideal) w (ix2 l n) = val_main_v35 (F := Ideal) w (ix2 l n) - val_main_v31 (F := Ideal) w (ix2 (0 : Fin 2) n) := by
  pointwise [val_main_v38, val_main_v37, val_main_v36]
theorem v40_at (w : Vec Ideal S1136x128 .f32) (c : Vec Ideal S8x40x128 .f32) (d : Vec Ideal S8x1104x128 .f32) (l : Fin 2) (n : Fin 1024) :
    val_main_v40 (F := Ideal) w c d (ix2 l n)
      = val_main_v6 (F := Ideal) c d (ix2 l n) * SmallLb.slope (Ideal.ofBits FTy.f32 1056964608#32) (val_main_v38 (F := Ideal) w (ix2 l n)) := by
  rw [← SmallLb.slope_two]
  pointwise [val_main_v40, val_main_call2_v0, val_main_v39_1, val_main_v39_2]
  pointwise [val_main_call1_v4, val_main_call1_v7, val_main_call1_v10, val_main_call1_v16, val_main_call1_v19, val_main_call1_v22]
  pointwise [val_main_call1_v2, val_main_call1_v15, val_main_call1_v18, val_main_call1_v21,val_main_call1_v20,val_main_call1_v3,val_main_call1_v6,val_main_call1_v9,val_main_call1_v8,
    val_main_call1_v1, val_main_call1_v12, val_main_call1_cst_2, val_main_call1_v17, val_main_call1_cst_4, val_main_call1_cst_3, val_main_call1_v0,
    val_main_call1_cst, val_main_call1_v5, val_main_call1_cst_1, val_main_call1_cst_0]
  pointwise [val_main_call1_v0, val_main_call1_v12, val_main_cst_11, val_main_cst_10]
  simp only [id]
  pointwise
theorem v46_at (w : Vec Ideal S1136x128 .f32) (c : Vec Ideal S8x40x128 .f32) (d : Vec Ideal S8x1104x128 .f32) (n : Fin 1024) :
    val_main_v46 (F := Ideal) w c d (ix2 (0 : Fin 2) n)
      = (-val_main_v40 (F := Ideal) w c d (ix2 (0 : Fin 2) n) + -val_main_v40 (F := Ideal) w c d (ix2 (1 : Fin 2) n))
        + (val_main_v40 (F := Ideal) w c d (ix2 (0 : Fin 2) n) + val_main_v40 (F := Ideal) w c d (ix2 (1 : Fin 2) n))
     ∧ val_main_v46 (F := Ideal) w c d (ix2 (1 : Fin 2) n) = val_main_v40 (F := Ideal) w c d (ix2 (1 : Fin 2) n) := by
  have e := revsum_apply (val_main_v40 (F := Ideal) w c d) (val_main_call3_call0_v0 (F := Ideal)) Ideal.ofBits_zero_f32 reduceWindows_S2x1024_S2x1024_w2s1p0_1_w1s1p0_0 n
  rw [val_main_v46_apply, val_main_v46_apply, (v44_apply w c d n).1, (v44_apply w c d n).2]
  unfold val_main_v45
  rw [e.1, e.2]
  pointwise [val_main_v43]
  rw [val_main_v42_apply, Fin.sum_univ_two]
  pointwise [val_main_v41, val_main_cst_12]
  exact congrArg (fun u : EReal => u + _) (congrArg₂ (fun u v : EReal => -u + -v) (congrArg _ (by blk_ext [idx_main_v42])) (congrArg _ (by blk_ext [idx_main_v42])))
theorem v58_at (w : Vec Ideal S1136x128 .f32) (c : Vec Ideal S8x40x128 .f32) (d : Vec Ideal S8x1104x128 .f32) (l : Fin 2) (n : Fin 1024) :
    val_main_v58 (F := Ideal) w c d (ix2 l n)
      = (Ideal.div (val_main_v46 (F := Ideal) w c d (ix2 l n)) (val_main_v28 (F := Ideal) w (ix1 n))
        + -(val_main_v46 (F := Ideal) w c d (ix2 (0 : Fin 2) n) * Ideal.div 1 (val_main_v28 (F := Ideal) w (ix1 n) * val_main_v28 (F := Ideal) w (ix1 n)) * val_main_v27 (F := Ideal) w (ix2 (0 : Fin 2) n)
          + val_main_v46 (F := Ideal) w c d (ix2 (1 : Fin 2) n) * Ideal.div 1 (val_main_v28 (F := Ideal) w (ix1 n) * val_main_v28 (F := Ideal) w (ix1 n)) * val_main_v27 (F := Ideal) w (ix2 (1 : Fin 2) n)))
        * val_main_v27 (F := Ideal) w (ix2 l n) := by
  pointwise [val_main_v58, val_main_v57, val_main_v56, val_main_v54, val_main_v53]
  rw [val_main_v55_apply]
  pointwise [val_main_v52, val_main_v51, val_main_v29, val_main_cst_15]
  rw [Fin.sum_univ_one]
  have e : (ix1 (idx_main_v55 (ix1 n) 0 1) : S1024.Idx) = ix1 n := by blk_ext [idx_main_v55]
  rw [e, val_main_v50_apply, Fin.sum_univ_two]
  have i0 : idx_main_v50 (ix1 n) 0 = ix2 (0 : Fin 2) n := by blk_ext [idx_main_v50]
  have i1 : idx_main_v50 (ix1 n) 1 = ix2 (1 : Fin 2) n := by blk_ext [idx_main_v50]
  rw [i0, i1]
  pointwise [val_main_v49, val_main_v48, val_main_v47, val_main_v34, val_main_v33, val_main_v32, val_main_v29, val_main_cst_14, val_main_cst_9]

/-- The gradients of the two logits `x`, `y` whose lower bounds have gradients `c0`, `c1`: in closed form. -/
def pX (x y : EReal) : EReal :=
  Ideal.div (Ideal.exp (x - max x y)) (Ideal.exp (x - max x y) + Ideal.exp (y - max x y))
def pY (x y : EReal) : EReal :=
  Ideal.div (Ideal.exp (y - max x y)) (Ideal.exp (x - max x y) + Ideal.exp (y - max x y))
def dA (x y c0 : EReal) : EReal := c0 * SmallLb.slope (Ideal.ofBits FTy.f32 1056964608#32) (pX x y - pX x y)
def dB (x y c1 : EReal) : EReal := c1 * SmallLb.slope (Ideal.ofBits FTy.f32 1056964608#32) (pX x y + pY x y - pX x y)
def dP (x y c0 c1 : EReal) : EReal := (dA x y c0 + dB x y c1) - (dA x y c0 + dB x y c1)
def sLb0 (x y c0 c1 : EReal) : EReal := pX x y * (dP x y c0 c1 - (pX x y * dP x y c0 c1 + pY x y * dB x y c1))
def sLb1 (x y c0 c1 : EReal) : EReal := pY x y * (dB x y c1 - (pX x y * dP x y c0 c1 + pY x y * dB x y c1))

theorem v58_closed (w : Vec Ideal S1136x128 .f32) (c : Vec Ideal S8x40x128 .f32) (d : Vec Ideal S8x1104x128 .f32) (n : Fin 1024) :
    val_main_v58 (F := Ideal) w c d (ix2 (0 : Fin 2) n)
      = sLb0 (val_main_v4 (F := Ideal) w (ix2 (0 : Fin 2) n)) (val_main_v4 (F := Ideal) w (ix2 (1 : Fin 2) n))
          (val_main_v6 (F := Ideal) c d (ix2 (0 : Fin 2) n)) (val_main_v6 (F := Ideal) c d (ix2 (1 : Fin 2) n))
    ∧ val_main_v58 (F := Ideal) w c d (ix2 (1 : Fin 2) n)
      = sLb1 (val_main_v4 (F := Ideal) w (ix2 (0 : Fin 2) n)) (val_main_v4 (F := Ideal) w (ix2 (1 : Fin 2) n))
          (val_main_v6 (F := Ideal) c d (ix2 (0 : Fin 2) n)) (val_main_v6 (F := Ideal) c d (ix2 (1 : Fin 2) n)) := by
  have hc := cumsum_apply (val_main_v31 (F := Ideal) w) (val_main_call0_call0_v0 (F := Ideal)) Ideal.ofBits_zero_f32 reduceWindows_S2x1024_S2x1024_w2s1p1_0_w1s1p0_0 n
  have c0 : val_main_v35 (F := Ideal) w (ix2 (0 : Fin 2) n) = _ := hc.1
  have c1 : val_main_v35 (F := Ideal) w (ix2 (1 : Fin 2) n) = _ := hc.2
  rw [v58_at, v58_at, (v46_at w c d n).1, (v46_at w c d n).2, v40_at, v40_at, v38_at, v38_at, c0, c1, v31_at, v31_at, v28_at, v27_at, v27_at]
  generalize val_main_v4 (F := Ideal) w (ix2 (0 : Fin 2) n) = x
  generalize val_main_v4 (F := Ideal) w (ix2 (1 : Fin 2) n) = y
  generalize val_main_v6 (F := Ideal) c d (ix2 (0 : Fin 2) n) = a
  generalize val_main_v6 (F := Ideal) c d (ix2 (1 : Fin 2) n) = b
  obtain ⟨r0, h0, e0⟩ := SmallLb.exp_real x (max x y) (le_max_left _ _)
  obtain ⟨r1, h1, e1⟩ := SmallLb.exp_real y (max x y) (le_max_right _ _)
  have hz : r0 + r1 = 0 → dA x y a = 0 ∧ dB x y b = 0 := fun hz => by
    have hs : Ideal.exp (x - max x y) + Ideal.exp (y - max x y) = 0 := by rw [e0, e1, ← EReal.coe_add, hz, EReal.coe_zero]
    have z0 : r0 = 0 := by linarith
    have hp : pX x y = ⊥ := by rw [pX, hs, e0, z0]; simp [Ideal.div]
    rw [dA, dB, hp, sub_eq_add_neg, EReal.bot_add, sub_eq_add_neg, EReal.bot_add, EReal.bot_add, SmallLb.slope_bot, mul_zero, mul_zero]
    exact ⟨rfl, rfl⟩
  have g := SmallLb.grad_eq r0 r1 h0 h1 _ _ _ (dA x y a) (dB x y b) e0 e1 rfl hz
  exact ⟨g.1.symm, g.2.symm⟩

/-- The sum over the eight devices of a row of the packed gradients: the first 32 rows from the late pack, the others from the early one. -/
def sG (c : Vec Ideal S8x40x128 .f32) (d : Vec Ideal S8x1104x128 .f32) (r : Fin 1136) (n : Fin 128) : EReal :=
  ∑ k : Fin 8, if h : r.val < 32 then c (ix3 k (⟨r.val, by omega⟩ : Fin 40) n) else d (ix3 k (⟨r.val - 32, by omega⟩ : Fin 1104) n)

/-- The packed gradients with the logits' rows replaced. -/
def sGrad (w : Vec Ideal S1136x128 .f32) (c : Vec Ideal S8x40x128 .f32) (d : Vec Ideal S8x1104x128 .f32) (r : Fin 1136) (n : Fin 128) : EReal :=
  if r.val < 1112 then sG c d r n
  else if h0 : r.val < 1120 then
    sLb0 (w (ix2 r n)) (w (ix2 (⟨r.val + 8, by omega⟩ : Fin 1136) n)) (sG c d r n) (sG c d ⟨r.val + 8, by omega⟩ n)
  else if r.val < 1128 then
    sLb1 (w (ix2 (⟨r.val - 8, by omega⟩ : Fin 1136) n)) (w (ix2 r n)) (sG c d ⟨r.val - 8, by omega⟩ n) (sG c d r n)
  else sG c d r n

theorem v2_at (c : Vec Ideal S8x40x128 .f32) (d : Vec Ideal S8x1104x128 .f32) (r : Fin 1136) (n : Fin 128) :
    val_main_v2 (F := Ideal) c d (ix2 r n) = sG c d r n := by
  rw [val_main_v2_apply]
  pointwise [val_main_cst]
  refine Finset.sum_congr rfl fun k _ => ?_
  have i0 : idx_main_v2 (ix2 r n) k = ix3 k r n := by blk_ext [idx_main_v2]
  rw [i0]
  pointwise [val_main_v1, val_main_v0]

theorem lb_congr (f : EReal → EReal → EReal → EReal → EReal) (w : Vec Ideal S1136x128 .f32) (g : Fin 1136 → Fin 128 → EReal)
    {a a' b b' : Fin 1136} {n n' : Fin 128} (ha : a.val = a'.val) (hb : b.val = b'.val) (hn : n.val = n'.val) :
    f (w (ix2 a n)) (w (ix2 b n)) (g a n) (g b n) = f (w (ix2 a' n')) (w (ix2 b' n')) (g a' n') (g b' n') := by
  rw [Fin.ext ha, Fin.ext hb, Fin.ext hn]

theorem ref_g (w : Vec Ideal S1136x128 .f32) (c : Vec Ideal S8x40x128 .f32) (d : Vec Ideal S8x1104x128 .f32) (r : Fin 1136) (n : Fin 128) :
    val_main_v62 (F := Ideal) w c d (ix2 r n) = sGrad w c d r n := by
  have hv6 (l : Fin 2) (m : Fin 1024) : val_main_v6 (F := Ideal) c d (ix2 l m)
      = sG c d ⟨1112 + (l.val * 8 + m.val / 128), by omega⟩ ⟨m.val % 128, by omega⟩ := by
    rw [← v2_at]
    pointwise [val_main_v6, val_main_v5]
  have hv4 (l : Fin 2) (m : Fin 1024) : val_main_v4 (F := Ideal) w (ix2 l m)
      = w (ix2 (⟨1112 + (l.val * 8 + m.val / 128), by omega⟩ : Fin 1136) (⟨m.val % 128, by omega⟩ : Fin 128)) := by
    pointwise [val_main_v4, val_main_v3]
  pointwise [val_main_v62, val_main_v61, val_main_v60, val_main_v59]
  unfold sGrad
  by_cases h1 : r.val < 1112
  · rw [dif_pos h1, if_pos h1, v2_at]
  · rw [dif_neg h1, if_neg h1]
    by_cases h2 : r.val < 1120
    · have h16 : r.val - 1112 < 16 := by omega
      rw [dif_pos h16, dif_pos h2]
      have e0 : (ix2 (⟨(r.val - 1112) / 8, by omega⟩ : Fin 2) (⟨(r.val - 1112) % 8 * 128 + n.val, by omega⟩ : Fin 1024) : S2x1024.Idx)
          = ix2 (0 : Fin 2) (⟨(r.val - 1112) * 128 + n.val, by omega⟩ : Fin 1024) :=
        congrArg₂ ix2 (Fin.ext (show (r.val - 1112) / 8 = 0 by omega)) (Fin.ext (show (r.val - 1112) % 8 * 128 + n.val = (r.val - 1112) * 128 + n.val by omega))
      rw [e0, (v58_closed w c d _).1, hv4, hv4, hv6, hv6]
      exact lb_congr sLb0 w (sG c d) (by show 1112 + (0 * 8 + ((r.val - 1112) * 128 + n.val) / 128) = r.val; omega)
        (by show 1112 + (1 * 8 + ((r.val - 1112) * 128 + n.val) / 128) = r.val + 8; omega) (by show ((r.val - 1112) * 128 + n.val) % 128 = n.val; omega)
    · rw [dif_neg h2]
      by_cases h3 : r.val < 1128
      · have h16 : r.val - 1112 < 16 := by omega
        rw [dif_pos h16, if_pos h3]
        have e0 : (ix2 (⟨(r.val - 1112) / 8, by omega⟩ : Fin 2) (⟨(r.val - 1112) % 8 * 128 + n.val, by omega⟩ : Fin 1024) : S2x1024.Idx)
            = ix2 (1 : Fin 2) (⟨(r.val - 1120) * 128 + n.val, by omega⟩ : Fin 1024) :=
          congrArg₂ ix2 (Fin.ext (show (r.val - 1112) / 8 = 1 by omega)) (Fin.ext (show (r.val - 1112) % 8 * 128 + n.val = (r.val - 1120) * 128 + n.val by omega))
        rw [e0, (v58_closed w c d _).2, hv4, hv4, hv6, hv6]
        exact lb_congr sLb1 w (sG c d) (by show 1112 + (0 * 8 + ((r.val - 1120) * 128 + n.val) / 128) = r.val - 8; omega)
          (by show 1112 + (1 * 8 + ((r.val - 1120) * 128 + n.val) / 128) = r.val; omega) (by show ((r.val - 1120) * 128 + n.val) % 128 = n.val; omega)
      · have h16 : ¬ r.val - 1112 < 16 := by omega
        rw [dif_neg h16, if_neg h3, v2_at]
        exact congrArg (fun q => sG c d q n) (Fin.ext (show 1128 + (r.val - 1112 - 16) = r.val by omega))

end Cert.SmallRefIdeal.RefValue
-- ==== Proof.SmallRefOut.lean ====
/- Each of the reference's twenty-eight results, as an entry of a pack. -/
module

public import proofs.«01_k».proof.Proof.SmallRef

/-!
The optimiser's packs of the reference of the small-weights step, read at an index.
-/

@[expose] public section

set_option maxRecDepth 16384

noncomputable section

open Idealize.ShloMosaic Idealize.ShloMosaic.TcCoe Idealize.SL.Sem
namespace Cert.SmallRefIdeal.RefValue
open Cert.SmallRefIdeal Cert.SmallRefIdeal.Gen Cert.SmallRefIdeal.Read

section Packs

variable (w m v : Vec Ideal S1136x128 .f32) (c : Vec Ideal S8x40x128 .f32) (d : Vec Ideal S8x1104x128 .f32) (r : Fin 1136) (n : Fin 128)

/-- The first moment after the step. -/
def sMom : EReal := Ideal.ofBits .f32 0x3F666666#32 * m (ix2 r n) + Ideal.ofBits .f32 0x3DCCCCCD#32 * sGrad w c d r n

/-- The second moment after the step. -/
def sVar : EReal := Ideal.ofBits .f32 0x3F7FBE77#32 * v (ix2 r n) + Ideal.ofBits .f32 0x3A83126F#32 * (sGrad w c d r n * sGrad w c d r n)

/-- The step itself. -/
def sStep : EReal := Ideal.ofBits .f32 0xBA83126F#32 * (Ideal.div (Ideal.div (sMom w m c d r n) (Ideal.ofBits .f32 0x3F26BD02#32))
    (Ideal.sqrt (Ideal.div (sVar w v c d r n) (Ideal.ofBits .f32 0x3C231ACC#32)) + Ideal.ofBits .f32 0x322BCC77#32) + Ideal.ofBits .f32 0x3C23D70A#32 * w (ix2 r n))

theorem ref_m : val_main_v67 (F := Ideal) w m c d (ix2 r n) = sMom w m c d r n := by
  rw [val_main_v67_apply, val_main_v64_apply, val_main_v66_apply, val_main_v63_apply, val_main_v65_apply, ref_g]
  rfl

theorem ref_v : val_main_v73 (F := Ideal) w v c d (ix2 r n) = sVar w v c d r n := by
  rw [val_main_v73_apply, val_main_v69_apply, val_main_v72_apply, val_main_v70_apply, val_main_v68_apply, val_main_v71_apply, ref_g]
  rfl

theorem ref_d : val_main_v86 (F := Ideal) w m v c d (ix2 r n) = sStep w m v c d r n := by
  rw [val_main_v86_apply, val_main_v84_apply, val_main_v83_apply, val_main_v81_apply, val_main_v80_apply, val_main_v78_apply, val_main_v77_apply,
    val_main_v75_apply, ref_m, ref_v, val_main_v85_apply, val_main_v82_apply, val_main_v79_apply, val_main_v76_apply, val_main_v74_apply]
  rfl

end Packs
/-- Row `r` and column `n` of a pack, given by their values. -/
theorem pack_congr (f : Fin 1136 → Fin 128 → EReal) {r r' : Fin 1136} {n n' : Fin 128} (hr : r.val = r'.val) (hn : n.val = n'.val) : f r n = f r' n' := by
  rw [Fin.ext hr, Fin.ext hn]

section Results

variable (w m v : Vec Ideal S1136x128 .f32) (c : Vec Ideal S8x40x128 .f32) (d : Vec Ideal S8x1104x128 .f32)

theorem res_g_b_ada (l : Fin 2) (j : Fin 3072) :
    val_main_v91 (F := Ideal) w c d (ix2 l j) = sGrad w c d ⟨0 + l.val * 32 + j.val / 128, by omega⟩ ⟨j.val % 128, by omega⟩ := by
  pointwise [val_main_v91, val_main_v90, val_main_v89, val_main_v88, val_main_v87]
  have hl := l.isLt
  split
  · rw [ref_g]
    exact pack_congr _ (by dsimp only; omega) rfl
  · rw [ref_g]
    exact pack_congr _ (by dsimp only; omega) rfl

theorem res_g_g_pre (l : Fin 2) (j : Fin 1024) :
    val_main_v96 (F := Ideal) w c d (ix2 l j) = sGrad w c d ⟨24 + l.val * 32 + j.val / 128, by omega⟩ ⟨j.val % 128, by omega⟩ := by
  pointwise [val_main_v96, val_main_v95, val_main_v94, val_main_v93, val_main_v92]
  have hl := l.isLt
  split
  · rw [ref_g]
    exact pack_congr _ (by dsimp only; omega) rfl
  · rw [ref_g]
    exact pack_congr _ (by dsimp only; omega) rfl

theorem res_g_g_post (l : Fin 2) (j : Fin 1024) :
    val_main_v98 (F := Ideal) w c d (ix2 l j) = sGrad w c d ⟨64 + l.val * 8 + j.val / 128, by omega⟩ ⟨j.val % 128, by omega⟩ := by
  pointwise [val_main_v98, val_main_v97]
  rw [ref_g]
  exact pack_congr _ (by dsimp only; omega) rfl

theorem res_g_pool_w (l : Fin 1024) (j : Fin 128) :
    val_main_v99 (F := Ideal) w c d (ix2 l j) = sGrad w c d ⟨80 + l.val, by omega⟩ j := by
  pointwise [val_main_v99]
  rw [ref_g]

theorem res_g_pool_scale (l : Fin 2) (j : Fin 512) :
    val_main_v101 (F := Ideal) w c d (ix2 l j) = sGrad w c d ⟨1104 + l.val * 4 + j.val / 128, by omega⟩ ⟨j.val % 128, by omega⟩ := by
  pointwise [val_main_v101, val_main_v100]
  rw [ref_g]
  exact pack_congr _ (by dsimp only; omega) rfl

theorem res_g_lb (l : Fin 2) (j : Fin 1024) :
    val_main_v103 (F := Ideal) w c d (ix2 l j) = sGrad w c d ⟨1112 + l.val * 8 + j.val / 128, by omega⟩ ⟨j.val % 128, by omega⟩ := by
  pointwise [val_main_v103, val_main_v102]
  rw [ref_g]
  exact pack_congr _ (by dsimp only; omega) rfl

theorem res_g_hgrn (l : Fin 2) (j : Fin 128) :
    val_main_v104 (F := Ideal) w c d (ix2 l j) = sGrad w c d ⟨1128 + l.val, by omega⟩ j := by
  pointwise [val_main_v104]
  rw [ref_g]

theorem res_d_b_ada (l : Fin 2) (j : Fin 3072) :
    val_main_v109 (F := Ideal) w m v c d (ix2 l j) = sStep w m v c d ⟨0 + l.val * 32 + j.val / 128, by omega⟩ ⟨j.val % 128, by omega⟩ := by
  pointwise [val_main_v109, val_main_v108, val_main_v107, val_main_v106, val_main_v105]
  have hl := l.isLt
  split
  · rw [ref_d]
    exact pack_congr _ (by dsimp only; omega) rfl
  · rw [ref_d]
    exact pack_congr _ (by dsimp only; omega) rfl

theorem res_d_g_pre (l : Fin 2) (j : Fin 1024) :
    val_main_v114 (F := Ideal) w m v c d (ix2 l j) = sStep w m v c d ⟨24 + l.val * 32 + j.val / 128, by omega⟩ ⟨j.val % 128, by omega⟩ := by
  pointwise [val_main_v114, val_main_v113, val_main_v112, val_main_v111, val_main_v110]
  have hl := l.isLt
  split
  · rw [ref_d]
    exact pack_congr _ (by dsimp only; omega) rfl
  · rw [ref_d]
    exact pack_congr _ (by dsimp only; omega) rfl

theorem res_d_g_post (l : Fin 2) (j : Fin 1024) :
    val_main_v116 (F := Ideal) w m v c d (ix2 l j) = sStep w m v c d ⟨64 + l.val * 8 + j.val / 128, by omega⟩ ⟨j.val % 128, by omega⟩ := by
  pointwise [val_main_v116, val_main_v115]
  rw [ref_d]
  exact pack_congr _ (by dsimp only; omega) rfl

theorem res_d_pool_w (l : Fin 1024) (j : Fin 128) :
    val_main_v117 (F := Ideal) w m v c d (ix2 l j) = sStep w m v c d ⟨80 + l.val, by omega⟩ j := by
  pointwise [val_main_v117]
  rw [ref_d]

theorem res_d_pool_scale (l : Fin 2) (j : Fin 512) :
    val_main_v119 (F := Ideal) w m v c d (ix2 l j) = sStep w m v c d ⟨1104 + l.val * 4 + j.val / 128, by omega⟩ ⟨j.val % 128, by omega⟩ := by
  pointwise [val_main_v119, val_main_v118]
  rw [ref_d]
  exact pack_congr _ (by dsimp only; omega) rfl

theorem res_d_lb (l : Fin 2) (j : Fin 1024) :
    val_main_v121 (F := Ideal) w m v c d (ix2 l j) = sStep w m v c d ⟨1112 + l.val * 8 + j.val / 128, by omega⟩ ⟨j.val % 128, by omega⟩ := by
  pointwise [val_main_v121, val_main_v120]
  rw [ref_d]
  exact pack_congr _ (by dsimp only; omega) rfl

theorem res_d_hgrn (l : Fin 2) (j : Fin 128) :
    val_main_v122 (F := Ideal) w m v c d (ix2 l j) = sStep w m v c d ⟨1128 + l.val, by omega⟩ j := by
  pointwise [val_main_v122]
  rw [ref_d]

theorem res_m_b_ada (l : Fin 2) (j : Fin 3072) :
    val_main_v127 (F := Ideal) w m c d (ix2 l j) = sMom w m c d ⟨0 + l.val * 32 + j.val / 128, by omega⟩ ⟨j.val % 128, by omega⟩ := by
  pointwise [val_main_v127, val_main_v126, val_main_v125, val_main_v124, val_main_v123]
  have hl := l.isLt
  split
  · rw [ref_m]
    exact pack_congr _ (by dsimp only; omega) rfl
  · rw [ref_m]
    exact pack_congr _ (by dsimp only; omega) rfl

theorem res_m_g_pre (l : Fin 2) (j : Fin 1024) :
    val_main_v132 (F := Ideal) w m c d (ix2 l j) = sMom w m c d ⟨24 + l.val * 32 + j.val / 128, by omega⟩ ⟨j.val % 128, by omega⟩ := by
  pointwise [val_main_v132, val_main_v131, val_main_v130, val_main_v129, val_main_v128]
  have hl := l.isLt
  split
  · rw [ref_m]
    exact pack_congr _ (by dsimp only; omega) rfl
  · rw [ref_m]
    exact pack_congr _ (by dsimp only; omega) rfl

theorem res_m_g_post (l : Fin 2) (j : Fin 1024) :
    val_main_v134 (F := Ideal) w m c d (ix2 l j) = sMom w m c d ⟨64 + l.val * 8 + j.val / 128, by omega⟩ ⟨j.val % 128, by omega⟩ := by
  pointwise [val_main_v134, val_main_v133]
  rw [ref_m]
  exact pack_congr _ (by dsimp only; omega) rfl

theorem res_m_pool_w (l : Fin 1024) (j : Fin 128) :
    val_main_v135 (F := Ideal) w m c d (ix2 l j) = sMom w m c d ⟨80 + l.val, by omega⟩ j := by
  pointwise [val_main_v135]
  rw [ref_m]

theorem res_m_pool_scale (l : Fin 2) (j : Fin 512) :
    val_main_v137 (F := Ideal) w m c d (ix2 l j) = sMom w m c d ⟨1104 + l.val * 4 + j.val / 128, by omega⟩ ⟨j.val % 128, by omega⟩ := by
  pointwise [val_main_v137, val_main_v136]
  rw [ref_m]
  exact pack_congr _ (by dsimp only; omega) rfl

theorem res_m_lb (l : Fin 2) (j : Fin 1024) :
    val_main_v139 (F := Ideal) w m c d (ix2 l j) = sMom w m c d ⟨1112 + l.val * 8 + j.val / 128, by omega⟩ ⟨j.val % 128, by omega⟩ := by
  pointwise [val_main_v139, val_main_v138]
  rw [ref_m]
  exact pack_congr _ (by dsimp only; omega) rfl

theorem res_m_hgrn (l : Fin 2) (j : Fin 128) :
    val_main_v140 (F := Ideal) w m c d (ix2 l j) = sMom w m c d ⟨1128 + l.val, by omega⟩ j := by
  pointwise [val_main_v140]
  rw [ref_m]

theorem res_v_b_ada (l : Fin 2) (j : Fin 3072) :
    val_main_v145 (F := Ideal) w v c d (ix2 l j) = sVar w v c d ⟨0 + l.val * 32 + j.val / 128, by omega⟩ ⟨j.val % 128, by omega⟩ := by
  pointwise [val_main_v145, val_main_v144, val_main_v143, val_main_v142, val_main_v141]
  have hl := l.isLt
  split
  · rw [ref_v]
    exact pack_congr _ (by dsimp only; omega) rfl
  · rw [ref_v]
    exact pack_congr _ (by dsimp only; omega) rfl

theorem res_v_g_pre (l : Fin 2) (j : Fin 1024) :
    val_main_v150 (F := Ideal) w v c d (ix2 l j) = sVar w v c d ⟨24 + l.val * 32 + j.val / 128, by omega⟩ ⟨j.val % 128, by omega⟩ := by
  pointwise [val_main_v150, val_main_v149, val_main_v148, val_main_v147, val_main_v146]
  have hl := l.isLt
  split
  · rw [ref_v]
    exact pack_congr _ (by dsimp only; omega) rfl
  · rw [ref_v]
    exact pack_congr _ (by dsimp only; omega) rfl

theorem res_v_g_post (l : Fin 2) (j : Fin 1024) :
    val_main_v152 (F := Ideal) w v c d (ix2 l j) = sVar w v c d ⟨64 + l.val * 8 + j.val / 128, by omega⟩ ⟨j.val % 128, by omega⟩ := by
  pointwise [val_main_v152, val_main_v151]
  rw [ref_v]
  exact pack_congr _ (by dsimp only; omega) rfl

theorem res_v_pool_w (l : Fin 1024) (j : Fin 128) :
    val_main_v153 (F := Ideal) w v c d (ix2 l j) = sVar w v c d ⟨80 + l.val, by omega⟩ j := by
  pointwise [val_main_v153]
  rw [ref_v]

theorem res_v_pool_scale (l : Fin 2) (j : Fin 512) :
    val_main_v155 (F := Ideal) w v c d (ix2 l j) = sVar w v c d ⟨1104 + l.val * 4 + j.val / 128, by omega⟩ ⟨j.val % 128, by omega⟩ := by
  pointwise [val_main_v155, val_main_v154]
  rw [ref_v]
  exact pack_congr _ (by dsimp only; omega) rfl

theorem res_v_lb (l : Fin 2) (j : Fin 1024) :
    val_main_v157 (F := Ideal) w v c d (ix2 l j) = sVar w v c d ⟨1112 + l.val * 8 + j.val / 128, by omega⟩ ⟨j.val % 128, by omega⟩ := by
  pointwise [val_main_v157, val_main_v156]
  rw [ref_v]
  exact pack_congr _ (by dsimp only; omega) rfl

theorem res_v_hgrn (l : Fin 2) (j : Fin 128) :
    val_main_v158 (F := Ideal) w v c d (ix2 l j) = sVar w v c d ⟨1128 + l.val, by omega⟩ j := by
  pointwise [val_main_v158]
  rw [ref_v]

end Results

end Cert.SmallRefIdeal.RefValue
-- ==== Proof.SmallKernel.lean ====
/- The packs the small weights' optimiser kernel computes, as the reference's. -/
module

public import proofs.«01_k».proof.Proof.Gen.SmallIdeal.Skeleton
public import Idealize.ShloMosaic.Lib.Pipeline.ValueKit
public import Idealize.ShloMosaic.Lib.Pointwise
public import proofs.«01_k».proof.Proof.SmallRefOut

/-!
The values the kernel of the small-weights step stores in its four packs, read at an index.
-/

@[expose] public section

set_option maxRecDepth 16384

noncomputable section

open Idealize.ShloMosaic Idealize.ShloMosaic.TcCoe Idealize.SL.Sem
namespace Cert.SmallIdeal.RefValue
open Cert.SmallIdeal Cert.SmallIdeal.Gen Cert.SmallRefIdeal.RefValue

section Kernel

variable (x0 x1 x2 : Vec Ideal S1136x128 .f32) (x3 : Vec Ideal S8x40x128 .f32) (x4 : Vec Ideal S8x1104x128 .f32)

/-- The kernel's sum of the devices' gradients. -/
abbrev kSum : FVec Ideal S1136x128 .f32 :=
  k0_pay3
    (k0_pay1 (View.ld x4 (Rect.unit ![0, 0, 0] ![1, 1104, 128] inb_S8x1104x128_S1x1104x128_0_0_0))
      (View.ld x4 (Rect.unit ![1, 0, 0] ![1, 1104, 128] inb_S8x1104x128_S1x1104x128_1_0_0))
      (View.ld x4 (Rect.unit ![2, 0, 0] ![1, 1104, 128] inb_S8x1104x128_S1x1104x128_2_0_0))
      (View.ld x4 (Rect.unit ![3, 0, 0] ![1, 1104, 128] inb_S8x1104x128_S1x1104x128_3_0_0)))
    (k0_pay2 (View.ld x3 (Rect.unit ![0, 0, 0] ![1, 40, 128] inb_S8x40x128_S1x40x128_0_0_0))
      (View.ld x3 (Rect.unit ![1, 0, 0] ![1, 40, 128] inb_S8x40x128_S1x40x128_1_0_0))
      (View.ld x3 (Rect.unit ![2, 0, 0] ![1, 40, 128] inb_S8x40x128_S1x40x128_2_0_0))
      (View.ld x3 (Rect.unit ![3, 0, 0] ![1, 40, 128] inb_S8x40x128_S1x40x128_3_0_0))
      (View.ld x3 (Rect.unit ![4, 0, 0] ![1, 40, 128] inb_S8x40x128_S1x40x128_4_0_0)))
    (View.ld x4 (Rect.unit ![4, 0, 0] ![1, 1104, 128] inb_S8x1104x128_S1x1104x128_4_0_0))
    (View.ld x3 (Rect.unit ![5, 0, 0] ![1, 40, 128] inb_S8x40x128_S1x40x128_5_0_0))
    (View.ld x4 (Rect.unit ![5, 0, 0] ![1, 1104, 128] inb_S8x1104x128_S1x1104x128_5_0_0))
    (View.ld x3 (Rect.unit ![6, 0, 0] ![1, 40, 128] inb_S8x40x128_S1x40x128_6_0_0))
    (View.ld x4 (Rect.unit ![6, 0, 0] ![1, 1104, 128] inb_S8x1104x128_S1x1104x128_6_0_0))
    (View.ld x3 (Rect.unit ![7, 0, 0] ![1, 40, 128] inb_S8x40x128_S1x40x128_7_0_0))
    (View.ld x4 (Rect.unit ![7, 0, 0] ![1, 1104, 128] inb_S8x1104x128_S1x1104x128_7_0_0))

theorem kSum_at (r : Fin 1136) (n : Fin 128) : kSum x3 x4 (ix2 r n) = sG x3 x4 r n := by
  unfold sG
  rw [Fin.sum_univ_eight]
  pointwise [k0_pay3, k0_pay1, k0_pay2]
  by_cases h : r.val < 32
  · simp only [dif_pos h]
  · simp only [dif_neg h]

/-- The kernel's four packs. -/
abbrev kGrad : FVec Ideal S1136x128 .f32 :=
  k0_pay20 (k0_pay16 (kSum x3 x4)) (k0_pay17 (kSum x3 x4) (k0_pay9 x0) (k0_pay10 x0) (k0_pay11 x0) (k0_pay12 x0))
    (k0_pay18 (kSum x3 x4) (k0_pay9 x0) (k0_pay10 x0) (k0_pay11 x0) (k0_pay12 x0)) (k0_pay19 (kSum x3 x4))

theorem slope_eq (h x : EReal) :
    Scalar.select (IntOp.andi (BitVec.ofBool (decide (0 < x))) (BitVec.ofBool (decide (x < 1)))) (1 : EReal)
      (Scalar.select (IntOp.ori (BitVec.ofBool (decide (x = 0))) (BitVec.ofBool (decide (x = 1)))) h 0) = SmallLb.slope h x := by
  unfold SmallLb.slope
  by_cases h0 : 0 < x <;> by_cases h1 : x < 1 <;> by_cases h2 : x = 0 <;> by_cases h3 : x = 1 <;> simp [h0, h1, h2, h3, Scalar.select, IntOp.andi, IntOp.ori]

theorem kGrad_at (r : Fin 1136) (n : Fin 128) : kGrad x0 x3 x4 (ix2 r n) = sGrad x0 x3 x4 r n := by
  have e : ∀ r n, kSum x3 x4 (ix2 r n) = sG x3 x4 r n := kSum_at x3 x4
  unfold kGrad
  generalize kSum x3 x4 = G at e ⊢
  have e9 : ∀ (q : Fin 8) (n : Fin 128), k0_pay9 x0 (ix2 q n) = pX (x0 (ix2 (⟨1112 + q.val, by omega⟩ : Fin 1136) n)) (x0 (ix2 (⟨1120 + q.val, by omega⟩ : Fin 1136) n)) := by
    intro q n
    pointwise [k0_pay9, k0_pay8, k0_pay7, k0_pay6, k0_pay5, k0_pay4]
    rfl
  have e10 : ∀ (q : Fin 8) (n : Fin 128), k0_pay10 x0 (ix2 q n) = pY (x0 (ix2 (⟨1112 + q.val, by omega⟩ : Fin 1136) n)) (x0 (ix2 (⟨1120 + q.val, by omega⟩ : Fin 1136) n)) := by
    intro q n
    pointwise [k0_pay10, k0_pay8, k0_pay7, k0_pay6, k0_pay5, k0_pay4]
    rfl
  have e13 : ∀ (q : Fin 8) (n : Fin 128), k0_pay13 G (k0_pay12 x0) (ix2 q n)
      = dB (x0 (ix2 (⟨1112 + q.val, by omega⟩ : Fin 1136) n)) (x0 (ix2 (⟨1120 + q.val, by omega⟩ : Fin 1136) n)) (G (ix2 (⟨1120 + q.val, by omega⟩ : Fin 1136) n)) := by
    intro q n
    pointwise [k0_pay13, k0_pay12]
    rw [slope_eq, e9, e10]
    rfl
  have e14 : ∀ (q : Fin 8) (n : Fin 128), k0_pay14 G (k0_pay11 x0) (k0_pay12 x0) (ix2 q n)
      = dP (x0 (ix2 (⟨1112 + q.val, by omega⟩ : Fin 1136) n)) (x0 (ix2 (⟨1120 + q.val, by omega⟩ : Fin 1136) n)) (G (ix2 (⟨1112 + q.val, by omega⟩ : Fin 1136) n)) (G (ix2 (⟨1120 + q.val, by omega⟩ : Fin 1136) n)) := by
    intro q n
    pointwise [k0_pay14, k0_pay11]
    rw [slope_eq, e9, e13]
    rfl
  have hl : ∀ (a : Fin 1136) (q : Fin 8) (n : Fin 128), a.val = 1112 + q.val → a = (⟨1112 + q.val, by omega⟩ : Fin 1136) := fun a q n h => Fin.ext h
  pointwise [k0_pay20]
  unfold sGrad
  by_cases h1 : r.val < 1112
  · rw [dif_pos h1, if_pos h1, ← e]
    pointwise [k0_pay16]
  · rw [dif_neg h1, if_neg h1]
    by_cases h2 : r.val < 1120
    · have h8 : r.val - 1112 < 8 := by omega
      rw [dif_pos h8, dif_pos h2]
      pointwise [k0_pay17, k0_pay15]
      rw [e9, e10, e13, e14, e, e]
      exact lb_congr sLb0 x0 (sG x3 x4) (by show 1112 + (r.val - 1112) = r.val; omega) (by show 1120 + (r.val - 1112) = r.val + 8; omega) rfl
    · have h8 : ¬ r.val - 1112 < 8 := by omega
      rw [dif_neg h8, dif_neg h2]
      by_cases h3 : r.val < 1128
      · have h9 : r.val - 1112 - 8 < 8 := by omega
        rw [dif_pos h9, if_pos h3]
        pointwise [k0_pay18, k0_pay15]
        rw [e9, e10, e13, e14, e, e]
        exact lb_congr sLb1 x0 (sG x3 x4) (by show 1112 + (r.val - 1112 - 8) = r.val - 8; omega) (by show 1120 + (r.val - 1112 - 8) = r.val; omega) rfl
      · have h9 : ¬ r.val - 1112 - 8 < 8 := by omega
        rw [dif_neg h9, if_neg h3]
        pointwise [k0_pay19]
        rw [e]
        exact pack_congr _ (by show 1128 + (r.val - 1112 - 8 - 8) = r.val; omega) rfl

abbrev kMom : FVec Ideal S1136x128 .f32 :=
  k0_pay21 (k0_pay16 (kSum x3 x4)) (k0_pay17 (kSum x3 x4) (k0_pay9 x0) (k0_pay10 x0) (k0_pay11 x0) (k0_pay12 x0))
    (k0_pay18 (kSum x3 x4) (k0_pay9 x0) (k0_pay10 x0) (k0_pay11 x0) (k0_pay12 x0)) (k0_pay19 (kSum x3 x4)) x1

abbrev kVar : FVec Ideal S1136x128 .f32 :=
  k0_pay22 (k0_pay16 (kSum x3 x4)) (k0_pay17 (kSum x3 x4) (k0_pay9 x0) (k0_pay10 x0) (k0_pay11 x0) (k0_pay12 x0))
    (k0_pay18 (kSum x3 x4) (k0_pay9 x0) (k0_pay10 x0) (k0_pay11 x0) (k0_pay12 x0)) (k0_pay19 (kSum x3 x4)) x2

abbrev kStep : FVec Ideal S1136x128 .f32 :=
  k0_pay23 x0 (k0_pay16 (kSum x3 x4)) (k0_pay17 (kSum x3 x4) (k0_pay9 x0) (k0_pay10 x0) (k0_pay11 x0) (k0_pay12 x0))
    (k0_pay18 (kSum x3 x4) (k0_pay9 x0) (k0_pay10 x0) (k0_pay11 x0) (k0_pay12 x0)) (k0_pay19 (kSum x3 x4)) x1 x2

/-- The optimiser's formulas in the kernel, for any gradient. -/
theorem mom_eq (a : FVec Ideal S1112x128 .f32) (b c d : FVec Ideal S8x128 .f32) (i : S1136x128.Idx) :
    k0_pay21 a b c d x1 i = Ideal.ofBits .f32 0x3F666666#32 * x1 i + Ideal.ofBits .f32 0x3DCCCCCD#32 * k0_pay20 a b c d i := rfl

theorem var_eq (a : FVec Ideal S1112x128 .f32) (b c d : FVec Ideal S8x128 .f32) (i : S1136x128.Idx) :
    k0_pay22 a b c d x2 i = Ideal.ofBits .f32 0x3F7FBE77#32 * x2 i + Ideal.ofBits .f32 0x3A83126F#32 * (k0_pay20 a b c d i * k0_pay20 a b c d i) := rfl

theorem step_eq (a : FVec Ideal S1112x128 .f32) (b c d : FVec Ideal S8x128 .f32) (i : S1136x128.Idx) :
    k0_pay23 x0 a b c d x1 x2 i = Ideal.ofBits .f32 0xBA83126F#32 * (Ideal.div (Ideal.div (k0_pay21 a b c d x1 i) (Ideal.ofBits .f32 0x3F26BD02#32))
      (Ideal.sqrt (Ideal.div (k0_pay22 a b c d x2 i) (Ideal.ofBits .f32 0x3C231ACC#32)) + Ideal.ofBits .f32 0x322BCC77#32) + Ideal.ofBits .f32 0x3C23D70A#32 * x0 i) := rfl

theorem kMom_at (r : Fin 1136) (n : Fin 128) : kMom x0 x1 x3 x4 (ix2 r n) = sMom x0 x1 x3 x4 r n := by
  have e := kGrad_at x0 x3 x4 r n
  unfold kGrad at e
  unfold kMom sMom
  rw [mom_eq, e]

theorem kVar_at (r : Fin 1136) (n : Fin 128) : kVar x0 x2 x3 x4 (ix2 r n) = sVar x0 x2 x3 x4 r n := by
  have e := kGrad_at x0 x3 x4 r n
  unfold kGrad at e
  unfold kVar sVar
  rw [var_eq, e]

theorem kStep_at (r : Fin 1136) (n : Fin 128) : kStep x0 x1 x2 x3 x4 (ix2 r n) = sStep x0 x1 x2 x3 x4 r n := by
  have e1 := kMom_at x0 x1 x3 x4 r n
  have e2 := kVar_at x0 x2 x3 x4 r n
  unfold kMom at e1
  unfold kVar at e2
  unfold kStep sStep
  rw [step_eq, e1, e2]

/-- The packs as the kernel stores them. -/
theorem pack_g (r : Fin 1136) (n : Fin 128) :
    k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4)) (ix2 r n) = sGrad x0 x3 x4 r n := by
  rw [← kGrad_at]
  unfold k0_pay24
  exact congrFun (shapeCast_self _ _) _

theorem pack_d (r : Fin 1136) (n : Fin 128) : k0_pay25 (kStep x0 x1 x2 x3 x4) (ix2 r n) = sStep x0 x1 x2 x3 x4 r n := by
  rw [← kStep_at]
  unfold k0_pay25
  exact congrFun (shapeCast_self _ _) _

theorem pack_m (r : Fin 1136) (n : Fin 128) : k0_pay26 (kMom x0 x1 x3 x4) (ix2 r n) = sMom x0 x1 x3 x4 r n := by
  rw [← kMom_at]
  unfold k0_pay26
  exact congrFun (shapeCast_self _ _) _

theorem pack_v (r : Fin 1136) (n : Fin 128) : k0_pay27 (kVar x0 x2 x3 x4) (ix2 r n) = sVar x0 x2 x3 x4 r n := by
  rw [← kVar_at]
  unfold k0_pay27
  exact congrFun (shapeCast_self _ _) _

end Kernel

end Cert.SmallIdeal.RefValue
-- ==== Proof.SmallPiece.lean ====
/- A load from a pack that was stored whole. -/
module

public import proofs.«01_k».proof.Proof.Gen.SmallIdeal.Skeleton
public import Idealize.ShloMosaic.Lib.Pipeline.ValueKit
public import Idealize.ShloMosaic.Lib.Pipeline.ReadBack

@[expose] public section

set_option maxRecDepth 16384

noncomputable section

namespace Cert.SmallIdeal.Run

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load from a pack, after the pack was stored whole, reads the pack at the load's place. -/
theorem piece (v : View sig .tc .vmem S1136x128 .f32) (P : FVec Ideal S1136x128 .f32) {o0 o1 : ℕ} {size : Fin S1136x128.rank → ℕ}
    (inb0 : ∀ a, ![0, 0] a + S1136x128.size a ≤ S1136x128.size a) (inb : ∀ a, (![o0, o1] : Fin S1136x128.rank → ℕ) a + size a ≤ S1136x128.size a)
    (x : (Rect.unit ![o0, o1] size inb).shape.Idx) (r : Fin 1136) (n : Fin 128)
    (h0 : r.val = o0 + (x 0).val) (h1 : n.val = o1 + (x 1).val) :
    v.readCov (Val := Elt Ideal) [⟨Rect.unit ![0, 0] S1136x128.size inb0, P⟩] (Rect.unit ![o0, o1] size inb).toLoadRect x = P (ix2 r n) := by
  have e := View.readCov_fill (Val := Elt Ideal) (s := S1136x128) (e := .f32) v (off := ![0, 0]) inb0 P [] (Rect.unit ![o0, o1] size inb)
    (fun a => match a with | ⟨0, _⟩ => rfl | ⟨1, _⟩ => rfl)
  refine (congrFun e x).trans (View.ld_unit_apply_of (Val := Elt Ideal) (e := .f32) P ![o0, o1] size inb x (ix2 r n) fun a => ?_)
  match a with
  | ⟨0, _⟩ => exact h0
  | ⟨1, _⟩ => exact h1

end Cert.SmallIdeal.Run

end
-- ==== Proof.SmallOutG.lean ====
/- The gradients the kernel leaves, entry by entry. -/
module

public import proofs.«01_k».proof.Proof.SmallCover
public import proofs.«01_k».proof.Proof.SmallKernel
public import proofs.«01_k».proof.Proof.SmallPiece

@[expose] public section

set_option maxRecDepth 16384

noncomputable section

namespace Cert.SmallIdeal.Run

open Cert.SmallIdeal Cert.SmallIdeal.Gen Cert.SmallIdeal.RefValue Cert.SmallRefIdeal.RefValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (c : Dev nD) (a0 : Memref sig .tc .vmem S1136x128 .f32) (k0 : a0.IsWhole) (a1 : Memref sig .tc .vmem S1136x128 .f32) (k1 : a1.IsWhole) (a2 : Memref sig .tc .vmem S1136x128 .f32) (k2 : a2.IsWhole) (a3 : Memref sig .tc .vmem S8x40x128 .f32) (k3 : a3.IsWhole) (a4 : Memref sig .tc .vmem S8x1104x128 .f32) (k4 : a4.IsWhole) (a5 : Memref sig .tc .vmem S2x3072 .f32) (k5 : a5.IsWhole) (a6 : Memref sig .tc .vmem S2x1024 .f32) (k6 : a6.IsWhole) (a7 : Memref sig .tc .vmem S2x1024 .f32) (k7 : a7.IsWhole) (a8 : Memref sig .tc .vmem S1024x128 .f32) (k8 : a8.IsWhole) (a9 : Memref sig .tc .vmem S2x512 .f32) (k9 : a9.IsWhole) (a10 : Memref sig .tc .vmem S2x1024 .f32) (k10 : a10.IsWhole) (a11 : Memref sig .tc .vmem S2x128 .f32) (k11 : a11.IsWhole) (a12 : Memref sig .tc .vmem S2x3072 .f32) (k12 : a12.IsWhole) (a13 : Memref sig .tc .vmem S2x1024 .f32) (k13 : a13.IsWhole) (a14 : Memref sig .tc .vmem S2x1024 .f32) (k14 : a14.IsWhole) (a15 : Memref sig .tc .vmem S1024x128 .f32) (k15 : a15.IsWhole) (a16 : Memref sig .tc .vmem S2x512 .f32) (k16 : a16.IsWhole) (a17 : Memref sig .tc .vmem S2x1024 .f32) (k17 : a17.IsWhole) (a18 : Memref sig .tc .vmem S2x128 .f32) (k18 : a18.IsWhole) (a19 : Memref sig .tc .vmem S2x3072 .f32) (k19 : a19.IsWhole) (a20 : Memref sig .tc .vmem S2x1024 .f32) (k20 : a20.IsWhole) (a21 : Memref sig .tc .vmem S2x1024 .f32) (k21 : a21.IsWhole) (a22 : Memref sig .tc .vmem S1024x128 .f32) (k22 : a22.IsWhole) (a23 : Memref sig .tc .vmem S2x512 .f32) (k23 : a23.IsWhole) (a24 : Memref sig .tc .vmem S2x1024 .f32) (k24 : a24.IsWhole) (a25 : Memref sig .tc .vmem S2x128 .f32) (k25 : a25.IsWhole) (a26 : Memref sig .tc .vmem S2x3072 .f32) (k26 : a26.IsWhole) (a27 : Memref sig .tc .vmem S2x1024 .f32) (k27 : a27.IsWhole) (a28 : Memref sig .tc .vmem S2x1024 .f32) (k28 : a28.IsWhole) (a29 : Memref sig .tc .vmem S1024x128 .f32) (k29 : a29.IsWhole) (a30 : Memref sig .tc .vmem S2x512 .f32) (k30 : a30.IsWhole) (a31 : Memref sig .tc .vmem S2x1024 .f32) (k31 : a31.IsWhole) (a32 : Memref sig .tc .vmem S2x128 .f32) (k32 : a32.IsWhole) (a33 : Memref sig .tc .vmem S1136x128 .f32) (k33 : a33.IsWhole) (a34 : Memref sig .tc .vmem S1136x128 .f32) (k34 : a34.IsWhole) (a35 : Memref sig .tc .vmem S1136x128 .f32) (k35 : a35.IsWhole) (a36 : Memref sig .tc .vmem S1136x128 .f32) (k36 : a36.IsWhole)
    (x0 x1 x2 : FVec Ideal S1136x128 .f32) (x3 : FVec Ideal S8x40x128 .f32) (x4 : FVec Ideal S8x1104x128 .f32)

set_option maxHeartbeats 2000000 in
/-- The gradients of `b_ada` as the kernel leaves them. -/
theorem val5 (y : S2x3072.Idx) (l : Fin 2) (j : Fin 3072) (hl : (y 0).val = l.val) (hj : (y 1).val = j.val) :
    out5 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨0 + l.val * 32 + j.val / 128, by omega⟩ ⟨j.val % 128, Nat.mod_lt _ (by decide)⟩ := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 0 + l.val * 32 + j.val / 128 = _; omega) (by show j.val % 128 = _; omega)

set_option maxHeartbeats 2000000 in
/-- The gradients of `g_pre` as the kernel leaves them. -/
theorem val6 (y : S2x1024.Idx) (l : Fin 2) (j : Fin 1024) (hl : (y 0).val = l.val) (hj : (y 1).val = j.val) :
    out6 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨24 + l.val * 32 + j.val / 128, by omega⟩ ⟨j.val % 128, Nat.mod_lt _ (by decide)⟩ := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 24 + l.val * 32 + j.val / 128 = _; omega) (by show j.val % 128 = _; omega)

set_option maxHeartbeats 2000000 in
/-- The gradients of `g_post` as the kernel leaves them. -/
theorem val7 (y : S2x1024.Idx) (l : Fin 2) (j : Fin 1024) (hl : (y 0).val = l.val) (hj : (y 1).val = j.val) :
    out7 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨64 + l.val * 8 + j.val / 128, by omega⟩ ⟨j.val % 128, Nat.mod_lt _ (by decide)⟩ := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 64 + l.val * 8 + j.val / 128 = _; omega) (by show j.val % 128 = _; omega)

set_option maxHeartbeats 2000000 in
/-- The gradients of `pool_w` as the kernel leaves them. -/
theorem val8 (y : S1024x128.Idx) (l : Fin 1024) (j : Fin 128) (hl : (y 0).val = l.val) (hj : (y 1).val = j.val) :
    out8 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨80 + l.val, by omega⟩ j := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  exact piece _ P _ _ y _ _ (by show 80 + l.val = _; omega) (by omega)

set_option maxHeartbeats 2000000 in
/-- The gradients of `pool_scale` as the kernel leaves them. -/
theorem val9 (y : S2x512.Idx) (l : Fin 2) (j : Fin 512) (hl : (y 0).val = l.val) (hj : (y 1).val = j.val) :
    out9 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨1104 + l.val * 4 + j.val / 128, by omega⟩ ⟨j.val % 128, Nat.mod_lt _ (by decide)⟩ := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 1104 + l.val * 4 + j.val / 128 = _; omega) (by show j.val % 128 = _; omega)

set_option maxHeartbeats 2000000 in
/-- The gradients of `lb` as the kernel leaves them. -/
theorem val10 (y : S2x1024.Idx) (l : Fin 2) (j : Fin 1024) (hl : (y 0).val = l.val) (hj : (y 1).val = j.val) :
    out10 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨1112 + l.val * 8 + j.val / 128, by omega⟩ ⟨j.val % 128, Nat.mod_lt _ (by decide)⟩ := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 1112 + l.val * 8 + j.val / 128 = _; omega) (by show j.val % 128 = _; omega)

set_option maxHeartbeats 2000000 in
/-- The gradients of `hgrn` as the kernel leaves them. -/
theorem val11 (y : S2x128.Idx) (l : Fin 2) (j : Fin 128) (hl : (y 0).val = l.val) (hj : (y 1).val = j.val) :
    out11 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sGrad x0 x3 x4 ⟨1128 + l.val, by omega⟩ j := by
  refine Eq.trans ?_ (pack_g x0 x3 x4 _ _)
  frame_open
  dsimp only
  frame_out
  generalize (k0_pay24 (k0_pay16 (kSum x3 x4)) (k0_pay17 (kSum x3 x4) (k0_pay9 x0) (k0_pay10 x0) (k0_pay11 x0) (k0_pay12 x0))
      (k0_pay18 (kSum x3 x4) (k0_pay9 x0) (k0_pay10 x0) (k0_pay11 x0) (k0_pay12 x0)) (k0_pay19 (kSum x3 x4))) = P
  canon_tiles x h
  all_goals exact piece _ P _ _ x _ _ (by show 1128 + l.val = _; omega) (by omega)

end Cert.SmallIdeal.Run

end
-- ==== Proof.SmallOutD.lean ====
/- The updates the kernel leaves, entry by entry. -/
module

public import proofs.«01_k».proof.Proof.SmallCover
public import proofs.«01_k».proof.Proof.SmallKernel
public import proofs.«01_k».proof.Proof.SmallPiece

@[expose] public section

set_option maxRecDepth 16384

noncomputable section

namespace Cert.SmallIdeal.Run

open Cert.SmallIdeal Cert.SmallIdeal.Gen Cert.SmallIdeal.RefValue Cert.SmallRefIdeal.RefValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (c : Dev nD) (a0 : Memref sig .tc .vmem S1136x128 .f32) (k0 : a0.IsWhole) (a1 : Memref sig .tc .vmem S1136x128 .f32) (k1 : a1.IsWhole) (a2 : Memref sig .tc .vmem S1136x128 .f32) (k2 : a2.IsWhole) (a3 : Memref sig .tc .vmem S8x40x128 .f32) (k3 : a3.IsWhole) (a4 : Memref sig .tc .vmem S8x1104x128 .f32) (k4 : a4.IsWhole) (a5 : Memref sig .tc .vmem S2x3072 .f32) (k5 : a5.IsWhole) (a6 : Memref sig .tc .vmem S2x1024 .f32) (k6 : a6.IsWhole) (a7 : Memref sig .tc .vmem S2x1024 .f32) (k7 : a7.IsWhole) (a8 : Memref sig .tc .vmem S1024x128 .f32) (k8 : a8.IsWhole) (a9 : Memref sig .tc .vmem S2x512 .f32) (k9 : a9.IsWhole) (a10 : Memref sig .tc .vmem S2x1024 .f32) (k10 : a10.IsWhole) (a11 : Memref sig .tc .vmem S2x128 .f32) (k11 : a11.IsWhole) (a12 : Memref sig .tc .vmem S2x3072 .f32) (k12 : a12.IsWhole) (a13 : Memref sig .tc .vmem S2x1024 .f32) (k13 : a13.IsWhole) (a14 : Memref sig .tc .vmem S2x1024 .f32) (k14 : a14.IsWhole) (a15 : Memref sig .tc .vmem S1024x128 .f32) (k15 : a15.IsWhole) (a16 : Memref sig .tc .vmem S2x512 .f32) (k16 : a16.IsWhole) (a17 : Memref sig .tc .vmem S2x1024 .f32) (k17 : a17.IsWhole) (a18 : Memref sig .tc .vmem S2x128 .f32) (k18 : a18.IsWhole) (a19 : Memref sig .tc .vmem S2x3072 .f32) (k19 : a19.IsWhole) (a20 : Memref sig .tc .vmem S2x1024 .f32) (k20 : a20.IsWhole) (a21 : Memref sig .tc .vmem S2x1024 .f32) (k21 : a21.IsWhole) (a22 : Memref sig .tc .vmem S1024x128 .f32) (k22 : a22.IsWhole) (a23 : Memref sig .tc .vmem S2x512 .f32) (k23 : a23.IsWhole) (a24 : Memref sig .tc .vmem S2x1024 .f32) (k24 : a24.IsWhole) (a25 : Memref sig .tc .vmem S2x128 .f32) (k25 : a25.IsWhole) (a26 : Memref sig .tc .vmem S2x3072 .f32) (k26 : a26.IsWhole) (a27 : Memref sig .tc .vmem S2x1024 .f32) (k27 : a27.IsWhole) (a28 : Memref sig .tc .vmem S2x1024 .f32) (k28 : a28.IsWhole) (a29 : Memref sig .tc .vmem S1024x128 .f32) (k29 : a29.IsWhole) (a30 : Memref sig .tc .vmem S2x512 .f32) (k30 : a30.IsWhole) (a31 : Memref sig .tc .vmem S2x1024 .f32) (k31 : a31.IsWhole) (a32 : Memref sig .tc .vmem S2x128 .f32) (k32 : a32.IsWhole) (a33 : Memref sig .tc .vmem S1136x128 .f32) (k33 : a33.IsWhole) (a34 : Memref sig .tc .vmem S1136x128 .f32) (k34 : a34.IsWhole) (a35 : Memref sig .tc .vmem S1136x128 .f32) (k35 : a35.IsWhole) (a36 : Memref sig .tc .vmem S1136x128 .f32) (k36 : a36.IsWhole)
    (x0 x1 x2 : FVec Ideal S1136x128 .f32) (x3 : FVec Ideal S8x40x128 .f32) (x4 : FVec Ideal S8x1104x128 .f32)

set_option maxHeartbeats 2000000 in
/-- The steps of `b_ada` as the kernel leaves them. -/
theorem val12 (y : S2x3072.Idx) (l : Fin 2) (j : Fin 3072) (hl : (y 0).val = l.val) (hj : (y 1).val = j.val) :
    out12 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨0 + l.val * 32 + j.val / 128, by omega⟩ ⟨j.val % 128, Nat.mod_lt _ (by decide)⟩ := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 0 + l.val * 32 + j.val / 128 = _; omega) (by show j.val % 128 = _; omega)

set_option maxHeartbeats 2000000 in
/-- The steps of `g_pre` as the kernel leaves them. -/
theorem val13 (y : S2x1024.Idx) (l : Fin 2) (j : Fin 1024) (hl : (y 0).val = l.val) (hj : (y 1).val = j.val) :
    out13 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨24 + l.val * 32 + j.val / 128, by omega⟩ ⟨j.val % 128, Nat.mod_lt _ (by decide)⟩ := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 24 + l.val * 32 + j.val / 128 = _; omega) (by show j.val % 128 = _; omega)

set_option maxHeartbeats 2000000 in
/-- The steps of `g_post` as the kernel leaves them. -/
theorem val14 (y : S2x1024.Idx) (l : Fin 2) (j : Fin 1024) (hl : (y 0).val = l.val) (hj : (y 1).val = j.val) :
    out14 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨64 + l.val * 8 + j.val / 128, by omega⟩ ⟨j.val % 128, Nat.mod_lt _ (by decide)⟩ := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 64 + l.val * 8 + j.val / 128 = _; omega) (by show j.val % 128 = _; omega)

set_option maxHeartbeats 2000000 in
/-- The steps of `pool_w` as the kernel leaves them. -/
theorem val15 (y : S1024x128.Idx) (l : Fin 1024) (j : Fin 128) (hl : (y 0).val = l.val) (hj : (y 1).val = j.val) :
    out15 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨80 + l.val, by omega⟩ j := by
  refine Eq.trans ?_ (pack_d x0 x1 x2 x3 x4 _ _)
  frame_open
  dsimp only
  frame_out
  generalize (k0_pay25 (kStep x0 x1 x2 x3 x4)) = P
  exact piece _ P _ _ y _ _ (by show 80 + l.val = _; omega) (by omega)

set_option maxHeartbeats 2000000 in
/-- The steps of `pool_scale` as the kernel leaves them. -/
theorem val16 (y : S2x512.Idx) (l : Fin 2) (j : Fin 512) (hl : (y 0).val = l.val) (hj : (y 1).val = j.val) :
    out16 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨1104 + l.val * 4 + j.val / 128, by omega⟩ ⟨j.val % 128, Nat.mod_lt _ (by decide)⟩ := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 1104 + l.val * 4 + j.val / 128 = _; omega) (by show j.val % 128 = _; omega)

set_option maxHeartbeats 2000000 in
/-- The steps of `lb` as the kernel leaves them. -/
theorem val17 (y : S2x1024.Idx) (l : Fin 2) (j : Fin 1024) (hl : (y 0).val = l.val) (hj : (y 1).val = j.val) :
    out17 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨1112 + l.val * 8 + j.val / 128, by omega⟩ ⟨j.val % 128, Nat.mod_lt _ (by decide)⟩ := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 1112 + l.val * 8 + j.val / 128 = _; omega) (by show j.val % 128 = _; omega)

set_option maxHeartbeats 2000000 in
/-- The steps of `hgrn` as the kernel leaves them. -/
theorem val18 (y : S2x128.Idx) (l : Fin 2) (j : Fin 128) (hl : (y 0).val = l.val) (hj : (y 1).val = j.val) :
    out18 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sStep x0 x1 x2 x3 x4 ⟨1128 + l.val, by omega⟩ j := by
  refine Eq.trans ?_ (pack_d x0 x1 x2 x3 x4 _ _)
  frame_open
  dsimp only
  frame_out
  generalize (k0_pay25 (kStep x0 x1 x2 x3 x4)) = P
  canon_tiles x h
  all_goals exact piece _ P _ _ x _ _ (by show 1128 + l.val = _; omega) (by omega)

end Cert.SmallIdeal.Run

end
-- ==== Proof.SmallOutM.lean ====
/- The first moments the kernel leaves, entry by entry. -/
module

public import proofs.«01_k».proof.Proof.SmallCover
public import proofs.«01_k».proof.Proof.SmallKernel
public import proofs.«01_k».proof.Proof.SmallPiece

@[expose] public section

set_option maxRecDepth 16384

noncomputable section

namespace Cert.SmallIdeal.Run

open Cert.SmallIdeal Cert.SmallIdeal.Gen Cert.SmallIdeal.RefValue Cert.SmallRefIdeal.RefValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (c : Dev nD) (a0 : Memref sig .tc .vmem S1136x128 .f32) (k0 : a0.IsWhole) (a1 : Memref sig .tc .vmem S1136x128 .f32) (k1 : a1.IsWhole) (a2 : Memref sig .tc .vmem S1136x128 .f32) (k2 : a2.IsWhole) (a3 : Memref sig .tc .vmem S8x40x128 .f32) (k3 : a3.IsWhole) (a4 : Memref sig .tc .vmem S8x1104x128 .f32) (k4 : a4.IsWhole) (a5 : Memref sig .tc .vmem S2x3072 .f32) (k5 : a5.IsWhole) (a6 : Memref sig .tc .vmem S2x1024 .f32) (k6 : a6.IsWhole) (a7 : Memref sig .tc .vmem S2x1024 .f32) (k7 : a7.IsWhole) (a8 : Memref sig .tc .vmem S1024x128 .f32) (k8 : a8.IsWhole) (a9 : Memref sig .tc .vmem S2x512 .f32) (k9 : a9.IsWhole) (a10 : Memref sig .tc .vmem S2x1024 .f32) (k10 : a10.IsWhole) (a11 : Memref sig .tc .vmem S2x128 .f32) (k11 : a11.IsWhole) (a12 : Memref sig .tc .vmem S2x3072 .f32) (k12 : a12.IsWhole) (a13 : Memref sig .tc .vmem S2x1024 .f32) (k13 : a13.IsWhole) (a14 : Memref sig .tc .vmem S2x1024 .f32) (k14 : a14.IsWhole) (a15 : Memref sig .tc .vmem S1024x128 .f32) (k15 : a15.IsWhole) (a16 : Memref sig .tc .vmem S2x512 .f32) (k16 : a16.IsWhole) (a17 : Memref sig .tc .vmem S2x1024 .f32) (k17 : a17.IsWhole) (a18 : Memref sig .tc .vmem S2x128 .f32) (k18 : a18.IsWhole) (a19 : Memref sig .tc .vmem S2x3072 .f32) (k19 : a19.IsWhole) (a20 : Memref sig .tc .vmem S2x1024 .f32) (k20 : a20.IsWhole) (a21 : Memref sig .tc .vmem S2x1024 .f32) (k21 : a21.IsWhole) (a22 : Memref sig .tc .vmem S1024x128 .f32) (k22 : a22.IsWhole) (a23 : Memref sig .tc .vmem S2x512 .f32) (k23 : a23.IsWhole) (a24 : Memref sig .tc .vmem S2x1024 .f32) (k24 : a24.IsWhole) (a25 : Memref sig .tc .vmem S2x128 .f32) (k25 : a25.IsWhole) (a26 : Memref sig .tc .vmem S2x3072 .f32) (k26 : a26.IsWhole) (a27 : Memref sig .tc .vmem S2x1024 .f32) (k27 : a27.IsWhole) (a28 : Memref sig .tc .vmem S2x1024 .f32) (k28 : a28.IsWhole) (a29 : Memref sig .tc .vmem S1024x128 .f32) (k29 : a29.IsWhole) (a30 : Memref sig .tc .vmem S2x512 .f32) (k30 : a30.IsWhole) (a31 : Memref sig .tc .vmem S2x1024 .f32) (k31 : a31.IsWhole) (a32 : Memref sig .tc .vmem S2x128 .f32) (k32 : a32.IsWhole) (a33 : Memref sig .tc .vmem S1136x128 .f32) (k33 : a33.IsWhole) (a34 : Memref sig .tc .vmem S1136x128 .f32) (k34 : a34.IsWhole) (a35 : Memref sig .tc .vmem S1136x128 .f32) (k35 : a35.IsWhole) (a36 : Memref sig .tc .vmem S1136x128 .f32) (k36 : a36.IsWhole)
    (x0 x1 x2 : FVec Ideal S1136x128 .f32) (x3 : FVec Ideal S8x40x128 .f32) (x4 : FVec Ideal S8x1104x128 .f32)

set_option maxHeartbeats 2000000 in
/-- The new first moments of `b_ada` as the kernel leaves them. -/
theorem val19 (y : S2x3072.Idx) (l : Fin 2) (j : Fin 3072) (hl : (y 0).val = l.val) (hj : (y 1).val = j.val) :
    out19 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨0 + l.val * 32 + j.val / 128, by omega⟩ ⟨j.val % 128, Nat.mod_lt _ (by decide)⟩ := by
  refine Eq.trans ?_ (pack_m x0 x1 x3 x4 _ _)
  frame_open
  dsimp only
  frame_out
  generalize (k0_pay26 (kMom x0 x1 x3 x4)) = P
  canon_tiles x h
  all_goals exact piece _ P _ _ x _ _ (by show 0 + l.val * 32 + j.val / 128 = _; omega) (by show j.val % 128 = _; omega)

set_option maxHeartbeats 2000000 in
/-- The new first moments of `g_pre` as the kernel leaves them. -/
theorem val20 (y : S2x1024.Idx) (l : Fin 2) (j : Fin 1024) (hl : (y 0).val = l.val) (hj : (y 1).val = j.val) :
    out20 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨24 + l.val * 32 + j.val / 128, by omega⟩ ⟨j.val % 128, Nat.mod_lt _ (by decide)⟩ := by
  refine Eq.trans ?_ (pack_m x0 x1 x3 x4 _ _)
  frame_open
  dsimp only
  frame_out
  generalize (k0_pay26 (kMom x0 x1 x3 x4)) = P
  canon_tiles x h
  all_goals exact piece _ P _ _ x _ _ (by show 24 + l.val * 32 + j.val / 128 = _; omega) (by show j.val % 128 = _; omega)

set_option maxHeartbeats 2000000 in
/-- The new first moments of `g_post` as the kernel leaves them. -/
theorem val21 (y : S2x1024.Idx) (l : Fin 2) (j : Fin 1024) (hl : (y 0).val = l.val) (hj : (y 1).val = j.val) :
    out21 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨64 + l.val * 8 + j.val / 128, by omega⟩ ⟨j.val % 128, Nat.mod_lt _ (by decide)⟩ := by
  refine Eq.trans ?_ (pack_m x0 x1 x3 x4 _ _)
  frame_open
  dsimp only
  frame_out
  generalize (k0_pay26 (kMom x0 x1 x3 x4)) = P
  canon_tiles x h
  all_goals exact piece _ P _ _ x _ _ (by show 64 + l.val * 8 + j.val / 128 = _; omega) (by show j.val % 128 = _; omega)

set_option maxHeartbeats 2000000 in
/-- The new first moments of `pool_w` as the kernel leaves them. -/
theorem val22 (y : S1024x128.Idx) (l : Fin 1024) (j : Fin 128) (hl : (y 0).val = l.val) (hj : (y 1).val = j.val) :
    out22 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨80 + l.val, by omega⟩ j := by
  refine Eq.trans ?_ (pack_m x0 x1 x3 x4 _ _)
  frame_open
  dsimp only
  frame_out
  generalize (k0_pay26 (kMom x0 x1 x3 x4)) = P
  exact piece _ P _ _ y _ _ (by show 80 + l.val = _; omega) (by omega)

set_option maxHeartbeats 2000000 in
/-- The new first moments of `pool_scale` as the kernel leaves them. -/
theorem val23 (y : S2x512.Idx) (l : Fin 2) (j : Fin 512) (hl : (y 0).val = l.val) (hj : (y 1).val = j.val) :
    out23 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨1104 + l.val * 4 + j.val / 128, by omega⟩ ⟨j.val % 128, Nat.mod_lt _ (by decide)⟩ := by
  refine Eq.trans ?_ (pack_m x0 x1 x3 x4 _ _)
  frame_open
  dsimp only
  frame_out
  generalize (k0_pay26 (kMom x0 x1 x3 x4)) = P
  canon_tiles x h
  all_goals exact piece _ P _ _ x _ _ (by show 1104 + l.val * 4 + j.val / 128 = _; omega) (by show j.val % 128 = _; omega)

set_option maxHeartbeats 2000000 in
/-- The new first moments of `lb` as the kernel leaves them. -/
theorem val24 (y : S2x1024.Idx) (l : Fin 2) (j : Fin 1024) (hl : (y 0).val = l.val) (hj : (y 1).val = j.val) :
    out24 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨1112 + l.val * 8 + j.val / 128, by omega⟩ ⟨j.val % 128, Nat.mod_lt _ (by decide)⟩ := by
  refine Eq.trans ?_ (pack_m x0 x1 x3 x4 _ _)
  frame_open
  dsimp only
  frame_out
  generalize (k0_pay26 (kMom x0 x1 x3 x4)) = P
  canon_tiles x h
  all_goals exact piece _ P _ _ x _ _ (by show 1112 + l.val * 8 + j.val / 128 = _; omega) (by show j.val % 128 = _; omega)

set_option maxHeartbeats 2000000 in
/-- The new first moments of `hgrn` as the kernel leaves them. -/
theorem val25 (y : S2x128.Idx) (l : Fin 2) (j : Fin 128) (hl : (y 0).val = l.val) (hj : (y 1).val = j.val) :
    out25 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sMom x0 x1 x3 x4 ⟨1128 + l.val, by omega⟩ j := by
  refine Eq.trans ?_ (pack_m x0 x1 x3 x4 _ _)
  frame_open
  dsimp only
  frame_out
  generalize (k0_pay26 (kMom x0 x1 x3 x4)) = P
  canon_tiles x h
  all_goals exact piece _ P _ _ x _ _ (by show 1128 + l.val = _; omega) (by omega)

end Cert.SmallIdeal.Run

end
-- ==== Proof.SmallOutV.lean ====
/- The second moments the kernel leaves, entry by entry. -/
module

public import proofs.«01_k».proof.Proof.SmallCover
public import proofs.«01_k».proof.Proof.SmallKernel
public import proofs.«01_k».proof.Proof.SmallPiece

@[expose] public section

set_option maxRecDepth 16384

noncomputable section

namespace Cert.SmallIdeal.Run

open Cert.SmallIdeal Cert.SmallIdeal.Gen Cert.SmallIdeal.RefValue Cert.SmallRefIdeal.RefValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (c : Dev nD) (a0 : Memref sig .tc .vmem S1136x128 .f32) (k0 : a0.IsWhole) (a1 : Memref sig .tc .vmem S1136x128 .f32) (k1 : a1.IsWhole) (a2 : Memref sig .tc .vmem S1136x128 .f32) (k2 : a2.IsWhole) (a3 : Memref sig .tc .vmem S8x40x128 .f32) (k3 : a3.IsWhole) (a4 : Memref sig .tc .vmem S8x1104x128 .f32) (k4 : a4.IsWhole) (a5 : Memref sig .tc .vmem S2x3072 .f32) (k5 : a5.IsWhole) (a6 : Memref sig .tc .vmem S2x1024 .f32) (k6 : a6.IsWhole) (a7 : Memref sig .tc .vmem S2x1024 .f32) (k7 : a7.IsWhole) (a8 : Memref sig .tc .vmem S1024x128 .f32) (k8 : a8.IsWhole) (a9 : Memref sig .tc .vmem S2x512 .f32) (k9 : a9.IsWhole) (a10 : Memref sig .tc .vmem S2x1024 .f32) (k10 : a10.IsWhole) (a11 : Memref sig .tc .vmem S2x128 .f32) (k11 : a11.IsWhole) (a12 : Memref sig .tc .vmem S2x3072 .f32) (k12 : a12.IsWhole) (a13 : Memref sig .tc .vmem S2x1024 .f32) (k13 : a13.IsWhole) (a14 : Memref sig .tc .vmem S2x1024 .f32) (k14 : a14.IsWhole) (a15 : Memref sig .tc .vmem S1024x128 .f32) (k15 : a15.IsWhole) (a16 : Memref sig .tc .vmem S2x512 .f32) (k16 : a16.IsWhole) (a17 : Memref sig .tc .vmem S2x1024 .f32) (k17 : a17.IsWhole) (a18 : Memref sig .tc .vmem S2x128 .f32) (k18 : a18.IsWhole) (a19 : Memref sig .tc .vmem S2x3072 .f32) (k19 : a19.IsWhole) (a20 : Memref sig .tc .vmem S2x1024 .f32) (k20 : a20.IsWhole) (a21 : Memref sig .tc .vmem S2x1024 .f32) (k21 : a21.IsWhole) (a22 : Memref sig .tc .vmem S1024x128 .f32) (k22 : a22.IsWhole) (a23 : Memref sig .tc .vmem S2x512 .f32) (k23 : a23.IsWhole) (a24 : Memref sig .tc .vmem S2x1024 .f32) (k24 : a24.IsWhole) (a25 : Memref sig .tc .vmem S2x128 .f32) (k25 : a25.IsWhole) (a26 : Memref sig .tc .vmem S2x3072 .f32) (k26 : a26.IsWhole) (a27 : Memref sig .tc .vmem S2x1024 .f32) (k27 : a27.IsWhole) (a28 : Memref sig .tc .vmem S2x1024 .f32) (k28 : a28.IsWhole) (a29 : Memref sig .tc .vmem S1024x128 .f32) (k29 : a29.IsWhole) (a30 : Memref sig .tc .vmem S2x512 .f32) (k30 : a30.IsWhole) (a31 : Memref sig .tc .vmem S2x1024 .f32) (k31 : a31.IsWhole) (a32 : Memref sig .tc .vmem S2x128 .f32) (k32 : a32.IsWhole) (a33 : Memref sig .tc .vmem S1136x128 .f32) (k33 : a33.IsWhole) (a34 : Memref sig .tc .vmem S1136x128 .f32) (k34 : a34.IsWhole) (a35 : Memref sig .tc .vmem S1136x128 .f32) (k35 : a35.IsWhole) (a36 : Memref sig .tc .vmem S1136x128 .f32) (k36 : a36.IsWhole)
    (x0 x1 x2 : FVec Ideal S1136x128 .f32) (x3 : FVec Ideal S8x40x128 .f32) (x4 : FVec Ideal S8x1104x128 .f32)

set_option maxHeartbeats 2000000 in
/-- The new second moments of `b_ada` as the kernel leaves them. -/
theorem val26 (y : S2x3072.Idx) (l : Fin 2) (j : Fin 3072) (hl : (y 0).val = l.val) (hj : (y 1).val = j.val) :
    out26 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨0 + l.val * 32 + j.val / 128, by omega⟩ ⟨j.val % 128, Nat.mod_lt _ (by decide)⟩ := by
  refine Eq.trans ?_ (pack_v x0 x2 x3 x4 _ _)
  frame_open
  dsimp only
  frame_out
  generalize (k0_pay27 (kVar x0 x2 x3 x4)) = P
  canon_tiles x h
  all_goals exact piece _ P _ _ x _ _ (by show 0 + l.val * 32 + j.val / 128 = _; omega) (by show j.val % 128 = _; omega)

set_option maxHeartbeats 2000000 in
/-- The new second moments of `g_pre` as the kernel leaves them. -/
theorem val27 (y : S2x1024.Idx) (l : Fin 2) (j : Fin 1024) (hl : (y 0).val = l.val) (hj : (y 1).val = j.val) :
    out27 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨24 + l.val * 32 + j.val / 128, by omega⟩ ⟨j.val % 128, Nat.mod_lt _ (by decide)⟩ := by
  refine Eq.trans ?_ (pack_v x0 x2 x3 x4 _ _)
  frame_open
  dsimp only
  frame_out
  generalize (k0_pay27 (kVar x0 x2 x3 x4)) = P
  canon_tiles x h
  all_goals exact piece _ P _ _ x _ _ (by show 24 + l.val * 32 + j.val / 128 = _; omega) (by show j.val % 128 = _; omega)

set_option maxHeartbeats 2000000 in
/-- The new second moments of `g_post` as the kernel leaves them. -/
theorem val28 (y : S2x1024.Idx) (l : Fin 2) (j : Fin 1024) (hl : (y 0).val = l.val) (hj : (y 1).val = j.val) :
    out28 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨64 + l.val * 8 + j.val / 128, by omega⟩ ⟨j.val % 128, Nat.mod_lt _ (by decide)⟩ := by
  refine Eq.trans ?_ (pack_v x0 x2 x3 x4 _ _)
  frame_open
  dsimp only
  frame_out
  generalize (k0_pay27 (kVar x0 x2 x3 x4)) = P
  canon_tiles x h
  all_goals exact piece _ P _ _ x _ _ (by show 64 + l.val * 8 + j.val / 128 = _; omega) (by show j.val % 128 = _; omega)

set_option maxHeartbeats 2000000 in
/-- The new second moments of `pool_w` as the kernel leaves them. -/
theorem val29 (y : S1024x128.Idx) (l : Fin 1024) (j : Fin 128) (hl : (y 0).val = l.val) (hj : (y 1).val = j.val) :
    out29 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨80 + l.val, by omega⟩ j := by
  refine Eq.trans ?_ (pack_v x0 x2 x3 x4 _ _)
  frame_open
  dsimp only
  frame_out
  generalize (k0_pay27 (kVar x0 x2 x3 x4)) = P
  exact piece _ P _ _ y _ _ (by show 80 + l.val = _; omega) (by omega)

set_option maxHeartbeats 2000000 in
/-- The new second moments of `pool_scale` as the kernel leaves them. -/
theorem val30 (y : S2x512.Idx) (l : Fin 2) (j : Fin 512) (hl : (y 0).val = l.val) (hj : (y 1).val = j.val) :
    out30 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨1104 + l.val * 4 + j.val / 128, by omega⟩ ⟨j.val % 128, Nat.mod_lt _ (by decide)⟩ := by
  refine Eq.trans ?_ (pack_v x0 x2 x3 x4 _ _)
  frame_open
  dsimp only
  frame_out
  generalize (k0_pay27 (kVar x0 x2 x3 x4)) = P
  canon_tiles x h
  all_goals exact piece _ P _ _ x _ _ (by show 1104 + l.val * 4 + j.val / 128 = _; omega) (by show j.val % 128 = _; omega)

set_option maxHeartbeats 2000000 in
/-- The new second moments of `lb` as the kernel leaves them. -/
theorem val31 (y : S2x1024.Idx) (l : Fin 2) (j : Fin 1024) (hl : (y 0).val = l.val) (hj : (y 1).val = j.val) :
    out31 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨1112 + l.val * 8 + j.val / 128, by omega⟩ ⟨j.val % 128, Nat.mod_lt _ (by decide)⟩ := by
  refine Eq.trans ?_ (pack_v x0 x2 x3 x4 _ _)
  frame_open
  dsimp only
  frame_out
  generalize (k0_pay27 (kVar x0 x2 x3 x4)) = P
  canon_tiles x h
  all_goals exact piece _ P _ _ x _ _ (by show 1112 + l.val * 8 + j.val / 128 = _; omega) (by show j.val % 128 = _; omega)

set_option maxHeartbeats 2000000 in
/-- The new second moments of `hgrn` as the kernel leaves them. -/
theorem val32 (y : S2x128.Idx) (l : Fin 2) (j : Fin 128) (hl : (y 0).val = l.val) (hj : (y 1).val = j.val) :
    out32 (F := Ideal) c a0 k0 a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26 a27 k27 a28 k28 a29 k29 a30 k30 a31 k31 a32 k32 a33 k33 a34 k34 a35 k35 a36 k36 x0 x1 x2 x3 x4 y
      = sVar x0 x2 x3 x4 ⟨1128 + l.val, by omega⟩ j := by
  refine Eq.trans ?_ (pack_v x0 x2 x3 x4 _ _)
  frame_open
  dsimp only
  frame_out
  generalize (k0_pay27 (kVar x0 x2 x3 x4)) = P
  canon_tiles x h
  all_goals exact piece _ P _ _ x _ _ (by show 1128 + l.val = _; omega) (by omega)

end Cert.SmallIdeal.Run

end
-- ==== Proof.SmallTop.lean ====
/- Each result of the small weights' optimiser call is the reference's. -/
module

public import proofs.«01_k».proof.Defs
public import proofs.«01_k».proof.Proof.SmallFrame
public import proofs.«01_k».proof.Proof.SmallOutG
public import proofs.«01_k».proof.Proof.SmallOutD
public import proofs.«01_k».proof.Proof.SmallOutM
public import proofs.«01_k».proof.Proof.SmallOutV
public import proofs.«01_k».proof.Proof.SmallRefOut
public import proofs.«01_k».proof.Proof.Gen.SmallRefIdeal.Run
public import proofs.«01_k».proof.Proof.Gen.SmallRefIdeal.Read
public import Idealize.ShloMosaic.Lib.Claim
public import Idealize.ShloMosaic.Lib.Pipeline.Value
public import Idealize.ShloMosaic.Lib.Pipeline.ValueKit

@[expose] public section

set_option maxRecDepth 16384

noncomputable section

namespace Cert.SmallIdeal.Run

open Cert.SmallIdeal Cert.SmallIdeal.Gen Cert.SmallRefIdeal.RefValue
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-- Each of these windows is one block, the whole array. -/
theorem idx : ∀ t : Fin cfg0.N, win0_0.index t = ![0, 0] ∧ win0_1.index t = ![0, 0] ∧ win0_2.index t = ![0, 0] ∧ win0_3.index t = ![0, 0, 0] ∧ win0_4.index t = ![0, 0, 0] :=
  (by decide +kernel : ∀ t : Fin grid0.N, _)

/-- Each of these windows is one block, the whole array. -/
theorem idxG : ∀ t : Fin cfg0.N, win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- Each of these windows is one block, the whole array. -/
theorem idxD : ∀ t : Fin cfg0.N, win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- Each of these windows is one block, the whole array. -/
theorem idxM : ∀ t : Fin cfg0.N, win0_19.index t = ![0, 0] ∧ win0_20.index t = ![0, 0] ∧ win0_21.index t = ![0, 0] ∧ win0_22.index t = ![0, 0] ∧ win0_23.index t = ![0, 0] ∧ win0_24.index t = ![0, 0] ∧ win0_25.index t = ![0, 0] :=
  (by decide +kernel : ∀ t : Fin grid0.N, _)

/-- Each of these windows is one block, the whole array. -/
theorem idxV : ∀ t : Fin cfg0.N, win0_26.index t = ![0, 0] ∧ win0_27.index t = ![0, 0] ∧ win0_28.index t = ![0, 0] ∧ win0_29.index t = ![0, 0] ∧ win0_30.index t = ![0, 0] ∧ win0_31.index t = ![0, 0] ∧ win0_32.index t = ![0, 0] :=
  (by decide +kernel : ∀ t : Fin grid0.N, _)

theorem in0 (c : Dev nD) (t : Fin cfg0.N) : iblk m c 0 t = (m ((c : Thread nD τ).loc main_arg0)) := by
  funext y
  blk_ext [iblk, V, idx t]

theorem in1 (c : Dev nD) (t : Fin cfg0.N) : iblk m c 1 t = (m ((c : Thread nD τ).loc main_arg1)) := by
  funext y
  blk_ext [iblk, V, idx t]

theorem in2 (c : Dev nD) (t : Fin cfg0.N) : iblk m c 2 t = (m ((c : Thread nD τ).loc main_arg2)) := by
  funext y
  blk_ext [iblk, V, idx t]

theorem in3 (c : Dev nD) (t : Fin cfg0.N) : iblk m c 3 t = (m ((c : Thread nD τ).loc main_arg3)) := by
  funext y
  blk_ext [iblk, V, idx t]

theorem in4 (c : Dev nD) (t : Fin cfg0.N) : iblk m c 4 t = (m ((c : Thread nD τ).loc main_arg4)) := by
  funext y
  blk_ext [iblk, V, idx t]

/-- The summed gradient of `b_ada`, as the kernel leaves it, is the reference's. -/
theorem final5 (c : Dev nD) : (dats m 0 c).arrAt 5 cfg0.N
    = Cert.SmallRefIdeal.Read.val_main_v91 (F := Ideal) (m ((c : Thread nD τ).loc main_arg0)) (m ((c : Thread nD τ).loc main_arg3)) (m ((c : Thread nD τ).loc main_arg4)) := by
  refine (dats m 0 c).arrAt_eq_of_covers 5 _ (by decide +kernel) fun t hf y => ?_
  blk_simp
  rw [after0_5]
  unfold at5
  rw [in0 m c t, in1 m c t, in2 m c t, in3 m c t, in4 m c t]
  have y0 : (y 0).val < 2 := (y 0).isLt
  have y1 : (y 1).val < 3072 := (y 1).isLt
  refine (val5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_b_ada (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `g_pre`, as the kernel leaves it, is the reference's. -/
theorem final6 (c : Dev nD) : (dats m 0 c).arrAt 6 cfg0.N
    = Cert.SmallRefIdeal.Read.val_main_v96 (F := Ideal) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  unfold at6
  rw [in0 m c t, in1 m c t, in2 m c t, in3 m c t, in4 m c t]
  have y0 : (y 0).val < 2 := (y 0).isLt
  have y1 : (y 1).val < 1024 := (y 1).isLt
  refine (val6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_g_pre (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `g_post`, as the kernel leaves it, is the reference's. -/
theorem final7 (c : Dev nD) : (dats m 0 c).arrAt 7 cfg0.N
    = Cert.SmallRefIdeal.Read.val_main_v98 (F := Ideal) (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  unfold at7
  rw [in0 m c t, in1 m c t, in2 m c t, in3 m c t, in4 m c t]
  have y0 : (y 0).val < 2 := (y 0).isLt
  have y1 : (y 1).val < 1024 := (y 1).isLt
  refine (val7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_g_post (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `pool_w`, as the kernel leaves it, is the reference's. -/
theorem final8 (c : Dev nD) : (dats m 0 c).arrAt 8 cfg0.N
    = Cert.SmallRefIdeal.Read.val_main_v99 (F := Ideal) (m ((c : Thread nD τ).loc main_arg0)) (m ((c : Thread nD τ).loc main_arg3)) (m ((c : Thread nD τ).loc main_arg4)) := by
  refine (dats m 0 c).arrAt_eq_of_covers 8 _ (by decide +kernel) fun t hf y => ?_
  blk_simp
  rw [after0_8]
  unfold at8
  rw [in0 m c t, in1 m c t, in2 m c t, in3 m c t, in4 m c t]
  have y0 : (y 0).val < 1024 := (y 0).isLt
  have y1 : (y 1).val < 128 := (y 1).isLt
  refine (val8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_pool_w (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `pool_scale`, as the kernel leaves it, is the reference's. -/
theorem final9 (c : Dev nD) : (dats m 0 c).arrAt 9 cfg0.N
    = Cert.SmallRefIdeal.Read.val_main_v101 (F := Ideal) (m ((c : Thread nD τ).loc main_arg0)) (m ((c : Thread nD τ).loc main_arg3)) (m ((c : Thread nD τ).loc main_arg4)) := by
  refine (dats m 0 c).arrAt_eq_of_covers 9 _ (by decide +kernel) fun t hf y => ?_
  blk_simp
  rw [after0_9]
  unfold at9
  rw [in0 m c t, in1 m c t, in2 m c t, in3 m c t, in4 m c t]
  have y0 : (y 0).val < 2 := (y 0).isLt
  have y1 : (y 1).val < 512 := (y 1).isLt
  refine (val9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_pool_scale (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `lb`, as the kernel leaves it, is the reference's. -/
theorem final10 (c : Dev nD) : (dats m 0 c).arrAt 10 cfg0.N
    = Cert.SmallRefIdeal.Read.val_main_v103 (F := Ideal) (m ((c : Thread nD τ).loc main_arg0)) (m ((c : Thread nD τ).loc main_arg3)) (m ((c : Thread nD τ).loc main_arg4)) := by
  refine (dats m 0 c).arrAt_eq_of_covers 10 _ (by decide +kernel) fun t hf y => ?_
  blk_simp
  rw [after0_10]
  unfold at10
  rw [in0 m c t, in1 m c t, in2 m c t, in3 m c t, in4 m c t]
  have y0 : (y 0).val < 2 := (y 0).isLt
  have y1 : (y 1).val < 1024 := (y 1).isLt
  refine (val10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_lb (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The summed gradient of `hgrn`, as the kernel leaves it, is the reference's. -/
theorem final11 (c : Dev nD) : (dats m 0 c).arrAt 11 cfg0.N
    = Cert.SmallRefIdeal.Read.val_main_v104 (F := Ideal) (m ((c : Thread nD τ).loc main_arg0)) (m ((c : Thread nD τ).loc main_arg3)) (m ((c : Thread nD τ).loc main_arg4)) := by
  refine (dats m 0 c).arrAt_eq_of_covers 11 _ (by decide +kernel) fun t hf y => ?_
  blk_simp
  rw [after0_11]
  unfold at11
  rw [in0 m c t, in1 m c t, in2 m c t, in3 m c t, in4 m c t]
  have y0 : (y 0).val < 2 := (y 0).isLt
  have y1 : (y 1).val < 128 := (y 1).isLt
  refine (val11 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_g_hgrn (m ((c : Thread nD τ).loc main_arg0)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxG t]; first | rfl | omega | (dsimp only; omega)
  | ⟨1, _⟩ => refine Fin.ext ?_; blk_simp [idxG t]; first | rfl | omega | (dsimp only; omega)

/-- The update of `b_ada`, as the kernel leaves it, is the reference's. -/
theorem final12 (c : Dev nD) : (dats m 0 c).arrAt 12 cfg0.N
    = Cert.SmallRefIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12]
  unfold at12
  rw [in0 m c t, in1 m c t, in2 m c t, in3 m c t, in4 m c t]
  have y0 : (y 0).val < 2 := (y 0).isLt
  have y1 : (y 1).val < 3072 := (y 1).isLt
  refine (val12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_b_ada (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `g_pre`, as the kernel leaves it, is the reference's. -/
theorem final13 (c : Dev nD) : (dats m 0 c).arrAt 13 cfg0.N
    = Cert.SmallRefIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp
  rw [after0_13]
  unfold at13
  rw [in0 m c t, in1 m c t, in2 m c t, in3 m c t, in4 m c t]
  have y0 : (y 0).val < 2 := (y 0).isLt
  have y1 : (y 1).val < 1024 := (y 1).isLt
  refine (val13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_g_pre (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `g_post`, as the kernel leaves it, is the reference's. -/
theorem final14 (c : Dev nD) : (dats m 0 c).arrAt 14 cfg0.N
    = Cert.SmallRefIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  blk_simp
  rw [after0_14]
  unfold at14
  rw [in0 m c t, in1 m c t, in2 m c t, in3 m c t, in4 m c t]
  have y0 : (y 0).val < 2 := (y 0).isLt
  have y1 : (y 1).val < 1024 := (y 1).isLt
  refine (val14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_g_post (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `pool_w`, as the kernel leaves it, is the reference's. -/
theorem final15 (c : Dev nD) : (dats m 0 c).arrAt 15 cfg0.N
    = Cert.SmallRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  unfold at15
  rw [in0 m c t, in1 m c t, in2 m c t, in3 m c t, in4 m c t]
  have y0 : (y 0).val < 1024 := (y 0).isLt
  have y1 : (y 1).val < 128 := (y 1).isLt
  refine (val15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_pool_w (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `pool_scale`, as the kernel leaves it, is the reference's. -/
theorem final16 (c : Dev nD) : (dats m 0 c).arrAt 16 cfg0.N
    = Cert.SmallRefIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  blk_simp
  rw [after0_16]
  unfold at16
  rw [in0 m c t, in1 m c t, in2 m c t, in3 m c t, in4 m c t]
  have y0 : (y 0).val < 2 := (y 0).isLt
  have y1 : (y 1).val < 512 := (y 1).isLt
  refine (val16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_pool_scale (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `lb`, as the kernel leaves it, is the reference's. -/
theorem final17 (c : Dev nD) : (dats m 0 c).arrAt 17 cfg0.N
    = Cert.SmallRefIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 17 _ (by decide +kernel) fun t hf y => ?_
  blk_simp
  rw [after0_17]
  unfold at17
  rw [in0 m c t, in1 m c t, in2 m c t, in3 m c t, in4 m c t]
  have y0 : (y 0).val < 2 := (y 0).isLt
  have y1 : (y 1).val < 1024 := (y 1).isLt
  refine (val17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_lb (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The update of `hgrn`, as the kernel leaves it, is the reference's. -/
theorem final18 (c : Dev nD) : (dats m 0 c).arrAt 18 cfg0.N
    = Cert.SmallRefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 18 _ (by decide +kernel) fun t hf y => ?_
  blk_simp
  rw [after0_18]
  unfold at18
  rw [in0 m c t, in1 m c t, in2 m c t, in3 m c t, in4 m c t]
  have y0 : (y 0).val < 2 := (y 0).isLt
  have y1 : (y 1).val < 128 := (y 1).isLt
  refine (val18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_d_hgrn (m ((c : Thread nD τ).loc main_arg0)) (m ((c : Thread nD τ).loc main_arg1)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxD t]; first | rfl | omega | (dsimp only; omega)
  | ⟨1, _⟩ => refine Fin.ext ?_; blk_simp [idxD t]; first | rfl | omega | (dsimp only; omega)

/-- The first moment of `b_ada`, as the kernel leaves it, is the reference's. -/
theorem final19 (c : Dev nD) : (dats m 0 c).arrAt 19 cfg0.N
    = Cert.SmallRefIdeal.Read.val_main_v127 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 19 _ (by decide +kernel) fun t hf y => ?_
  blk_simp
  rw [after0_19]
  unfold at19
  rw [in0 m c t, in1 m c t, in2 m c t, in3 m c t, in4 m c t]
  have y0 : (y 0).val < 2 := (y 0).isLt
  have y1 : (y 1).val < 3072 := (y 1).isLt
  refine (val19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_b_ada (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `g_pre`, as the kernel leaves it, is the reference's. -/
theorem final20 (c : Dev nD) : (dats m 0 c).arrAt 20 cfg0.N
    = Cert.SmallRefIdeal.Read.val_main_v132 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 20 _ (by decide +kernel) fun t hf y => ?_
  blk_simp
  rw [after0_20]
  unfold at20
  rw [in0 m c t, in1 m c t, in2 m c t, in3 m c t, in4 m c t]
  have y0 : (y 0).val < 2 := (y 0).isLt
  have y1 : (y 1).val < 1024 := (y 1).isLt
  refine (val20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_g_pre (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `g_post`, as the kernel leaves it, is the reference's. -/
theorem final21 (c : Dev nD) : (dats m 0 c).arrAt 21 cfg0.N
    = Cert.SmallRefIdeal.Read.val_main_v134 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 21 _ (by decide +kernel) fun t hf y => ?_
  blk_simp
  rw [after0_21]
  unfold at21
  rw [in0 m c t, in1 m c t, in2 m c t, in3 m c t, in4 m c t]
  have y0 : (y 0).val < 2 := (y 0).isLt
  have y1 : (y 1).val < 1024 := (y 1).isLt
  refine (val21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_g_post (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `pool_w`, as the kernel leaves it, is the reference's. -/
theorem final22 (c : Dev nD) : (dats m 0 c).arrAt 22 cfg0.N
    = Cert.SmallRefIdeal.Read.val_main_v135 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 22 _ (by decide +kernel) fun t hf y => ?_
  blk_simp
  rw [after0_22]
  unfold at22
  rw [in0 m c t, in1 m c t, in2 m c t, in3 m c t, in4 m c t]
  have y0 : (y 0).val < 1024 := (y 0).isLt
  have y1 : (y 1).val < 128 := (y 1).isLt
  refine (val22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_pool_w (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `pool_scale`, as the kernel leaves it, is the reference's. -/
theorem final23 (c : Dev nD) : (dats m 0 c).arrAt 23 cfg0.N
    = Cert.SmallRefIdeal.Read.val_main_v137 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 23 _ (by decide +kernel) fun t hf y => ?_
  blk_simp
  rw [after0_23]
  unfold at23
  rw [in0 m c t, in1 m c t, in2 m c t, in3 m c t, in4 m c t]
  have y0 : (y 0).val < 2 := (y 0).isLt
  have y1 : (y 1).val < 512 := (y 1).isLt
  refine (val23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_pool_scale (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `lb`, as the kernel leaves it, is the reference's. -/
theorem final24 (c : Dev nD) : (dats m 0 c).arrAt 24 cfg0.N
    = Cert.SmallRefIdeal.Read.val_main_v139 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 24 _ (by decide +kernel) fun t hf y => ?_
  blk_simp
  rw [after0_24]
  unfold at24
  rw [in0 m c t, in1 m c t, in2 m c t, in3 m c t, in4 m c t]
  have y0 : (y 0).val < 2 := (y 0).isLt
  have y1 : (y 1).val < 1024 := (y 1).isLt
  refine (val24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_lb (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The first moment of `hgrn`, as the kernel leaves it, is the reference's. -/
theorem final25 (c : Dev nD) : (dats m 0 c).arrAt 25 cfg0.N
    = Cert.SmallRefIdeal.Read.val_main_v140 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 25 _ (by decide +kernel) fun t hf y => ?_
  blk_simp
  rw [after0_25]
  unfold at25
  rw [in0 m c t, in1 m c t, in2 m c t, in3 m c t, in4 m c t]
  have y0 : (y 0).val < 2 := (y 0).isLt
  have y1 : (y 1).val < 128 := (y 1).isLt
  refine (val25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_m_hgrn (m ((c : Thread nD τ).loc main_arg0)) (m ((c : Thread nD τ).loc main_arg1)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxM t]; first | rfl | omega | (dsimp only; omega)
  | ⟨1, _⟩ => refine Fin.ext ?_; blk_simp [idxM t]; first | rfl | omega | (dsimp only; omega)

/-- The second moment of `b_ada`, as the kernel leaves it, is the reference's. -/
theorem final26 (c : Dev nD) : (dats m 0 c).arrAt 26 cfg0.N
    = Cert.SmallRefIdeal.Read.val_main_v145 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 26 _ (by decide +kernel) fun t hf y => ?_
  blk_simp
  rw [after0_26]
  unfold at26
  rw [in0 m c t, in1 m c t, in2 m c t, in3 m c t, in4 m c t]
  have y0 : (y 0).val < 2 := (y 0).isLt
  have y1 : (y 1).val < 3072 := (y 1).isLt
  refine (val26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_b_ada (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `g_pre`, as the kernel leaves it, is the reference's. -/
theorem final27 (c : Dev nD) : (dats m 0 c).arrAt 27 cfg0.N
    = Cert.SmallRefIdeal.Read.val_main_v150 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 27 _ (by decide +kernel) fun t hf y => ?_
  blk_simp
  rw [after0_27]
  unfold at27
  rw [in0 m c t, in1 m c t, in2 m c t, in3 m c t, in4 m c t]
  have y0 : (y 0).val < 2 := (y 0).isLt
  have y1 : (y 1).val < 1024 := (y 1).isLt
  refine (val27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_g_pre (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `g_post`, as the kernel leaves it, is the reference's. -/
theorem final28 (c : Dev nD) : (dats m 0 c).arrAt 28 cfg0.N
    = Cert.SmallRefIdeal.Read.val_main_v152 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 28 _ (by decide +kernel) fun t hf y => ?_
  blk_simp
  rw [after0_28]
  unfold at28
  rw [in0 m c t, in1 m c t, in2 m c t, in3 m c t, in4 m c t]
  have y0 : (y 0).val < 2 := (y 0).isLt
  have y1 : (y 1).val < 1024 := (y 1).isLt
  refine (val28 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_g_post (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `pool_w`, as the kernel leaves it, is the reference's. -/
theorem final29 (c : Dev nD) : (dats m 0 c).arrAt 29 cfg0.N
    = Cert.SmallRefIdeal.Read.val_main_v153 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 29 _ (by decide +kernel) fun t hf y => ?_
  blk_simp
  rw [after0_29]
  unfold at29
  rw [in0 m c t, in1 m c t, in2 m c t, in3 m c t, in4 m c t]
  have y0 : (y 0).val < 1024 := (y 0).isLt
  have y1 : (y 1).val < 128 := (y 1).isLt
  refine (val29 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_pool_w (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `pool_scale`, as the kernel leaves it, is the reference's. -/
theorem final30 (c : Dev nD) : (dats m 0 c).arrAt 30 cfg0.N
    = Cert.SmallRefIdeal.Read.val_main_v155 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 30 _ (by decide +kernel) fun t hf y => ?_
  blk_simp
  rw [after0_30]
  unfold at30
  rw [in0 m c t, in1 m c t, in2 m c t, in3 m c t, in4 m c t]
  have y0 : (y 0).val < 2 := (y 0).isLt
  have y1 : (y 1).val < 512 := (y 1).isLt
  refine (val30 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_pool_scale (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `lb`, as the kernel leaves it, is the reference's. -/
theorem final31 (c : Dev nD) : (dats m 0 c).arrAt 31 cfg0.N
    = Cert.SmallRefIdeal.Read.val_main_v157 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 31 _ (by decide +kernel) fun t hf y => ?_
  blk_simp
  rw [after0_31]
  unfold at31
  rw [in0 m c t, in1 m c t, in2 m c t, in3 m c t, in4 m c t]
  have y0 : (y 0).val < 2 := (y 0).isLt
  have y1 : (y 1).val < 1024 := (y 1).isLt
  refine (val31 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_lb (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

/-- The second moment of `hgrn`, as the kernel leaves it, is the reference's. -/
theorem final32 (c : Dev nD) : (dats m 0 c).arrAt 32 cfg0.N
    = Cert.SmallRefIdeal.Read.val_main_v158 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 32 _ (by decide +kernel) fun t hf y => ?_
  blk_simp
  rw [after0_32]
  unfold at32
  rw [in0 m c t, in1 m c t, in2 m c t, in3 m c t, in4 m c t]
  have y0 : (y 0).val < 2 := (y 0).isLt
  have y1 : (y 1).val < 128 := (y 1).isLt
  refine (val32 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y ⟨(y 0).val, y0⟩ ⟨(y 1).val, y1⟩ rfl rfl).trans ?_
  refine (res_v_hgrn (m ((c : Thread nD τ).loc main_arg0)) (m ((c : Thread nD τ).loc main_arg2)) (m ((c : Thread nD τ).loc main_arg3)) (m ((c : Thread nD τ).loc main_arg4)) ⟨(y 0).val, y0⟩ ⟨(y 1).val, y1⟩).symm.trans ?_
  congr 1
  funext a
  match a with
  | ⟨0, _⟩ => refine Fin.ext ?_; blk_simp [idxV t]; first | rfl | omega | (dsimp only; omega)
  | ⟨1, _⟩ => refine Fin.ext ?_; blk_simp [idxV t]; first | rfl | omega | (dsimp only; omega)

end Cert.SmallIdeal.Run

end
-- ==== Proof.SmallPair.lean ====
/- The small weights' optimiser call computes its reference. -/
module

public import proofs.«01_k».proof.Defs
public import proofs.«01_k».proof.Proof.SmallTop

@[expose] public section

set_option maxRecDepth 16384

noncomputable section

open Cert.SmallIdeal Idealize.ShloMosaic Idealize.ShloMosaic.TcCoe Idealize.ShloMosaic.Tactic
open Idealize.SL Idealize.SL.Sem

namespace Cert.Proof

set_option maxHeartbeats 8000000 in
/-- The packed optimiser step: the kernel's twenty-eight results are the reference's. -/
theorem small_algebraic : Cert.algebraic_SmallIdeal_SmallRefIdeal := by
  pair_intro
  · run_from Cert.SmallIdeal.Run.run_results m g
  · run_from Cert.SmallRefIdeal.Value.run m' g'
    · obtain ⟨a0, a1, a2, a3, a4⟩ := hagree c
      rw [Cert.SmallIdeal.Run.final5 m c, ← a0, ← a3, ← a4]; exact Cert.SmallRefIdeal.Read.val_main_v91_eq (F := Ideal) ..
    · obtain ⟨a0, a1, a2, a3, a4⟩ := hagree c
      rw [Cert.SmallIdeal.Run.final6 m c, ← a0, ← a3, ← a4]; exact Cert.SmallRefIdeal.Read.val_main_v96_eq (F := Ideal) ..
    · obtain ⟨a0, a1, a2, a3, a4⟩ := hagree c
      rw [Cert.SmallIdeal.Run.final7 m c, ← a0, ← a3, ← a4]; exact Cert.SmallRefIdeal.Read.val_main_v98_eq (F := Ideal) ..
    · obtain ⟨a0, a1, a2, a3, a4⟩ := hagree c
      rw [Cert.SmallIdeal.Run.final8 m c, ← a0, ← a3, ← a4]; exact Cert.SmallRefIdeal.Read.val_main_v99_eq (F := Ideal) ..
    · obtain ⟨a0, a1, a2, a3, a4⟩ := hagree c
      rw [Cert.SmallIdeal.Run.final9 m c, ← a0, ← a3, ← a4]; exact Cert.SmallRefIdeal.Read.val_main_v101_eq (F := Ideal) ..
    · obtain ⟨a0, a1, a2, a3, a4⟩ := hagree c
      rw [Cert.SmallIdeal.Run.final10 m c, ← a0, ← a3, ← a4]; exact Cert.SmallRefIdeal.Read.val_main_v103_eq (F := Ideal) ..
    · obtain ⟨a0, a1, a2, a3, a4⟩ := hagree c
      rw [Cert.SmallIdeal.Run.final11 m c, ← a0, ← a3, ← a4]; exact Cert.SmallRefIdeal.Read.val_main_v104_eq (F := Ideal) ..
    · obtain ⟨a0, a1, a2, a3, a4⟩ := hagree c
      rw [Cert.SmallIdeal.Run.final12 m c, ← a0, ← a1, ← a2, ← a3, ← a4]; exact Cert.SmallRefIdeal.Read.val_main_v109_eq (F := Ideal) ..
    · obtain ⟨a0, a1, a2, a3, a4⟩ := hagree c
      rw [Cert.SmallIdeal.Run.final13 m c, ← a0, ← a1, ← a2, ← a3, ← a4]; exact Cert.SmallRefIdeal.Read.val_main_v114_eq (F := Ideal) ..
    · obtain ⟨a0, a1, a2, a3, a4⟩ := hagree c
      rw [Cert.SmallIdeal.Run.final14 m c, ← a0, ← a1, ← a2, ← a3, ← a4]; exact Cert.SmallRefIdeal.Read.val_main_v116_eq (F := Ideal) ..
    · obtain ⟨a0, a1, a2, a3, a4⟩ := hagree c
      rw [Cert.SmallIdeal.Run.final15 m c, ← a0, ← a1, ← a2, ← a3, ← a4]; exact Cert.SmallRefIdeal.Read.val_main_v117_eq (F := Ideal) ..
    · obtain ⟨a0, a1, a2, a3, a4⟩ := hagree c
      rw [Cert.SmallIdeal.Run.final16 m c, ← a0, ← a1, ← a2, ← a3, ← a4]; exact Cert.SmallRefIdeal.Read.val_main_v119_eq (F := Ideal) ..
    · obtain ⟨a0, a1, a2, a3, a4⟩ := hagree c
      rw [Cert.SmallIdeal.Run.final17 m c, ← a0, ← a1, ← a2, ← a3, ← a4]; exact Cert.SmallRefIdeal.Read.val_main_v121_eq (F := Ideal) ..
    · obtain ⟨a0, a1, a2, a3, a4⟩ := hagree c
      rw [Cert.SmallIdeal.Run.final18 m c, ← a0, ← a1, ← a2, ← a3, ← a4]; exact Cert.SmallRefIdeal.Read.val_main_v122_eq (F := Ideal) ..
    · obtain ⟨a0, a1, a2, a3, a4⟩ := hagree c
      rw [Cert.SmallIdeal.Run.final19 m c, ← a0, ← a1, ← a3, ← a4]; exact Cert.SmallRefIdeal.Read.val_main_v127_eq (F := Ideal) ..
    · obtain ⟨a0, a1, a2, a3, a4⟩ := hagree c
      rw [Cert.SmallIdeal.Run.final20 m c, ← a0, ← a1, ← a3, ← a4]; exact Cert.SmallRefIdeal.Read.val_main_v132_eq (F := Ideal) ..
    · obtain ⟨a0, a1, a2, a3, a4⟩ := hagree c
      rw [Cert.SmallIdeal.Run.final21 m c, ← a0, ← a1, ← a3, ← a4]; exact Cert.SmallRefIdeal.Read.val_main_v134_eq (F := Ideal) ..
    · obtain ⟨a0, a1, a2, a3, a4⟩ := hagree c
      rw [Cert.SmallIdeal.Run.final22 m c, ← a0, ← a1, ← a3, ← a4]; exact Cert.SmallRefIdeal.Read.val_main_v135_eq (F := Ideal) ..
    · obtain ⟨a0, a1, a2, a3, a4⟩ := hagree c
      rw [Cert.SmallIdeal.Run.final23 m c, ← a0, ← a1, ← a3, ← a4]; exact Cert.SmallRefIdeal.Read.val_main_v137_eq (F := Ideal) ..
    · obtain ⟨a0, a1, a2, a3, a4⟩ := hagree c
      rw [Cert.SmallIdeal.Run.final24 m c, ← a0, ← a1, ← a3, ← a4]; exact Cert.SmallRefIdeal.Read.val_main_v139_eq (F := Ideal) ..
    · obtain ⟨a0, a1, a2, a3, a4⟩ := hagree c
      rw [Cert.SmallIdeal.Run.final25 m c, ← a0, ← a1, ← a3, ← a4]; exact Cert.SmallRefIdeal.Read.val_main_v140_eq (F := Ideal) ..
    · obtain ⟨a0, a1, a2, a3, a4⟩ := hagree c
      rw [Cert.SmallIdeal.Run.final26 m c, ← a0, ← a2, ← a3, ← a4]; exact Cert.SmallRefIdeal.Read.val_main_v145_eq (F := Ideal) ..
    · obtain ⟨a0, a1, a2, a3, a4⟩ := hagree c
      rw [Cert.SmallIdeal.Run.final27 m c, ← a0, ← a2, ← a3, ← a4]; exact Cert.SmallRefIdeal.Read.val_main_v150_eq (F := Ideal) ..
    · obtain ⟨a0, a1, a2, a3, a4⟩ := hagree c
      rw [Cert.SmallIdeal.Run.final28 m c, ← a0, ← a2, ← a3, ← a4]; exact Cert.SmallRefIdeal.Read.val_main_v152_eq (F := Ideal) ..
    · obtain ⟨a0, a1, a2, a3, a4⟩ := hagree c
      rw [Cert.SmallIdeal.Run.final29 m c, ← a0, ← a2, ← a3, ← a4]; exact Cert.SmallRefIdeal.Read.val_main_v153_eq (F := Ideal) ..
    · obtain ⟨a0, a1, a2, a3, a4⟩ := hagree c
      rw [Cert.SmallIdeal.Run.final30 m c, ← a0, ← a2, ← a3, ← a4]; exact Cert.SmallRefIdeal.Read.val_main_v155_eq (F := Ideal) ..
    · obtain ⟨a0, a1, a2, a3, a4⟩ := hagree c
      rw [Cert.SmallIdeal.Run.final31 m c, ← a0, ← a2, ← a3, ← a4]; exact Cert.SmallRefIdeal.Read.val_main_v157_eq (F := Ideal) ..
    · obtain ⟨a0, a1, a2, a3, a4⟩ := hagree c
      rw [Cert.SmallIdeal.Run.final32 m c, ← a0, ← a2, ← a3, ← a4]; exact Cert.SmallRefIdeal.Read.val_main_v158_eq (F := Ideal) ..

end Cert.Proof

end
-- ==== Proof.lean ====
/- The claims, each from its own module: the frames of the programs, and for each pair that the kernel computes its reference. -/
module

public import proofs.«01_k».proof.Defs
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Gow
public import proofs.«01_k».proof.Proof.Gen.Gow.Frame
public import proofs.«01_k».proof.Proof.Gen.GowIdeal
public import proofs.«01_k».proof.Proof.Gen.GowIdeal.Frame
public import proofs.«01_k».proof.Proof.Gen.GowIdeal.Value
public import proofs.«01_k».proof.Proof.Gen.GowRefIdeal
public import proofs.«01_k».proof.Proof.Gen.GowRefIdeal.Run
public import proofs.«01_k».proof.Proof.Gen.GowRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamPo
public import proofs.«01_k».proof.Proof.Gen.AdamPo.Frame
public import proofs.«01_k».proof.Proof.Gen.AdamPoIdeal
public import proofs.«01_k».proof.Proof.Gen.AdamPoIdeal.Frame
public import proofs.«01_k».proof.Proof.Gen.AdamPoIdeal.Value
public import proofs.«01_k».proof.Proof.Gen.AdamPoRefIdeal
public import proofs.«01_k».proof.Proof.Gen.AdamPoRefIdeal.Run
public import proofs.«01_k».proof.Proof.Gen.AdamPoRefIdeal.Read
public import proofs.«01_k».proof.Proof.Gen.AdamHo
public import proofs.«01_k».proof.Proof.Gen.AdamHo.Frame
public import proofs.«01_k».proof.Proof.Gen.AdamHoIdeal
public import proofs.«01_k».proof.Proof.Gen.AdamHoIdeal.Frame
public import proofs.«01_k».proof.Proof.Gen.AdamHoIdeal.Value
public import proofs.«01_k».proof.Proof.Gen.AdamHoRefIdeal
public import proofs.«01_k».proof.Proof.Gen.AdamHoRefIdeal.Run
public import proofs.«01_k».proof.Proof.Gen.AdamHoRefIdeal.Read
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.Small
public import proofs.«01_k».proof.Proof.Gen.SmallIdeal
public import proofs.«01_k».proof.Proof.Gen.SmallRefIdeal
public import proofs.«01_k».proof.Proof.Gen.SmallRefIdeal.Run
public import proofs.«01_k».proof.Proof.Gen.SmallRefIdeal.Read
public import proofs.«01_k».proof.Proof.Gen.MergeLoss
public import proofs.«01_k».proof.Proof.Gen.MergeLoss.Frame
public import proofs.«01_k».proof.Proof.Gen.MergeLossIdeal
public import proofs.«01_k».proof.Proof.Gen.MergeLossIdeal.Frame
public import proofs.«01_k».proof.Proof.Gen.MergeLossIdeal.Value
public import proofs.«01_k».proof.Proof.Gen.MergeLossRefIdeal
public import proofs.«01_k».proof.Proof.Gen.MergeLossRefIdeal.Run
public import proofs.«01_k».proof.Proof.Gen.MergeLossRefIdeal.Read
public import proofs.«01_k».proof.Proof.Gen.PreFwd
public import proofs.«01_k».proof.Proof.Gen.PreFwd.Frame
public import proofs.«01_k».proof.Proof.Gen.PreFwdIdeal
public import proofs.«01_k».proof.Proof.Gen.PreFwdIdeal.Frame
public import proofs.«01_k».proof.Proof.Gen.PreFwdIdeal.Value
public import proofs.«01_k».proof.Proof.Gen.PreFwdRefIdeal
public import proofs.«01_k».proof.Proof.Gen.PreFwdRefIdeal.Run
public import proofs.«01_k».proof.Proof.Gen.PreFwdRefIdeal.Read
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PreRefIdeal.Read
public import proofs.«01_k».proof.Proof.Gen.AdaFwd
public import proofs.«01_k».proof.Proof.Gen.AdaFwd.Frame
public import proofs.«01_k».proof.Proof.Gen.AdaFwdIdeal
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Gen.AdaBwd
public import proofs.«01_k».proof.Proof.Gen.AdaBwd.Frame
public import proofs.«01_k».proof.Proof.Gen.AdaBwdIdeal
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Dw
public import proofs.«01_k».proof.Proof.Dh
public import proofs.«01_k».proof.Proof.InProj
public import proofs.«01_k».proof.Proof.Gow
public import proofs.«01_k».proof.Proof.MergeFwd
public import proofs.«01_k».proof.Proof.AdamIn
public import proofs.«01_k».proof.Proof.AdamPo
public import proofs.«01_k».proof.Proof.AdamHo
public import proofs.«01_k».proof.Proof.AdamAda
public import proofs.«01_k».proof.Proof.MergeLoss
public import proofs.«01_k».proof.Proof.PreFwd
public import proofs.«01_k».proof.Proof.Pre
public import proofs.«01_k».proof.Proof.AdaFwd
public import proofs.«01_k».proof.Proof.AdaBwd
public import proofs.«01_k».proof.Proof.SmallPair
public import proofs.«01_k».proof.Proof.SmallBitsFrame
public import Idealize.ShloMosaic.Adequacy
public import Idealize.ShloMosaic.Init

@[expose] public section

noncomputable section

namespace Cert.Proof

open Idealize.ShloMosaic Idealize.SL.Sem

/-- The frame of `Dw`'s reference, a straight line of host operations that declares no semaphore. -/
theorem dw_ref_frame : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

/-- The frame of `Dh`'s reference, a straight line of host operations that declares no semaphore. -/
theorem dh_ref_frame : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

/-- The frame of `InProj`'s reference, a straight line of host operations that declares no semaphore. -/
theorem in_proj_ref_frame : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The frame of `Gow`'s reference, a straight line of host operations that declares no semaphore. -/
theorem gow_ref_frame : Cert.quiescent_GowRefIdeal := fun m ρ _ =>
  (θ_run Cert.GowRefIdeal.defs _ _).mono (fun r h => ⟨fun c => (h c).2.2.2, sem_eq_zero_of_no_sems (by decide) r.2⟩)
    (Cert.GowRefIdeal.Value.run (F := Ideal) m ρ)

/-- The frame of `MergeFwd`'s reference, a straight line of host operations that declares no semaphore. -/
theorem merge_fwd_ref_frame : Cert.quiescent_MergeFwdRefIdeal := fun m ρ _ =>
  (θ_run Cert.MergeFwdRefIdeal.defs _ _).mono (fun r h => ⟨fun c => (h c).2.2.2.2.2, sem_eq_zero_of_no_sems (by decide) r.2⟩)
    (Cert.MergeFwdRefIdeal.Value.run (F := Ideal) m ρ)

/-- The frame of `AdamIn`'s reference, a straight line of host operations that declares no semaphore. -/
theorem adam_in_ref_frame : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The frame of `AdamPo`'s reference, a straight line of host operations that declares no semaphore. -/
theorem adam_po_ref_frame : Cert.quiescent_AdamPoRefIdeal := fun m ρ _ =>
  (θ_run Cert.AdamPoRefIdeal.defs _ _).mono (fun r h => ⟨fun c => (h c).2.2.2.2, sem_eq_zero_of_no_sems (by decide) r.2⟩)
    (Cert.AdamPoRefIdeal.Value.run (F := Ideal) m ρ)

/-- The frame of `AdamHo`'s reference, a straight line of host operations that declares no semaphore. -/
theorem adam_ho_ref_frame : Cert.quiescent_AdamHoRefIdeal := fun m ρ _ =>
  (θ_run Cert.AdamHoRefIdeal.defs _ _).mono (fun r h => ⟨fun c => (h c).2.2.2.2, sem_eq_zero_of_no_sems (by decide) r.2⟩)
    (Cert.AdamHoRefIdeal.Value.run (F := Ideal) m ρ)

/-- The frame of `AdamAda`'s reference, a straight line of host operations that declares no semaphore. -/
theorem adam_ada_ref_frame : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.Value.run (F := Ideal) m ρ)

/-- The frame of `Small`'s reference, a straight line of host operations that declares no semaphore. -/
theorem small_ref_frame : Cert.quiescent_SmallRefIdeal := fun m ρ _ =>
  (θ_run Cert.SmallRefIdeal.defs _ _).mono (fun r h => ⟨fun c => (h c).2.2.2.2.2.2.2.2.2.2.2.2.2.2.2.2.2.2.2.2.2.2.2.2.2.2.2.2, sem_eq_zero_of_no_sems (by decide) r.2⟩)
    (Cert.SmallRefIdeal.Value.run (F := Ideal) m ρ)

/-- The frame of `MergeLoss`'s reference, a straight line of host operations that declares no semaphore. -/
theorem merge_loss_ref_frame : Cert.quiescent_MergeLossRefIdeal := fun m ρ _ =>
  (θ_run Cert.MergeLossRefIdeal.defs _ _).mono (fun r h => ⟨fun c => (h c).2.2.2.2.2.2, sem_eq_zero_of_no_sems (by decide) r.2⟩)
    (Cert.MergeLossRefIdeal.Value.run (F := Ideal) m ρ)

/-- The frame of `PreFwd`'s reference, a straight line of host operations that declares no semaphore. -/
theorem pre_fwd_ref_frame : Cert.quiescent_PreFwdRefIdeal := fun m ρ _ =>
  (θ_run Cert.PreFwdRefIdeal.defs _ _).mono (fun r h => ⟨fun c => (h c).2, sem_eq_zero_of_no_sems (by decide) r.2⟩)
    (Cert.PreFwdRefIdeal.Value.run (F := Ideal) m ρ)

/-- The frame of `Pre`'s reference, a straight line of host operations that declares no semaphore. -/
theorem pre_ref_frame : Cert.quiescent_PreRefIdeal := fun m ρ _ =>
  (θ_run Cert.PreRefIdeal.defs _ _).mono (fun r h => ⟨fun c => (h c).2.2, sem_eq_zero_of_no_sems (by decide) r.2⟩)
    (Cert.PreRefIdeal.Value.run (F := Ideal) m ρ)

/-- The frame of `AdaFwd`'s reference, a straight line of host operations that declares no semaphore. -/
theorem ada_fwd_ref_frame : Cert.quiescent_AdaFwdRefIdeal := fun m ρ _ =>
  (θ_run Cert.AdaFwdRefIdeal.defs _ _).mono (fun r h => ⟨fun c => (h c).2, sem_eq_zero_of_no_sems (by decide) r.2⟩)
    (Cert.AdaFwdRefIdeal.Value.run (F := Ideal) m ρ)

/-- The frame of `AdaBwd`'s reference, a straight line of host operations that declares no semaphore. -/
theorem ada_bwd_ref_frame : Cert.quiescent_AdaBwdRefIdeal := fun m ρ _ =>
  (θ_run Cert.AdaBwdRefIdeal.defs _ _).mono (fun r h => ⟨fun c => (h c).2, sem_eq_zero_of_no_sems (by decide) r.2⟩)
    (Cert.AdaBwdRefIdeal.Value.run (F := Ideal) m ρ)

theorem claim : Cert.Claim := ⟨Cert.Dw.Gen.facts, Cert.DwIdeal.Gen.facts, Cert.DwRefIdeal.Gen.facts, Cert.Dh.Gen.facts, Cert.DhIdeal.Gen.facts, Cert.DhRefIdeal.Gen.facts, Cert.InProj.Gen.facts, Cert.InProjIdeal.Gen.facts, Cert.InProjRefIdeal.Gen.facts, Cert.Gow.Gen.facts, Cert.GowIdeal.Gen.facts, Cert.GowRefIdeal.Gen.facts, Cert.MergeFwd.Gen.facts, Cert.MergeFwdIdeal.Gen.facts, Cert.MergeFwdRefIdeal.Gen.facts, Cert.AdamIn.Gen.facts, Cert.AdamInIdeal.Gen.facts, Cert.AdamInRefIdeal.Gen.facts, Cert.AdamPo.Gen.facts, Cert.AdamPoIdeal.Gen.facts, Cert.AdamPoRefIdeal.Gen.facts, Cert.AdamHo.Gen.facts, Cert.AdamHoIdeal.Gen.facts, Cert.AdamHoRefIdeal.Gen.facts, Cert.AdamAda.Gen.facts, Cert.AdamAdaIdeal.Gen.facts, Cert.AdamAdaRefIdeal.Gen.facts, Cert.Small.Gen.facts, Cert.SmallIdeal.Gen.facts, Cert.SmallRefIdeal.Gen.facts, Cert.MergeLoss.Gen.facts, Cert.MergeLossIdeal.Gen.facts, Cert.MergeLossRefIdeal.Gen.facts, Cert.PreFwd.Gen.facts, Cert.PreFwdIdeal.Gen.facts, Cert.PreFwdRefIdeal.Gen.facts, Cert.Pre.Gen.facts, Cert.PreIdeal.Gen.facts, Cert.PreRefIdeal.Gen.facts, Cert.AdaFwd.Gen.facts, Cert.AdaFwdIdeal.Gen.facts, Cert.AdaFwdRefIdeal.Gen.facts, Cert.AdaBwd.Gen.facts, Cert.AdaBwdIdeal.Gen.facts, Cert.AdaBwdRefIdeal.Gen.facts,
  fun m ρ _ => Cert.Dw.Gen.frame m ρ, fun m ρ _ => Cert.DwIdeal.Gen.frame m ρ, dw_ref_frame,
  fun m ρ _ => Cert.Dh.Gen.frame m ρ, fun m ρ _ => Cert.DhIdeal.Gen.frame m ρ, dh_ref_frame,
  fun m ρ _ => Cert.InProj.Gen.frame m ρ, fun m ρ _ => Cert.InProjIdeal.Gen.frame m ρ, in_proj_ref_frame,
  fun m ρ _ => Cert.Gow.Gen.frame m ρ, fun m ρ _ => Cert.GowIdeal.Gen.frame m ρ, gow_ref_frame,
  fun m ρ _ => Cert.MergeFwd.Gen.frame m ρ, fun m ρ _ => Cert.MergeFwdIdeal.Gen.frame m ρ, merge_fwd_ref_frame,
  fun m ρ _ => Cert.AdamIn.Gen.frame m ρ, fun m ρ _ => Cert.AdamInIdeal.Gen.frame m ρ, adam_in_ref_frame,
  fun m ρ _ => Cert.AdamPo.Gen.frame m ρ, fun m ρ _ => Cert.AdamPoIdeal.Gen.frame m ρ, adam_po_ref_frame,
  fun m ρ _ => Cert.AdamHo.Gen.frame m ρ, fun m ρ _ => Cert.AdamHoIdeal.Gen.frame m ρ, adam_ho_ref_frame,
  fun m ρ _ => Cert.AdamAda.Gen.frame m ρ, fun m ρ _ => Cert.AdamAdaIdeal.Gen.frame m ρ, adam_ada_ref_frame,
  fun m ρ _ => Cert.Small.Run.frame m ρ, fun m ρ _ => Cert.SmallIdeal.Run.frame m ρ, small_ref_frame,
  fun m ρ _ => Cert.MergeLoss.Gen.frame m ρ, fun m ρ _ => Cert.MergeLossIdeal.Gen.frame m ρ, merge_loss_ref_frame,
  fun m ρ _ => Cert.PreFwd.Gen.frame m ρ, fun m ρ _ => Cert.PreFwdIdeal.Gen.frame m ρ, pre_fwd_ref_frame,
  fun m ρ _ => Cert.Pre.Gen.frame m ρ, fun m ρ _ => Cert.PreIdeal.Gen.frame m ρ, pre_ref_frame,
  fun m ρ _ => Cert.AdaFwd.Gen.frame m ρ, fun m ρ _ => Cert.AdaFwdIdeal.Gen.frame m ρ, ada_fwd_ref_frame,
  fun m ρ _ => Cert.AdaBwd.Gen.frame m ρ, fun m ρ _ => Cert.AdaBwdIdeal.Gen.frame m ρ, ada_bwd_ref_frame,
  trivial, dw_algebraic, trivial, dh_algebraic, trivial, in_proj_algebraic, trivial, gow_algebraic, trivial, merge_fwd_algebraic, trivial, adam_in_algebraic, trivial, adam_po_algebraic, trivial, adam_ho_algebraic, trivial, adam_ada_algebraic, trivial, small_algebraic, trivial, merge_loss_algebraic, trivial, pre_fwd_algebraic, trivial, pre_algebraic, trivial, ada_fwd_algebraic, trivial, ada_bwd_algebraic⟩

end Cert.Proof

end
